-- ==== Defs.lean ====
def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemIdeal_mem_finite [hPre_mem_finite : Cert.Pre_mem_finite.Facts] (m : (ℓ : Loc Cert.MemIdeal.nD Cert.MemIdeal.τ Cert.MemIdeal.sig) → Buf (Elt Ideal) ℓ) : Prop :=
  ∀ c : Dev Cert.MemIdeal.nD,
    (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.2.1 = (fun _ => 1#1)
    ∧ (Cert.Pre_mem_finite.fn (F := Ideal) (m ((c.tc : Thread Cert.MemIdeal.nD Cert.MemIdeal.τ).loc Cert.MemIdeal.main_arg0)) (m ((c.tc : Thread Cert.MemIdeal.nD Cert.MemIdeal.τ).loc Cert.MemIdeal.main_arg1)) (m ((c.tc : Thread Cert.MemIdeal.nD Cert.MemIdeal.τ).loc Cert.MemIdeal.main_arg2)) (m ((c.tc : Thread Cert.MemIdeal.nD Cert.MemIdeal.τ).loc Cert.MemIdeal.main_arg3)) (m ((c.tc : Thread Cert.MemIdeal.nD Cert.MemIdeal.τ).loc Cert.MemIdeal.main_arg4))).2.2.2.2 = (fun _ => 1#1)

def Pre_MemPlainIdeal (m : (ℓ : Loc Cert.MemPlainIdeal.nD Cert.MemPlainIdeal.τ Cert.MemPlainIdeal.sig) → Buf (Elt Ideal) ℓ) : Prop :=
  True

def Pre_MemPlainIdeal_mem_finite [hPre_mem_finite : Cert.Pre_mem_finite.Facts] (m : (ℓ : Loc Cert.MemPlainIdeal.nD Cert.MemPlainIdeal.τ Cert.MemPlainIdeal.sig) → Buf (Elt Ideal) ℓ) : Prop :=
  ∀ c : Dev Cert.MemPlainIdeal.nD,
    (Cert.Pre_mem_finite.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4))).1 = (fun _ => 1#1)
    ∧ (Cert.Pre_mem_finite.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4))).2.1 = (fun _ => 1#1)
    ∧ (Cert.Pre_mem_finite.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4))).2.2.1 = (fun _ => 1#1)
    ∧ (Cert.Pre_mem_finite.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4))).2.2.2.1 = (fun _ => 1#1)
    ∧ (Cert.Pre_mem_finite.fn (F := Ideal) (m ((c.tc : Thread Cert.MemPlainIdeal.nD Cert.MemPlainIdeal.τ).loc Cert.MemPlainIdeal.main_arg0)) (m ((c.tc : Thread Cert.MemPlainIdeal.nD Cert.MemPlainIdeal.τ).loc Cert.MemPlainIdeal.main_arg1)) (m ((c.tc : Thread Cert.MemPlainIdeal.nD Cert.MemPlainIdeal.τ).loc Cert.MemPlainIdeal.main_arg2)) (m ((c.tc : Thread Cert.MemPlainIdeal.nD Cert.MemPlainIdeal.τ).loc Cert.MemPlainIdeal.main_arg3)) (m ((c.tc : Thread Cert.MemPlainIdeal.nD Cert.MemPlainIdeal.τ).loc Cert.MemPlainIdeal.main_arg4))).2.2.2.2 = (fun _ => 1#1)

def Pre_FfnF (m : (ℓ : Loc Cert.FfnF.nD Cert.FfnF.τ Cert.FfnF.sig) → Buf (Elt Bits) ℓ) : Prop :=
  True

def Pre_FfnFIdeal (m : (ℓ : Loc Cert.FfnFIdeal.nD Cert.FfnFIdeal.τ Cert.FfnFIdeal.sig) → Buf (Elt Ideal) ℓ) : Prop :=
  True

def Pre_FfnFPlainIdeal (m : (ℓ : Loc Cert.FfnFPlainIdeal.nD Cert.FfnFPlainIdeal.τ Cert.FfnFPlainIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InPlainIdeal (m : (ℓ : Loc Cert.InPlainIdeal.nD Cert.InPlainIdeal.τ Cert.InPlainIdeal.sig) → Buf (Elt Ideal) ℓ) : Prop :=
  True

def Pre_InH (m : (ℓ : Loc Cert.InH.nD Cert.InH.τ Cert.InH.sig) → Buf (Elt Bits) ℓ) : Prop :=
  True

def Pre_InHIdeal (m : (ℓ : Loc Cert.InHIdeal.nD Cert.InHIdeal.τ Cert.InHIdeal.sig) → Buf (Elt Ideal) ℓ) : Prop :=
  True

def Pre_InHPlainIdeal (m : (ℓ : Loc Cert.InHPlainIdeal.nD Cert.InHPlainIdeal.τ Cert.InHPlainIdeal.sig) → Buf (Elt Ideal) ℓ) : Prop :=
  True

def Pre_InW (m : (ℓ : Loc Cert.InW.nD Cert.InW.τ Cert.InW.sig) → Buf (Elt Bits) ℓ) : Prop :=
  True

def Pre_InWIdeal (m : (ℓ : Loc Cert.InWIdeal.nD Cert.InWIdeal.τ Cert.InWIdeal.sig) → Buf (Elt Ideal) ℓ) : Prop :=
  True

def Pre_InWPlainIdeal (m : (ℓ : Loc Cert.InWPlainIdeal.nD Cert.InWPlainIdeal.τ Cert.InWPlainIdeal.sig) → Buf (Elt Ideal) ℓ) : Prop :=
  True

def Pre_InN (m : (ℓ : Loc Cert.InN.nD Cert.InN.τ Cert.InN.sig) → Buf (Elt Bits) ℓ) : Prop :=
  True

def Pre_InNIdeal (m : (ℓ : Loc Cert.InNIdeal.nD Cert.InNIdeal.τ Cert.InNIdeal.sig) → Buf (Elt Ideal) ℓ) : Prop :=
  True

def Pre_InNPlainIdeal (m : (ℓ : Loc Cert.InNPlainIdeal.nD Cert.InNPlainIdeal.τ Cert.InNPlainIdeal.sig) → Buf (Elt Ideal) ℓ) : Prop :=
  True

def Pre_InNH (m : (ℓ : Loc Cert.InNH.nD Cert.InNH.τ Cert.InNH.sig) → Buf (Elt Bits) ℓ) : Prop :=
  True

def Pre_InNHIdeal (m : (ℓ : Loc Cert.InNHIdeal.nD Cert.InNHIdeal.τ Cert.InNHIdeal.sig) → Buf (Elt Ideal) ℓ) : Prop :=
  True

def Pre_InNHPlainIdeal (m : (ℓ : Loc Cert.InNHPlainIdeal.nD Cert.InNHPlainIdeal.τ Cert.InNHPlainIdeal.sig) → Buf (Elt Ideal) ℓ) : Prop :=
  True

def Pre_InNW (m : (ℓ : Loc Cert.InNW.nD Cert.InNW.τ Cert.InNW.sig) → Buf (Elt Bits) ℓ) : Prop :=
  True

def Pre_InNWIdeal (m : (ℓ : Loc Cert.InNWIdeal.nD Cert.InNWIdeal.τ Cert.InNWIdeal.sig) → Buf (Elt Ideal) ℓ) : Prop :=
  True

def Pre_InNWPlainIdeal (m : (ℓ : Loc Cert.InNWPlainIdeal.nD Cert.InNWPlainIdeal.τ Cert.InNWPlainIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutPlainIdeal (m : (ℓ : Loc Cert.OutPlainIdeal.nD Cert.OutPlainIdeal.τ Cert.OutPlainIdeal.sig) → Buf (Elt Ideal) ℓ) : Prop :=
  True

def Pre_OutH (m : (ℓ : Loc Cert.OutH.nD Cert.OutH.τ Cert.OutH.sig) → Buf (Elt Bits) ℓ) : Prop :=
  True

def Pre_OutHIdeal (m : (ℓ : Loc Cert.OutHIdeal.nD Cert.OutHIdeal.τ Cert.OutHIdeal.sig) → Buf (Elt Ideal) ℓ) : Prop :=
  True

def Pre_OutHPlainIdeal (m : (ℓ : Loc Cert.OutHPlainIdeal.nD Cert.OutHPlainIdeal.τ Cert.OutHPlainIdeal.sig) → Buf (Elt Ideal) ℓ) : Prop :=
  True

def Pre_OutA (m : (ℓ : Loc Cert.OutA.nD Cert.OutA.τ Cert.OutA.sig) → Buf (Elt Bits) ℓ) : Prop :=
  True

def Pre_OutAIdeal (m : (ℓ : Loc Cert.OutAIdeal.nD Cert.OutAIdeal.τ Cert.OutAIdeal.sig) → Buf (Elt Ideal) ℓ) : Prop :=
  True

def Pre_OutAPlainIdeal (m : (ℓ : Loc Cert.OutAPlainIdeal.nD Cert.OutAPlainIdeal.τ Cert.OutAPlainIdeal.sig) → Buf (Elt Ideal) ℓ) : Prop :=
  True

def Pre_OutB (m : (ℓ : Loc Cert.OutB.nD Cert.OutB.τ Cert.OutB.sig) → Buf (Elt Bits) ℓ) : Prop :=
  True

def Pre_OutBIdeal (m : (ℓ : Loc Cert.OutBIdeal.nD Cert.OutBIdeal.τ Cert.OutBIdeal.sig) → Buf (Elt Ideal) ℓ) : Prop :=
  True

def Pre_OutBPlainIdeal (m : (ℓ : Loc Cert.OutBPlainIdeal.nD Cert.OutBPlainIdeal.τ Cert.OutBPlainIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvPlainIdeal (m : (ℓ : Loc Cert.KvPlainIdeal.nD Cert.KvPlainIdeal.τ Cert.KvPlainIdeal.sig) → Buf (Elt Ideal) ℓ) : Prop :=
  True

def Pre_KvH (m : (ℓ : Loc Cert.KvH.nD Cert.KvH.τ Cert.KvH.sig) → Buf (Elt Bits) ℓ) : Prop :=
  True

def Pre_KvHIdeal (m : (ℓ : Loc Cert.KvHIdeal.nD Cert.KvHIdeal.τ Cert.KvHIdeal.sig) → Buf (Elt Ideal) ℓ) : Prop :=
  True

def Pre_KvHPlainIdeal (m : (ℓ : Loc Cert.KvHPlainIdeal.nD Cert.KvHPlainIdeal.τ Cert.KvHPlainIdeal.sig) → Buf (Elt Ideal) ℓ) : Prop :=
  True

def Pre_KvW (m : (ℓ : Loc Cert.KvW.nD Cert.KvW.τ Cert.KvW.sig) → Buf (Elt Bits) ℓ) : Prop :=
  True

def Pre_KvWIdeal (m : (ℓ : Loc Cert.KvWIdeal.nD Cert.KvWIdeal.τ Cert.KvWIdeal.sig) → Buf (Elt Ideal) ℓ) : Prop :=
  True

def Pre_KvWPlainIdeal (m : (ℓ : Loc Cert.KvWPlainIdeal.nD Cert.KvWPlainIdeal.τ Cert.KvWPlainIdeal.sig) → Buf (Elt Ideal) ℓ) : Prop :=
  True

def Pre_FfnA (m : (ℓ : Loc Cert.FfnA.nD Cert.FfnA.τ Cert.FfnA.sig) → Buf (Elt Bits) ℓ) : Prop :=
  True

def Pre_FfnAIdeal (m : (ℓ : Loc Cert.FfnAIdeal.nD Cert.FfnAIdeal.τ Cert.FfnAIdeal.sig) → Buf (Elt Ideal) ℓ) : Prop :=
  True

def Pre_FfnAIdeal_ffn_finite [hPre_ffn_finite : Cert.Pre_ffn_finite.Facts] (m : (ℓ : Loc Cert.FfnAIdeal.nD Cert.FfnAIdeal.τ Cert.FfnAIdeal.sig) → Buf (Elt Ideal) ℓ) : Prop :=
  ∀ c : Dev Cert.FfnAIdeal.nD,
    (Cert.Pre_ffn_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))).1 = (fun _ => 1#1)
    ∧ (Cert.Pre_ffn_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))).2.1 = (fun _ => 1#1)
    ∧ (Cert.Pre_ffn_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))).2.2.1 = (fun _ => 1#1)
    ∧ (Cert.Pre_ffn_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))).2.2.2.1 = (fun _ => 1#1)
    ∧ (Cert.Pre_ffn_finite.fn (F := Ideal) (m ((c.tc : Thread Cert.FfnAIdeal.nD Cert.FfnAIdeal.τ).loc Cert.FfnAIdeal.main_arg0)) (m ((c.tc : Thread Cert.FfnAIdeal.nD Cert.FfnAIdeal.τ).loc Cert.FfnAIdeal.main_arg1)) (m ((c.tc : Thread Cert.FfnAIdeal.nD Cert.FfnAIdeal.τ).loc Cert.FfnAIdeal.main_arg2)) (m ((c.tc : Thread Cert.FfnAIdeal.nD Cert.FfnAIdeal.τ).loc Cert.FfnAIdeal.main_arg3)) (m ((c.tc : Thread Cert.FfnAIdeal.nD Cert.FfnAIdeal.τ).loc Cert.FfnAIdeal.main_arg4))).2.2.2.2 = (fun _ => 1#1)

def Pre_FfnAPlainIdeal (m : (ℓ : Loc Cert.FfnAPlainIdeal.nD Cert.FfnAPlainIdeal.τ Cert.FfnAPlainIdeal.sig) → Buf (Elt Ideal) ℓ) : Prop :=
  True

def Pre_FfnAPlainIdeal_ffn_finite [hPre_ffn_finite : Cert.Pre_ffn_finite.Facts] (m : (ℓ : Loc Cert.FfnAPlainIdeal.nD Cert.FfnAPlainIdeal.τ Cert.FfnAPlainIdeal.sig) → Buf (Elt Ideal) ℓ) : Prop :=
  ∀ c : Dev Cert.FfnAPlainIdeal.nD,
    (Cert.Pre_ffn_finite.fn (F := Ideal) (m ((c.tc : Thread Cert.FfnAPlainIdeal.nD Cert.FfnAPlainIdeal.τ).loc Cert.FfnAPlainIdeal.main_arg0)) (m ((c.tc : Thread Cert.FfnAPlainIdeal.nD Cert.FfnAPlainIdeal.τ).loc Cert.FfnAPlainIdeal.main_arg1)) (m ((c.tc : Thread Cert.FfnAPlainIdeal.nD Cert.FfnAPlainIdeal.τ).loc Cert.FfnAPlainIdeal.main_arg2)) (m ((c.tc : Thread Cert.FfnAPlainIdeal.nD Cert.FfnAPlainIdeal.τ).loc Cert.FfnAPlainIdeal.main_arg3)) (m ((c.tc : Thread Cert.FfnAPlainIdeal.nD Cert.FfnAPlainIdeal.τ).loc Cert.FfnAPlainIdeal.main_arg4))).1 = (fun _ => 1#1)
    ∧ (Cert.Pre_ffn_finite.fn (F := Ideal) (m ((c.tc : Thread Cert.FfnAPlainIdeal.nD Cert.FfnAPlainIdeal.τ).loc Cert.FfnAPlainIdeal.main_arg0)) (m ((c.tc : Thread Cert.FfnAPlainIdeal.nD Cert.FfnAPlainIdeal.τ).loc Cert.FfnAPlainIdeal.main_arg1)) (m ((c.tc : Thread Cert.FfnAPlainIdeal.nD Cert.FfnAPlainIdeal.τ).loc Cert.FfnAPlainIdeal.main_arg2)) (m ((c.tc : Thread Cert.FfnAPlainIdeal.nD Cert.FfnAPlainIdeal.τ).loc Cert.FfnAPlainIdeal.main_arg3)) (m ((c.tc : Thread Cert.FfnAPlainIdeal.nD Cert.FfnAPlainIdeal.τ).loc Cert.FfnAPlainIdeal.main_arg4))).2.1 = (fun _ => 1#1)
    ∧ (Cert.Pre_ffn_finite.fn (F := Ideal) (m ((c.tc : Thread Cert.FfnAPlainIdeal.nD Cert.FfnAPlainIdeal.τ).loc Cert.FfnAPlainIdeal.main_arg0)) (m ((c.tc : Thread Cert.FfnAPlainIdeal.nD Cert.FfnAPlainIdeal.τ).loc Cert.FfnAPlainIdeal.main_arg1)) (m ((c.tc : Thread Cert.FfnAPlainIdeal.nD Cert.FfnAPlainIdeal.τ).loc Cert.FfnAPlainIdeal.main_arg2)) (m ((c.tc : Thread Cert.FfnAPlainIdeal.nD Cert.FfnAPlainIdeal.τ).loc Cert.FfnAPlainIdeal.main_arg3)) (m ((c.tc : Thread Cert.FfnAPlainIdeal.nD Cert.FfnAPlainIdeal.τ).loc Cert.FfnAPlainIdeal.main_arg4))).2.2.1 = (fun _ => 1#1)
    ∧ (Cert.Pre_ffn_finite.fn (F := Ideal) (m ((c.tc : Thread Cert.FfnAPlainIdeal.nD Cert.FfnAPlainIdeal.τ).loc Cert.FfnAPlainIdeal.main_arg0)) (m ((c.tc : Thread Cert.FfnAPlainIdeal.nD Cert.FfnAPlainIdeal.τ).loc Cert.FfnAPlainIdeal.main_arg1)) (m ((c.tc : Thread Cert.FfnAPlainIdeal.nD Cert.FfnAPlainIdeal.τ).loc Cert.FfnAPlainIdeal.main_arg2)) (m ((c.tc : Thread Cert.FfnAPlainIdeal.nD Cert.FfnAPlainIdeal.τ).loc Cert.FfnAPlainIdeal.main_arg3)) (m ((c.tc : Thread Cert.FfnAPlainIdeal.nD Cert.FfnAPlainIdeal.τ).loc Cert.FfnAPlainIdeal.main_arg4))).2.2.2.1 = (fun _ => 1#1)
    ∧ (Cert.Pre_ffn_finite.fn (F := Ideal) (m ((c.tc : Thread Cert.FfnAPlainIdeal.nD Cert.FfnAPlainIdeal.τ).loc Cert.FfnAPlainIdeal.main_arg0)) (m ((c.tc : Thread Cert.FfnAPlainIdeal.nD Cert.FfnAPlainIdeal.τ).loc Cert.FfnAPlainIdeal.main_arg1)) (m ((c.tc : Thread Cert.FfnAPlainIdeal.nD Cert.FfnAPlainIdeal.τ).loc Cert.FfnAPlainIdeal.main_arg2)) (m ((c.tc : Thread Cert.FfnAPlainIdeal.nD Cert.FfnAPlainIdeal.τ).loc Cert.FfnAPlainIdeal.main_arg3)) (m ((c.tc : Thread Cert.FfnAPlainIdeal.nD Cert.FfnAPlainIdeal.τ).loc Cert.FfnAPlainIdeal.main_arg4))).2.2.2.2 = (fun _ => 1#1)

def Pre_FfnW (m : (ℓ : Loc Cert.FfnW.nD Cert.FfnW.τ Cert.FfnW.sig) → Buf (Elt Bits) ℓ) : Prop :=
  True

def Pre_FfnWIdeal (m : (ℓ : Loc Cert.FfnWIdeal.nD Cert.FfnWIdeal.τ Cert.FfnWIdeal.sig) → Buf (Elt Ideal) ℓ) : Prop :=
  True

def Pre_FfnWPlainIdeal (m : (ℓ : Loc Cert.FfnWPlainIdeal.nD Cert.FfnWPlainIdeal.τ Cert.FfnWPlainIdeal.sig) → Buf (Elt Ideal) ℓ) : Prop :=
  True

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3)
      ∧ r.2.mem ((c.tc : Thread Cert.Mem.nD Cert.Mem.τ).loc Cert.Mem.main_arg4) = m ((c.tc : Thread Cert.Mem.nD Cert.Mem.τ).loc Cert.Mem.main_arg4))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemIdeal_pre_mem_finite [hMemIdeal : Cert.MemIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg), Pre_MemIdeal_mem_finite m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
      ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ r.2.sem = fun _ => 0)

def quiescent_MemPlainIdeal [hMemPlainIdeal : Cert.MemPlainIdeal.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2)
      ∧ r.2.mem ((c.tc : Thread Cert.MemPlainIdeal.nD Cert.MemPlainIdeal.τ).loc Cert.MemPlainIdeal.main_arg3) = m ((c.tc : Thread Cert.MemPlainIdeal.nD Cert.MemPlainIdeal.τ).loc Cert.MemPlainIdeal.main_arg3)
      ∧ r.2.mem ((c.tc : Thread Cert.MemPlainIdeal.nD Cert.MemPlainIdeal.τ).loc Cert.MemPlainIdeal.main_arg4) = m ((c.tc : Thread Cert.MemPlainIdeal.nD Cert.MemPlainIdeal.τ).loc Cert.MemPlainIdeal.main_arg4))
      ∧ r.2.sem = fun _ => 0)

def quiescent_MemPlainIdeal_pre_mem_finite [hMemPlainIdeal : Cert.MemPlainIdeal.Facts] [hPre_mem_finite : Cert.Pre_mem_finite.Facts] : Prop :=
  ∀ (m : (ℓ : Loc Cert.MemPlainIdeal.nD Cert.MemPlainIdeal.τ Cert.MemPlainIdeal.sig) → Buf (Elt Ideal) ℓ) (g : Dev Cert.MemPlainIdeal.nD → PrngReg), Pre_MemPlainIdeal_mem_finite m →
    θ_run (Cert.MemPlainIdeal.defs (F := Ideal)) (onTc (τ := Cert.MemPlainIdeal.τ) (Cert.MemPlainIdeal.main (F := Ideal))) ⟨m, fun _ => 0, g⟩ (fun r => (∀ c : Dev Cert.MemPlainIdeal.nD,
      r.2.mem ((c.tc : Thread Cert.MemPlainIdeal.nD Cert.MemPlainIdeal.τ).loc Cert.MemPlainIdeal.main_arg0) = m ((c.tc : Thread Cert.MemPlainIdeal.nD Cert.MemPlainIdeal.τ).loc Cert.MemPlainIdeal.main_arg0)
      ∧ r.2.mem ((c.tc : Thread Cert.MemPlainIdeal.nD Cert.MemPlainIdeal.τ).loc Cert.MemPlainIdeal.main_arg1) = m ((c.tc : Thread Cert.MemPlainIdeal.nD Cert.MemPlainIdeal.τ).loc Cert.MemPlainIdeal.main_arg1)
      ∧ r.2.mem ((c.tc : Thread Cert.MemPlainIdeal.nD Cert.MemPlainIdeal.τ).loc Cert.MemPlainIdeal.main_arg2) = m ((c.tc : Thread Cert.MemPlainIdeal.nD Cert.MemPlainIdeal.τ).loc Cert.MemPlainIdeal.main_arg2)
      ∧ r.2.mem ((c.tc : Thread Cert.MemPlainIdeal.nD Cert.MemPlainIdeal.τ).loc Cert.MemPlainIdeal.main_arg3) = m ((c.tc : Thread Cert.MemPlainIdeal.nD Cert.MemPlainIdeal.τ).loc Cert.MemPlainIdeal.main_arg3)
      ∧ r.2.mem ((c.tc : Thread Cert.MemPlainIdeal.nD Cert.MemPlainIdeal.τ).loc Cert.MemPlainIdeal.main_arg4) = m ((c.tc : Thread Cert.MemPlainIdeal.nD Cert.MemPlainIdeal.τ).loc Cert.MemPlainIdeal.main_arg4))
      ∧ r.2.sem = fun _ => 0)

def quiescent_FfnF [hFfnF : Cert.FfnF.Facts] : Prop :=
  ∀ (m : (ℓ : Loc Cert.FfnF.nD Cert.FfnF.τ Cert.FfnF.sig) → Buf (Elt Bits) ℓ) (g : Dev Cert.FfnF.nD → PrngReg), Pre_FfnF m →
    θ_run (Cert.FfnF.defs (F := Bits)) (onTc (τ := Cert.FfnF.τ) (Cert.FfnF.main (F := Bits))) ⟨m, fun _ => 0, g⟩ (fun r => (∀ c : Dev Cert.FfnF.nD,
      r.2.mem ((c.tc : Thread Cert.FfnF.nD Cert.FfnF.τ).loc Cert.FfnF.main_arg0) = m ((c.tc : Thread Cert.FfnF.nD Cert.FfnF.τ).loc Cert.FfnF.main_arg0)
      ∧ r.2.mem ((c.tc : Thread Cert.FfnF.nD Cert.FfnF.τ).loc Cert.FfnF.main_arg1) = m ((c.tc : Thread Cert.FfnF.nD Cert.FfnF.τ).loc Cert.FfnF.main_arg1)
      ∧ r.2.mem ((c.tc : Thread Cert.FfnF.nD Cert.FfnF.τ).loc Cert.FfnF.main_arg2) = m ((c.tc : Thread Cert.FfnF.nD Cert.FfnF.τ).loc Cert.FfnF.main_arg2)
      ∧ r.2.mem ((c.tc : Thread Cert.FfnF.nD Cert.FfnF.τ).loc Cert.FfnF.main_arg3) = m ((c.tc : Thread Cert.FfnF.nD Cert.FfnF.τ).loc Cert.FfnF.main_arg3))
      ∧ r.2.sem = fun _ => 0)

def quiescent_FfnFIdeal [hFfnFIdeal : Cert.FfnFIdeal.Facts] : Prop :=
  ∀ (m : (ℓ : Loc Cert.FfnFIdeal.nD Cert.FfnFIdeal.τ Cert.FfnFIdeal.sig) → Buf (Elt Ideal) ℓ) (g : Dev Cert.FfnFIdeal.nD → PrngReg), Pre_FfnFIdeal m →
    θ_run (Cert.FfnFIdeal.defs (F := Ideal)) (onTc (τ := Cert.FfnFIdeal.τ) (Cert.FfnFIdeal.main (F := Ideal))) ⟨m, fun _ => 0, g⟩ (fun r => (∀ c : Dev Cert.FfnFIdeal.nD,
      r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
      ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
      ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
      ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3))
      ∧ r.2.sem = fun _ => 0)

def quiescent_FfnFPlainIdeal [hFfnFPlainIdeal : Cert.FfnFPlainIdeal.Facts] : Prop :=
  ∀ (m : (ℓ : Loc Cert.FfnFPlainIdeal.nD Cert.FfnFPlainIdeal.τ Cert.FfnFPlainIdeal.sig) → Buf (Elt Ideal) ℓ) (g : Dev Cert.FfnFPlainIdeal.nD → PrngReg), Pre_FfnFPlainIdeal m →
    θ_run (Cert.FfnFPlainIdeal.defs (F := Ideal)) (onTc (τ := Cert.FfnFPlainIdeal.τ) (Cert.FfnFPlainIdeal.main (F := Ideal))) ⟨m, fun _ => 0, g⟩ (fun r => (∀ c : Dev Cert.FfnFPlainIdeal.nD,
      r.2.mem ((c.tc : Thread Cert.FfnFPlainIdeal.nD Cert.FfnFPlainIdeal.τ).loc Cert.FfnFPlainIdeal.main_arg0) = m ((c.tc : Thread Cert.FfnFPlainIdeal.nD Cert.FfnFPlainIdeal.τ).loc Cert.FfnFPlainIdeal.main_arg0)
      ∧ r.2.mem ((c.tc : Thread Cert.FfnFPlainIdeal.nD Cert.FfnFPlainIdeal.τ).loc Cert.FfnFPlainIdeal.main_arg1) = m ((c.tc : Thread Cert.FfnFPlainIdeal.nD Cert.FfnFPlainIdeal.τ).loc Cert.FfnFPlainIdeal.main_arg1)
      ∧ r.2.mem ((c.tc : Thread Cert.FfnFPlainIdeal.nD Cert.FfnFPlainIdeal.τ).loc Cert.FfnFPlainIdeal.main_arg2) = m ((c.tc : Thread Cert.FfnFPlainIdeal.nD Cert.FfnFPlainIdeal.τ).loc Cert.FfnFPlainIdeal.main_arg2)
      ∧ r.2.mem ((c.tc : Thread Cert.FfnFPlainIdeal.nD Cert.FfnFPlainIdeal.τ).loc Cert.FfnFPlainIdeal.main_arg3) = m ((c.tc : Thread Cert.FfnFPlainIdeal.nD Cert.FfnFPlainIdeal.τ).loc Cert.FfnFPlainIdeal.main_arg3))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InPlainIdeal [hInPlainIdeal : Cert.InPlainIdeal.Facts] : Prop :=
  ∀ (m : (ℓ : Loc Cert.InPlainIdeal.nD Cert.InPlainIdeal.τ Cert.InPlainIdeal.sig) → Buf (Elt Ideal) ℓ) (g : Dev Cert.InPlainIdeal.nD → PrngReg), Pre_InPlainIdeal m →
    θ_run (Cert.InPlainIdeal.defs (F := Ideal)) (onTc (τ := Cert.InPlainIdeal.τ) (Cert.InPlainIdeal.main (F := Ideal))) ⟨m, fun _ => 0, g⟩ (fun r => (∀ c : Dev Cert.InPlainIdeal.nD,
      r.2.mem ((c.tc : Thread Cert.InPlainIdeal.nD Cert.InPlainIdeal.τ).loc Cert.InPlainIdeal.main_arg0) = m ((c.tc : Thread Cert.InPlainIdeal.nD Cert.InPlainIdeal.τ).loc Cert.InPlainIdeal.main_arg0)
      ∧ r.2.mem ((c.tc : Thread Cert.InPlainIdeal.nD Cert.InPlainIdeal.τ).loc Cert.InPlainIdeal.main_arg1) = m ((c.tc : Thread Cert.InPlainIdeal.nD Cert.InPlainIdeal.τ).loc Cert.InPlainIdeal.main_arg1))
      ∧ r.2.sem = fun _ => 0)

def quiescent_InH [hInH : Cert.InH.Facts] : Prop :=
  ∀ (m : (ℓ : Loc Cert.InH.nD Cert.InH.τ Cert.InH.sig) → Buf (Elt Bits) ℓ) (g : Dev Cert.InH.nD → PrngReg), Pre_InH m →
    θ_run (Cert.InH.defs (F := Bits)) (onTc (τ := Cert.InH.τ) (Cert.InH.main (F := Bits))) ⟨m, fun _ => 0, g⟩ (fun r => (∀ c : Dev Cert.InH.nD,
      r.2.mem ((c.tc : Thread Cert.InH.nD Cert.InH.τ).loc Cert.InH.main_arg0) = m ((c.tc : Thread Cert.InH.nD Cert.InH.τ).loc Cert.InH.main_arg0)
      ∧ r.2.mem ((c.tc : Thread Cert.InH.nD Cert.InH.τ).loc Cert.InH.main_arg1) = m ((c.tc : Thread Cert.InH.nD Cert.InH.τ).loc Cert.InH.main_arg1))
      ∧ r.2.sem = fun _ => 0)

def quiescent_InHIdeal [hInHIdeal : Cert.InHIdeal.Facts] : Prop :=
  ∀ (m : (ℓ : Loc Cert.InHIdeal.nD Cert.InHIdeal.τ Cert.InHIdeal.sig) → Buf (Elt Ideal) ℓ) (g : Dev Cert.InHIdeal.nD → PrngReg), Pre_InHIdeal m →
    θ_run (Cert.InHIdeal.defs (F := Ideal)) (onTc (τ := Cert.InHIdeal.τ) (Cert.InHIdeal.main (F := Ideal))) ⟨m, fun _ => 0, g⟩ (fun r => (∀ c : Dev Cert.InHIdeal.nD,
      r.2.mem ((c.tc : Thread Cert.InHIdeal.nD Cert.InHIdeal.τ).loc Cert.InHIdeal.main_arg0) = m ((c.tc : Thread Cert.InHIdeal.nD Cert.InHIdeal.τ).loc Cert.InHIdeal.main_arg0)
      ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ r.2.sem = fun _ => 0)

def quiescent_InHPlainIdeal [hInHPlainIdeal : Cert.InHPlainIdeal.Facts] : Prop :=
  ∀ (m : (ℓ : Loc Cert.InHPlainIdeal.nD Cert.InHPlainIdeal.τ Cert.InHPlainIdeal.sig) → Buf (Elt Ideal) ℓ) (g : Dev Cert.InHPlainIdeal.nD → PrngReg), Pre_InHPlainIdeal m →
    θ_run (Cert.InHPlainIdeal.defs (F := Ideal)) (onTc (τ := Cert.InHPlainIdeal.τ) (Cert.InHPlainIdeal.main (F := Ideal))) ⟨m, fun _ => 0, g⟩ (fun r => (∀ c : Dev Cert.InHPlainIdeal.nD,
      r.2.mem ((c.tc : Thread Cert.InHPlainIdeal.nD Cert.InHPlainIdeal.τ).loc Cert.InHPlainIdeal.main_arg0) = m ((c.tc : Thread Cert.InHPlainIdeal.nD Cert.InHPlainIdeal.τ).loc Cert.InHPlainIdeal.main_arg0)
      ∧ r.2.mem ((c.tc : Thread Cert.InHPlainIdeal.nD Cert.InHPlainIdeal.τ).loc Cert.InHPlainIdeal.main_arg1) = m ((c.tc : Thread Cert.InHPlainIdeal.nD Cert.InHPlainIdeal.τ).loc Cert.InHPlainIdeal.main_arg1))
      ∧ r.2.sem = fun _ => 0)

def quiescent_InW [hInW : Cert.InW.Facts] : Prop :=
  ∀ (m : (ℓ : Loc Cert.InW.nD Cert.InW.τ Cert.InW.sig) → Buf (Elt Bits) ℓ) (g : Dev Cert.InW.nD → PrngReg), Pre_InW m →
    θ_run (Cert.InW.defs (F := Bits)) (onTc (τ := Cert.InW.τ) (Cert.InW.main (F := Bits))) ⟨m, fun _ => 0, g⟩ (fun r => (∀ c : Dev Cert.InW.nD,
      r.2.mem ((c.tc : Thread Cert.InW.nD Cert.InW.τ).loc Cert.InW.main_arg0) = m ((c.tc : Thread Cert.InW.nD Cert.InW.τ).loc Cert.InW.main_arg0)
      ∧ r.2.mem ((c.tc : Thread Cert.InW.nD Cert.InW.τ).loc Cert.InW.main_arg1) = m ((c.tc : Thread Cert.InW.nD Cert.InW.τ).loc Cert.InW.main_arg1)
      ∧ r.2.mem ((c.tc : Thread Cert.InW.nD Cert.InW.τ).loc Cert.InW.main_arg2) = m ((c.tc : Thread Cert.InW.nD Cert.InW.τ).loc Cert.InW.main_arg2))
      ∧ r.2.sem = fun _ => 0)

def quiescent_InWIdeal [hInWIdeal : Cert.InWIdeal.Facts] : Prop :=
  ∀ (m : (ℓ : Loc Cert.InWIdeal.nD Cert.InWIdeal.τ Cert.InWIdeal.sig) → Buf (Elt Ideal) ℓ) (g : Dev Cert.InWIdeal.nD → PrngReg), Pre_InWIdeal m →
    θ_run (Cert.InWIdeal.defs (F := Ideal)) (onTc (τ := Cert.InWIdeal.τ) (Cert.InWIdeal.main (F := Ideal))) ⟨m, fun _ => 0, g⟩ (fun r => (∀ c : Dev Cert.InWIdeal.nD,
      r.2.mem ((c.tc : Thread Cert.InWIdeal.nD Cert.InWIdeal.τ).loc Cert.InWIdeal.main_arg0) = m ((c.tc : Thread Cert.InWIdeal.nD Cert.InWIdeal.τ).loc Cert.InWIdeal.main_arg0)
      ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
      ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ r.2.sem = fun _ => 0)

def quiescent_InWPlainIdeal [hInWPlainIdeal : Cert.InWPlainIdeal.Facts] : Prop :=
  ∀ (m : (ℓ : Loc Cert.InWPlainIdeal.nD Cert.InWPlainIdeal.τ Cert.InWPlainIdeal.sig) → Buf (Elt Ideal) ℓ) (g : Dev Cert.InWPlainIdeal.nD → PrngReg), Pre_InWPlainIdeal m →
    θ_run (Cert.InWPlainIdeal.defs (F := Ideal)) (onTc (τ := Cert.InWPlainIdeal.τ) (Cert.InWPlainIdeal.main (F := Ideal))) ⟨m, fun _ => 0, g⟩ (fun r => (∀ c : Dev Cert.InWPlainIdeal.nD,
      r.2.mem ((c.tc : Thread Cert.InWPlainIdeal.nD Cert.InWPlainIdeal.τ).loc Cert.InWPlainIdeal.main_arg0) = m ((c.tc : Thread Cert.InWPlainIdeal.nD Cert.InWPlainIdeal.τ).loc Cert.InWPlainIdeal.main_arg0)
      ∧ r.2.mem ((c.tc : Thread Cert.InWPlainIdeal.nD Cert.InWPlainIdeal.τ).loc Cert.InWPlainIdeal.main_arg1) = m ((c.tc : Thread Cert.InWPlainIdeal.nD Cert.InWPlainIdeal.τ).loc Cert.InWPlainIdeal.main_arg1)
      ∧ r.2.mem ((c.tc : Thread Cert.InWPlainIdeal.nD Cert.InWPlainIdeal.τ).loc Cert.InWPlainIdeal.main_arg2) = m ((c.tc : Thread Cert.InWPlainIdeal.nD Cert.InWPlainIdeal.τ).loc Cert.InWPlainIdeal.main_arg2))
      ∧ r.2.sem = fun _ => 0)

def quiescent_InN [hInN : Cert.InN.Facts] : Prop :=
  ∀ (m : (ℓ : Loc Cert.InN.nD Cert.InN.τ Cert.InN.sig) → Buf (Elt Bits) ℓ) (g : Dev Cert.InN.nD → PrngReg), Pre_InN m →
    θ_run (Cert.InN.defs (F := Bits)) (onTc (τ := Cert.InN.τ) (Cert.InN.main (F := Bits))) ⟨m, fun _ => 0, g⟩ (fun r => (∀ c : Dev Cert.InN.nD,
      r.2.mem ((c.tc : Thread Cert.InN.nD Cert.InN.τ).loc Cert.InN.main_arg0) = m ((c.tc : Thread Cert.InN.nD Cert.InN.τ).loc Cert.InN.main_arg0)
      ∧ r.2.mem ((c.tc : Thread Cert.InN.nD Cert.InN.τ).loc Cert.InN.main_arg1) = m ((c.tc : Thread Cert.InN.nD Cert.InN.τ).loc Cert.InN.main_arg1))
      ∧ r.2.sem = fun _ => 0)

def quiescent_InNIdeal [hInNIdeal : Cert.InNIdeal.Facts] : Prop :=
  ∀ (m : (ℓ : Loc Cert.InNIdeal.nD Cert.InNIdeal.τ Cert.InNIdeal.sig) → Buf (Elt Ideal) ℓ) (g : Dev Cert.InNIdeal.nD → PrngReg), Pre_InNIdeal m →
    θ_run (Cert.InNIdeal.defs (F := Ideal)) (onTc (τ := Cert.InNIdeal.τ) (Cert.InNIdeal.main (F := Ideal))) ⟨m, fun _ => 0, g⟩ (fun r => (∀ c : Dev Cert.InNIdeal.nD,
      r.2.mem ((c.tc : Thread Cert.InNIdeal.nD Cert.InNIdeal.τ).loc Cert.InNIdeal.main_arg0) = m ((c.tc : Thread Cert.InNIdeal.nD Cert.InNIdeal.τ).loc Cert.InNIdeal.main_arg0)
      ∧ r.2.mem ((c.tc : Thread Cert.InNIdeal.nD Cert.InNIdeal.τ).loc Cert.InNIdeal.main_arg1) = m ((c.tc : Thread Cert.InNIdeal.nD Cert.InNIdeal.τ).loc Cert.InNIdeal.main_arg1))
      ∧ r.2.sem = fun _ => 0)

def quiescent_InNPlainIdeal [hInNPlainIdeal : Cert.InNPlainIdeal.Facts] : Prop :=
  ∀ (m : (ℓ : Loc Cert.InNPlainIdeal.nD Cert.InNPlainIdeal.τ Cert.InNPlainIdeal.sig) → Buf (Elt Ideal) ℓ) (g : Dev Cert.InNPlainIdeal.nD → PrngReg), Pre_InNPlainIdeal m →
    θ_run (Cert.InNPlainIdeal.defs (F := Ideal)) (onTc (τ := Cert.InNPlainIdeal.τ) (Cert.InNPlainIdeal.main (F := Ideal))) ⟨m, fun _ => 0, g⟩ (fun r => (∀ c : Dev Cert.InNPlainIdeal.nD,
      r.2.mem ((c.tc : Thread Cert.InNPlainIdeal.nD Cert.InNPlainIdeal.τ).loc Cert.InNPlainIdeal.main_arg0) = m ((c.tc : Thread Cert.InNPlainIdeal.nD Cert.InNPlainIdeal.τ).loc Cert.InNPlainIdeal.main_arg0)
      ∧ r.2.mem ((c.tc : Thread Cert.InNPlainIdeal.nD Cert.InNPlainIdeal.τ).loc Cert.InNPlainIdeal.main_arg1) = m ((c.tc : Thread Cert.InNPlainIdeal.nD Cert.InNPlainIdeal.τ).loc Cert.InNPlainIdeal.main_arg1))
      ∧ r.2.sem = fun _ => 0)

def quiescent_InNH [hInNH : Cert.InNH.Facts] : Prop :=
  ∀ (m : (ℓ : Loc Cert.InNH.nD Cert.InNH.τ Cert.InNH.sig) → Buf (Elt Bits) ℓ) (g : Dev Cert.InNH.nD → PrngReg), Pre_InNH m →
    θ_run (Cert.InNH.defs (F := Bits)) (onTc (τ := Cert.InNH.τ) (Cert.InNH.main (F := Bits))) ⟨m, fun _ => 0, g⟩ (fun r => (∀ c : Dev Cert.InNH.nD,
      r.2.mem ((c.tc : Thread Cert.InNH.nD Cert.InNH.τ).loc Cert.InNH.main_arg0) = m ((c.tc : Thread Cert.InNH.nD Cert.InNH.τ).loc Cert.InNH.main_arg0)
      ∧ r.2.mem ((c.tc : Thread Cert.InNH.nD Cert.InNH.τ).loc Cert.InNH.main_arg1) = m ((c.tc : Thread Cert.InNH.nD Cert.InNH.τ).loc Cert.InNH.main_arg1))
      ∧ r.2.sem = fun _ => 0)

def quiescent_InNHIdeal [hInNHIdeal : Cert.InNHIdeal.Facts] : Prop :=
  ∀ (m : (ℓ : Loc Cert.InNHIdeal.nD Cert.InNHIdeal.τ Cert.InNHIdeal.sig) → Buf (Elt Ideal) ℓ) (g : Dev Cert.InNHIdeal.nD → PrngReg), Pre_InNHIdeal m →
    θ_run (Cert.InNHIdeal.defs (F := Ideal)) (onTc (τ := Cert.InNHIdeal.τ) (Cert.InNHIdeal.main (F := Ideal))) ⟨m, fun _ => 0, g⟩ (fun r => (∀ c : Dev Cert.InNHIdeal.nD,
      r.2.mem ((c.tc : Thread Cert.InNHIdeal.nD Cert.InNHIdeal.τ).loc Cert.InNHIdeal.main_arg0) = m ((c.tc : Thread Cert.InNHIdeal.nD Cert.InNHIdeal.τ).loc Cert.InNHIdeal.main_arg0)
      ∧ r.2.mem ((c.tc : Thread Cert.InNHIdeal.nD Cert.InNHIdeal.τ).loc Cert.InNHIdeal.main_arg1) = m ((c.tc : Thread Cert.InNHIdeal.nD Cert.InNHIdeal.τ).loc Cert.InNHIdeal.main_arg1))
      ∧ r.2.sem = fun _ => 0)

def quiescent_InNHPlainIdeal [hInNHPlainIdeal : Cert.InNHPlainIdeal.Facts] : Prop :=
  ∀ (m : (ℓ : Loc Cert.InNHPlainIdeal.nD Cert.InNHPlainIdeal.τ Cert.InNHPlainIdeal.sig) → Buf (Elt Ideal) ℓ) (g : Dev Cert.InNHPlainIdeal.nD → PrngReg), Pre_InNHPlainIdeal m →
    θ_run (Cert.InNHPlainIdeal.defs (F := Ideal)) (onTc (τ := Cert.InNHPlainIdeal.τ) (Cert.InNHPlainIdeal.main (F := Ideal))) ⟨m, fun _ => 0, g⟩ (fun r => (∀ c : Dev Cert.InNHPlainIdeal.nD,
      r.2.mem ((c.tc : Thread Cert.InNHPlainIdeal.nD Cert.InNHPlainIdeal.τ).loc Cert.InNHPlainIdeal.main_arg0) = m ((c.tc : Thread Cert.InNHPlainIdeal.nD Cert.InNHPlainIdeal.τ).loc Cert.InNHPlainIdeal.main_arg0)
      ∧ r.2.mem ((c.tc : Thread Cert.InNHPlainIdeal.nD Cert.InNHPlainIdeal.τ).loc Cert.InNHPlainIdeal.main_arg1) = m ((c.tc : Thread Cert.InNHPlainIdeal.nD Cert.InNHPlainIdeal.τ).loc Cert.InNHPlainIdeal.main_arg1))
      ∧ r.2.sem = fun _ => 0)

def quiescent_InNW [hInNW : Cert.InNW.Facts] : Prop :=
  ∀ (m : (ℓ : Loc Cert.InNW.nD Cert.InNW.τ Cert.InNW.sig) → Buf (Elt Bits) ℓ) (g : Dev Cert.InNW.nD → PrngReg), Pre_InNW m →
    θ_run (Cert.InNW.defs (F := Bits)) (onTc (τ := Cert.InNW.τ) (Cert.InNW.main (F := Bits))) ⟨m, fun _ => 0, g⟩ (fun r => (∀ c : Dev Cert.InNW.nD,
      r.2.mem ((c.tc : Thread Cert.InNW.nD Cert.InNW.τ).loc Cert.InNW.main_arg0) = m ((c.tc : Thread Cert.InNW.nD Cert.InNW.τ).loc Cert.InNW.main_arg0)
      ∧ r.2.mem ((c.tc : Thread Cert.InNW.nD Cert.InNW.τ).loc Cert.InNW.main_arg1) = m ((c.tc : Thread Cert.InNW.nD Cert.InNW.τ).loc Cert.InNW.main_arg1)
      ∧ r.2.mem ((c.tc : Thread Cert.InNW.nD Cert.InNW.τ).loc Cert.InNW.main_arg2) = m ((c.tc : Thread Cert.InNW.nD Cert.InNW.τ).loc Cert.InNW.main_arg2))
      ∧ r.2.sem = fun _ => 0)

def quiescent_InNWIdeal [hInNWIdeal : Cert.InNWIdeal.Facts] : Prop :=
  ∀ (m : (ℓ : Loc Cert.InNWIdeal.nD Cert.InNWIdeal.τ Cert.InNWIdeal.sig) → Buf (Elt Ideal) ℓ) (g : Dev Cert.InNWIdeal.nD → PrngReg), Pre_InNWIdeal m →
    θ_run (Cert.InNWIdeal.defs (F := Ideal)) (onTc (τ := Cert.InNWIdeal.τ) (Cert.InNWIdeal.main (F := Ideal))) ⟨m, fun _ => 0, g⟩ (fun r => (∀ c : Dev Cert.InNWIdeal.nD,
      r.2.mem ((c.tc : Thread Cert.InNWIdeal.nD Cert.InNWIdeal.τ).loc Cert.InNWIdeal.main_arg0) = m ((c.tc : Thread Cert.InNWIdeal.nD Cert.InNWIdeal.τ).loc Cert.InNWIdeal.main_arg0)
      ∧ r.2.mem ((c.tc : Thread Cert.InNWIdeal.nD Cert.InNWIdeal.τ).loc Cert.InNWIdeal.main_arg1) = m ((c.tc : Thread Cert.InNWIdeal.nD Cert.InNWIdeal.τ).loc Cert.InNWIdeal.main_arg1)
      ∧ r.2.mem ((c.tc : Thread Cert.InNWIdeal.nD Cert.InNWIdeal.τ).loc Cert.InNWIdeal.main_arg2) = m ((c.tc : Thread Cert.InNWIdeal.nD Cert.InNWIdeal.τ).loc Cert.InNWIdeal.main_arg2))
      ∧ r.2.sem = fun _ => 0)

def quiescent_InNWPlainIdeal [hInNWPlainIdeal : Cert.InNWPlainIdeal.Facts] : Prop :=
  ∀ (m : (ℓ : Loc Cert.InNWPlainIdeal.nD Cert.InNWPlainIdeal.τ Cert.InNWPlainIdeal.sig) → Buf (Elt Ideal) ℓ) (g : Dev Cert.InNWPlainIdeal.nD → PrngReg), Pre_InNWPlainIdeal m →
    θ_run (Cert.InNWPlainIdeal.defs (F := Ideal)) (onTc (τ := Cert.InNWPlainIdeal.τ) (Cert.InNWPlainIdeal.main (F := Ideal))) ⟨m, fun _ => 0, g⟩ (fun r => (∀ c : Dev Cert.InNWPlainIdeal.nD,
      r.2.mem ((c.tc : Thread Cert.InNWPlainIdeal.nD Cert.InNWPlainIdeal.τ).loc Cert.InNWPlainIdeal.main_arg0) = m ((c.tc : Thread Cert.InNWPlainIdeal.nD Cert.InNWPlainIdeal.τ).loc Cert.InNWPlainIdeal.main_arg0)
      ∧ r.2.mem ((c.tc : Thread Cert.InNWPlainIdeal.nD Cert.InNWPlainIdeal.τ).loc Cert.InNWPlainIdeal.main_arg1) = m ((c.tc : Thread Cert.InNWPlainIdeal.nD Cert.InNWPlainIdeal.τ).loc Cert.InNWPlainIdeal.main_arg1)
      ∧ r.2.mem ((c.tc : Thread Cert.InNWPlainIdeal.nD Cert.InNWPlainIdeal.τ).loc Cert.InNWPlainIdeal.main_arg2) = m ((c.tc : Thread Cert.InNWPlainIdeal.nD Cert.InNWPlainIdeal.τ).loc Cert.InNWPlainIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutPlainIdeal [hOutPlainIdeal : Cert.OutPlainIdeal.Facts] : Prop :=
  ∀ (m : (ℓ : Loc Cert.OutPlainIdeal.nD Cert.OutPlainIdeal.τ Cert.OutPlainIdeal.sig) → Buf (Elt Ideal) ℓ) (g : Dev Cert.OutPlainIdeal.nD → PrngReg), Pre_OutPlainIdeal m →
    θ_run (Cert.OutPlainIdeal.defs (F := Ideal)) (onTc (τ := Cert.OutPlainIdeal.τ) (Cert.OutPlainIdeal.main (F := Ideal))) ⟨m, fun _ => 0, g⟩ (fun r => (∀ c : Dev Cert.OutPlainIdeal.nD,
      r.2.mem ((c.tc : Thread Cert.OutPlainIdeal.nD Cert.OutPlainIdeal.τ).loc Cert.OutPlainIdeal.main_arg0) = m ((c.tc : Thread Cert.OutPlainIdeal.nD Cert.OutPlainIdeal.τ).loc Cert.OutPlainIdeal.main_arg0)
      ∧ r.2.mem ((c.tc : Thread Cert.OutPlainIdeal.nD Cert.OutPlainIdeal.τ).loc Cert.OutPlainIdeal.main_arg1) = m ((c.tc : Thread Cert.OutPlainIdeal.nD Cert.OutPlainIdeal.τ).loc Cert.OutPlainIdeal.main_arg1)
      ∧ r.2.mem ((c.tc : Thread Cert.OutPlainIdeal.nD Cert.OutPlainIdeal.τ).loc Cert.OutPlainIdeal.main_arg2) = m ((c.tc : Thread Cert.OutPlainIdeal.nD Cert.OutPlainIdeal.τ).loc Cert.OutPlainIdeal.main_arg2)
      ∧ r.2.mem ((c.tc : Thread Cert.OutPlainIdeal.nD Cert.OutPlainIdeal.τ).loc Cert.OutPlainIdeal.main_arg3) = m ((c.tc : Thread Cert.OutPlainIdeal.nD Cert.OutPlainIdeal.τ).loc Cert.OutPlainIdeal.main_arg3))
      ∧ r.2.sem = fun _ => 0)

def quiescent_OutH [hOutH : Cert.OutH.Facts] : Prop :=
  ∀ (m : (ℓ : Loc Cert.OutH.nD Cert.OutH.τ Cert.OutH.sig) → Buf (Elt Bits) ℓ) (g : Dev Cert.OutH.nD → PrngReg), Pre_OutH m →
    θ_run (Cert.OutH.defs (F := Bits)) (onTc (τ := Cert.OutH.τ) (Cert.OutH.main (F := Bits))) ⟨m, fun _ => 0, g⟩ (fun r => (∀ c : Dev Cert.OutH.nD,
      r.2.mem ((c.tc : Thread Cert.OutH.nD Cert.OutH.τ).loc Cert.OutH.main_arg0) = m ((c.tc : Thread Cert.OutH.nD Cert.OutH.τ).loc Cert.OutH.main_arg0)
      ∧ r.2.mem ((c.tc : Thread Cert.OutH.nD Cert.OutH.τ).loc Cert.OutH.main_arg1) = m ((c.tc : Thread Cert.OutH.nD Cert.OutH.τ).loc Cert.OutH.main_arg1))
      ∧ r.2.sem = fun _ => 0)

def quiescent_OutHIdeal [hOutHIdeal : Cert.OutHIdeal.Facts] : Prop :=
  ∀ (m : (ℓ : Loc Cert.OutHIdeal.nD Cert.OutHIdeal.τ Cert.OutHIdeal.sig) → Buf (Elt Ideal) ℓ) (g : Dev Cert.OutHIdeal.nD → PrngReg), Pre_OutHIdeal m →
    θ_run (Cert.OutHIdeal.defs (F := Ideal)) (onTc (τ := Cert.OutHIdeal.τ) (Cert.OutHIdeal.main (F := Ideal))) ⟨m, fun _ => 0, g⟩ (fun r => (∀ c : Dev Cert.OutHIdeal.nD,
      r.2.mem ((c.tc : Thread Cert.OutHIdeal.nD Cert.OutHIdeal.τ).loc Cert.OutHIdeal.main_arg0) = m ((c.tc : Thread Cert.OutHIdeal.nD Cert.OutHIdeal.τ).loc Cert.OutHIdeal.main_arg0)
      ∧ r.2.mem ((c.tc : Thread Cert.OutHIdeal.nD Cert.OutHIdeal.τ).loc Cert.OutHIdeal.main_arg1) = m ((c.tc : Thread Cert.OutHIdeal.nD Cert.OutHIdeal.τ).loc Cert.OutHIdeal.main_arg1))
      ∧ r.2.sem = fun _ => 0)

def quiescent_OutHPlainIdeal [hOutHPlainIdeal : Cert.OutHPlainIdeal.Facts] : Prop :=
  ∀ (m : (ℓ : Loc Cert.OutHPlainIdeal.nD Cert.OutHPlainIdeal.τ Cert.OutHPlainIdeal.sig) → Buf (Elt Ideal) ℓ) (g : Dev Cert.OutHPlainIdeal.nD → PrngReg), Pre_OutHPlainIdeal m →
    θ_run (Cert.OutHPlainIdeal.defs (F := Ideal)) (onTc (τ := Cert.OutHPlainIdeal.τ) (Cert.OutHPlainIdeal.main (F := Ideal))) ⟨m, fun _ => 0, g⟩ (fun r => (∀ c : Dev Cert.OutHPlainIdeal.nD,
      r.2.mem ((c.tc : Thread Cert.OutHPlainIdeal.nD Cert.OutHPlainIdeal.τ).loc Cert.OutHPlainIdeal.main_arg0) = m ((c.tc : Thread Cert.OutHPlainIdeal.nD Cert.OutHPlainIdeal.τ).loc Cert.OutHPlainIdeal.main_arg0)
      ∧ r.2.mem ((c.tc : Thread Cert.OutHPlainIdeal.nD Cert.OutHPlainIdeal.τ).loc Cert.OutHPlainIdeal.main_arg1) = m ((c.tc : Thread Cert.OutHPlainIdeal.nD Cert.OutHPlainIdeal.τ).loc Cert.OutHPlainIdeal.main_arg1))
      ∧ r.2.sem = fun _ => 0)

def quiescent_OutA [hOutA : Cert.OutA.Facts] : Prop :=
  ∀ (m : (ℓ : Loc Cert.OutA.nD Cert.OutA.τ Cert.OutA.sig) → Buf (Elt Bits) ℓ) (g : Dev Cert.OutA.nD → PrngReg), Pre_OutA m →
    θ_run (Cert.OutA.defs (F := Bits)) (onTc (τ := Cert.OutA.τ) (Cert.OutA.main (F := Bits))) ⟨m, fun _ => 0, g⟩ (fun r => (∀ c : Dev Cert.OutA.nD,
      r.2.mem ((c.tc : Thread Cert.OutA.nD Cert.OutA.τ).loc Cert.OutA.main_arg0) = m ((c.tc : Thread Cert.OutA.nD Cert.OutA.τ).loc Cert.OutA.main_arg0)
      ∧ r.2.mem ((c.tc : Thread Cert.OutA.nD Cert.OutA.τ).loc Cert.OutA.main_arg1) = m ((c.tc : Thread Cert.OutA.nD Cert.OutA.τ).loc Cert.OutA.main_arg1))
      ∧ r.2.sem = fun _ => 0)

def quiescent_OutAIdeal [hOutAIdeal : Cert.OutAIdeal.Facts] : Prop :=
  ∀ (m : (ℓ : Loc Cert.OutAIdeal.nD Cert.OutAIdeal.τ Cert.OutAIdeal.sig) → Buf (Elt Ideal) ℓ) (g : Dev Cert.OutAIdeal.nD → PrngReg), Pre_OutAIdeal m →
    θ_run (Cert.OutAIdeal.defs (F := Ideal)) (onTc (τ := Cert.OutAIdeal.τ) (Cert.OutAIdeal.main (F := Ideal))) ⟨m, fun _ => 0, g⟩ (fun r => (∀ c : Dev Cert.OutAIdeal.nD,
      r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
      ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ r.2.sem = fun _ => 0)

def quiescent_OutAPlainIdeal [hOutAPlainIdeal : Cert.OutAPlainIdeal.Facts] : Prop :=
  ∀ (m : (ℓ : Loc Cert.OutAPlainIdeal.nD Cert.OutAPlainIdeal.τ Cert.OutAPlainIdeal.sig) → Buf (Elt Ideal) ℓ) (g : Dev Cert.OutAPlainIdeal.nD → PrngReg), Pre_OutAPlainIdeal m →
    θ_run (Cert.OutAPlainIdeal.defs (F := Ideal)) (onTc (τ := Cert.OutAPlainIdeal.τ) (Cert.OutAPlainIdeal.main (F := Ideal))) ⟨m, fun _ => 0, g⟩ (fun r => (∀ c : Dev Cert.OutAPlainIdeal.nD,
      r.2.mem ((c.tc : Thread Cert.OutAPlainIdeal.nD Cert.OutAPlainIdeal.τ).loc Cert.OutAPlainIdeal.main_arg0) = m ((c.tc : Thread Cert.OutAPlainIdeal.nD Cert.OutAPlainIdeal.τ).loc Cert.OutAPlainIdeal.main_arg0)
      ∧ r.2.mem ((c.tc : Thread Cert.OutAPlainIdeal.nD Cert.OutAPlainIdeal.τ).loc Cert.OutAPlainIdeal.main_arg1) = m ((c.tc : Thread Cert.OutAPlainIdeal.nD Cert.OutAPlainIdeal.τ).loc Cert.OutAPlainIdeal.main_arg1))
      ∧ r.2.sem = fun _ => 0)

def quiescent_OutB [hOutB : Cert.OutB.Facts] : Prop :=
  ∀ (m : (ℓ : Loc Cert.OutB.nD Cert.OutB.τ Cert.OutB.sig) → Buf (Elt Bits) ℓ) (g : Dev Cert.OutB.nD → PrngReg), Pre_OutB m →
    θ_run (Cert.OutB.defs (F := Bits)) (onTc (τ := Cert.OutB.τ) (Cert.OutB.main (F := Bits))) ⟨m, fun _ => 0, g⟩ (fun r => (∀ c : Dev Cert.OutB.nD,
      r.2.mem ((c.tc : Thread Cert.OutB.nD Cert.OutB.τ).loc Cert.OutB.main_arg0) = m ((c.tc : Thread Cert.OutB.nD Cert.OutB.τ).loc Cert.OutB.main_arg0)
      ∧ r.2.mem ((c.tc : Thread Cert.OutB.nD Cert.OutB.τ).loc Cert.OutB.main_arg1) = m ((c.tc : Thread Cert.OutB.nD Cert.OutB.τ).loc Cert.OutB.main_arg1))
      ∧ r.2.sem = fun _ => 0)

def quiescent_OutBIdeal [hOutBIdeal : Cert.OutBIdeal.Facts] : Prop :=
  ∀ (m : (ℓ : Loc Cert.OutBIdeal.nD Cert.OutBIdeal.τ Cert.OutBIdeal.sig) → Buf (Elt Ideal) ℓ) (g : Dev Cert.OutBIdeal.nD → PrngReg), Pre_OutBIdeal m →
    θ_run (Cert.OutBIdeal.defs (F := Ideal)) (onTc (τ := Cert.OutBIdeal.τ) (Cert.OutBIdeal.main (F := Ideal))) ⟨m, fun _ => 0, g⟩ (fun r => (∀ c : Dev Cert.OutBIdeal.nD,
      r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
      ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ r.2.sem = fun _ => 0)

def quiescent_OutBPlainIdeal [hOutBPlainIdeal : Cert.OutBPlainIdeal.Facts] : Prop :=
  ∀ (m : (ℓ : Loc Cert.OutBPlainIdeal.nD Cert.OutBPlainIdeal.τ Cert.OutBPlainIdeal.sig) → Buf (Elt Ideal) ℓ) (g : Dev Cert.OutBPlainIdeal.nD → PrngReg), Pre_OutBPlainIdeal m →
    θ_run (Cert.OutBPlainIdeal.defs (F := Ideal)) (onTc (τ := Cert.OutBPlainIdeal.τ) (Cert.OutBPlainIdeal.main (F := Ideal))) ⟨m, fun _ => 0, g⟩ (fun r => (∀ c : Dev Cert.OutBPlainIdeal.nD,
      r.2.mem ((c.tc : Thread Cert.OutBPlainIdeal.nD Cert.OutBPlainIdeal.τ).loc Cert.OutBPlainIdeal.main_arg0) = m ((c.tc : Thread Cert.OutBPlainIdeal.nD Cert.OutBPlainIdeal.τ).loc Cert.OutBPlainIdeal.main_arg0)
      ∧ r.2.mem ((c.tc : Thread Cert.OutBPlainIdeal.nD Cert.OutBPlainIdeal.τ).loc Cert.OutBPlainIdeal.main_arg1) = m ((c.tc : Thread Cert.OutBPlainIdeal.nD Cert.OutBPlainIdeal.τ).loc Cert.OutBPlainIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvPlainIdeal [hKvPlainIdeal : Cert.KvPlainIdeal.Facts] : Prop :=
  ∀ (m : (ℓ : Loc Cert.KvPlainIdeal.nD Cert.KvPlainIdeal.τ Cert.KvPlainIdeal.sig) → Buf (Elt Ideal) ℓ) (g : Dev Cert.KvPlainIdeal.nD → PrngReg), Pre_KvPlainIdeal m →
    θ_run (Cert.KvPlainIdeal.defs (F := Ideal)) (onTc (τ := Cert.KvPlainIdeal.τ) (Cert.KvPlainIdeal.main (F := Ideal))) ⟨m, fun _ => 0, g⟩ (fun r => (∀ c : Dev Cert.KvPlainIdeal.nD,
      r.2.mem ((c.tc : Thread Cert.KvPlainIdeal.nD Cert.KvPlainIdeal.τ).loc Cert.KvPlainIdeal.main_arg0) = m ((c.tc : Thread Cert.KvPlainIdeal.nD Cert.KvPlainIdeal.τ).loc Cert.KvPlainIdeal.main_arg0)
      ∧ r.2.mem ((c.tc : Thread Cert.KvPlainIdeal.nD Cert.KvPlainIdeal.τ).loc Cert.KvPlainIdeal.main_arg1) = m ((c.tc : Thread Cert.KvPlainIdeal.nD Cert.KvPlainIdeal.τ).loc Cert.KvPlainIdeal.main_arg1))
      ∧ r.2.sem = fun _ => 0)

def quiescent_KvH [hKvH : Cert.KvH.Facts] : Prop :=
  ∀ (m : (ℓ : Loc Cert.KvH.nD Cert.KvH.τ Cert.KvH.sig) → Buf (Elt Bits) ℓ) (g : Dev Cert.KvH.nD → PrngReg), Pre_KvH m →
    θ_run (Cert.KvH.defs (F := Bits)) (onTc (τ := Cert.KvH.τ) (Cert.KvH.main (F := Bits))) ⟨m, fun _ => 0, g⟩ (fun r => (∀ c : Dev Cert.KvH.nD,
      r.2.mem ((c.tc : Thread Cert.KvH.nD Cert.KvH.τ).loc Cert.KvH.main_arg0) = m ((c.tc : Thread Cert.KvH.nD Cert.KvH.τ).loc Cert.KvH.main_arg0)
      ∧ r.2.mem ((c.tc : Thread Cert.KvH.nD Cert.KvH.τ).loc Cert.KvH.main_arg1) = m ((c.tc : Thread Cert.KvH.nD Cert.KvH.τ).loc Cert.KvH.main_arg1))
      ∧ r.2.sem = fun _ => 0)

def quiescent_KvHIdeal [hKvHIdeal : Cert.KvHIdeal.Facts] : Prop :=
  ∀ (m : (ℓ : Loc Cert.KvHIdeal.nD Cert.KvHIdeal.τ Cert.KvHIdeal.sig) → Buf (Elt Ideal) ℓ) (g : Dev Cert.KvHIdeal.nD → PrngReg), Pre_KvHIdeal m →
    θ_run (Cert.KvHIdeal.defs (F := Ideal)) (onTc (τ := Cert.KvHIdeal.τ) (Cert.KvHIdeal.main (F := Ideal))) ⟨m, fun _ => 0, g⟩ (fun r => (∀ c : Dev Cert.KvHIdeal.nD,
      r.2.mem ((c.tc : Thread Cert.KvHIdeal.nD Cert.KvHIdeal.τ).loc Cert.KvHIdeal.main_arg0) = m ((c.tc : Thread Cert.KvHIdeal.nD Cert.KvHIdeal.τ).loc Cert.KvHIdeal.main_arg0)
      ∧ r.2.mem ((c.tc : Thread Cert.KvHIdeal.nD Cert.KvHIdeal.τ).loc Cert.KvHIdeal.main_arg1) = m ((c.tc : Thread Cert.KvHIdeal.nD Cert.KvHIdeal.τ).loc Cert.KvHIdeal.main_arg1))
      ∧ r.2.sem = fun _ => 0)

def quiescent_KvHPlainIdeal [hKvHPlainIdeal : Cert.KvHPlainIdeal.Facts] : Prop :=
  ∀ (m : (ℓ : Loc Cert.KvHPlainIdeal.nD Cert.KvHPlainIdeal.τ Cert.KvHPlainIdeal.sig) → Buf (Elt Ideal) ℓ) (g : Dev Cert.KvHPlainIdeal.nD → PrngReg), Pre_KvHPlainIdeal m →
    θ_run (Cert.KvHPlainIdeal.defs (F := Ideal)) (onTc (τ := Cert.KvHPlainIdeal.τ) (Cert.KvHPlainIdeal.main (F := Ideal))) ⟨m, fun _ => 0, g⟩ (fun r => (∀ c : Dev Cert.KvHPlainIdeal.nD,
      r.2.mem ((c.tc : Thread Cert.KvHPlainIdeal.nD Cert.KvHPlainIdeal.τ).loc Cert.KvHPlainIdeal.main_arg0) = m ((c.tc : Thread Cert.KvHPlainIdeal.nD Cert.KvHPlainIdeal.τ).loc Cert.KvHPlainIdeal.main_arg0)
      ∧ r.2.mem ((c.tc : Thread Cert.KvHPlainIdeal.nD Cert.KvHPlainIdeal.τ).loc Cert.KvHPlainIdeal.main_arg1) = m ((c.tc : Thread Cert.KvHPlainIdeal.nD Cert.KvHPlainIdeal.τ).loc Cert.KvHPlainIdeal.main_arg1))
      ∧ r.2.sem = fun _ => 0)

def quiescent_KvW [hKvW : Cert.KvW.Facts] : Prop :=
  ∀ (m : (ℓ : Loc Cert.KvW.nD Cert.KvW.τ Cert.KvW.sig) → Buf (Elt Bits) ℓ) (g : Dev Cert.KvW.nD → PrngReg), Pre_KvW m →
    θ_run (Cert.KvW.defs (F := Bits)) (onTc (τ := Cert.KvW.τ) (Cert.KvW.main (F := Bits))) ⟨m, fun _ => 0, g⟩ (fun r => (∀ c : Dev Cert.KvW.nD,
      r.2.mem ((c.tc : Thread Cert.KvW.nD Cert.KvW.τ).loc Cert.KvW.main_arg0) = m ((c.tc : Thread Cert.KvW.nD Cert.KvW.τ).loc Cert.KvW.main_arg0)
      ∧ r.2.mem ((c.tc : Thread Cert.KvW.nD Cert.KvW.τ).loc Cert.KvW.main_arg1) = m ((c.tc : Thread Cert.KvW.nD Cert.KvW.τ).loc Cert.KvW.main_arg1))
      ∧ r.2.sem = fun _ => 0)

def quiescent_KvWIdeal [hKvWIdeal : Cert.KvWIdeal.Facts] : Prop :=
  ∀ (m : (ℓ : Loc Cert.KvWIdeal.nD Cert.KvWIdeal.τ Cert.KvWIdeal.sig) → Buf (Elt Ideal) ℓ) (g : Dev Cert.KvWIdeal.nD → PrngReg), Pre_KvWIdeal m →
    θ_run (Cert.KvWIdeal.defs (F := Ideal)) (onTc (τ := Cert.KvWIdeal.τ) (Cert.KvWIdeal.main (F := Ideal))) ⟨m, fun _ => 0, g⟩ (fun r => (∀ c : Dev Cert.KvWIdeal.nD,
      r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
      ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ r.2.sem = fun _ => 0)

def quiescent_KvWPlainIdeal [hKvWPlainIdeal : Cert.KvWPlainIdeal.Facts] : Prop :=
  ∀ (m : (ℓ : Loc Cert.KvWPlainIdeal.nD Cert.KvWPlainIdeal.τ Cert.KvWPlainIdeal.sig) → Buf (Elt Ideal) ℓ) (g : Dev Cert.KvWPlainIdeal.nD → PrngReg), Pre_KvWPlainIdeal m →
    θ_run (Cert.KvWPlainIdeal.defs (F := Ideal)) (onTc (τ := Cert.KvWPlainIdeal.τ) (Cert.KvWPlainIdeal.main (F := Ideal))) ⟨m, fun _ => 0, g⟩ (fun r => (∀ c : Dev Cert.KvWPlainIdeal.nD,
      r.2.mem ((c.tc : Thread Cert.KvWPlainIdeal.nD Cert.KvWPlainIdeal.τ).loc Cert.KvWPlainIdeal.main_arg0) = m ((c.tc : Thread Cert.KvWPlainIdeal.nD Cert.KvWPlainIdeal.τ).loc Cert.KvWPlainIdeal.main_arg0)
      ∧ r.2.mem ((c.tc : Thread Cert.KvWPlainIdeal.nD Cert.KvWPlainIdeal.τ).loc Cert.KvWPlainIdeal.main_arg1) = m ((c.tc : Thread Cert.KvWPlainIdeal.nD Cert.KvWPlainIdeal.τ).loc Cert.KvWPlainIdeal.main_arg1))
      ∧ r.2.sem = fun _ => 0)

def quiescent_FfnA [hFfnA : Cert.FfnA.Facts] : Prop :=
  ∀ (m : (ℓ : Loc Cert.FfnA.nD Cert.FfnA.τ Cert.FfnA.sig) → Buf (Elt Bits) ℓ) (g : Dev Cert.FfnA.nD → PrngReg), Pre_FfnA m →
    θ_run (Cert.FfnA.defs (F := Bits)) (onTc (τ := Cert.FfnA.τ) (Cert.FfnA.main (F := Bits))) ⟨m, fun _ => 0, g⟩ (fun r => (∀ c : Dev Cert.FfnA.nD,
      r.2.mem ((c.tc : Thread Cert.FfnA.nD Cert.FfnA.τ).loc Cert.FfnA.main_arg0) = m ((c.tc : Thread Cert.FfnA.nD Cert.FfnA.τ).loc Cert.FfnA.main_arg0)
      ∧ r.2.mem ((c.tc : Thread Cert.FfnA.nD Cert.FfnA.τ).loc Cert.FfnA.main_arg1) = m ((c.tc : Thread Cert.FfnA.nD Cert.FfnA.τ).loc Cert.FfnA.main_arg1)
      ∧ r.2.mem ((c.tc : Thread Cert.FfnA.nD Cert.FfnA.τ).loc Cert.FfnA.main_arg2) = m ((c.tc : Thread Cert.FfnA.nD Cert.FfnA.τ).loc Cert.FfnA.main_arg2)
      ∧ r.2.mem ((c.tc : Thread Cert.FfnA.nD Cert.FfnA.τ).loc Cert.FfnA.main_arg3) = m ((c.tc : Thread Cert.FfnA.nD Cert.FfnA.τ).loc Cert.FfnA.main_arg3)
      ∧ r.2.mem ((c.tc : Thread Cert.FfnA.nD Cert.FfnA.τ).loc Cert.FfnA.main_arg4) = m ((c.tc : Thread Cert.FfnA.nD Cert.FfnA.τ).loc Cert.FfnA.main_arg4))
      ∧ r.2.sem = fun _ => 0)

def quiescent_FfnAIdeal [hFfnAIdeal : Cert.FfnAIdeal.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ r.2.sem = fun _ => 0)

def quiescent_FfnAIdeal_pre_ffn_finite [hFfnAIdeal : Cert.FfnAIdeal.Facts] [hPre_ffn_finite : Cert.Pre_ffn_finite.Facts] : Prop :=
  ∀ (m : (ℓ : Loc Cert.FfnAIdeal.nD Cert.FfnAIdeal.τ Cert.FfnAIdeal.sig) → Buf (Elt Ideal) ℓ) (g : Dev Cert.FfnAIdeal.nD → PrngReg), Pre_FfnAIdeal_ffn_finite m →
    θ_run (Cert.FfnAIdeal.defs (F := Ideal)) (onTc (τ := Cert.FfnAIdeal.τ) (Cert.FfnAIdeal.main (F := Ideal))) ⟨m, fun _ => 0, g⟩ (fun r => (∀ c : Dev Cert.FfnAIdeal.nD,
      r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
      ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
      ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
      ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
      ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ r.2.sem = fun _ => 0)

def quiescent_FfnAPlainIdeal [hFfnAPlainIdeal : Cert.FfnAPlainIdeal.Facts] : Prop :=
  ∀ (m : (ℓ : Loc Cert.FfnAPlainIdeal.nD Cert.FfnAPlainIdeal.τ Cert.FfnAPlainIdeal.sig) → Buf (Elt Ideal) ℓ) (g : Dev Cert.FfnAPlainIdeal.nD → PrngReg), Pre_FfnAPlainIdeal m →
    θ_run (Cert.FfnAPlainIdeal.defs (F := Ideal)) (onTc (τ := Cert.FfnAPlainIdeal.τ) (Cert.FfnAPlainIdeal.main (F := Ideal))) ⟨m, fun _ => 0, g⟩ (fun r => (∀ c : Dev Cert.FfnAPlainIdeal.nD,
      r.2.mem ((c.tc : Thread Cert.FfnAPlainIdeal.nD Cert.FfnAPlainIdeal.τ).loc Cert.FfnAPlainIdeal.main_arg0) = m ((c.tc : Thread Cert.FfnAPlainIdeal.nD Cert.FfnAPlainIdeal.τ).loc Cert.FfnAPlainIdeal.main_arg0)
      ∧ r.2.mem ((c.tc : Thread Cert.FfnAPlainIdeal.nD Cert.FfnAPlainIdeal.τ).loc Cert.FfnAPlainIdeal.main_arg1) = m ((c.tc : Thread Cert.FfnAPlainIdeal.nD Cert.FfnAPlainIdeal.τ).loc Cert.FfnAPlainIdeal.main_arg1)
      ∧ r.2.mem ((c.tc : Thread Cert.FfnAPlainIdeal.nD Cert.FfnAPlainIdeal.τ).loc Cert.FfnAPlainIdeal.main_arg2) = m ((c.tc : Thread Cert.FfnAPlainIdeal.nD Cert.FfnAPlainIdeal.τ).loc Cert.FfnAPlainIdeal.main_arg2)
      ∧ r.2.mem ((c.tc : Thread Cert.FfnAPlainIdeal.nD Cert.FfnAPlainIdeal.τ).loc Cert.FfnAPlainIdeal.main_arg3) = m ((c.tc : Thread Cert.FfnAPlainIdeal.nD Cert.FfnAPlainIdeal.τ).loc Cert.FfnAPlainIdeal.main_arg3)
      ∧ r.2.mem ((c.tc : Thread Cert.FfnAPlainIdeal.nD Cert.FfnAPlainIdeal.τ).loc Cert.FfnAPlainIdeal.main_arg4) = m ((c.tc : Thread Cert.FfnAPlainIdeal.nD Cert.FfnAPlainIdeal.τ).loc Cert.FfnAPlainIdeal.main_arg4))
      ∧ r.2.sem = fun _ => 0)

def quiescent_FfnAPlainIdeal_pre_ffn_finite [hFfnAPlainIdeal : Cert.FfnAPlainIdeal.Facts] [hPre_ffn_finite : Cert.Pre_ffn_finite.Facts] : Prop :=
  ∀ (m : (ℓ : Loc Cert.FfnAPlainIdeal.nD Cert.FfnAPlainIdeal.τ Cert.FfnAPlainIdeal.sig) → Buf (Elt Ideal) ℓ) (g : Dev Cert.FfnAPlainIdeal.nD → PrngReg), Pre_FfnAPlainIdeal_ffn_finite m →
    θ_run (Cert.FfnAPlainIdeal.defs (F := Ideal)) (onTc (τ := Cert.FfnAPlainIdeal.τ) (Cert.FfnAPlainIdeal.main (F := Ideal))) ⟨m, fun _ => 0, g⟩ (fun r => (∀ c : Dev Cert.FfnAPlainIdeal.nD,
      r.2.mem ((c.tc : Thread Cert.FfnAPlainIdeal.nD Cert.FfnAPlainIdeal.τ).loc Cert.FfnAPlainIdeal.main_arg0) = m ((c.tc : Thread Cert.FfnAPlainIdeal.nD Cert.FfnAPlainIdeal.τ).loc Cert.FfnAPlainIdeal.main_arg0)
      ∧ r.2.mem ((c.tc : Thread Cert.FfnAPlainIdeal.nD Cert.FfnAPlainIdeal.τ).loc Cert.FfnAPlainIdeal.main_arg1) = m ((c.tc : Thread Cert.FfnAPlainIdeal.nD Cert.FfnAPlainIdeal.τ).loc Cert.FfnAPlainIdeal.main_arg1)
      ∧ r.2.mem ((c.tc : Thread Cert.FfnAPlainIdeal.nD Cert.FfnAPlainIdeal.τ).loc Cert.FfnAPlainIdeal.main_arg2) = m ((c.tc : Thread Cert.FfnAPlainIdeal.nD Cert.FfnAPlainIdeal.τ).loc Cert.FfnAPlainIdeal.main_arg2)
      ∧ r.2.mem ((c.tc : Thread Cert.FfnAPlainIdeal.nD Cert.FfnAPlainIdeal.τ).loc Cert.FfnAPlainIdeal.main_arg3) = m ((c.tc : Thread Cert.FfnAPlainIdeal.nD Cert.FfnAPlainIdeal.τ).loc Cert.FfnAPlainIdeal.main_arg3)
      ∧ r.2.mem ((c.tc : Thread Cert.FfnAPlainIdeal.nD Cert.FfnAPlainIdeal.τ).loc Cert.FfnAPlainIdeal.main_arg4) = m ((c.tc : Thread Cert.FfnAPlainIdeal.nD Cert.FfnAPlainIdeal.τ).loc Cert.FfnAPlainIdeal.main_arg4))
      ∧ r.2.sem = fun _ => 0)

def quiescent_FfnW [hFfnW : Cert.FfnW.Facts] : Prop :=
  ∀ (m : (ℓ : Loc Cert.FfnW.nD Cert.FfnW.τ Cert.FfnW.sig) → Buf (Elt Bits) ℓ) (g : Dev Cert.FfnW.nD → PrngReg), Pre_FfnW m →
    θ_run (Cert.FfnW.defs (F := Bits)) (onTc (τ := Cert.FfnW.τ) (Cert.FfnW.main (F := Bits))) ⟨m, fun _ => 0, g⟩ (fun r => (∀ c : Dev Cert.FfnW.nD,
      r.2.mem ((c.tc : Thread Cert.FfnW.nD Cert.FfnW.τ).loc Cert.FfnW.main_arg0) = m ((c.tc : Thread Cert.FfnW.nD Cert.FfnW.τ).loc Cert.FfnW.main_arg0)
      ∧ r.2.mem ((c.tc : Thread Cert.FfnW.nD Cert.FfnW.τ).loc Cert.FfnW.main_arg1) = m ((c.tc : Thread Cert.FfnW.nD Cert.FfnW.τ).loc Cert.FfnW.main_arg1)
      ∧ r.2.mem ((c.tc : Thread Cert.FfnW.nD Cert.FfnW.τ).loc Cert.FfnW.main_arg2) = m ((c.tc : Thread Cert.FfnW.nD Cert.FfnW.τ).loc Cert.FfnW.main_arg2)
      ∧ r.2.mem ((c.tc : Thread Cert.FfnW.nD Cert.FfnW.τ).loc Cert.FfnW.main_arg3) = m ((c.tc : Thread Cert.FfnW.nD Cert.FfnW.τ).loc Cert.FfnW.main_arg3)
      ∧ r.2.mem ((c.tc : Thread Cert.FfnW.nD Cert.FfnW.τ).loc Cert.FfnW.main_arg4) = m ((c.tc : Thread Cert.FfnW.nD Cert.FfnW.τ).loc Cert.FfnW.main_arg4))
      ∧ r.2.sem = fun _ => 0)

def quiescent_FfnWIdeal [hFfnWIdeal : Cert.FfnWIdeal.Facts] : Prop :=
  ∀ (m : (ℓ : Loc Cert.FfnWIdeal.nD Cert.FfnWIdeal.τ Cert.FfnWIdeal.sig) → Buf (Elt Ideal) ℓ) (g : Dev Cert.FfnWIdeal.nD → PrngReg), Pre_FfnWIdeal m →
    θ_run (Cert.FfnWIdeal.defs (F := Ideal)) (onTc (τ := Cert.FfnWIdeal.τ) (Cert.FfnWIdeal.main (F := Ideal))) ⟨m, fun _ => 0, g⟩ (fun r => (∀ c : Dev Cert.FfnWIdeal.nD,
      r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
      ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
      ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
      ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
      ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4))
      ∧ r.2.sem = fun _ => 0)

def quiescent_FfnWPlainIdeal [hFfnWPlainIdeal : Cert.FfnWPlainIdeal.Facts] : Prop :=
  ∀ (m : (ℓ : Loc Cert.FfnWPlainIdeal.nD Cert.FfnWPlainIdeal.τ Cert.FfnWPlainIdeal.sig) → Buf (Elt Ideal) ℓ) (g : Dev Cert.FfnWPlainIdeal.nD → PrngReg), Pre_FfnWPlainIdeal m →
    θ_run (Cert.FfnWPlainIdeal.defs (F := Ideal)) (onTc (τ := Cert.FfnWPlainIdeal.τ) (Cert.FfnWPlainIdeal.main (F := Ideal))) ⟨m, fun _ => 0, g⟩ (fun r => (∀ c : Dev Cert.FfnWPlainIdeal.nD,
      r.2.mem ((c.tc : Thread Cert.FfnWPlainIdeal.nD Cert.FfnWPlainIdeal.τ).loc Cert.FfnWPlainIdeal.main_arg0) = m ((c.tc : Thread Cert.FfnWPlainIdeal.nD Cert.FfnWPlainIdeal.τ).loc Cert.FfnWPlainIdeal.main_arg0)
      ∧ r.2.mem ((c.tc : Thread Cert.FfnWPlainIdeal.nD Cert.FfnWPlainIdeal.τ).loc Cert.FfnWPlainIdeal.main_arg1) = m ((c.tc : Thread Cert.FfnWPlainIdeal.nD Cert.FfnWPlainIdeal.τ).loc Cert.FfnWPlainIdeal.main_arg1)
      ∧ r.2.mem ((c.tc : Thread Cert.FfnWPlainIdeal.nD Cert.FfnWPlainIdeal.τ).loc Cert.FfnWPlainIdeal.main_arg2) = m ((c.tc : Thread Cert.FfnWPlainIdeal.nD Cert.FfnWPlainIdeal.τ).loc Cert.FfnWPlainIdeal.main_arg2)
      ∧ r.2.mem ((c.tc : Thread Cert.FfnWPlainIdeal.nD Cert.FfnWPlainIdeal.τ).loc Cert.FfnWPlainIdeal.main_arg3) = m ((c.tc : Thread Cert.FfnWPlainIdeal.nD Cert.FfnWPlainIdeal.τ).loc Cert.FfnWPlainIdeal.main_arg3)
      ∧ r.2.mem ((c.tc : Thread Cert.FfnWPlainIdeal.nD Cert.FfnWPlainIdeal.τ).loc Cert.FfnWPlainIdeal.main_arg4) = m ((c.tc : Thread Cert.FfnWPlainIdeal.nD Cert.FfnWPlainIdeal.τ).loc Cert.FfnWPlainIdeal.main_arg4))
      ∧ r.2.sem = fun _ => 0)

def preserves_Mem_MemIdeal : Prop :=
  True

def algebraic_MemIdeal_MemPlainIdeal_pre_mem_finite [hMemIdeal : Cert.MemIdeal.Facts] [hMemPlainIdeal : Cert.MemPlainIdeal.Facts] [hPre_mem_finite : Cert.Pre_mem_finite.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemPlainIdeal.nD Cert.MemPlainIdeal.τ Cert.MemPlainIdeal.sig) → Buf (Elt Ideal) ℓ) (g' : Dev Cert.MemPlainIdeal.nD → PrngReg), Pre_MemIdeal_mem_finite m →
    (∀ c : Dev Cert.MemIdeal.nD,
      m' ((c.tc : Thread Cert.MemPlainIdeal.nD Cert.MemPlainIdeal.τ).loc Cert.MemPlainIdeal.main_arg0) = m ((c.tc : Thread Cert.MemIdeal.nD Cert.MemIdeal.τ).loc Cert.MemIdeal.main_arg0)
      ∧ m' ((c.tc : Thread Cert.MemPlainIdeal.nD Cert.MemPlainIdeal.τ).loc Cert.MemPlainIdeal.main_arg1) = m ((c.tc : Thread Cert.MemIdeal.nD Cert.MemIdeal.τ).loc Cert.MemIdeal.main_arg1)
      ∧ m' ((c.tc : Thread Cert.MemPlainIdeal.nD Cert.MemPlainIdeal.τ).loc Cert.MemPlainIdeal.main_arg2) = m ((c.tc : Thread Cert.MemIdeal.nD Cert.MemIdeal.τ).loc Cert.MemIdeal.main_arg2)
      ∧ m' ((c.tc : Thread Cert.MemPlainIdeal.nD Cert.MemPlainIdeal.τ).loc Cert.MemPlainIdeal.main_arg3) = m ((c.tc : Thread Cert.MemIdeal.nD Cert.MemIdeal.τ).loc Cert.MemIdeal.main_arg3)
      ∧ m' ((c.tc : Thread Cert.MemPlainIdeal.nD Cert.MemPlainIdeal.τ).loc Cert.MemPlainIdeal.main_arg4) = m ((c.tc : Thread Cert.MemIdeal.nD Cert.MemIdeal.τ).loc Cert.MemIdeal.main_arg4)) →
    ∃ (v0 : (c : Dev Cert.MemIdeal.nD) → Buf (Elt Ideal) ((c.tc : Thread Cert.MemIdeal.nD Cert.MemIdeal.τ).loc Cert.MemIdeal.main_v0_0)) (v1 : (c : Dev Cert.MemIdeal.nD) → Buf (Elt Ideal) ((c.tc : Thread Cert.MemIdeal.nD Cert.MemIdeal.τ).loc Cert.MemIdeal.main_v0_1)) (v2 : (c : Dev Cert.MemIdeal.nD) → Buf (Elt Ideal) ((c.tc : Thread Cert.MemIdeal.nD Cert.MemIdeal.τ).loc Cert.MemIdeal.main_v0_2)) (v3 : (c : Dev Cert.MemIdeal.nD) → Buf (Elt Ideal) ((c.tc : Thread Cert.MemIdeal.nD Cert.MemIdeal.τ).loc Cert.MemIdeal.main_v0_3)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v0_0) = v0 c
          ∧ r.2.mem ((c.tc : Thread Cert.MemIdeal.nD Cert.MemIdeal.τ).loc Cert.MemIdeal.main_v0_1) = v1 c
          ∧ r.2.mem ((c.tc : Thread Cert.MemIdeal.nD Cert.MemIdeal.τ).loc Cert.MemIdeal.main_v0_2) = v2 c
          ∧ r.2.mem ((c.tc : Thread Cert.MemIdeal.nD Cert.MemIdeal.τ).loc Cert.MemIdeal.main_v0_3) = v3 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3)
          ∧ r.2.mem ((c.tc : Thread Cert.MemIdeal.nD Cert.MemIdeal.τ).loc Cert.MemIdeal.main_arg4) = m ((c.tc : Thread Cert.MemIdeal.nD Cert.MemIdeal.τ).loc Cert.MemIdeal.main_arg4))
      ∧ θ_run (Cert.MemPlainIdeal.defs (F := Ideal)) (onTc (τ := Cert.MemPlainIdeal.τ) (Cert.MemPlainIdeal.main (F := Ideal))) ⟨m', fun _ => 0, g'⟩ (fun r => ∀ c : Dev Cert.MemPlainIdeal.nD,
          r.2.mem ((c.tc : Thread Cert.MemPlainIdeal.nD Cert.MemPlainIdeal.τ).loc Cert.MemPlainIdeal.main_v148) = v0 c
          ∧ r.2.mem ((c.tc : Thread Cert.MemPlainIdeal.nD Cert.MemPlainIdeal.τ).loc Cert.MemPlainIdeal.main_v147) = v1 c
          ∧ r.2.mem ((c.tc : Thread Cert.MemPlainIdeal.nD Cert.MemPlainIdeal.τ).loc Cert.MemPlainIdeal.main_v103) = v2 c
          ∧ r.2.mem ((c.tc : Thread Cert.MemPlainIdeal.nD Cert.MemPlainIdeal.τ).loc Cert.MemPlainIdeal.main_v129) = v3 c
          ∧ r.2.mem ((c.tc : Thread Cert.MemPlainIdeal.nD Cert.MemPlainIdeal.τ).loc Cert.MemPlainIdeal.main_arg0) = m' ((c.tc : Thread Cert.MemPlainIdeal.nD Cert.MemPlainIdeal.τ).loc Cert.MemPlainIdeal.main_arg0)
          ∧ r.2.mem ((c.tc : Thread Cert.MemPlainIdeal.nD Cert.MemPlainIdeal.τ).loc Cert.MemPlainIdeal.main_arg1) = m' ((c.tc : Thread Cert.MemPlainIdeal.nD Cert.MemPlainIdeal.τ).loc Cert.MemPlainIdeal.main_arg1)
          ∧ r.2.mem ((c.tc : Thread Cert.MemPlainIdeal.nD Cert.MemPlainIdeal.τ).loc Cert.MemPlainIdeal.main_arg2) = m' ((c.tc : Thread Cert.MemPlainIdeal.nD Cert.MemPlainIdeal.τ).loc Cert.MemPlainIdeal.main_arg2)
          ∧ r.2.mem ((c.tc : Thread Cert.MemPlainIdeal.nD Cert.MemPlainIdeal.τ).loc Cert.MemPlainIdeal.main_arg3) = m' ((c.tc : Thread Cert.MemPlainIdeal.nD Cert.MemPlainIdeal.τ).loc Cert.MemPlainIdeal.main_arg3)
          ∧ r.2.mem ((c.tc : Thread Cert.MemPlainIdeal.nD Cert.MemPlainIdeal.τ).loc Cert.MemPlainIdeal.main_arg4) = m' ((c.tc : Thread Cert.MemPlainIdeal.nD Cert.MemPlainIdeal.τ).loc Cert.MemPlainIdeal.main_arg4))

def preserves_FfnF_FfnFIdeal : Prop :=
  True

def algebraic_FfnFIdeal_FfnFPlainIdeal [hFfnFIdeal : Cert.FfnFIdeal.Facts] [hFfnFPlainIdeal : Cert.FfnFPlainIdeal.Facts] : Prop :=
  ∀ (m : (ℓ : Loc Cert.FfnFIdeal.nD Cert.FfnFIdeal.τ Cert.FfnFIdeal.sig) → Buf (Elt Ideal) ℓ) (g : Dev Cert.FfnFIdeal.nD → PrngReg)
    (m' : (ℓ : Loc Cert.FfnFPlainIdeal.nD Cert.FfnFPlainIdeal.τ Cert.FfnFPlainIdeal.sig) → Buf (Elt Ideal) ℓ) (g' : Dev Cert.FfnFPlainIdeal.nD → PrngReg), Pre_FfnFIdeal m →
    (∀ c : Dev Cert.FfnFIdeal.nD,
      m' ((c.tc : Thread Cert.FfnFPlainIdeal.nD Cert.FfnFPlainIdeal.τ).loc Cert.FfnFPlainIdeal.main_arg0) = m ((c.tc : Thread Cert.FfnFIdeal.nD Cert.FfnFIdeal.τ).loc Cert.FfnFIdeal.main_arg0)
      ∧ m' ((c.tc : Thread Cert.FfnFPlainIdeal.nD Cert.FfnFPlainIdeal.τ).loc Cert.FfnFPlainIdeal.main_arg1) = m ((c.tc : Thread Cert.FfnFIdeal.nD Cert.FfnFIdeal.τ).loc Cert.FfnFIdeal.main_arg1)
      ∧ m' ((c.tc : Thread Cert.FfnFPlainIdeal.nD Cert.FfnFPlainIdeal.τ).loc Cert.FfnFPlainIdeal.main_arg2) = m ((c.tc : Thread Cert.FfnFIdeal.nD Cert.FfnFIdeal.τ).loc Cert.FfnFIdeal.main_arg2)
      ∧ m' ((c.tc : Thread Cert.FfnFPlainIdeal.nD Cert.FfnFPlainIdeal.τ).loc Cert.FfnFPlainIdeal.main_arg3) = m ((c.tc : Thread Cert.FfnFIdeal.nD Cert.FfnFIdeal.τ).loc Cert.FfnFIdeal.main_arg3)) →
    ∃ (v0 : (c : Dev Cert.FfnFIdeal.nD) → Buf (Elt Ideal) ((c.tc : Thread Cert.FfnFIdeal.nD Cert.FfnFIdeal.τ).loc Cert.FfnFIdeal.main_v0)),
      θ_run (Cert.FfnFIdeal.defs (F := Ideal)) (onTc (τ := Cert.FfnFIdeal.τ) (Cert.FfnFIdeal.main (F := Ideal))) ⟨m, fun _ => 0, g⟩ (fun r => ∀ c : Dev Cert.FfnFIdeal.nD,
          r.2.mem ((c.tc : Thread Cert.FfnFIdeal.nD Cert.FfnFIdeal.τ).loc Cert.FfnFIdeal.main_v0) = v0 c
          ∧ r.2.mem ((c.tc : Thread Cert.FfnFIdeal.nD Cert.FfnFIdeal.τ).loc Cert.FfnFIdeal.main_arg0) = m ((c.tc : Thread Cert.FfnFIdeal.nD Cert.FfnFIdeal.τ).loc Cert.FfnFIdeal.main_arg0)
          ∧ r.2.mem ((c.tc : Thread Cert.FfnFIdeal.nD Cert.FfnFIdeal.τ).loc Cert.FfnFIdeal.main_arg1) = m ((c.tc : Thread Cert.FfnFIdeal.nD Cert.FfnFIdeal.τ).loc Cert.FfnFIdeal.main_arg1)
          ∧ r.2.mem ((c.tc : Thread Cert.FfnFIdeal.nD Cert.FfnFIdeal.τ).loc Cert.FfnFIdeal.main_arg2) = m ((c.tc : Thread Cert.FfnFIdeal.nD Cert.FfnFIdeal.τ).loc Cert.FfnFIdeal.main_arg2)
          ∧ r.2.mem ((c.tc : Thread Cert.FfnFIdeal.nD Cert.FfnFIdeal.τ).loc Cert.FfnFIdeal.main_arg3) = m ((c.tc : Thread Cert.FfnFIdeal.nD Cert.FfnFIdeal.τ).loc Cert.FfnFIdeal.main_arg3))
      ∧ θ_run (Cert.FfnFPlainIdeal.defs (F := Ideal)) (onTc (τ := Cert.FfnFPlainIdeal.τ) (Cert.FfnFPlainIdeal.main (F := Ideal))) ⟨m', fun _ => 0, g'⟩ (fun r => ∀ c : Dev Cert.FfnFPlainIdeal.nD,
          r.2.mem ((c.tc : Thread Cert.FfnFPlainIdeal.nD Cert.FfnFPlainIdeal.τ).loc Cert.FfnFPlainIdeal.main_v28) = v0 c
          ∧ r.2.mem ((c.tc : Thread Cert.FfnFPlainIdeal.nD Cert.FfnFPlainIdeal.τ).loc Cert.FfnFPlainIdeal.main_arg0) = m' ((c.tc : Thread Cert.FfnFPlainIdeal.nD Cert.FfnFPlainIdeal.τ).loc Cert.FfnFPlainIdeal.main_arg0)
          ∧ r.2.mem ((c.tc : Thread Cert.FfnFPlainIdeal.nD Cert.FfnFPlainIdeal.τ).loc Cert.FfnFPlainIdeal.main_arg1) = m' ((c.tc : Thread Cert.FfnFPlainIdeal.nD Cert.FfnFPlainIdeal.τ).loc Cert.FfnFPlainIdeal.main_arg1)
          ∧ r.2.mem ((c.tc : Thread Cert.FfnFPlainIdeal.nD Cert.FfnFPlainIdeal.τ).loc Cert.FfnFPlainIdeal.main_arg2) = m' ((c.tc : Thread Cert.FfnFPlainIdeal.nD Cert.FfnFPlainIdeal.τ).loc Cert.FfnFPlainIdeal.main_arg2)
          ∧ r.2.mem ((c.tc : Thread Cert.FfnFPlainIdeal.nD Cert.FfnFPlainIdeal.τ).loc Cert.FfnFPlainIdeal.main_arg3) = m' ((c.tc : Thread Cert.FfnFPlainIdeal.nD Cert.FfnFPlainIdeal.τ).loc Cert.FfnFPlainIdeal.main_arg3))

def preserves_In_InIdeal : Prop :=
  True

def algebraic_InIdeal_InPlainIdeal [hInIdeal : Cert.InIdeal.Facts] [hInPlainIdeal : Cert.InPlainIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InPlainIdeal.nD Cert.InPlainIdeal.τ Cert.InPlainIdeal.sig) → Buf (Elt Ideal) ℓ) (g' : Dev Cert.InPlainIdeal.nD → PrngReg), Pre_InIdeal m →
    (∀ c : Dev Cert.InIdeal.nD,
      m' ((c.tc : Thread Cert.InPlainIdeal.nD Cert.InPlainIdeal.τ).loc Cert.InPlainIdeal.main_arg0) = m ((c.tc : Thread Cert.InIdeal.nD Cert.InIdeal.τ).loc Cert.InIdeal.main_arg0)
      ∧ m' ((c.tc : Thread Cert.InPlainIdeal.nD Cert.InPlainIdeal.τ).loc Cert.InPlainIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v0)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v0) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InPlainIdeal.defs (F := Ideal)) (onTc (τ := Cert.InPlainIdeal.τ) (Cert.InPlainIdeal.main (F := Ideal))) ⟨m', fun _ => 0, g'⟩ (fun r => ∀ c : Dev Cert.InPlainIdeal.nD,
          r.2.mem ((c.tc : Thread Cert.InPlainIdeal.nD Cert.InPlainIdeal.τ).loc Cert.InPlainIdeal.main_v4) = v0 c
          ∧ r.2.mem ((c.tc : Thread Cert.InPlainIdeal.nD Cert.InPlainIdeal.τ).loc Cert.InPlainIdeal.main_arg0) = m' ((c.tc : Thread Cert.InPlainIdeal.nD Cert.InPlainIdeal.τ).loc Cert.InPlainIdeal.main_arg0)
          ∧ r.2.mem ((c.tc : Thread Cert.InPlainIdeal.nD Cert.InPlainIdeal.τ).loc Cert.InPlainIdeal.main_arg1) = m' ((c.tc : Thread Cert.InPlainIdeal.nD Cert.InPlainIdeal.τ).loc Cert.InPlainIdeal.main_arg1))

def preserves_InH_InHIdeal : Prop :=
  True

def algebraic_InHIdeal_InHPlainIdeal [hInHIdeal : Cert.InHIdeal.Facts] [hInHPlainIdeal : Cert.InHPlainIdeal.Facts] : Prop :=
  ∀ (m : (ℓ : Loc Cert.InHIdeal.nD Cert.InHIdeal.τ Cert.InHIdeal.sig) → Buf (Elt Ideal) ℓ) (g : Dev Cert.InHIdeal.nD → PrngReg)
    (m' : (ℓ : Loc Cert.InHPlainIdeal.nD Cert.InHPlainIdeal.τ Cert.InHPlainIdeal.sig) → Buf (Elt Ideal) ℓ) (g' : Dev Cert.InHPlainIdeal.nD → PrngReg), Pre_InHIdeal m →
    (∀ c : Dev Cert.InHIdeal.nD,
      m' ((c.tc : Thread Cert.InHPlainIdeal.nD Cert.InHPlainIdeal.τ).loc Cert.InHPlainIdeal.main_arg0) = m ((c.tc : Thread Cert.InHIdeal.nD Cert.InHIdeal.τ).loc Cert.InHIdeal.main_arg0)
      ∧ m' ((c.tc : Thread Cert.InHPlainIdeal.nD Cert.InHPlainIdeal.τ).loc Cert.InHPlainIdeal.main_arg1) = m ((c.tc : Thread Cert.InHIdeal.nD Cert.InHIdeal.τ).loc Cert.InHIdeal.main_arg1)) →
    ∃ (v0 : (c : Dev Cert.InHIdeal.nD) → Buf (Elt Ideal) ((c.tc : Thread Cert.InHIdeal.nD Cert.InHIdeal.τ).loc Cert.InHIdeal.main_v0)),
      θ_run (Cert.InHIdeal.defs (F := Ideal)) (onTc (τ := Cert.InHIdeal.τ) (Cert.InHIdeal.main (F := Ideal))) ⟨m, fun _ => 0, g⟩ (fun r => ∀ c : Dev Cert.InHIdeal.nD,
          r.2.mem ((c.tc : Thread Cert.InHIdeal.nD Cert.InHIdeal.τ).loc Cert.InHIdeal.main_v0) = v0 c
          ∧ r.2.mem ((c.tc : Thread Cert.InHIdeal.nD Cert.InHIdeal.τ).loc Cert.InHIdeal.main_arg0) = m ((c.tc : Thread Cert.InHIdeal.nD Cert.InHIdeal.τ).loc Cert.InHIdeal.main_arg0)
          ∧ r.2.mem ((c.tc : Thread Cert.InHIdeal.nD Cert.InHIdeal.τ).loc Cert.InHIdeal.main_arg1) = m ((c.tc : Thread Cert.InHIdeal.nD Cert.InHIdeal.τ).loc Cert.InHIdeal.main_arg1))
      ∧ θ_run (Cert.InHPlainIdeal.defs (F := Ideal)) (onTc (τ := Cert.InHPlainIdeal.τ) (Cert.InHPlainIdeal.main (F := Ideal))) ⟨m', fun _ => 0, g'⟩ (fun r => ∀ c : Dev Cert.InHPlainIdeal.nD,
          r.2.mem ((c.tc : Thread Cert.InHPlainIdeal.nD Cert.InHPlainIdeal.τ).loc Cert.InHPlainIdeal.main_v6) = v0 c
          ∧ r.2.mem ((c.tc : Thread Cert.InHPlainIdeal.nD Cert.InHPlainIdeal.τ).loc Cert.InHPlainIdeal.main_arg0) = m' ((c.tc : Thread Cert.InHPlainIdeal.nD Cert.InHPlainIdeal.τ).loc Cert.InHPlainIdeal.main_arg0)
          ∧ r.2.mem ((c.tc : Thread Cert.InHPlainIdeal.nD Cert.InHPlainIdeal.τ).loc Cert.InHPlainIdeal.main_arg1) = m' ((c.tc : Thread Cert.InHPlainIdeal.nD Cert.InHPlainIdeal.τ).loc Cert.InHPlainIdeal.main_arg1))

def preserves_InW_InWIdeal : Prop :=
  True

def algebraic_InWIdeal_InWPlainIdeal [hInWIdeal : Cert.InWIdeal.Facts] [hInWPlainIdeal : Cert.InWPlainIdeal.Facts] : Prop :=
  ∀ (m : (ℓ : Loc Cert.InWIdeal.nD Cert.InWIdeal.τ Cert.InWIdeal.sig) → Buf (Elt Ideal) ℓ) (g : Dev Cert.InWIdeal.nD → PrngReg)
    (m' : (ℓ : Loc Cert.InWPlainIdeal.nD Cert.InWPlainIdeal.τ Cert.InWPlainIdeal.sig) → Buf (Elt Ideal) ℓ) (g' : Dev Cert.InWPlainIdeal.nD → PrngReg), Pre_InWIdeal m →
    (∀ c : Dev Cert.InWIdeal.nD,
      m' ((c.tc : Thread Cert.InWPlainIdeal.nD Cert.InWPlainIdeal.τ).loc Cert.InWPlainIdeal.main_arg0) = m ((c.tc : Thread Cert.InWIdeal.nD Cert.InWIdeal.τ).loc Cert.InWIdeal.main_arg0)
      ∧ m' ((c.tc : Thread Cert.InWPlainIdeal.nD Cert.InWPlainIdeal.τ).loc Cert.InWPlainIdeal.main_arg1) = m ((c.tc : Thread Cert.InWIdeal.nD Cert.InWIdeal.τ).loc Cert.InWIdeal.main_arg1)
      ∧ m' ((c.tc : Thread Cert.InWPlainIdeal.nD Cert.InWPlainIdeal.τ).loc Cert.InWPlainIdeal.main_arg2) = m ((c.tc : Thread Cert.InWIdeal.nD Cert.InWIdeal.τ).loc Cert.InWIdeal.main_arg2)) →
    ∃ (v0 : (c : Dev Cert.InWIdeal.nD) → Buf (Elt Ideal) ((c.tc : Thread Cert.InWIdeal.nD Cert.InWIdeal.τ).loc Cert.InWIdeal.main_v0)),
      θ_run (Cert.InWIdeal.defs (F := Ideal)) (onTc (τ := Cert.InWIdeal.τ) (Cert.InWIdeal.main (F := Ideal))) ⟨m, fun _ => 0, g⟩ (fun r => ∀ c : Dev Cert.InWIdeal.nD,
          r.2.mem ((c.tc : Thread Cert.InWIdeal.nD Cert.InWIdeal.τ).loc Cert.InWIdeal.main_v0) = v0 c
          ∧ r.2.mem ((c.tc : Thread Cert.InWIdeal.nD Cert.InWIdeal.τ).loc Cert.InWIdeal.main_arg0) = m ((c.tc : Thread Cert.InWIdeal.nD Cert.InWIdeal.τ).loc Cert.InWIdeal.main_arg0)
          ∧ r.2.mem ((c.tc : Thread Cert.InWIdeal.nD Cert.InWIdeal.τ).loc Cert.InWIdeal.main_arg1) = m ((c.tc : Thread Cert.InWIdeal.nD Cert.InWIdeal.τ).loc Cert.InWIdeal.main_arg1)
          ∧ r.2.mem ((c.tc : Thread Cert.InWIdeal.nD Cert.InWIdeal.τ).loc Cert.InWIdeal.main_arg2) = m ((c.tc : Thread Cert.InWIdeal.nD Cert.InWIdeal.τ).loc Cert.InWIdeal.main_arg2))
      ∧ θ_run (Cert.InWPlainIdeal.defs (F := Ideal)) (onTc (τ := Cert.InWPlainIdeal.τ) (Cert.InWPlainIdeal.main (F := Ideal))) ⟨m', fun _ => 0, g'⟩ (fun r => ∀ c : Dev Cert.InWPlainIdeal.nD,
          r.2.mem ((c.tc : Thread Cert.InWPlainIdeal.nD Cert.InWPlainIdeal.τ).loc Cert.InWPlainIdeal.main_v10) = v0 c
          ∧ r.2.mem ((c.tc : Thread Cert.InWPlainIdeal.nD Cert.InWPlainIdeal.τ).loc Cert.InWPlainIdeal.main_arg0) = m' ((c.tc : Thread Cert.InWPlainIdeal.nD Cert.InWPlainIdeal.τ).loc Cert.InWPlainIdeal.main_arg0)
          ∧ r.2.mem ((c.tc : Thread Cert.InWPlainIdeal.nD Cert.InWPlainIdeal.τ).loc Cert.InWPlainIdeal.main_arg1) = m' ((c.tc : Thread Cert.InWPlainIdeal.nD Cert.InWPlainIdeal.τ).loc Cert.InWPlainIdeal.main_arg1)
          ∧ r.2.mem ((c.tc : Thread Cert.InWPlainIdeal.nD Cert.InWPlainIdeal.τ).loc Cert.InWPlainIdeal.main_arg2) = m' ((c.tc : Thread Cert.InWPlainIdeal.nD Cert.InWPlainIdeal.τ).loc Cert.InWPlainIdeal.main_arg2))

def preserves_InN_InNIdeal : Prop :=
  True

def algebraic_InNIdeal_InNPlainIdeal [hInNIdeal : Cert.InNIdeal.Facts] [hInNPlainIdeal : Cert.InNPlainIdeal.Facts] : Prop :=
  ∀ (m : (ℓ : Loc Cert.InNIdeal.nD Cert.InNIdeal.τ Cert.InNIdeal.sig) → Buf (Elt Ideal) ℓ) (g : Dev Cert.InNIdeal.nD → PrngReg)
    (m' : (ℓ : Loc Cert.InNPlainIdeal.nD Cert.InNPlainIdeal.τ Cert.InNPlainIdeal.sig) → Buf (Elt Ideal) ℓ) (g' : Dev Cert.InNPlainIdeal.nD → PrngReg), Pre_InNIdeal m →
    (∀ c : Dev Cert.InNIdeal.nD,
      m' ((c.tc : Thread Cert.InNPlainIdeal.nD Cert.InNPlainIdeal.τ).loc Cert.InNPlainIdeal.main_arg0) = m ((c.tc : Thread Cert.InNIdeal.nD Cert.InNIdeal.τ).loc Cert.InNIdeal.main_arg0)
      ∧ m' ((c.tc : Thread Cert.InNPlainIdeal.nD Cert.InNPlainIdeal.τ).loc Cert.InNPlainIdeal.main_arg1) = m ((c.tc : Thread Cert.InNIdeal.nD Cert.InNIdeal.τ).loc Cert.InNIdeal.main_arg1)) →
    ∃ (v0 : (c : Dev Cert.InNIdeal.nD) → Buf (Elt Ideal) ((c.tc : Thread Cert.InNIdeal.nD Cert.InNIdeal.τ).loc Cert.InNIdeal.main_v0)),
      θ_run (Cert.InNIdeal.defs (F := Ideal)) (onTc (τ := Cert.InNIdeal.τ) (Cert.InNIdeal.main (F := Ideal))) ⟨m, fun _ => 0, g⟩ (fun r => ∀ c : Dev Cert.InNIdeal.nD,
          r.2.mem ((c.tc : Thread Cert.InNIdeal.nD Cert.InNIdeal.τ).loc Cert.InNIdeal.main_v0) = v0 c
          ∧ r.2.mem ((c.tc : Thread Cert.InNIdeal.nD Cert.InNIdeal.τ).loc Cert.InNIdeal.main_arg0) = m ((c.tc : Thread Cert.InNIdeal.nD Cert.InNIdeal.τ).loc Cert.InNIdeal.main_arg0)
          ∧ r.2.mem ((c.tc : Thread Cert.InNIdeal.nD Cert.InNIdeal.τ).loc Cert.InNIdeal.main_arg1) = m ((c.tc : Thread Cert.InNIdeal.nD Cert.InNIdeal.τ).loc Cert.InNIdeal.main_arg1))
      ∧ θ_run (Cert.InNPlainIdeal.defs (F := Ideal)) (onTc (τ := Cert.InNPlainIdeal.τ) (Cert.InNPlainIdeal.main (F := Ideal))) ⟨m', fun _ => 0, g'⟩ (fun r => ∀ c : Dev Cert.InNPlainIdeal.nD,
          r.2.mem ((c.tc : Thread Cert.InNPlainIdeal.nD Cert.InNPlainIdeal.τ).loc Cert.InNPlainIdeal.main_v4) = v0 c
          ∧ r.2.mem ((c.tc : Thread Cert.InNPlainIdeal.nD Cert.InNPlainIdeal.τ).loc Cert.InNPlainIdeal.main_arg0) = m' ((c.tc : Thread Cert.InNPlainIdeal.nD Cert.InNPlainIdeal.τ).loc Cert.InNPlainIdeal.main_arg0)
          ∧ r.2.mem ((c.tc : Thread Cert.InNPlainIdeal.nD Cert.InNPlainIdeal.τ).loc Cert.InNPlainIdeal.main_arg1) = m' ((c.tc : Thread Cert.InNPlainIdeal.nD Cert.InNPlainIdeal.τ).loc Cert.InNPlainIdeal.main_arg1))

def preserves_InNH_InNHIdeal : Prop :=
  True

def algebraic_InNHIdeal_InNHPlainIdeal [hInNHIdeal : Cert.InNHIdeal.Facts] [hInNHPlainIdeal : Cert.InNHPlainIdeal.Facts] : Prop :=
  ∀ (m : (ℓ : Loc Cert.InNHIdeal.nD Cert.InNHIdeal.τ Cert.InNHIdeal.sig) → Buf (Elt Ideal) ℓ) (g : Dev Cert.InNHIdeal.nD → PrngReg)
    (m' : (ℓ : Loc Cert.InNHPlainIdeal.nD Cert.InNHPlainIdeal.τ Cert.InNHPlainIdeal.sig) → Buf (Elt Ideal) ℓ) (g' : Dev Cert.InNHPlainIdeal.nD → PrngReg), Pre_InNHIdeal m →
    (∀ c : Dev Cert.InNHIdeal.nD,
      m' ((c.tc : Thread Cert.InNHPlainIdeal.nD Cert.InNHPlainIdeal.τ).loc Cert.InNHPlainIdeal.main_arg0) = m ((c.tc : Thread Cert.InNHIdeal.nD Cert.InNHIdeal.τ).loc Cert.InNHIdeal.main_arg0)
      ∧ m' ((c.tc : Thread Cert.InNHPlainIdeal.nD Cert.InNHPlainIdeal.τ).loc Cert.InNHPlainIdeal.main_arg1) = m ((c.tc : Thread Cert.InNHIdeal.nD Cert.InNHIdeal.τ).loc Cert.InNHIdeal.main_arg1)) →
    ∃ (v0 : (c : Dev Cert.InNHIdeal.nD) → Buf (Elt Ideal) ((c.tc : Thread Cert.InNHIdeal.nD Cert.InNHIdeal.τ).loc Cert.InNHIdeal.main_v0)),
      θ_run (Cert.InNHIdeal.defs (F := Ideal)) (onTc (τ := Cert.InNHIdeal.τ) (Cert.InNHIdeal.main (F := Ideal))) ⟨m, fun _ => 0, g⟩ (fun r => ∀ c : Dev Cert.InNHIdeal.nD,
          r.2.mem ((c.tc : Thread Cert.InNHIdeal.nD Cert.InNHIdeal.τ).loc Cert.InNHIdeal.main_v0) = v0 c
          ∧ r.2.mem ((c.tc : Thread Cert.InNHIdeal.nD Cert.InNHIdeal.τ).loc Cert.InNHIdeal.main_arg0) = m ((c.tc : Thread Cert.InNHIdeal.nD Cert.InNHIdeal.τ).loc Cert.InNHIdeal.main_arg0)
          ∧ r.2.mem ((c.tc : Thread Cert.InNHIdeal.nD Cert.InNHIdeal.τ).loc Cert.InNHIdeal.main_arg1) = m ((c.tc : Thread Cert.InNHIdeal.nD Cert.InNHIdeal.τ).loc Cert.InNHIdeal.main_arg1))
      ∧ θ_run (Cert.InNHPlainIdeal.defs (F := Ideal)) (onTc (τ := Cert.InNHPlainIdeal.τ) (Cert.InNHPlainIdeal.main (F := Ideal))) ⟨m', fun _ => 0, g'⟩ (fun r => ∀ c : Dev Cert.InNHPlainIdeal.nD,
          r.2.mem ((c.tc : Thread Cert.InNHPlainIdeal.nD Cert.InNHPlainIdeal.τ).loc Cert.InNHPlainIdeal.main_v6) = v0 c
          ∧ r.2.mem ((c.tc : Thread Cert.InNHPlainIdeal.nD Cert.InNHPlainIdeal.τ).loc Cert.InNHPlainIdeal.main_arg0) = m' ((c.tc : Thread Cert.InNHPlainIdeal.nD Cert.InNHPlainIdeal.τ).loc Cert.InNHPlainIdeal.main_arg0)
          ∧ r.2.mem ((c.tc : Thread Cert.InNHPlainIdeal.nD Cert.InNHPlainIdeal.τ).loc Cert.InNHPlainIdeal.main_arg1) = m' ((c.tc : Thread Cert.InNHPlainIdeal.nD Cert.InNHPlainIdeal.τ).loc Cert.InNHPlainIdeal.main_arg1))

def preserves_InNW_InNWIdeal : Prop :=
  True

def algebraic_InNWIdeal_InNWPlainIdeal [hInNWIdeal : Cert.InNWIdeal.Facts] [hInNWPlainIdeal : Cert.InNWPlainIdeal.Facts] : Prop :=
  ∀ (m : (ℓ : Loc Cert.InNWIdeal.nD Cert.InNWIdeal.τ Cert.InNWIdeal.sig) → Buf (Elt Ideal) ℓ) (g : Dev Cert.InNWIdeal.nD → PrngReg)
    (m' : (ℓ : Loc Cert.InNWPlainIdeal.nD Cert.InNWPlainIdeal.τ Cert.InNWPlainIdeal.sig) → Buf (Elt Ideal) ℓ) (g' : Dev Cert.InNWPlainIdeal.nD → PrngReg), Pre_InNWIdeal m →
    (∀ c : Dev Cert.InNWIdeal.nD,
      m' ((c.tc : Thread Cert.InNWPlainIdeal.nD Cert.InNWPlainIdeal.τ).loc Cert.InNWPlainIdeal.main_arg0) = m ((c.tc : Thread Cert.InNWIdeal.nD Cert.InNWIdeal.τ).loc Cert.InNWIdeal.main_arg0)
      ∧ m' ((c.tc : Thread Cert.InNWPlainIdeal.nD Cert.InNWPlainIdeal.τ).loc Cert.InNWPlainIdeal.main_arg1) = m ((c.tc : Thread Cert.InNWIdeal.nD Cert.InNWIdeal.τ).loc Cert.InNWIdeal.main_arg1)
      ∧ m' ((c.tc : Thread Cert.InNWPlainIdeal.nD Cert.InNWPlainIdeal.τ).loc Cert.InNWPlainIdeal.main_arg2) = m ((c.tc : Thread Cert.InNWIdeal.nD Cert.InNWIdeal.τ).loc Cert.InNWIdeal.main_arg2)) →
    ∃ (v0 : (c : Dev Cert.InNWIdeal.nD) → Buf (Elt Ideal) ((c.tc : Thread Cert.InNWIdeal.nD Cert.InNWIdeal.τ).loc Cert.InNWIdeal.main_v0)),
      θ_run (Cert.InNWIdeal.defs (F := Ideal)) (onTc (τ := Cert.InNWIdeal.τ) (Cert.InNWIdeal.main (F := Ideal))) ⟨m, fun _ => 0, g⟩ (fun r => ∀ c : Dev Cert.InNWIdeal.nD,
          r.2.mem ((c.tc : Thread Cert.InNWIdeal.nD Cert.InNWIdeal.τ).loc Cert.InNWIdeal.main_v0) = v0 c
          ∧ r.2.mem ((c.tc : Thread Cert.InNWIdeal.nD Cert.InNWIdeal.τ).loc Cert.InNWIdeal.main_arg0) = m ((c.tc : Thread Cert.InNWIdeal.nD Cert.InNWIdeal.τ).loc Cert.InNWIdeal.main_arg0)
          ∧ r.2.mem ((c.tc : Thread Cert.InNWIdeal.nD Cert.InNWIdeal.τ).loc Cert.InNWIdeal.main_arg1) = m ((c.tc : Thread Cert.InNWIdeal.nD Cert.InNWIdeal.τ).loc Cert.InNWIdeal.main_arg1)
          ∧ r.2.mem ((c.tc : Thread Cert.InNWIdeal.nD Cert.InNWIdeal.τ).loc Cert.InNWIdeal.main_arg2) = m ((c.tc : Thread Cert.InNWIdeal.nD Cert.InNWIdeal.τ).loc Cert.InNWIdeal.main_arg2))
      ∧ θ_run (Cert.InNWPlainIdeal.defs (F := Ideal)) (onTc (τ := Cert.InNWPlainIdeal.τ) (Cert.InNWPlainIdeal.main (F := Ideal))) ⟨m', fun _ => 0, g'⟩ (fun r => ∀ c : Dev Cert.InNWPlainIdeal.nD,
          r.2.mem ((c.tc : Thread Cert.InNWPlainIdeal.nD Cert.InNWPlainIdeal.τ).loc Cert.InNWPlainIdeal.main_v10) = v0 c
          ∧ r.2.mem ((c.tc : Thread Cert.InNWPlainIdeal.nD Cert.InNWPlainIdeal.τ).loc Cert.InNWPlainIdeal.main_arg0) = m' ((c.tc : Thread Cert.InNWPlainIdeal.nD Cert.InNWPlainIdeal.τ).loc Cert.InNWPlainIdeal.main_arg0)
          ∧ r.2.mem ((c.tc : Thread Cert.InNWPlainIdeal.nD Cert.InNWPlainIdeal.τ).loc Cert.InNWPlainIdeal.main_arg1) = m' ((c.tc : Thread Cert.InNWPlainIdeal.nD Cert.InNWPlainIdeal.τ).loc Cert.InNWPlainIdeal.main_arg1)
          ∧ r.2.mem ((c.tc : Thread Cert.InNWPlainIdeal.nD Cert.InNWPlainIdeal.τ).loc Cert.InNWPlainIdeal.main_arg2) = m' ((c.tc : Thread Cert.InNWPlainIdeal.nD Cert.InNWPlainIdeal.τ).loc Cert.InNWPlainIdeal.main_arg2))

def preserves_Out_OutIdeal : Prop :=
  True

def algebraic_OutIdeal_OutPlainIdeal [hOutIdeal : Cert.OutIdeal.Facts] [hOutPlainIdeal : Cert.OutPlainIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutPlainIdeal.nD Cert.OutPlainIdeal.τ Cert.OutPlainIdeal.sig) → Buf (Elt Ideal) ℓ) (g' : Dev Cert.OutPlainIdeal.nD → PrngReg), Pre_OutIdeal m →
    (∀ c : Dev Cert.OutIdeal.nD,
      m' ((c.tc : Thread Cert.OutPlainIdeal.nD Cert.OutPlainIdeal.τ).loc Cert.OutPlainIdeal.main_arg0) = m ((c.tc : Thread Cert.OutIdeal.nD Cert.OutIdeal.τ).loc Cert.OutIdeal.main_arg0)
      ∧ m' ((c.tc : Thread Cert.OutPlainIdeal.nD Cert.OutPlainIdeal.τ).loc Cert.OutPlainIdeal.main_arg1) = m ((c.tc : Thread Cert.OutIdeal.nD Cert.OutIdeal.τ).loc Cert.OutIdeal.main_arg1)
      ∧ m' ((c.tc : Thread Cert.OutPlainIdeal.nD Cert.OutPlainIdeal.τ).loc Cert.OutPlainIdeal.main_arg2) = m ((c.tc : Thread Cert.OutIdeal.nD Cert.OutIdeal.τ).loc Cert.OutIdeal.main_arg2)
      ∧ m' ((c.tc : Thread Cert.OutPlainIdeal.nD Cert.OutPlainIdeal.τ).loc Cert.OutPlainIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutPlainIdeal.defs (F := Ideal)) (onTc (τ := Cert.OutPlainIdeal.τ) (Cert.OutPlainIdeal.main (F := Ideal))) ⟨m', fun _ => 0, g'⟩ (fun r => ∀ c : Dev Cert.OutPlainIdeal.nD,
          r.2.mem ((c.tc : Thread Cert.OutPlainIdeal.nD Cert.OutPlainIdeal.τ).loc Cert.OutPlainIdeal.main_v3) = v0 c
          ∧ r.2.mem ((c.tc : Thread Cert.OutPlainIdeal.nD Cert.OutPlainIdeal.τ).loc Cert.OutPlainIdeal.main_arg0) = m' ((c.tc : Thread Cert.OutPlainIdeal.nD Cert.OutPlainIdeal.τ).loc Cert.OutPlainIdeal.main_arg0)
          ∧ r.2.mem ((c.tc : Thread Cert.OutPlainIdeal.nD Cert.OutPlainIdeal.τ).loc Cert.OutPlainIdeal.main_arg1) = m' ((c.tc : Thread Cert.OutPlainIdeal.nD Cert.OutPlainIdeal.τ).loc Cert.OutPlainIdeal.main_arg1)
          ∧ r.2.mem ((c.tc : Thread Cert.OutPlainIdeal.nD Cert.OutPlainIdeal.τ).loc Cert.OutPlainIdeal.main_arg2) = m' ((c.tc : Thread Cert.OutPlainIdeal.nD Cert.OutPlainIdeal.τ).loc Cert.OutPlainIdeal.main_arg2)
          ∧ r.2.mem ((c.tc : Thread Cert.OutPlainIdeal.nD Cert.OutPlainIdeal.τ).loc Cert.OutPlainIdeal.main_arg3) = m' ((c.tc : Thread Cert.OutPlainIdeal.nD Cert.OutPlainIdeal.τ).loc Cert.OutPlainIdeal.main_arg3))

def preserves_OutH_OutHIdeal : Prop :=
  True

def algebraic_OutHIdeal_OutHPlainIdeal [hOutHIdeal : Cert.OutHIdeal.Facts] [hOutHPlainIdeal : Cert.OutHPlainIdeal.Facts] : Prop :=
  ∀ (m : (ℓ : Loc Cert.OutHIdeal.nD Cert.OutHIdeal.τ Cert.OutHIdeal.sig) → Buf (Elt Ideal) ℓ) (g : Dev Cert.OutHIdeal.nD → PrngReg)
    (m' : (ℓ : Loc Cert.OutHPlainIdeal.nD Cert.OutHPlainIdeal.τ Cert.OutHPlainIdeal.sig) → Buf (Elt Ideal) ℓ) (g' : Dev Cert.OutHPlainIdeal.nD → PrngReg), Pre_OutHIdeal m →
    (∀ c : Dev Cert.OutHIdeal.nD,
      m' ((c.tc : Thread Cert.OutHPlainIdeal.nD Cert.OutHPlainIdeal.τ).loc Cert.OutHPlainIdeal.main_arg0) = m ((c.tc : Thread Cert.OutHIdeal.nD Cert.OutHIdeal.τ).loc Cert.OutHIdeal.main_arg0)
      ∧ m' ((c.tc : Thread Cert.OutHPlainIdeal.nD Cert.OutHPlainIdeal.τ).loc Cert.OutHPlainIdeal.main_arg1) = m ((c.tc : Thread Cert.OutHIdeal.nD Cert.OutHIdeal.τ).loc Cert.OutHIdeal.main_arg1)) →
    ∃ (v0 : (c : Dev Cert.OutHIdeal.nD) → Buf (Elt Ideal) ((c.tc : Thread Cert.OutHIdeal.nD Cert.OutHIdeal.τ).loc Cert.OutHIdeal.main_v0)),
      θ_run (Cert.OutHIdeal.defs (F := Ideal)) (onTc (τ := Cert.OutHIdeal.τ) (Cert.OutHIdeal.main (F := Ideal))) ⟨m, fun _ => 0, g⟩ (fun r => ∀ c : Dev Cert.OutHIdeal.nD,
          r.2.mem ((c.tc : Thread Cert.OutHIdeal.nD Cert.OutHIdeal.τ).loc Cert.OutHIdeal.main_v0) = v0 c
          ∧ r.2.mem ((c.tc : Thread Cert.OutHIdeal.nD Cert.OutHIdeal.τ).loc Cert.OutHIdeal.main_arg0) = m ((c.tc : Thread Cert.OutHIdeal.nD Cert.OutHIdeal.τ).loc Cert.OutHIdeal.main_arg0)
          ∧ r.2.mem ((c.tc : Thread Cert.OutHIdeal.nD Cert.OutHIdeal.τ).loc Cert.OutHIdeal.main_arg1) = m ((c.tc : Thread Cert.OutHIdeal.nD Cert.OutHIdeal.τ).loc Cert.OutHIdeal.main_arg1))
      ∧ θ_run (Cert.OutHPlainIdeal.defs (F := Ideal)) (onTc (τ := Cert.OutHPlainIdeal.τ) (Cert.OutHPlainIdeal.main (F := Ideal))) ⟨m', fun _ => 0, g'⟩ (fun r => ∀ c : Dev Cert.OutHPlainIdeal.nD,
          r.2.mem ((c.tc : Thread Cert.OutHPlainIdeal.nD Cert.OutHPlainIdeal.τ).loc Cert.OutHPlainIdeal.main_v3) = v0 c
          ∧ r.2.mem ((c.tc : Thread Cert.OutHPlainIdeal.nD Cert.OutHPlainIdeal.τ).loc Cert.OutHPlainIdeal.main_arg0) = m' ((c.tc : Thread Cert.OutHPlainIdeal.nD Cert.OutHPlainIdeal.τ).loc Cert.OutHPlainIdeal.main_arg0)
          ∧ r.2.mem ((c.tc : Thread Cert.OutHPlainIdeal.nD Cert.OutHPlainIdeal.τ).loc Cert.OutHPlainIdeal.main_arg1) = m' ((c.tc : Thread Cert.OutHPlainIdeal.nD Cert.OutHPlainIdeal.τ).loc Cert.OutHPlainIdeal.main_arg1))

def preserves_OutA_OutAIdeal : Prop :=
  True

def algebraic_OutAIdeal_OutAPlainIdeal [hOutAIdeal : Cert.OutAIdeal.Facts] [hOutAPlainIdeal : Cert.OutAPlainIdeal.Facts] : Prop :=
  ∀ (m : (ℓ : Loc Cert.OutAIdeal.nD Cert.OutAIdeal.τ Cert.OutAIdeal.sig) → Buf (Elt Ideal) ℓ) (g : Dev Cert.OutAIdeal.nD → PrngReg)
    (m' : (ℓ : Loc Cert.OutAPlainIdeal.nD Cert.OutAPlainIdeal.τ Cert.OutAPlainIdeal.sig) → Buf (Elt Ideal) ℓ) (g' : Dev Cert.OutAPlainIdeal.nD → PrngReg), Pre_OutAIdeal m →
    (∀ c : Dev Cert.OutAIdeal.nD,
      m' ((c.tc : Thread Cert.OutAPlainIdeal.nD Cert.OutAPlainIdeal.τ).loc Cert.OutAPlainIdeal.main_arg0) = m ((c.tc : Thread Cert.OutAIdeal.nD Cert.OutAIdeal.τ).loc Cert.OutAIdeal.main_arg0)
      ∧ m' ((c.tc : Thread Cert.OutAPlainIdeal.nD Cert.OutAPlainIdeal.τ).loc Cert.OutAPlainIdeal.main_arg1) = m ((c.tc : Thread Cert.OutAIdeal.nD Cert.OutAIdeal.τ).loc Cert.OutAIdeal.main_arg1)) →
    ∃ (v0 : (c : Dev Cert.OutAIdeal.nD) → Buf (Elt Ideal) ((c.tc : Thread Cert.OutAIdeal.nD Cert.OutAIdeal.τ).loc Cert.OutAIdeal.main_v0)),
      θ_run (Cert.OutAIdeal.defs (F := Ideal)) (onTc (τ := Cert.OutAIdeal.τ) (Cert.OutAIdeal.main (F := Ideal))) ⟨m, fun _ => 0, g⟩ (fun r => ∀ c : Dev Cert.OutAIdeal.nD,
          r.2.mem ((c.tc : Thread Cert.OutAIdeal.nD Cert.OutAIdeal.τ).loc Cert.OutAIdeal.main_v0) = v0 c
          ∧ r.2.mem ((c.tc : Thread Cert.OutAIdeal.nD Cert.OutAIdeal.τ).loc Cert.OutAIdeal.main_arg0) = m ((c.tc : Thread Cert.OutAIdeal.nD Cert.OutAIdeal.τ).loc Cert.OutAIdeal.main_arg0)
          ∧ r.2.mem ((c.tc : Thread Cert.OutAIdeal.nD Cert.OutAIdeal.τ).loc Cert.OutAIdeal.main_arg1) = m ((c.tc : Thread Cert.OutAIdeal.nD Cert.OutAIdeal.τ).loc Cert.OutAIdeal.main_arg1))
      ∧ θ_run (Cert.OutAPlainIdeal.defs (F := Ideal)) (onTc (τ := Cert.OutAPlainIdeal.τ) (Cert.OutAPlainIdeal.main (F := Ideal))) ⟨m', fun _ => 0, g'⟩ (fun r => ∀ c : Dev Cert.OutAPlainIdeal.nD,
          r.2.mem ((c.tc : Thread Cert.OutAPlainIdeal.nD Cert.OutAPlainIdeal.τ).loc Cert.OutAPlainIdeal.main_v5) = v0 c
          ∧ r.2.mem ((c.tc : Thread Cert.OutAPlainIdeal.nD Cert.OutAPlainIdeal.τ).loc Cert.OutAPlainIdeal.main_arg0) = m' ((c.tc : Thread Cert.OutAPlainIdeal.nD Cert.OutAPlainIdeal.τ).loc Cert.OutAPlainIdeal.main_arg0)
          ∧ r.2.mem ((c.tc : Thread Cert.OutAPlainIdeal.nD Cert.OutAPlainIdeal.τ).loc Cert.OutAPlainIdeal.main_arg1) = m' ((c.tc : Thread Cert.OutAPlainIdeal.nD Cert.OutAPlainIdeal.τ).loc Cert.OutAPlainIdeal.main_arg1))

def preserves_OutB_OutBIdeal : Prop :=
  True

def algebraic_OutBIdeal_OutBPlainIdeal [hOutBIdeal : Cert.OutBIdeal.Facts] [hOutBPlainIdeal : Cert.OutBPlainIdeal.Facts] : Prop :=
  ∀ (m : (ℓ : Loc Cert.OutBIdeal.nD Cert.OutBIdeal.τ Cert.OutBIdeal.sig) → Buf (Elt Ideal) ℓ) (g : Dev Cert.OutBIdeal.nD → PrngReg)
    (m' : (ℓ : Loc Cert.OutBPlainIdeal.nD Cert.OutBPlainIdeal.τ Cert.OutBPlainIdeal.sig) → Buf (Elt Ideal) ℓ) (g' : Dev Cert.OutBPlainIdeal.nD → PrngReg), Pre_OutBIdeal m →
    (∀ c : Dev Cert.OutBIdeal.nD,
      m' ((c.tc : Thread Cert.OutBPlainIdeal.nD Cert.OutBPlainIdeal.τ).loc Cert.OutBPlainIdeal.main_arg0) = m ((c.tc : Thread Cert.OutBIdeal.nD Cert.OutBIdeal.τ).loc Cert.OutBIdeal.main_arg0)
      ∧ m' ((c.tc : Thread Cert.OutBPlainIdeal.nD Cert.OutBPlainIdeal.τ).loc Cert.OutBPlainIdeal.main_arg1) = m ((c.tc : Thread Cert.OutBIdeal.nD Cert.OutBIdeal.τ).loc Cert.OutBIdeal.main_arg1)) →
    ∃ (v0 : (c : Dev Cert.OutBIdeal.nD) → Buf (Elt Ideal) ((c.tc : Thread Cert.OutBIdeal.nD Cert.OutBIdeal.τ).loc Cert.OutBIdeal.main_v0)),
      θ_run (Cert.OutBIdeal.defs (F := Ideal)) (onTc (τ := Cert.OutBIdeal.τ) (Cert.OutBIdeal.main (F := Ideal))) ⟨m, fun _ => 0, g⟩ (fun r => ∀ c : Dev Cert.OutBIdeal.nD,
          r.2.mem ((c.tc : Thread Cert.OutBIdeal.nD Cert.OutBIdeal.τ).loc Cert.OutBIdeal.main_v0) = v0 c
          ∧ r.2.mem ((c.tc : Thread Cert.OutBIdeal.nD Cert.OutBIdeal.τ).loc Cert.OutBIdeal.main_arg0) = m ((c.tc : Thread Cert.OutBIdeal.nD Cert.OutBIdeal.τ).loc Cert.OutBIdeal.main_arg0)
          ∧ r.2.mem ((c.tc : Thread Cert.OutBIdeal.nD Cert.OutBIdeal.τ).loc Cert.OutBIdeal.main_arg1) = m ((c.tc : Thread Cert.OutBIdeal.nD Cert.OutBIdeal.τ).loc Cert.OutBIdeal.main_arg1))
      ∧ θ_run (Cert.OutBPlainIdeal.defs (F := Ideal)) (onTc (τ := Cert.OutBPlainIdeal.τ) (Cert.OutBPlainIdeal.main (F := Ideal))) ⟨m', fun _ => 0, g'⟩ (fun r => ∀ c : Dev Cert.OutBPlainIdeal.nD,
          r.2.mem ((c.tc : Thread Cert.OutBPlainIdeal.nD Cert.OutBPlainIdeal.τ).loc Cert.OutBPlainIdeal.main_v5) = v0 c
          ∧ r.2.mem ((c.tc : Thread Cert.OutBPlainIdeal.nD Cert.OutBPlainIdeal.τ).loc Cert.OutBPlainIdeal.main_arg0) = m' ((c.tc : Thread Cert.OutBPlainIdeal.nD Cert.OutBPlainIdeal.τ).loc Cert.OutBPlainIdeal.main_arg0)
          ∧ r.2.mem ((c.tc : Thread Cert.OutBPlainIdeal.nD Cert.OutBPlainIdeal.τ).loc Cert.OutBPlainIdeal.main_arg1) = m' ((c.tc : Thread Cert.OutBPlainIdeal.nD Cert.OutBPlainIdeal.τ).loc Cert.OutBPlainIdeal.main_arg1))

def preserves_Kv_KvIdeal : Prop :=
  True

def algebraic_KvIdeal_KvPlainIdeal [hKvIdeal : Cert.KvIdeal.Facts] [hKvPlainIdeal : Cert.KvPlainIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvPlainIdeal.nD Cert.KvPlainIdeal.τ Cert.KvPlainIdeal.sig) → Buf (Elt Ideal) ℓ) (g' : Dev Cert.KvPlainIdeal.nD → PrngReg), Pre_KvIdeal m →
    (∀ c : Dev Cert.KvIdeal.nD,
      m' ((c.tc : Thread Cert.KvPlainIdeal.nD Cert.KvPlainIdeal.τ).loc Cert.KvPlainIdeal.main_arg0) = m ((c.tc : Thread Cert.KvIdeal.nD Cert.KvIdeal.τ).loc Cert.KvIdeal.main_arg0)
      ∧ m' ((c.tc : Thread Cert.KvPlainIdeal.nD Cert.KvPlainIdeal.τ).loc Cert.KvPlainIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvPlainIdeal.defs (F := Ideal)) (onTc (τ := Cert.KvPlainIdeal.τ) (Cert.KvPlainIdeal.main (F := Ideal))) ⟨m', fun _ => 0, g'⟩ (fun r => ∀ c : Dev Cert.KvPlainIdeal.nD,
          r.2.mem ((c.tc : Thread Cert.KvPlainIdeal.nD Cert.KvPlainIdeal.τ).loc Cert.KvPlainIdeal.main_v2) = v0 c
          ∧ r.2.mem ((c.tc : Thread Cert.KvPlainIdeal.nD Cert.KvPlainIdeal.τ).loc Cert.KvPlainIdeal.main_arg0) = m' ((c.tc : Thread Cert.KvPlainIdeal.nD Cert.KvPlainIdeal.τ).loc Cert.KvPlainIdeal.main_arg0)
          ∧ r.2.mem ((c.tc : Thread Cert.KvPlainIdeal.nD Cert.KvPlainIdeal.τ).loc Cert.KvPlainIdeal.main_arg1) = m' ((c.tc : Thread Cert.KvPlainIdeal.nD Cert.KvPlainIdeal.τ).loc Cert.KvPlainIdeal.main_arg1))

def preserves_KvH_KvHIdeal : Prop :=
  True

def algebraic_KvHIdeal_KvHPlainIdeal [hKvHIdeal : Cert.KvHIdeal.Facts] [hKvHPlainIdeal : Cert.KvHPlainIdeal.Facts] : Prop :=
  ∀ (m : (ℓ : Loc Cert.KvHIdeal.nD Cert.KvHIdeal.τ Cert.KvHIdeal.sig) → Buf (Elt Ideal) ℓ) (g : Dev Cert.KvHIdeal.nD → PrngReg)
    (m' : (ℓ : Loc Cert.KvHPlainIdeal.nD Cert.KvHPlainIdeal.τ Cert.KvHPlainIdeal.sig) → Buf (Elt Ideal) ℓ) (g' : Dev Cert.KvHPlainIdeal.nD → PrngReg), Pre_KvHIdeal m →
    (∀ c : Dev Cert.KvHIdeal.nD,
      m' ((c.tc : Thread Cert.KvHPlainIdeal.nD Cert.KvHPlainIdeal.τ).loc Cert.KvHPlainIdeal.main_arg0) = m ((c.tc : Thread Cert.KvHIdeal.nD Cert.KvHIdeal.τ).loc Cert.KvHIdeal.main_arg0)
      ∧ m' ((c.tc : Thread Cert.KvHPlainIdeal.nD Cert.KvHPlainIdeal.τ).loc Cert.KvHPlainIdeal.main_arg1) = m ((c.tc : Thread Cert.KvHIdeal.nD Cert.KvHIdeal.τ).loc Cert.KvHIdeal.main_arg1)) →
    ∃ (v0 : (c : Dev Cert.KvHIdeal.nD) → Buf (Elt Ideal) ((c.tc : Thread Cert.KvHIdeal.nD Cert.KvHIdeal.τ).loc Cert.KvHIdeal.main_v0)),
      θ_run (Cert.KvHIdeal.defs (F := Ideal)) (onTc (τ := Cert.KvHIdeal.τ) (Cert.KvHIdeal.main (F := Ideal))) ⟨m, fun _ => 0, g⟩ (fun r => ∀ c : Dev Cert.KvHIdeal.nD,
          r.2.mem ((c.tc : Thread Cert.KvHIdeal.nD Cert.KvHIdeal.τ).loc Cert.KvHIdeal.main_v0) = v0 c
          ∧ r.2.mem ((c.tc : Thread Cert.KvHIdeal.nD Cert.KvHIdeal.τ).loc Cert.KvHIdeal.main_arg0) = m ((c.tc : Thread Cert.KvHIdeal.nD Cert.KvHIdeal.τ).loc Cert.KvHIdeal.main_arg0)
          ∧ r.2.mem ((c.tc : Thread Cert.KvHIdeal.nD Cert.KvHIdeal.τ).loc Cert.KvHIdeal.main_arg1) = m ((c.tc : Thread Cert.KvHIdeal.nD Cert.KvHIdeal.τ).loc Cert.KvHIdeal.main_arg1))
      ∧ θ_run (Cert.KvHPlainIdeal.defs (F := Ideal)) (onTc (τ := Cert.KvHPlainIdeal.τ) (Cert.KvHPlainIdeal.main (F := Ideal))) ⟨m', fun _ => 0, g'⟩ (fun r => ∀ c : Dev Cert.KvHPlainIdeal.nD,
          r.2.mem ((c.tc : Thread Cert.KvHPlainIdeal.nD Cert.KvHPlainIdeal.τ).loc Cert.KvHPlainIdeal.main_v4) = v0 c
          ∧ r.2.mem ((c.tc : Thread Cert.KvHPlainIdeal.nD Cert.KvHPlainIdeal.τ).loc Cert.KvHPlainIdeal.main_arg0) = m' ((c.tc : Thread Cert.KvHPlainIdeal.nD Cert.KvHPlainIdeal.τ).loc Cert.KvHPlainIdeal.main_arg0)
          ∧ r.2.mem ((c.tc : Thread Cert.KvHPlainIdeal.nD Cert.KvHPlainIdeal.τ).loc Cert.KvHPlainIdeal.main_arg1) = m' ((c.tc : Thread Cert.KvHPlainIdeal.nD Cert.KvHPlainIdeal.τ).loc Cert.KvHPlainIdeal.main_arg1))

def preserves_KvW_KvWIdeal : Prop :=
  True

def algebraic_KvWIdeal_KvWPlainIdeal [hKvWIdeal : Cert.KvWIdeal.Facts] [hKvWPlainIdeal : Cert.KvWPlainIdeal.Facts] : Prop :=
  ∀ (m : (ℓ : Loc Cert.KvWIdeal.nD Cert.KvWIdeal.τ Cert.KvWIdeal.sig) → Buf (Elt Ideal) ℓ) (g : Dev Cert.KvWIdeal.nD → PrngReg)
    (m' : (ℓ : Loc Cert.KvWPlainIdeal.nD Cert.KvWPlainIdeal.τ Cert.KvWPlainIdeal.sig) → Buf (Elt Ideal) ℓ) (g' : Dev Cert.KvWPlainIdeal.nD → PrngReg), Pre_KvWIdeal m →
    (∀ c : Dev Cert.KvWIdeal.nD,
      m' ((c.tc : Thread Cert.KvWPlainIdeal.nD Cert.KvWPlainIdeal.τ).loc Cert.KvWPlainIdeal.main_arg0) = m ((c.tc : Thread Cert.KvWIdeal.nD Cert.KvWIdeal.τ).loc Cert.KvWIdeal.main_arg0)
      ∧ m' ((c.tc : Thread Cert.KvWPlainIdeal.nD Cert.KvWPlainIdeal.τ).loc Cert.KvWPlainIdeal.main_arg1) = m ((c.tc : Thread Cert.KvWIdeal.nD Cert.KvWIdeal.τ).loc Cert.KvWIdeal.main_arg1)) →
    ∃ (v0 : (c : Dev Cert.KvWIdeal.nD) → Buf (Elt Ideal) ((c.tc : Thread Cert.KvWIdeal.nD Cert.KvWIdeal.τ).loc Cert.KvWIdeal.main_v0)),
      θ_run (Cert.KvWIdeal.defs (F := Ideal)) (onTc (τ := Cert.KvWIdeal.τ) (Cert.KvWIdeal.main (F := Ideal))) ⟨m, fun _ => 0, g⟩ (fun r => ∀ c : Dev Cert.KvWIdeal.nD,
          r.2.mem ((c.tc : Thread Cert.KvWIdeal.nD Cert.KvWIdeal.τ).loc Cert.KvWIdeal.main_v0) = v0 c
          ∧ r.2.mem ((c.tc : Thread Cert.KvWIdeal.nD Cert.KvWIdeal.τ).loc Cert.KvWIdeal.main_arg0) = m ((c.tc : Thread Cert.KvWIdeal.nD Cert.KvWIdeal.τ).loc Cert.KvWIdeal.main_arg0)
          ∧ r.2.mem ((c.tc : Thread Cert.KvWIdeal.nD Cert.KvWIdeal.τ).loc Cert.KvWIdeal.main_arg1) = m ((c.tc : Thread Cert.KvWIdeal.nD Cert.KvWIdeal.τ).loc Cert.KvWIdeal.main_arg1))
      ∧ θ_run (Cert.KvWPlainIdeal.defs (F := Ideal)) (onTc (τ := Cert.KvWPlainIdeal.τ) (Cert.KvWPlainIdeal.main (F := Ideal))) ⟨m', fun _ => 0, g'⟩ (fun r => ∀ c : Dev Cert.KvWPlainIdeal.nD,
          r.2.mem ((c.tc : Thread Cert.KvWPlainIdeal.nD Cert.KvWPlainIdeal.τ).loc Cert.KvWPlainIdeal.main_v7) = v0 c
          ∧ r.2.mem ((c.tc : Thread Cert.KvWPlainIdeal.nD Cert.KvWPlainIdeal.τ).loc Cert.KvWPlainIdeal.main_arg0) = m' ((c.tc : Thread Cert.KvWPlainIdeal.nD Cert.KvWPlainIdeal.τ).loc Cert.KvWPlainIdeal.main_arg0)
          ∧ r.2.mem ((c.tc : Thread Cert.KvWPlainIdeal.nD Cert.KvWPlainIdeal.τ).loc Cert.KvWPlainIdeal.main_arg1) = m' ((c.tc : Thread Cert.KvWPlainIdeal.nD Cert.KvWPlainIdeal.τ).loc Cert.KvWPlainIdeal.main_arg1))

def preserves_FfnA_FfnAIdeal : Prop :=
  True

def algebraic_FfnAIdeal_FfnAPlainIdeal_pre_ffn_finite [hFfnAIdeal : Cert.FfnAIdeal.Facts] [hFfnAPlainIdeal : Cert.FfnAPlainIdeal.Facts] [hPre_ffn_finite : Cert.Pre_ffn_finite.Facts] : Prop :=
  ∀ (m : (ℓ : Loc Cert.FfnAIdeal.nD Cert.FfnAIdeal.τ Cert.FfnAIdeal.sig) → Buf (Elt Ideal) ℓ) (g : Dev Cert.FfnAIdeal.nD → PrngReg)
    (m' : (ℓ : Loc Cert.FfnAPlainIdeal.nD Cert.FfnAPlainIdeal.τ Cert.FfnAPlainIdeal.sig) → Buf (Elt Ideal) ℓ) (g' : Dev Cert.FfnAPlainIdeal.nD → PrngReg), Pre_FfnAIdeal_ffn_finite m →
    (∀ c : Dev Cert.FfnAIdeal.nD,
      m' ((c.tc : Thread Cert.FfnAPlainIdeal.nD Cert.FfnAPlainIdeal.τ).loc Cert.FfnAPlainIdeal.main_arg0) = m ((c.tc : Thread Cert.FfnAIdeal.nD Cert.FfnAIdeal.τ).loc Cert.FfnAIdeal.main_arg0)
      ∧ m' ((c.tc : Thread Cert.FfnAPlainIdeal.nD Cert.FfnAPlainIdeal.τ).loc Cert.FfnAPlainIdeal.main_arg1) = m ((c.tc : Thread Cert.FfnAIdeal.nD Cert.FfnAIdeal.τ).loc Cert.FfnAIdeal.main_arg1)
      ∧ m' ((c.tc : Thread Cert.FfnAPlainIdeal.nD Cert.FfnAPlainIdeal.τ).loc Cert.FfnAPlainIdeal.main_arg2) = m ((c.tc : Thread Cert.FfnAIdeal.nD Cert.FfnAIdeal.τ).loc Cert.FfnAIdeal.main_arg2)
      ∧ m' ((c.tc : Thread Cert.FfnAPlainIdeal.nD Cert.FfnAPlainIdeal.τ).loc Cert.FfnAPlainIdeal.main_arg3) = m ((c.tc : Thread Cert.FfnAIdeal.nD Cert.FfnAIdeal.τ).loc Cert.FfnAIdeal.main_arg3)
      ∧ m' ((c.tc : Thread Cert.FfnAPlainIdeal.nD Cert.FfnAPlainIdeal.τ).loc Cert.FfnAPlainIdeal.main_arg4) = m ((c.tc : Thread Cert.FfnAIdeal.nD Cert.FfnAIdeal.τ).loc Cert.FfnAIdeal.main_arg4)) →
    ∃ (v0 : (c : Dev Cert.FfnAIdeal.nD) → Buf (Elt Ideal) ((c.tc : Thread Cert.FfnAIdeal.nD Cert.FfnAIdeal.τ).loc Cert.FfnAIdeal.main_v0_0)) (v1 : (c : Dev Cert.FfnAIdeal.nD) → Buf (Elt Ideal) ((c.tc : Thread Cert.FfnAIdeal.nD Cert.FfnAIdeal.τ).loc Cert.FfnAIdeal.main_v0_1)) (v2 : (c : Dev Cert.FfnAIdeal.nD) → Buf (Elt Ideal) ((c.tc : Thread Cert.FfnAIdeal.nD Cert.FfnAIdeal.τ).loc Cert.FfnAIdeal.main_v0_2)) (v3 : (c : Dev Cert.FfnAIdeal.nD) → Buf (Elt Ideal) ((c.tc : Thread Cert.FfnAIdeal.nD Cert.FfnAIdeal.τ).loc Cert.FfnAIdeal.main_v0_3)) (v4 : (c : Dev Cert.FfnAIdeal.nD) → Buf (Elt Ideal) ((c.tc : Thread Cert.FfnAIdeal.nD Cert.FfnAIdeal.τ).loc Cert.FfnAIdeal.main_v0_4)) (v5 : (c : Dev Cert.FfnAIdeal.nD) → Buf (Elt Ideal) ((c.tc : Thread Cert.FfnAIdeal.nD Cert.FfnAIdeal.τ).loc Cert.FfnAIdeal.main_v0_5)),
      θ_run (Cert.FfnAIdeal.defs (F := Ideal)) (onTc (τ := Cert.FfnAIdeal.τ) (Cert.FfnAIdeal.main (F := Ideal))) ⟨m, fun _ => 0, g⟩ (fun r => ∀ c : Dev Cert.FfnAIdeal.nD,
          r.2.mem ((c.tc : Thread Cert.FfnAIdeal.nD Cert.FfnAIdeal.τ).loc Cert.FfnAIdeal.main_v0_0) = v0 c
          ∧ r.2.mem ((c.tc : Thread Cert.FfnAIdeal.nD Cert.FfnAIdeal.τ).loc Cert.FfnAIdeal.main_v0_1) = v1 c
          ∧ r.2.mem ((c.tc : Thread Cert.FfnAIdeal.nD Cert.FfnAIdeal.τ).loc Cert.FfnAIdeal.main_v0_2) = v2 c
          ∧ r.2.mem ((c.tc : Thread Cert.FfnAIdeal.nD Cert.FfnAIdeal.τ).loc Cert.FfnAIdeal.main_v0_3) = v3 c
          ∧ r.2.mem ((c.tc : Thread Cert.FfnAIdeal.nD Cert.FfnAIdeal.τ).loc Cert.FfnAIdeal.main_v0_4) = v4 c
          ∧ r.2.mem ((c.tc : Thread Cert.FfnAIdeal.nD Cert.FfnAIdeal.τ).loc Cert.FfnAIdeal.main_v0_5) = v5 c
          ∧ r.2.mem ((c.tc : Thread Cert.FfnAIdeal.nD Cert.FfnAIdeal.τ).loc Cert.FfnAIdeal.main_arg0) = m ((c.tc : Thread Cert.FfnAIdeal.nD Cert.FfnAIdeal.τ).loc Cert.FfnAIdeal.main_arg0)
          ∧ r.2.mem ((c.tc : Thread Cert.FfnAIdeal.nD Cert.FfnAIdeal.τ).loc Cert.FfnAIdeal.main_arg1) = m ((c.tc : Thread Cert.FfnAIdeal.nD Cert.FfnAIdeal.τ).loc Cert.FfnAIdeal.main_arg1)
          ∧ r.2.mem ((c.tc : Thread Cert.FfnAIdeal.nD Cert.FfnAIdeal.τ).loc Cert.FfnAIdeal.main_arg2) = m ((c.tc : Thread Cert.FfnAIdeal.nD Cert.FfnAIdeal.τ).loc Cert.FfnAIdeal.main_arg2)
          ∧ r.2.mem ((c.tc : Thread Cert.FfnAIdeal.nD Cert.FfnAIdeal.τ).loc Cert.FfnAIdeal.main_arg3) = m ((c.tc : Thread Cert.FfnAIdeal.nD Cert.FfnAIdeal.τ).loc Cert.FfnAIdeal.main_arg3)
          ∧ r.2.mem ((c.tc : Thread Cert.FfnAIdeal.nD Cert.FfnAIdeal.τ).loc Cert.FfnAIdeal.main_arg4) = m ((c.tc : Thread Cert.FfnAIdeal.nD Cert.FfnAIdeal.τ).loc Cert.FfnAIdeal.main_arg4))
      ∧ θ_run (Cert.FfnAPlainIdeal.defs (F := Ideal)) (onTc (τ := Cert.FfnAPlainIdeal.τ) (Cert.FfnAPlainIdeal.main (F := Ideal))) ⟨m', fun _ => 0, g'⟩ (fun r => ∀ c : Dev Cert.FfnAPlainIdeal.nD,
          r.2.mem ((c.tc : Thread Cert.FfnAPlainIdeal.nD Cert.FfnAPlainIdeal.τ).loc Cert.FfnAPlainIdeal.main_v61) = v0 c
          ∧ r.2.mem ((c.tc : Thread Cert.FfnAPlainIdeal.nD Cert.FfnAPlainIdeal.τ).loc Cert.FfnAPlainIdeal.main_v44) = v1 c
          ∧ r.2.mem ((c.tc : Thread Cert.FfnAPlainIdeal.nD Cert.FfnAPlainIdeal.τ).loc Cert.FfnAPlainIdeal.main_v104) = v2 c
          ∧ r.2.mem ((c.tc : Thread Cert.FfnAPlainIdeal.nD Cert.FfnAPlainIdeal.τ).loc Cert.FfnAPlainIdeal.main_v105) = v3 c
          ∧ r.2.mem ((c.tc : Thread Cert.FfnAPlainIdeal.nD Cert.FfnAPlainIdeal.τ).loc Cert.FfnAPlainIdeal.main_v106) = v4 c
          ∧ r.2.mem ((c.tc : Thread Cert.FfnAPlainIdeal.nD Cert.FfnAPlainIdeal.τ).loc Cert.FfnAPlainIdeal.main_v107) = v5 c
          ∧ r.2.mem ((c.tc : Thread Cert.FfnAPlainIdeal.nD Cert.FfnAPlainIdeal.τ).loc Cert.FfnAPlainIdeal.main_arg0) = m' ((c.tc : Thread Cert.FfnAPlainIdeal.nD Cert.FfnAPlainIdeal.τ).loc Cert.FfnAPlainIdeal.main_arg0)
          ∧ r.2.mem ((c.tc : Thread Cert.FfnAPlainIdeal.nD Cert.FfnAPlainIdeal.τ).loc Cert.FfnAPlainIdeal.main_arg1) = m' ((c.tc : Thread Cert.FfnAPlainIdeal.nD Cert.FfnAPlainIdeal.τ).loc Cert.FfnAPlainIdeal.main_arg1)
          ∧ r.2.mem ((c.tc : Thread Cert.FfnAPlainIdeal.nD Cert.FfnAPlainIdeal.τ).loc Cert.FfnAPlainIdeal.main_arg2) = m' ((c.tc : Thread Cert.FfnAPlainIdeal.nD Cert.FfnAPlainIdeal.τ).loc Cert.FfnAPlainIdeal.main_arg2)
          ∧ r.2.mem ((c.tc : Thread Cert.FfnAPlainIdeal.nD Cert.FfnAPlainIdeal.τ).loc Cert.FfnAPlainIdeal.main_arg3) = m' ((c.tc : Thread Cert.FfnAPlainIdeal.nD Cert.FfnAPlainIdeal.τ).loc Cert.FfnAPlainIdeal.main_arg3)
          ∧ r.2.mem ((c.tc : Thread Cert.FfnAPlainIdeal.nD Cert.FfnAPlainIdeal.τ).loc Cert.FfnAPlainIdeal.main_arg4) = m' ((c.tc : Thread Cert.FfnAPlainIdeal.nD Cert.FfnAPlainIdeal.τ).loc Cert.FfnAPlainIdeal.main_arg4))

def preserves_FfnW_FfnWIdeal : Prop :=
  True

def algebraic_FfnWIdeal_FfnWPlainIdeal [hFfnWIdeal : Cert.FfnWIdeal.Facts] [hFfnWPlainIdeal : Cert.FfnWPlainIdeal.Facts] : Prop :=
  ∀ (m : (ℓ : Loc Cert.FfnWIdeal.nD Cert.FfnWIdeal.τ Cert.FfnWIdeal.sig) → Buf (Elt Ideal) ℓ) (g : Dev Cert.FfnWIdeal.nD → PrngReg)
    (m' : (ℓ : Loc Cert.FfnWPlainIdeal.nD Cert.FfnWPlainIdeal.τ Cert.FfnWPlainIdeal.sig) → Buf (Elt Ideal) ℓ) (g' : Dev Cert.FfnWPlainIdeal.nD → PrngReg), Pre_FfnWIdeal m →
    (∀ c : Dev Cert.FfnWIdeal.nD,
      m' ((c.tc : Thread Cert.FfnWPlainIdeal.nD Cert.FfnWPlainIdeal.τ).loc Cert.FfnWPlainIdeal.main_arg0) = m ((c.tc : Thread Cert.FfnWIdeal.nD Cert.FfnWIdeal.τ).loc Cert.FfnWIdeal.main_arg0)
      ∧ m' ((c.tc : Thread Cert.FfnWPlainIdeal.nD Cert.FfnWPlainIdeal.τ).loc Cert.FfnWPlainIdeal.main_arg1) = m ((c.tc : Thread Cert.FfnWIdeal.nD Cert.FfnWIdeal.τ).loc Cert.FfnWIdeal.main_arg1)
      ∧ m' ((c.tc : Thread Cert.FfnWPlainIdeal.nD Cert.FfnWPlainIdeal.τ).loc Cert.FfnWPlainIdeal.main_arg2) = m ((c.tc : Thread Cert.FfnWIdeal.nD Cert.FfnWIdeal.τ).loc Cert.FfnWIdeal.main_arg2)
      ∧ m' ((c.tc : Thread Cert.FfnWPlainIdeal.nD Cert.FfnWPlainIdeal.τ).loc Cert.FfnWPlainIdeal.main_arg3) = m ((c.tc : Thread Cert.FfnWIdeal.nD Cert.FfnWIdeal.τ).loc Cert.FfnWIdeal.main_arg3)
      ∧ m' ((c.tc : Thread Cert.FfnWPlainIdeal.nD Cert.FfnWPlainIdeal.τ).loc Cert.FfnWPlainIdeal.main_arg4) = m ((c.tc : Thread Cert.FfnWIdeal.nD Cert.FfnWIdeal.τ).loc Cert.FfnWIdeal.main_arg4)) →
    ∃ (v0 : (c : Dev Cert.FfnWIdeal.nD) → Buf (Elt Ideal) ((c.tc : Thread Cert.FfnWIdeal.nD Cert.FfnWIdeal.τ).loc Cert.FfnWIdeal.main_v46_0)) (v1 : (c : Dev Cert.FfnWIdeal.nD) → Buf (Elt Ideal) ((c.tc : Thread Cert.FfnWIdeal.nD Cert.FfnWIdeal.τ).loc Cert.FfnWIdeal.main_v46_1)) (v2 : (c : Dev Cert.FfnWIdeal.nD) → Buf (Elt Ideal) ((c.tc : Thread Cert.FfnWIdeal.nD Cert.FfnWIdeal.τ).loc Cert.FfnWIdeal.main_v46_2)),
      θ_run (Cert.FfnWIdeal.defs (F := Ideal)) (onTc (τ := Cert.FfnWIdeal.τ) (Cert.FfnWIdeal.main (F := Ideal))) ⟨m, fun _ => 0, g⟩ (fun r => ∀ c : Dev Cert.FfnWIdeal.nD,
          r.2.mem ((c.tc : Thread Cert.FfnWIdeal.nD Cert.FfnWIdeal.τ).loc Cert.FfnWIdeal.main_v46_0) = v0 c
          ∧ r.2.mem ((c.tc : Thread Cert.FfnWIdeal.nD Cert.FfnWIdeal.τ).loc Cert.FfnWIdeal.main_v46_1) = v1 c
          ∧ r.2.mem ((c.tc : Thread Cert.FfnWIdeal.nD Cert.FfnWIdeal.τ).loc Cert.FfnWIdeal.main_v46_2) = v2 c
          ∧ r.2.mem ((c.tc : Thread Cert.FfnWIdeal.nD Cert.FfnWIdeal.τ).loc Cert.FfnWIdeal.main_arg0) = m ((c.tc : Thread Cert.FfnWIdeal.nD Cert.FfnWIdeal.τ).loc Cert.FfnWIdeal.main_arg0)
          ∧ r.2.mem ((c.tc : Thread Cert.FfnWIdeal.nD Cert.FfnWIdeal.τ).loc Cert.FfnWIdeal.main_arg1) = m ((c.tc : Thread Cert.FfnWIdeal.nD Cert.FfnWIdeal.τ).loc Cert.FfnWIdeal.main_arg1)
          ∧ r.2.mem ((c.tc : Thread Cert.FfnWIdeal.nD Cert.FfnWIdeal.τ).loc Cert.FfnWIdeal.main_arg2) = m ((c.tc : Thread Cert.FfnWIdeal.nD Cert.FfnWIdeal.τ).loc Cert.FfnWIdeal.main_arg2)
          ∧ r.2.mem ((c.tc : Thread Cert.FfnWIdeal.nD Cert.FfnWIdeal.τ).loc Cert.FfnWIdeal.main_arg3) = m ((c.tc : Thread Cert.FfnWIdeal.nD Cert.FfnWIdeal.τ).loc Cert.FfnWIdeal.main_arg3)
          ∧ r.2.mem ((c.tc : Thread Cert.FfnWIdeal.nD Cert.FfnWIdeal.τ).loc Cert.FfnWIdeal.main_arg4) = m ((c.tc : Thread Cert.FfnWIdeal.nD Cert.FfnWIdeal.τ).loc Cert.FfnWIdeal.main_arg4))
      ∧ θ_run (Cert.FfnWPlainIdeal.defs (F := Ideal)) (onTc (τ := Cert.FfnWPlainIdeal.τ) (Cert.FfnWPlainIdeal.main (F := Ideal))) ⟨m', fun _ => 0, g'⟩ (fun r => ∀ c : Dev Cert.FfnWPlainIdeal.nD,
          r.2.mem ((c.tc : Thread Cert.FfnWPlainIdeal.nD Cert.FfnWPlainIdeal.τ).loc Cert.FfnWPlainIdeal.main_v43) = v0 c
          ∧ r.2.mem ((c.tc : Thread Cert.FfnWPlainIdeal.nD Cert.FfnWPlainIdeal.τ).loc Cert.FfnWPlainIdeal.main_v46) = v1 c
          ∧ r.2.mem ((c.tc : Thread Cert.FfnWPlainIdeal.nD Cert.FfnWPlainIdeal.τ).loc Cert.FfnWPlainIdeal.main_v48) = v2 c
          ∧ r.2.mem ((c.tc : Thread Cert.FfnWPlainIdeal.nD Cert.FfnWPlainIdeal.τ).loc Cert.FfnWPlainIdeal.main_arg0) = m' ((c.tc : Thread Cert.FfnWPlainIdeal.nD Cert.FfnWPlainIdeal.τ).loc Cert.FfnWPlainIdeal.main_arg0)
          ∧ r.2.mem ((c.tc : Thread Cert.FfnWPlainIdeal.nD Cert.FfnWPlainIdeal.τ).loc Cert.FfnWPlainIdeal.main_arg1) = m' ((c.tc : Thread Cert.FfnWPlainIdeal.nD Cert.FfnWPlainIdeal.τ).loc Cert.FfnWPlainIdeal.main_arg1)
          ∧ r.2.mem ((c.tc : Thread Cert.FfnWPlainIdeal.nD Cert.FfnWPlainIdeal.τ).loc Cert.FfnWPlainIdeal.main_arg2) = m' ((c.tc : Thread Cert.FfnWPlainIdeal.nD Cert.FfnWPlainIdeal.τ).loc Cert.FfnWPlainIdeal.main_arg2)
          ∧ r.2.mem ((c.tc : Thread Cert.FfnWPlainIdeal.nD Cert.FfnWPlainIdeal.τ).loc Cert.FfnWPlainIdeal.main_arg3) = m' ((c.tc : Thread Cert.FfnWPlainIdeal.nD Cert.FfnWPlainIdeal.τ).loc Cert.FfnWPlainIdeal.main_arg3)
          ∧ r.2.mem ((c.tc : Thread Cert.FfnWPlainIdeal.nD Cert.FfnWPlainIdeal.τ).loc Cert.FfnWPlainIdeal.main_arg4) = m' ((c.tc : Thread Cert.FfnWPlainIdeal.nD Cert.FfnWPlainIdeal.τ).loc Cert.FfnWPlainIdeal.main_arg4))

def Claim : Prop :=
  ∃ (hMem : Cert.Mem.Facts) (hMemIdeal : Cert.MemIdeal.Facts) (hMemPlainIdeal : Cert.MemPlainIdeal.Facts) (hFfnF : Cert.FfnF.Facts) (hFfnFIdeal : Cert.FfnFIdeal.Facts) (hFfnFPlainIdeal : Cert.FfnFPlainIdeal.Facts) (hIn : Cert.In.Facts) (hInIdeal : Cert.InIdeal.Facts) (hInPlainIdeal : Cert.InPlainIdeal.Facts) (hInH : Cert.InH.Facts) (hInHIdeal : Cert.InHIdeal.Facts) (hInHPlainIdeal : Cert.InHPlainIdeal.Facts) (hInW : Cert.InW.Facts) (hInWIdeal : Cert.InWIdeal.Facts) (hInWPlainIdeal : Cert.InWPlainIdeal.Facts) (hInN : Cert.InN.Facts) (hInNIdeal : Cert.InNIdeal.Facts) (hInNPlainIdeal : Cert.InNPlainIdeal.Facts) (hInNH : Cert.InNH.Facts) (hInNHIdeal : Cert.InNHIdeal.Facts) (hInNHPlainIdeal : Cert.InNHPlainIdeal.Facts) (hInNW : Cert.InNW.Facts) (hInNWIdeal : Cert.InNWIdeal.Facts) (hInNWPlainIdeal : Cert.InNWPlainIdeal.Facts) (hOut : Cert.Out.Facts) (hOutIdeal : Cert.OutIdeal.Facts) (hOutPlainIdeal : Cert.OutPlainIdeal.Facts) (hOutH : Cert.OutH.Facts) (hOutHIdeal : Cert.OutHIdeal.Facts) (hOutHPlainIdeal : Cert.OutHPlainIdeal.Facts) (hOutA : Cert.OutA.Facts) (hOutAIdeal : Cert.OutAIdeal.Facts) (hOutAPlainIdeal : Cert.OutAPlainIdeal.Facts) (hOutB : Cert.OutB.Facts) (hOutBIdeal : Cert.OutBIdeal.Facts) (hOutBPlainIdeal : Cert.OutBPlainIdeal.Facts) (hKv : Cert.Kv.Facts) (hKvIdeal : Cert.KvIdeal.Facts) (hKvPlainIdeal : Cert.KvPlainIdeal.Facts) (hKvH : Cert.KvH.Facts) (hKvHIdeal : Cert.KvHIdeal.Facts) (hKvHPlainIdeal : Cert.KvHPlainIdeal.Facts) (hKvW : Cert.KvW.Facts) (hKvWIdeal : Cert.KvWIdeal.Facts) (hKvWPlainIdeal : Cert.KvWPlainIdeal.Facts) (hFfnA : Cert.FfnA.Facts) (hFfnAIdeal : Cert.FfnAIdeal.Facts) (hFfnAPlainIdeal : Cert.FfnAPlainIdeal.Facts) (hFfnW : Cert.FfnW.Facts) (hFfnWIdeal : Cert.FfnWIdeal.Facts) (hFfnWPlainIdeal : Cert.FfnWPlainIdeal.Facts) (hPre_mem_finite : Cert.Pre_mem_finite.Facts) (hPre_ffn_finite : Cert.Pre_ffn_finite.Facts),
    quiescent_Mem (hMem := hMem)
    ∧ quiescent_MemIdeal (hMemIdeal := hMemIdeal)
    ∧ quiescent_MemIdeal_pre_mem_finite (hMemIdeal := hMemIdeal) (hPre_mem_finite := hPre_mem_finite)
    ∧ quiescent_MemPlainIdeal (hMemPlainIdeal := hMemPlainIdeal)
    ∧ quiescent_MemPlainIdeal_pre_mem_finite (hMemPlainIdeal := hMemPlainIdeal) (hPre_mem_finite := hPre_mem_finite)
    ∧ quiescent_FfnF (hFfnF := hFfnF)
    ∧ quiescent_FfnFIdeal (hFfnFIdeal := hFfnFIdeal)
    ∧ quiescent_FfnFPlainIdeal (hFfnFPlainIdeal := hFfnFPlainIdeal)
    ∧ quiescent_In (hIn := hIn)
    ∧ quiescent_InIdeal (hInIdeal := hInIdeal)
    ∧ quiescent_InPlainIdeal (hInPlainIdeal := hInPlainIdeal)
    ∧ quiescent_InH (hInH := hInH)
    ∧ quiescent_InHIdeal (hInHIdeal := hInHIdeal)
    ∧ quiescent_InHPlainIdeal (hInHPlainIdeal := hInHPlainIdeal)
    ∧ quiescent_InW (hInW := hInW)
    ∧ quiescent_InWIdeal (hInWIdeal := hInWIdeal)
    ∧ quiescent_InWPlainIdeal (hInWPlainIdeal := hInWPlainIdeal)
    ∧ quiescent_InN (hInN := hInN)
    ∧ quiescent_InNIdeal (hInNIdeal := hInNIdeal)
    ∧ quiescent_InNPlainIdeal (hInNPlainIdeal := hInNPlainIdeal)
    ∧ quiescent_InNH (hInNH := hInNH)
    ∧ quiescent_InNHIdeal (hInNHIdeal := hInNHIdeal)
    ∧ quiescent_InNHPlainIdeal (hInNHPlainIdeal := hInNHPlainIdeal)
    ∧ quiescent_InNW (hInNW := hInNW)
    ∧ quiescent_InNWIdeal (hInNWIdeal := hInNWIdeal)
    ∧ quiescent_InNWPlainIdeal (hInNWPlainIdeal := hInNWPlainIdeal)
    ∧ quiescent_Out (hOut := hOut)
    ∧ quiescent_OutIdeal (hOutIdeal := hOutIdeal)
    ∧ quiescent_OutPlainIdeal (hOutPlainIdeal := hOutPlainIdeal)
    ∧ quiescent_OutH (hOutH := hOutH)
    ∧ quiescent_OutHIdeal (hOutHIdeal := hOutHIdeal)
    ∧ quiescent_OutHPlainIdeal (hOutHPlainIdeal := hOutHPlainIdeal)
    ∧ quiescent_OutA (hOutA := hOutA)
    ∧ quiescent_OutAIdeal (hOutAIdeal := hOutAIdeal)
    ∧ quiescent_OutAPlainIdeal (hOutAPlainIdeal := hOutAPlainIdeal)
    ∧ quiescent_OutB (hOutB := hOutB)
    ∧ quiescent_OutBIdeal (hOutBIdeal := hOutBIdeal)
    ∧ quiescent_OutBPlainIdeal (hOutBPlainIdeal := hOutBPlainIdeal)
    ∧ quiescent_Kv (hKv := hKv)
    ∧ quiescent_KvIdeal (hKvIdeal := hKvIdeal)
    ∧ quiescent_KvPlainIdeal (hKvPlainIdeal := hKvPlainIdeal)
    ∧ quiescent_KvH (hKvH := hKvH)
    ∧ quiescent_KvHIdeal (hKvHIdeal := hKvHIdeal)
    ∧ quiescent_KvHPlainIdeal (hKvHPlainIdeal := hKvHPlainIdeal)
    ∧ quiescent_KvW (hKvW := hKvW)
    ∧ quiescent_KvWIdeal (hKvWIdeal := hKvWIdeal)
    ∧ quiescent_KvWPlainIdeal (hKvWPlainIdeal := hKvWPlainIdeal)
    ∧ quiescent_FfnA (hFfnA := hFfnA)
    ∧ quiescent_FfnAIdeal (hFfnAIdeal := hFfnAIdeal)
    ∧ quiescent_FfnAIdeal_pre_ffn_finite (hFfnAIdeal := hFfnAIdeal) (hPre_ffn_finite := hPre_ffn_finite)
    ∧ quiescent_FfnAPlainIdeal (hFfnAPlainIdeal := hFfnAPlainIdeal)
    ∧ quiescent_FfnAPlainIdeal_pre_ffn_finite (hFfnAPlainIdeal := hFfnAPlainIdeal) (hPre_ffn_finite := hPre_ffn_finite)
    ∧ quiescent_FfnW (hFfnW := hFfnW)
    ∧ quiescent_FfnWIdeal (hFfnWIdeal := hFfnWIdeal)
    ∧ quiescent_FfnWPlainIdeal (hFfnWPlainIdeal := hFfnWPlainIdeal)
    ∧ preserves_Mem_MemIdeal
    ∧ algebraic_MemIdeal_MemPlainIdeal_pre_mem_finite (hMemIdeal := hMemIdeal) (hMemPlainIdeal := hMemPlainIdeal) (hPre_mem_finite := hPre_mem_finite)
    ∧ preserves_FfnF_FfnFIdeal
    ∧ algebraic_FfnFIdeal_FfnFPlainIdeal (hFfnFIdeal := hFfnFIdeal) (hFfnFPlainIdeal := hFfnFPlainIdeal)
    ∧ preserves_In_InIdeal
    ∧ algebraic_InIdeal_InPlainIdeal (hInIdeal := hInIdeal) (hInPlainIdeal := hInPlainIdeal)
    ∧ preserves_InH_InHIdeal
    ∧ algebraic_InHIdeal_InHPlainIdeal (hInHIdeal := hInHIdeal) (hInHPlainIdeal := hInHPlainIdeal)
    ∧ preserves_InW_InWIdeal
    ∧ algebraic_InWIdeal_InWPlainIdeal (hInWIdeal := hInWIdeal) (hInWPlainIdeal := hInWPlainIdeal)
    ∧ preserves_InN_InNIdeal
    ∧ algebraic_InNIdeal_InNPlainIdeal (hInNIdeal := hInNIdeal) (hInNPlainIdeal := hInNPlainIdeal)
    ∧ preserves_InNH_InNHIdeal
    ∧ algebraic_InNHIdeal_InNHPlainIdeal (hInNHIdeal := hInNHIdeal) (hInNHPlainIdeal := hInNHPlainIdeal)
    ∧ preserves_InNW_InNWIdeal
    ∧ algebraic_InNWIdeal_InNWPlainIdeal (hInNWIdeal := hInNWIdeal) (hInNWPlainIdeal := hInNWPlainIdeal)
    ∧ preserves_Out_OutIdeal
    ∧ algebraic_OutIdeal_OutPlainIdeal (hOutIdeal := hOutIdeal) (hOutPlainIdeal := hOutPlainIdeal)
    ∧ preserves_OutH_OutHIdeal
    ∧ algebraic_OutHIdeal_OutHPlainIdeal (hOutHIdeal := hOutHIdeal) (hOutHPlainIdeal := hOutHPlainIdeal)
    ∧ preserves_OutA_OutAIdeal
    ∧ algebraic_OutAIdeal_OutAPlainIdeal (hOutAIdeal := hOutAIdeal) (hOutAPlainIdeal := hOutAPlainIdeal)
    ∧ preserves_OutB_OutBIdeal
    ∧ algebraic_OutBIdeal_OutBPlainIdeal (hOutBIdeal := hOutBIdeal) (hOutBPlainIdeal := hOutBPlainIdeal)
    ∧ preserves_Kv_KvIdeal
    ∧ algebraic_KvIdeal_KvPlainIdeal (hKvIdeal := hKvIdeal) (hKvPlainIdeal := hKvPlainIdeal)
    ∧ preserves_KvH_KvHIdeal
    ∧ algebraic_KvHIdeal_KvHPlainIdeal (hKvHIdeal := hKvHIdeal) (hKvHPlainIdeal := hKvHPlainIdeal)
    ∧ preserves_KvW_KvWIdeal
    ∧ algebraic_KvWIdeal_KvWPlainIdeal (hKvWIdeal := hKvWIdeal) (hKvWPlainIdeal := hKvWPlainIdeal)
    ∧ preserves_FfnA_FfnAIdeal
    ∧ algebraic_FfnAIdeal_FfnAPlainIdeal_pre_ffn_finite (hFfnAIdeal := hFfnAIdeal) (hFfnAPlainIdeal := hFfnAPlainIdeal) (hPre_ffn_finite := hPre_ffn_finite)
    ∧ preserves_FfnW_FfnWIdeal
    ∧ algebraic_FfnWIdeal_FfnWPlainIdeal (hFfnWIdeal := hFfnWIdeal) (hFfnWPlainIdeal := hFfnWPlainIdeal)
-- ==== Pre_ffn_finite.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S8x2048x352 : S_.BroadcastsInDim S8x2048x352 (![] : Fin 0 → Fin S8x2048x352.rank)
  bcast_S_S8x352x1024 : S_.BroadcastsInDim S8x352x1024 (![] : Fin 0 → Fin S8x352x1024.rank)

variable [Facts]

def fn {F : FTy → Type} [FloatOps F] (main_arg0 : FVec F S2048x1024 .f32) (main_arg1 : FVec F S1x1024 .f32) (main_arg2 : FVec F S8x2048x352 .bf16) (main_arg3 : FVec F S8x352x1024 .bf16) (main_arg4 : FVec F S2048x1024 .f32) : IVec S2048x1024 1 × IVec S1x1024 1 × IVec S8x2048x352 1 × IVec S8x352x1024 1 × IVec S2048x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S8x2048x352 .bf16 := Host.absf main_arg2
  let main_cst_1 : FVec F S_ .bf16 := constant S_ .bf16 0x7F80#16
  let main_v7 : FVec F S8x2048x352 .bf16 := broadcastInDim S8x2048x352 ![] bcast_S_S8x2048x352 main_cst_1
  let main_v8 : IVec S8x2048x352 1 := cmpf .olt main_v6 main_v7
  let main_v9 : FVec F S8x352x1024 .bf16 := Host.absf main_arg3
  let main_cst_2 : FVec F S_ .bf16 := constant S_ .bf16 0x7F80#16
  let main_v10 : FVec F S8x352x1024 .bf16 := broadcastInDim S8x352x1024 ![] bcast_S_S8x352x1024 main_cst_2
  let main_v11 : IVec S8x352x1024 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Pre_mem_finite.lean ====
abbrev S2048x1792 : Shape := ⟨2, ![2048, 1792]⟩
abbrev S256x512 : Shape := ⟨2, ![256, 512]⟩
abbrev S1x64 : Shape := ⟨2, ![1, 64]⟩
abbrev S2048x1024 : Shape := ⟨2, ![2048, 1024]⟩
abbrev S_ : Shape := ⟨0, ![]⟩

class Facts : Prop where
  bcast_S_S2048x1792 : S_.BroadcastsInDim S2048x1792 (![] : Fin 0 → Fin S2048x1792.rank)
  bcast_S_S256x512 : S_.BroadcastsInDim S256x512 (![] : Fin 0 → Fin S256x512.rank)
  bcast_S_S1x64 : S_.BroadcastsInDim S1x64 (![] : Fin 0 → Fin S1x64.rank)
  bcast_S_S2048x1024 : S_.BroadcastsInDim S2048x1024 (![] : Fin 0 → Fin S2048x1024.rank)

variable [Facts]

def fn {F : FTy → Type} [FloatOps F] (main_arg0 : FVec F S2048x1792 .f32) (main_arg1 : FVec F S256x512 .f32) (main_arg2 : FVec F S1x64 .f32) (main_arg3 : FVec F S1x64 .f32) (main_arg4 : FVec F S2048x1024 .f32) : IVec S2048x1792 1 × IVec S256x512 1 × IVec S1x64 1 × IVec S1x64 1 × IVec S2048x1024 1 :=
  let main_v0 : FVec F S2048x1792 .f32 := Host.absf main_arg0
  let main_cst : FVec F S_ .f32 := constant S_ .f32 0x7F800000#32
  let main_v1 : FVec F S2048x1792 .f32 := broadcastInDim S2048x1792 ![] bcast_S_S2048x1792 main_cst
  let main_v2 : IVec S2048x1792 1 := cmpf .olt main_v0 main_v1
  let main_v3 : FVec F S256x512 .f32 := Host.absf main_arg1
  let main_cst_0 : FVec F S_ .f32 := constant S_ .f32 0x7F800000#32
  let main_v4 : FVec F S256x512 .f32 := broadcastInDim S256x512 ![] bcast_S_S256x512 main_cst_0
  let main_v5 : IVec S256x512 1 := cmpf .olt main_v3 main_v4
  let main_v6 : FVec F S1x64 .f32 := Host.absf main_arg2
  let main_cst_1 : FVec F S_ .f32 := constant S_ .f32 0x7F800000#32
  let main_v7 : FVec F S1x64 .f32 := broadcastInDim S1x64 ![] bcast_S_S1x64 main_cst_1
  let main_v8 : IVec S1x64 1 := cmpf .olt main_v6 main_v7
  let main_v9 : FVec F S1x64 .f32 := Host.absf main_arg3
  let main_cst_2 : FVec F S_ .f32 := constant S_ .f32 0x7F800000#32
  let main_v10 : FVec F S1x64 .f32 := broadcastInDim S1x64 ![] bcast_S_S1x64 main_cst_2
  let main_v11 : IVec S1x64 1 := cmpf .olt main_v9 main_v10
  let main_v12 : FVec F S2048x1024 .f32 := Host.absf main_arg4
  let main_cst_3 : FVec F S_ .f32 := constant S_ .f32 0x7F800000#32
  let main_v13 : FVec F S2048x1024 .f32 := broadcastInDim S2048x1024 ![] bcast_S_S2048x1024 main_cst_3
  let main_v14 : IVec S2048x1024 1 := cmpf .olt main_v12 main_v13
  (main_v2, main_v5, main_v8, main_v11, main_v14)
-- ==== Mem.lean ====
abbrev S2048x1792 : Shape := ⟨2, ![2048, 1792]⟩
abbrev S256x512 : Shape := ⟨2, ![256, 512]⟩
abbrev S1x64 : Shape := ⟨2, ![1, 64]⟩
abbrev S2048x1024 : Shape := ⟨2, ![2048, 1024]⟩
abbrev S2048x256 : Shape := ⟨2, ![2048, 256]⟩
abbrev S512x256 : Shape := ⟨2, ![512, 256]⟩
abbrev S512x64 : Shape := ⟨2, ![512, 64]⟩
abbrev S512 : Shape := ⟨1, ![512]⟩
abbrev S512x1 : Shape := ⟨2, ![512, 1]⟩
abbrev S256x64 : Shape := ⟨2, ![256, 64]⟩
abbrev S256 : Shape := ⟨1, ![256]⟩
abbrev S256x1 : Shape := ⟨2, ![256, 1]⟩
abbrev S64 : Shape := ⟨1, ![64]⟩

abbrev nBuf : Space → Nat
  | .hbm => 9
  | .vmem => 12
  | .smem => 0
  | _ => 0

abbrev bufTy : (tb : Table) → Fin (tcTables nBuf tb) → BufTy
  | .hbm, ⟨0, _⟩ => ⟨S2048x1792, .f32⟩
  | .hbm, ⟨1, _⟩ => ⟨S256x512, .f32⟩
  | .hbm, ⟨2, _⟩ => ⟨S1x64, .f32⟩
  | .hbm, ⟨3, _⟩ => ⟨S1x64, .f32⟩
  | .hbm, ⟨4, _⟩ => ⟨S2048x1024, .f32⟩
  | .hbm, ⟨5, _⟩ => ⟨S2048x256, .bf16⟩
  | .hbm, ⟨6, _⟩ => ⟨S256x512, .f32⟩
  | .hbm, ⟨7, _⟩ => ⟨S1x64, .f32⟩
  | .hbm, ⟨8, _⟩ => ⟨S1x64, .f32⟩
  | .local _ .vmem, ⟨0, _⟩ => ⟨S512x256, .f32⟩
  | .local _ .vmem, ⟨1, _⟩ => ⟨S512x256, .f32⟩
  | .local _ .vmem, ⟨2, _⟩ => ⟨S256x512, .f32⟩
  | .local _ .vmem, ⟨3, _⟩ => ⟨S1x64, .f32⟩
  | .local _ .vmem, ⟨4, _⟩ => ⟨S1x64, .f32⟩
  | .local _ .vmem, ⟨5, _⟩ => ⟨S512x256, .f32⟩
  | .local _ .vmem, ⟨6, _⟩ => ⟨S512x256, .f32⟩
  | .local _ .vmem, ⟨7, _⟩ => ⟨S512x256, .bf16⟩
  | .local _ .vmem, ⟨8, _⟩ => ⟨S512x256, .bf16⟩
  | .local _ .vmem, ⟨9, _⟩ => ⟨S256x512, .f32⟩
  | .local _ .vmem, ⟨10, _⟩ => ⟨S1x64, .f32⟩
  | .local _ .vmem, ⟨11, _⟩ => ⟨S1x64, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MemPlainIdeal.lean ====
abbrev S2048x1792 : Shape := ⟨2, ![2048, 1792]⟩
abbrev S256x512 : Shape := ⟨2, ![256, 512]⟩
abbrev S1x64 : Shape := ⟨2, ![1, 64]⟩
abbrev S2048x1024 : Shape := ⟨2, ![2048, 1024]⟩
abbrev S2048x256 : Shape := ⟨2, ![2048, 256]⟩
abbrev S256x256 : Shape := ⟨2, ![256, 256]⟩
abbrev S256x4x64 : Shape := ⟨3, ![256, 4, 64]⟩
abbrev S4x256x64 : Shape := ⟨3, ![4, 256, 64]⟩
abbrev S_ : Shape := ⟨0, ![]⟩
abbrev S4x256 : Shape := ⟨2, ![4, 256]⟩
abbrev S4x256x1 : Shape := ⟨3, ![4, 256, 1]⟩
abbrev S1x1x64 : Shape := ⟨3, ![1, 1, 64]⟩
abbrev S2048x4x64 : Shape := ⟨3, ![2048, 4, 64]⟩
abbrev S4x2048x64 : Shape := ⟨3, ![4, 2048, 64]⟩
abbrev S4x2048 : Shape := ⟨2, ![4, 2048]⟩
abbrev S4x2048x1 : Shape := ⟨3, ![4, 2048, 1]⟩
abbrev S4x2048x256 : Shape := ⟨3, ![4, 2048, 256]⟩
abbrev S4x64x256 : Shape := ⟨3, ![4, 64, 256]⟩
abbrev S64 : Shape := ⟨1, ![64]⟩

abbrev nBuf : Space → Nat
  | .hbm => 188
  | .vmem => 0
  | .smem => 0
  | _ => 0

abbrev hbmTy0_0 (i : Nat) : BufTy := match i % 128 with
  | 0 => ⟨S2048x1792, .f32⟩
  | 1 => ⟨S256x512, .f32⟩
  | 2 => ⟨S1x64, .f32⟩
  | 3 => ⟨S1x64, .f32⟩
  | 4 => ⟨S2048x1024, .f32⟩
  | 5 => ⟨S2048x256, .f32⟩
  | 6 => ⟨S256x256, .f32⟩
  | 7 => ⟨S256x4x64, .f32⟩
  | 8 => ⟨S4x256x64, .f32⟩
  | 9 => ⟨S4x256x64, .f32⟩
  | 10 => ⟨S_, .f32⟩
  | 11 => ⟨S4x256, .f32⟩
  | 12 => ⟨S4x256x1, .f32⟩
  | 13 => ⟨S_, .f32⟩
  | 14 => ⟨S4x256x1, .f32⟩
  | 15 => ⟨S4x256x1, .f32⟩
  | 16 => ⟨S_, .f32⟩
  | 17 => ⟨S4x256x1, .f32⟩
  | 18 => ⟨S4x256x1, .f32⟩
  | 19 => ⟨S4x256x1, .f32⟩
  | 20 => ⟨S4x256x1, .f32⟩
  | 21 => ⟨S_, .f32⟩
  | 22 => ⟨S4x256x1, .f32⟩
  | 23 => ⟨S4x256x1, .f32⟩
  | 24 => ⟨S4x256x64, .f32⟩
  | 25 => ⟨S4x256x64, .f32⟩
  | 26 => ⟨S1x1x64, .f32⟩
  | 27 => ⟨S4x256x64, .f32⟩
  | 28 => ⟨S4x256x64, .f32⟩
  | 29 => ⟨S256x256, .f32⟩
  | 30 => ⟨S256x4x64, .f32⟩
  | 31 => ⟨S4x256x64, .f32⟩
  | 32 => ⟨S2048x4x64, .f32⟩
  | 33 => ⟨S4x2048x64, .f32⟩
  | 34 => ⟨S4x2048x64, .f32⟩
  | 35 => ⟨S_, .f32⟩
  | 36 => ⟨S4x2048, .f32⟩
  | 37 => ⟨S4x2048x1, .f32⟩
  | 38 => ⟨S_, .f32⟩
  | 39 => ⟨S4x2048x1, .f32⟩
  | 40 => ⟨S4x2048x1, .f32⟩
  | 41 => ⟨S_, .f32⟩
  | 42 => ⟨S4x2048x1, .f32⟩
  | 43 => ⟨S4x2048x1, .f32⟩
  | 44 => ⟨S4x2048x1, .f32⟩
  | 45 => ⟨S4x2048x1, .f32⟩
  | 46 => ⟨S_, .f32⟩
  | 47 => ⟨S4x2048x1, .f32⟩
  | 48 => ⟨S4x2048x1, .f32⟩
  | 49 => ⟨S4x2048x64, .f32⟩
  | 50 => ⟨S4x2048x64, .f32⟩
  | 51 => ⟨S1x1x64, .f32⟩
  | 52 => ⟨S4x2048x64, .f32⟩
  | 53 => ⟨S4x2048x64, .f32⟩
  | 54 => ⟨S4x2048x256, .f32⟩
  | 55 => ⟨S_, .f32⟩
  | 56 => ⟨S4x2048x256, .f32⟩
  | 57 => ⟨S4x2048x256, .f32⟩
  | 58 => ⟨S_, .f32⟩
  | 59 => ⟨S4x2048, .f32⟩
  | 60 => ⟨S4x2048x1, .f32⟩
  | 61 => ⟨S4x2048x256, .f32⟩
  | 62 => ⟨S4x2048x256, .i1⟩
  | 63 => ⟨S4x2048x256, .f32⟩
  | 64 => ⟨S_, .f32⟩
  | 65 => ⟨S4x2048, .f32⟩
  | 66 => ⟨S_, .f32⟩
  | 67 => ⟨S4x2048, .f32⟩
  | 68 => ⟨S4x2048, .f32⟩
  | 69 => ⟨S_, .f32⟩
  | 70 => ⟨S4x2048, .f32⟩
  | 71 => ⟨S4x2048, .i1⟩
  | 72 => ⟨S_, .f32⟩
  | 73 => ⟨S4x2048, .f32⟩
  | 74 => ⟨S4x2048, .i1⟩
  | 75 => ⟨S_, .f32⟩
  | 76 => ⟨S4x2048, .f32⟩
  | 77 => ⟨S_, .f32⟩
  | 78 => ⟨S4x2048, .f32⟩
  | 79 => ⟨S_, .f32⟩
  | 80 => ⟨S4x2048, .f32⟩
  | 81 => ⟨S4x2048, .f32⟩
  | 82 => ⟨S4x2048, .f32⟩
  | 83 => ⟨S4x2048x1, .f32⟩
  | 84 => ⟨S4x2048x256, .f32⟩
  | 85 => ⟨S4x2048x256, .f32⟩
  | 86 => ⟨S4x2048x256, .f32⟩
  | 87 => ⟨S_, .f32⟩
  | 88 => ⟨S4x2048, .f32⟩
  | 89 => ⟨S4x2048x1, .f32⟩
  | 90 => ⟨S4x2048x256, .f32⟩
  | 91 => ⟨S4x2048x256, .f32⟩
  | 92 => ⟨S4x2048x1, .f32⟩
  | 93 => ⟨S_, .f32⟩
  | 94 => ⟨S4x2048x1, .f32⟩
  | 95 => ⟨S4x2048x1, .f32⟩
  | 96 => ⟨S4x2048x64, .f32⟩
  | 97 => ⟨S2048x4x64, .f32⟩
  | 98 => ⟨S2048x256, .f32⟩
  | 99 => ⟨S2048x256, .f32⟩
  | 100 => ⟨S2048x4x64, .f32⟩
  | 101 => ⟨S4x2048x64, .f32⟩
  | 102 => ⟨S4x64x256, .f32⟩
  | 103 => ⟨S4x256x64, .f32⟩
  | 104 => ⟨S4x2048x256, .f32⟩
  | 105 => ⟨S4x2048x256, .f32⟩
  | 106 => ⟨S4x2048x256, .f32⟩
  | 107 => ⟨S4x2048x256, .f32⟩
  | 108 => ⟨S_, .f32⟩
  | 109 => ⟨S4x2048, .f32⟩
  | 110 => ⟨S4x2048x1, .f32⟩
  | 111 => ⟨S4x2048x1, .f32⟩
  | 112 => ⟨S4x2048x256, .f32⟩
  | 113 => ⟨S4x2048x256, .f32⟩
  | 114 => ⟨S_, .f32⟩
  | 115 => ⟨S4x2048, .f32⟩
  | 116 => ⟨S4x2048x256, .f32⟩
  | 117 => ⟨S4x2048x256, .f32⟩
  | 118 => ⟨S4x2048x256, .f32⟩
  | 119 => ⟨S_, .f32⟩
  | 120 => ⟨S4x2048x256, .f32⟩
  | 121 => ⟨S4x2048x256, .f32⟩
  | 122 => ⟨S4x256x64, .f32⟩
  | 123 => ⟨S4x2048x64, .f32⟩
  | 124 => ⟨S4x2048x64, .f32⟩
  | 125 => ⟨S_, .f32⟩
  | 126 => ⟨S64, .f32⟩
  | 127 => ⟨S1x1x64, .f32⟩
  | _ => ⟨S2048x1792, .f32⟩

abbrev hbmTy0_1 (i : Nat) : BufTy := match i % 128 with
  | 0 => ⟨S4x2048x64, .f32⟩
  | 1 => ⟨S4x2048x64, .f32⟩
  | 2 => ⟨S_, .f32⟩
  | 3 => ⟨S64, .f32⟩
  | 4 => ⟨S1x64, .f32⟩
  | 5 => ⟨S4x2048x64, .f32⟩
  | 6 => ⟨S_, .f32⟩
  | 7 => ⟨S4x2048, .f32⟩
  | 8 => ⟨S4x2048x1, .f32⟩
  | 9 => ⟨S4x2048x64, .f32⟩
  | 10 => ⟨S4x2048x64, .f32⟩
  | 11 => ⟨S4x2048x1, .f32⟩
  | 12 => ⟨S_, .f32⟩
  | 13 => ⟨S4x2048x1, .f32⟩
  | 14 => ⟨S4x2048x1, .f32⟩
  | 15 => ⟨S_, .f32⟩
  | 16 => ⟨S4x2048, .f32⟩
  | 17 => ⟨S4x2048x64, .f32⟩
  | 18 => ⟨S4x2048x64, .f32⟩
  | 19 => ⟨S4x2048x64, .f32⟩
  | 20 => ⟨S4x2048x64, .f32⟩
  | 21 => ⟨S4x2048x64, .f32⟩
  | 22 => ⟨S2048x4x64, .f32⟩
  | 23 => ⟨S2048x256, .f32⟩
  | 24 => ⟨S256x4x64, .f32⟩
  | 25 => ⟨S256x256, .f32⟩
  | 26 => ⟨S_, .f32⟩
  | 27 => ⟨S256x512, .f32⟩
  | 28 => ⟨S4x256x64, .f32⟩
  | 29 => ⟨S_, .f32⟩
  | 30 => ⟨S64, .f32⟩
  | 31 => ⟨S1x1x64, .f32⟩
  | 32 => ⟨S4x256x64, .f32⟩
  | 33 => ⟨S4x256x64, .f32⟩
  | 34 => ⟨S_, .f32⟩
  | 35 => ⟨S64, .f32⟩
  | 36 => ⟨S1x64, .f32⟩
  | 37 => ⟨S4x256x64, .f32⟩
  | 38 => ⟨S_, .f32⟩
  | 39 => ⟨S4x256, .f32⟩
  | 40 => ⟨S4x256x1, .f32⟩
  | 41 => ⟨S4x256x64, .f32⟩
  | 42 => ⟨S4x256x64, .f32⟩
  | 43 => ⟨S4x256x1, .f32⟩
  | 44 => ⟨S_, .f32⟩
  | 45 => ⟨S4x256x1, .f32⟩
  | 46 => ⟨S4x256x1, .f32⟩
  | 47 => ⟨S_, .f32⟩
  | 48 => ⟨S4x256, .f32⟩
  | 49 => ⟨S4x256x64, .f32⟩
  | 50 => ⟨S4x256x64, .f32⟩
  | 51 => ⟨S4x256x64, .f32⟩
  | 52 => ⟨S4x256x64, .f32⟩
  | 53 => ⟨S4x256x64, .f32⟩
  | 54 => ⟨S256x4x64, .f32⟩
  | 55 => ⟨S256x256, .f32⟩
  | 56 => ⟨S_, .f32⟩
  | 57 => ⟨S256x512, .f32⟩
  | 58 => ⟨S256x512, .f32⟩
  | 59 => ⟨S2048x256, .bf16⟩
  | _ => ⟨S2048x1792, .f32⟩

abbrev hbmTy (i : Nat) : BufTy := match i / 128 with
  | 0 => hbmTy0_0 i
  | 1 => hbmTy0_1 i
  | _ => ⟨S2048x1792, .f32⟩

abbrev bufTy : (tb : Table) → Fin (tcTables nBuf tb) → BufTy
  | .hbm, ⟨i, _⟩ => hbmTy i
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_cst_8 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_cst_11 : Ref sig .tc := ⟨.hbm, 69, rfl⟩
abbrev main_v52 : Ref sig .tc := ⟨.hbm, 70, rfl⟩
abbrev main_v53 : Ref sig .tc := ⟨.hbm, 71, rfl⟩
abbrev main_cst_12 : Ref sig .tc := ⟨.hbm, 72, rfl⟩
abbrev main_v54 : Ref sig .tc := ⟨.hbm, 73, rfl⟩
abbrev main_v55 : Ref sig .tc := ⟨.hbm, 74, rfl⟩
abbrev main_cst_13 : Ref sig .tc := ⟨.hbm, 75, rfl⟩
abbrev main_v56 : Ref sig .tc := ⟨.hbm, 76, rfl⟩
abbrev main_cst_14 : Ref sig .tc := ⟨.hbm, 77, rfl⟩
abbrev main_v57 : Ref sig .tc := ⟨.hbm, 78, rfl⟩
abbrev main_cst_15 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_16 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_17 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_18 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_19 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_20 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_21 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_22 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_23 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_cst_24 : Ref sig .tc := ⟨.hbm, 140, rfl⟩
abbrev main_v110 : Ref sig .tc := ⟨.hbm, 141, rfl⟩
abbrev main_v111 : Ref sig .tc := ⟨.hbm, 142, rfl⟩
abbrev main_cst_25 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_26 : Ref sig .tc := ⟨.hbm, 154, rfl⟩
abbrev main_v122 : Ref sig .tc := ⟨.hbm, 155, rfl⟩
abbrev main_v123 : Ref sig .tc := ⟨.hbm, 156, rfl⟩
abbrev main_cst_27 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_28 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_cst_29 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_cst_30 : Ref sig .tc := ⟨.hbm, 172, rfl⟩
abbrev main_v136 : Ref sig .tc := ⟨.hbm, 173, rfl⟩
abbrev main_v137 : Ref sig .tc := ⟨.hbm, 174, rfl⟩
abbrev main_cst_31 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_32 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩

abbrev nD : Nat := 1
abbrev τ : Topo := Topo.v7x

variable {F : FTy → Type} [FloatOps F]
-- ==== FfnF.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S1024x1024 : Shape := ⟨2, ![1024, 1024]⟩
abbrev S1x1024x352 : Shape := ⟨3, ![1, 1024, 352]⟩
abbrev S1x352x1024 : Shape := ⟨3, ![1, 352, 1024]⟩
abbrev S1024 : Shape := ⟨1, ![1024]⟩
abbrev S1024x1 : Shape := ⟨2, ![1024, 1]⟩
abbrev S1024x352 : Shape := ⟨2, ![1024, 352]⟩
abbrev S352x1024 : Shape := ⟨2, ![352, 1024]⟩

abbrev nBuf : Space → Nat
  | .hbm => 5
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x352, .bf16⟩
  | .hbm, ⟨3, _⟩ => ⟨S8x352x1024, .bf16⟩
  | .hbm, ⟨4, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x352, .bf16⟩
  | .local _ .vmem, ⟨4, _⟩ => ⟨S1x1024x352, .bf16⟩
  | .local _ .vmem, ⟨5, _⟩ => ⟨S1x1024x352, .bf16⟩
  | .local _ .vmem, ⟨6, _⟩ => ⟨S1x1024x352, .bf16⟩
  | .local _ .vmem, ⟨7, _⟩ => ⟨S1x352x1024, .bf16⟩
  | .local _ .vmem, ⟨8, _⟩ => ⟨S1x352x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_17 : BitVec 32 := 0#32
  let v24 : BitVec 1 := Scalar.cmpi .ne v23 c0_i32_17
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x352x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnFPlainIdeal.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S_ : Shape := ⟨0, ![]⟩
abbrev S2048 : Shape := ⟨1, ![2048]⟩
abbrev S2048x1 : Shape := ⟨2, ![2048, 1]⟩
abbrev S8x1024x352 : Shape := ⟨3, ![8, 1024, 352]⟩
abbrev S1024x8x352 : Shape := ⟨3, ![1024, 8, 352]⟩
abbrev S1024x2816 : Shape := ⟨2, ![1024, 2816]⟩
abbrev S2816x1024 : Shape := ⟨2, ![2816, 1024]⟩
abbrev S2048x2816 : Shape := ⟨2, ![2048, 2816]⟩

abbrev nBuf : Space → Nat
  | .hbm => 45
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x352, .bf16⟩
  | .hbm, ⟨3, _⟩ => ⟨S8x352x1024, .bf16⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S8x2048x352, .f32⟩
  | .hbm, ⟨20, _⟩ => ⟨S8x352x1024, .f32⟩
  | .hbm, ⟨21, _⟩ => ⟨S8x1024x352, .f32⟩
  | .hbm, ⟨22, _⟩ => ⟨S1024x8x352, .f32⟩
  | .hbm, ⟨23, _⟩ => ⟨S1024x2816, .f32⟩
  | .hbm, ⟨24, _⟩ => ⟨S8x1024x352, .f32⟩
  | .hbm, ⟨25, _⟩ => ⟨S1024x8x352, .f32⟩
  | .hbm, ⟨26, _⟩ => ⟨S1024x2816, .f32⟩
  | .hbm, ⟨27, _⟩ => ⟨S2816x1024, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S_, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== In.lean ====
abbrev S2048x1024 : Shape := ⟨2, ![2048, 1024]⟩
abbrev S8x1024x416 : Shape := ⟨3, ![8, 1024, 416]⟩
abbrev S2048x3328 : Shape := ⟨2, ![2048, 3328]⟩
abbrev S512x1024 : Shape := ⟨2, ![512, 1024]⟩
abbrev S512x3328 : Shape := ⟨2, ![512, 3328]⟩
abbrev S1x1024x416 : Shape := ⟨3, ![1, 1024, 416]⟩
abbrev S1024x416 : Shape := ⟨2, ![1024, 416]⟩
abbrev S512x416 : Shape := ⟨2, ![512, 416]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x416, .bf16⟩
  | .hbm, ⟨2, _⟩ => ⟨S2048x3328, .f32⟩
  | .local _ .vmem, ⟨0, _⟩ => ⟨S512x1024, .bf16⟩
  | .local _ .vmem, ⟨1, _⟩ => ⟨S512x1024, .bf16⟩
  | .local _ .vmem, ⟨2, _⟩ => ⟨S8x1024x416, .bf16⟩
  | .local _ .vmem, ⟨3, _⟩ => ⟨S512x3328, .f32⟩
  | .local _ .vmem, ⟨4, _⟩ => ⟨S512x3328, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x416 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InIdeal.lean ====
abbrev S2048x1024 : Shape := ⟨2, ![2048, 1024]⟩
abbrev S8x1024x416 : Shape := ⟨3, ![8, 1024, 416]⟩
abbrev S2048x3328 : Shape := ⟨2, ![2048, 3328]⟩
abbrev S512x1024 : Shape := ⟨2, ![512, 1024]⟩
abbrev S512x3328 : Shape := ⟨2, ![512, 3328]⟩
abbrev S1x1024x416 : Shape := ⟨3, ![1, 1024, 416]⟩
abbrev S1024x416 : Shape := ⟨2, ![1024, 416]⟩
abbrev S512x416 : Shape := ⟨2, ![512, 416]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x416, .bf16⟩
  | .hbm, ⟨2, _⟩ => ⟨S2048x3328, .f32⟩
  | .local _ .vmem, ⟨0, _⟩ => ⟨S512x1024, .bf16⟩
  | .local _ .vmem, ⟨1, _⟩ => ⟨S512x1024, .bf16⟩
  | .local _ .vmem, ⟨2, _⟩ => ⟨S8x1024x416, .bf16⟩
  | .local _ .vmem, ⟨3, _⟩ => ⟨S512x3328, .f32⟩
  | .local _ .vmem, ⟨4, _⟩ => ⟨S512x3328, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x416 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3328 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InPlainIdeal.lean ====
abbrev S2048x1024 : Shape := ⟨2, ![2048, 1024]⟩
abbrev S8x1024x416 : Shape := ⟨3, ![8, 1024, 416]⟩
abbrev S1024x8x416 : Shape := ⟨3, ![1024, 8, 416]⟩
abbrev S1024x3328 : Shape := ⟨2, ![1024, 3328]⟩
abbrev S2048x3328 : Shape := ⟨2, ![2048, 3328]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x416, .bf16⟩
  | .hbm, ⟨2, _⟩ => ⟨S2048x1024, .f32⟩
  | .hbm, ⟨3, _⟩ => ⟨S8x1024x416, .f32⟩
  | .hbm, ⟨4, _⟩ => ⟨S1024x8x416, .f32⟩
  | .hbm, ⟨5, _⟩ => ⟨S1024x3328, .f32⟩
  | .hbm, ⟨6, _⟩ => ⟨S2048x3328, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InH.lean ====
abbrev S2048x3328 : Shape := ⟨2, ![2048, 3328]⟩
abbrev S8x1024x416 : Shape := ⟨3, ![8, 1024, 416]⟩
abbrev S2048x1024 : Shape := ⟨2, ![2048, 1024]⟩
abbrev S512x3328 : Shape := ⟨2, ![512, 3328]⟩
abbrev S512x1024 : Shape := ⟨2, ![512, 1024]⟩
abbrev S512x416 : Shape := ⟨2, ![512, 416]⟩
abbrev S1x1024x416 : Shape := ⟨3, ![1, 1024, 416]⟩
abbrev S1024x416 : Shape := ⟨2, ![1024, 416]⟩

abbrev nBuf : Space → Nat
  | .hbm => 3
  | .vmem => 5
  | .smem => 0
  | _ => 0

abbrev bufTy : (tb : Table) → Fin (tcTables nBuf tb) → BufTy
  | .hbm, ⟨0, _⟩ => ⟨S2048x3328, .bf16⟩
  | .hbm, ⟨1, _⟩ => ⟨S8x1024x416, .bf16⟩
  | .hbm, ⟨2, _⟩ => ⟨S2048x1024, .f32⟩
  | .local _ .vmem, ⟨0, _⟩ => ⟨S512x3328, .bf16⟩
  | .local _ .vmem, ⟨1, _⟩ => ⟨S512x3328, .bf16⟩
  | .local _ .vmem, ⟨2, _⟩ => ⟨S8x1024x416, .bf16⟩
  | .local _ .vmem, ⟨3, _⟩ => ⟨S512x1024, .f32⟩
  | .local _ .vmem, ⟨4, _⟩ => ⟨S512x1024, .f32⟩
  | _, _ => ⟨S2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x416 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InHIdeal.lean ====
abbrev S2048x3328 : Shape := ⟨2, ![2048, 3328]⟩
abbrev S8x1024x416 : Shape := ⟨3, ![8, 1024, 416]⟩
abbrev S2048x1024 : Shape := ⟨2, ![2048, 1024]⟩
abbrev S512x3328 : Shape := ⟨2, ![512, 3328]⟩
abbrev S512x1024 : Shape := ⟨2, ![512, 1024]⟩
abbrev S512x416 : Shape := ⟨2, ![512, 416]⟩
abbrev S1x1024x416 : Shape := ⟨3, ![1, 1024, 416]⟩
abbrev S1024x416 : Shape := ⟨2, ![1024, 416]⟩

abbrev nBuf : Space → Nat
  | .hbm => 3
  | .vmem => 5
  | .smem => 0
  | _ => 0

abbrev bufTy : (tb : Table) → Fin (tcTables nBuf tb) → BufTy
  | .hbm, ⟨0, _⟩ => ⟨S2048x3328, .bf16⟩
  | .hbm, ⟨1, _⟩ => ⟨S8x1024x416, .bf16⟩
  | .hbm, ⟨2, _⟩ => ⟨S2048x1024, .f32⟩
  | .local _ .vmem, ⟨0, _⟩ => ⟨S512x3328, .bf16⟩
  | .local _ .vmem, ⟨1, _⟩ => ⟨S512x3328, .bf16⟩
  | .local _ .vmem, ⟨2, _⟩ => ⟨S8x1024x416, .bf16⟩
  | .local _ .vmem, ⟨3, _⟩ => ⟨S512x1024, .f32⟩
  | .local _ .vmem, ⟨4, _⟩ => ⟨S512x1024, .f32⟩
  | _, _ => ⟨S2048x3328, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3328 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x416 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InHPlainIdeal.lean ====
abbrev S2048x3328 : Shape := ⟨2, ![2048, 3328]⟩
abbrev S8x1024x416 : Shape := ⟨3, ![8, 1024, 416]⟩
abbrev S_ : Shape := ⟨0, ![]⟩
abbrev S2048x1024 : Shape := ⟨2, ![2048, 1024]⟩
abbrev S1024x8x416 : Shape := ⟨3, ![1024, 8, 416]⟩
abbrev S1024x3328 : Shape := ⟨2, ![1024, 3328]⟩

abbrev nBuf : Space → Nat
  | .hbm => 10
  | .vmem => 0
  | .smem => 0
  | _ => 0

abbrev bufTy : (tb : Table) → Fin (tcTables nBuf tb) → BufTy
  | .hbm, ⟨0, _⟩ => ⟨S2048x3328, .bf16⟩
  | .hbm, ⟨1, _⟩ => ⟨S8x1024x416, .bf16⟩
  | .hbm, ⟨2, _⟩ => ⟨S_, .f32⟩
  | .hbm, ⟨3, _⟩ => ⟨S2048x1024, .f32⟩
  | .hbm, ⟨4, _⟩ => ⟨S8x1024x416, .f32⟩
  | .hbm, ⟨5, _⟩ => ⟨S1024x8x416, .f32⟩
  | .hbm, ⟨6, _⟩ => ⟨S1024x3328, .f32⟩
  | .hbm, ⟨7, _⟩ => ⟨S2048x3328, .f32⟩
  | .hbm, ⟨8, _⟩ => ⟨S2048x3328, .f32⟩
  | .hbm, ⟨9, _⟩ => ⟨S2048x1024, .f32⟩
  | _, _ => ⟨S2048x3328, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InW.lean ====
abbrev S2048x1024 : Shape := ⟨2, ![2048, 1024]⟩
abbrev S2048x3328 : Shape := ⟨2, ![2048, 3328]⟩
abbrev S8x1024x416 : Shape := ⟨3, ![8, 1024, 416]⟩
abbrev S2048x512 : Shape := ⟨2, ![2048, 512]⟩
abbrev S8x512x416 : Shape := ⟨3, ![8, 512, 416]⟩
abbrev S2048x416 : Shape := ⟨2, ![2048, 416]⟩
abbrev S512x416 : Shape := ⟨2, ![512, 416]⟩
abbrev S1x512x416 : Shape := ⟨3, ![1, 512, 416]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3328, .bf16⟩
  | .hbm, ⟨2, _⟩ => ⟨S8x1024x416, .bf16⟩
  | .hbm, ⟨3, _⟩ => ⟨S8x1024x416, .bf16⟩
  | .local _ .vmem, ⟨0, _⟩ => ⟨S2048x512, .bf16⟩
  | .local _ .vmem, ⟨1, _⟩ => ⟨S2048x512, .bf16⟩
  | .local _ .vmem, ⟨2, _⟩ => ⟨S2048x3328, .bf16⟩
  | .local _ .vmem, ⟨3, _⟩ => ⟨S8x512x416, .bf16⟩
  | .local _ .vmem, ⟨4, _⟩ => ⟨S8x512x416, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x416 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWIdeal.lean ====
abbrev S2048x1024 : Shape := ⟨2, ![2048, 1024]⟩
abbrev S2048x3328 : Shape := ⟨2, ![2048, 3328]⟩
abbrev S8x1024x416 : Shape := ⟨3, ![8, 1024, 416]⟩
abbrev S2048x512 : Shape := ⟨2, ![2048, 512]⟩
abbrev S8x512x416 : Shape := ⟨3, ![8, 512, 416]⟩
abbrev S2048x416 : Shape := ⟨2, ![2048, 416]⟩
abbrev S512x416 : Shape := ⟨2, ![512, 416]⟩
abbrev S1x512x416 : Shape := ⟨3, ![1, 512, 416]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x3328, .bf16⟩
  | .hbm, ⟨2, _⟩ => ⟨S8x1024x416, .bf16⟩
  | .hbm, ⟨3, _⟩ => ⟨S8x1024x416, .bf16⟩
  | .local _ .vmem, ⟨0, _⟩ => ⟨S2048x512, .bf16⟩
  | .local _ .vmem, ⟨1, _⟩ => ⟨S2048x512, .bf16⟩
  | .local _ .vmem, ⟨2, _⟩ => ⟨S2048x3328, .bf16⟩
  | .local _ .vmem, ⟨3, _⟩ => ⟨S8x512x416, .bf16⟩
  | .local _ .vmem, ⟨4, _⟩ => ⟨S8x512x416, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x3328 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x416 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InWPlainIdeal.lean ====
abbrev S2048x1024 : Shape := ⟨2, ![2048, 1024]⟩
abbrev S2048x3328 : Shape := ⟨2, ![2048, 3328]⟩
abbrev S8x1024x416 : Shape := ⟨3, ![8, 1024, 416]⟩
abbrev S1024x8x416 : Shape := ⟨3, ![1024, 8, 416]⟩
abbrev S1024x3328 : Shape := ⟨2, ![1024, 3328]⟩
abbrev S3328x1024 : Shape := ⟨2, ![3328, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x3328, .bf16⟩
  | .hbm, ⟨2, _⟩ => ⟨S8x1024x416, .bf16⟩
  | .hbm, ⟨3, _⟩ => ⟨S2048x1024, .f32⟩
  | .hbm, ⟨4, _⟩ => ⟨S8x1024x416, .f32⟩
  | .hbm, ⟨5, _⟩ => ⟨S1024x8x416, .f32⟩
  | .hbm, ⟨6, _⟩ => ⟨S1024x3328, .f32⟩
  | .hbm, ⟨7, _⟩ => ⟨S2048x3328, .f32⟩
  | .hbm, ⟨8, _⟩ => ⟨S2048x3328, .f32⟩
  | .hbm, ⟨9, _⟩ => ⟨S3328x1024, .f32⟩
  | .hbm, ⟨10, _⟩ => ⟨S1024x3328, .f32⟩
  | .hbm, ⟨11, _⟩ => ⟨S1024x8x416, .f32⟩
  | .hbm, ⟨12, _⟩ => ⟨S8x1024x416, .f32⟩
  | .hbm, ⟨13, _⟩ => ⟨S8x1024x416, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== InN.lean ====
abbrev S2048x1024 : Shape := ⟨2, ![2048, 1024]⟩
abbrev S8x1024x224 : Shape := ⟨3, ![8, 1024, 224]⟩
abbrev S2048x1792 : Shape := ⟨2, ![2048, 1792]⟩
abbrev S512x1024 : Shape := ⟨2, ![512, 1024]⟩
abbrev S512x1792 : Shape := ⟨2, ![512, 1792]⟩
abbrev S1x1024x224 : Shape := ⟨3, ![1, 1024, 224]⟩
abbrev S1024x224 : Shape := ⟨2, ![1024, 224]⟩
abbrev S512x224 : Shape := ⟨2, ![512, 224]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S8x1024x224, .bf16⟩
  | .hbm, ⟨2, _⟩ => ⟨S2048x1792, .f32⟩
  | .local _ .vmem, ⟨0, _⟩ => ⟨S512x1024, .bf16⟩
  | .local _ .vmem, ⟨1, _⟩ => ⟨S512x1024, .bf16⟩
  | .local _ .vmem, ⟨2, _⟩ => ⟨S8x1024x224, .bf16⟩
  | .local _ .vmem, ⟨3, _⟩ => ⟨S512x1792, .f32⟩
  | .local _ .vmem, ⟨4, _⟩ => ⟨S512x1792, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InNPlainIdeal.lean ====
abbrev S2048x1024 : Shape := ⟨2, ![2048, 1024]⟩
abbrev S8x1024x224 : Shape := ⟨3, ![8, 1024, 224]⟩
abbrev S1024x8x224 : Shape := ⟨3, ![1024, 8, 224]⟩
abbrev S1024x1792 : Shape := ⟨2, ![1024, 1792]⟩
abbrev S2048x1792 : Shape := ⟨2, ![2048, 1792]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S8x1024x224, .bf16⟩
  | .hbm, ⟨2, _⟩ => ⟨S2048x1024, .f32⟩
  | .hbm, ⟨3, _⟩ => ⟨S8x1024x224, .f32⟩
  | .hbm, ⟨4, _⟩ => ⟨S1024x8x224, .f32⟩
  | .hbm, ⟨5, _⟩ => ⟨S1024x1792, .f32⟩
  | .hbm, ⟨6, _⟩ => ⟨S2048x1792, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== InNH.lean ====
abbrev S2048x1792 : Shape := ⟨2, ![2048, 1792]⟩
abbrev S8x1024x224 : Shape := ⟨3, ![8, 1024, 224]⟩
abbrev S2048x1024 : Shape := ⟨2, ![2048, 1024]⟩
abbrev S512x1792 : Shape := ⟨2, ![512, 1792]⟩
abbrev S512x1024 : Shape := ⟨2, ![512, 1024]⟩
abbrev S512x224 : Shape := ⟨2, ![512, 224]⟩
abbrev S1x1024x224 : Shape := ⟨3, ![1, 1024, 224]⟩
abbrev S1024x224 : Shape := ⟨2, ![1024, 224]⟩

abbrev nBuf : Space → Nat
  | .hbm => 3
  | .vmem => 5
  | .smem => 0
  | _ => 0

abbrev bufTy : (tb : Table) → Fin (tcTables nBuf tb) → BufTy
  | .hbm, ⟨0, _⟩ => ⟨S2048x1792, .bf16⟩
  | .hbm, ⟨1, _⟩ => ⟨S8x1024x224, .bf16⟩
  | .hbm, ⟨2, _⟩ => ⟨S2048x1024, .f32⟩
  | .local _ .vmem, ⟨0, _⟩ => ⟨S512x1792, .bf16⟩
  | .local _ .vmem, ⟨1, _⟩ => ⟨S512x1792, .bf16⟩
  | .local _ .vmem, ⟨2, _⟩ => ⟨S8x1024x224, .bf16⟩
  | .local _ .vmem, ⟨3, _⟩ => ⟨S512x1024, .f32⟩
  | .local _ .vmem, ⟨4, _⟩ => ⟨S512x1024, .f32⟩
  | _, _ => ⟨S2048x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x224 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InNHPlainIdeal.lean ====
abbrev S2048x1792 : Shape := ⟨2, ![2048, 1792]⟩
abbrev S8x1024x224 : Shape := ⟨3, ![8, 1024, 224]⟩
abbrev S_ : Shape := ⟨0, ![]⟩
abbrev S2048x1024 : Shape := ⟨2, ![2048, 1024]⟩
abbrev S1024x8x224 : Shape := ⟨3, ![1024, 8, 224]⟩
abbrev S1024x1792 : Shape := ⟨2, ![1024, 1792]⟩

abbrev nBuf : Space → Nat
  | .hbm => 10
  | .vmem => 0
  | .smem => 0
  | _ => 0

abbrev bufTy : (tb : Table) → Fin (tcTables nBuf tb) → BufTy
  | .hbm, ⟨0, _⟩ => ⟨S2048x1792, .bf16⟩
  | .hbm, ⟨1, _⟩ => ⟨S8x1024x224, .bf16⟩
  | .hbm, ⟨2, _⟩ => ⟨S_, .f32⟩
  | .hbm, ⟨3, _⟩ => ⟨S2048x1024, .f32⟩
  | .hbm, ⟨4, _⟩ => ⟨S8x1024x224, .f32⟩
  | .hbm, ⟨5, _⟩ => ⟨S1024x8x224, .f32⟩
  | .hbm, ⟨6, _⟩ => ⟨S1024x1792, .f32⟩
  | .hbm, ⟨7, _⟩ => ⟨S2048x1792, .f32⟩
  | .hbm, ⟨8, _⟩ => ⟨S2048x1792, .f32⟩
  | .hbm, ⟨9, _⟩ => ⟨S2048x1024, .f32⟩
  | _, _ => ⟨S2048x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InNW.lean ====
abbrev S2048x1024 : Shape := ⟨2, ![2048, 1024]⟩
abbrev S2048x1792 : Shape := ⟨2, ![2048, 1792]⟩
abbrev S8x1024x224 : Shape := ⟨3, ![8, 1024, 224]⟩
abbrev S2048x512 : Shape := ⟨2, ![2048, 512]⟩
abbrev S8x512x224 : Shape := ⟨3, ![8, 512, 224]⟩
abbrev S2048x224 : Shape := ⟨2, ![2048, 224]⟩
abbrev S512x224 : Shape := ⟨2, ![512, 224]⟩
abbrev S1x512x224 : Shape := ⟨3, ![1, 512, 224]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x1792, .bf16⟩
  | .hbm, ⟨2, _⟩ => ⟨S8x1024x224, .bf16⟩
  | .hbm, ⟨3, _⟩ => ⟨S8x1024x224, .bf16⟩
  | .local _ .vmem, ⟨0, _⟩ => ⟨S2048x512, .bf16⟩
  | .local _ .vmem, ⟨1, _⟩ => ⟨S2048x512, .bf16⟩
  | .local _ .vmem, ⟨2, _⟩ => ⟨S2048x1792, .bf16⟩
  | .local _ .vmem, ⟨3, _⟩ => ⟨S8x512x224, .bf16⟩
  | .local _ .vmem, ⟨4, _⟩ => ⟨S8x512x224, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1792 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512x224 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InNWPlainIdeal.lean ====
abbrev S2048x1024 : Shape := ⟨2, ![2048, 1024]⟩
abbrev S2048x1792 : Shape := ⟨2, ![2048, 1792]⟩
abbrev S8x1024x224 : Shape := ⟨3, ![8, 1024, 224]⟩
abbrev S1024x8x224 : Shape := ⟨3, ![1024, 8, 224]⟩
abbrev S1024x1792 : Shape := ⟨2, ![1024, 1792]⟩
abbrev S1792x1024 : Shape := ⟨2, ![1792, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1792, .bf16⟩
  | .hbm, ⟨2, _⟩ => ⟨S8x1024x224, .bf16⟩
  | .hbm, ⟨3, _⟩ => ⟨S2048x1024, .f32⟩
  | .hbm, ⟨4, _⟩ => ⟨S8x1024x224, .f32⟩
  | .hbm, ⟨5, _⟩ => ⟨S1024x8x224, .f32⟩
  | .hbm, ⟨6, _⟩ => ⟨S1024x1792, .f32⟩
  | .hbm, ⟨7, _⟩ => ⟨S2048x1792, .f32⟩
  | .hbm, ⟨8, _⟩ => ⟨S2048x1792, .f32⟩
  | .hbm, ⟨9, _⟩ => ⟨S1792x1024, .f32⟩
  | .hbm, ⟨10, _⟩ => ⟨S1024x1792, .f32⟩
  | .hbm, ⟨11, _⟩ => ⟨S1024x8x224, .f32⟩
  | .hbm, ⟨12, _⟩ => ⟨S8x1024x224, .f32⟩
  | .hbm, ⟨13, _⟩ => ⟨S8x1024x224, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Out.lean ====
abbrev S2048x1024 : Shape := ⟨2, ![2048, 1024]⟩
abbrev S2048x768 : Shape := ⟨2, ![2048, 768]⟩
abbrev S2048x256 : Shape := ⟨2, ![2048, 256]⟩
abbrev S1024x1024 : Shape := ⟨2, ![1024, 1024]⟩
abbrev S768x1024 : Shape := ⟨2, ![768, 1024]⟩
abbrev S256x1024 : Shape := ⟨2, ![256, 1024]⟩
abbrev S512x768 : Shape := ⟨2, ![512, 768]⟩
abbrev S768x512 : Shape := ⟨2, ![768, 512]⟩
abbrev S512x256 : Shape := ⟨2, ![512, 256]⟩
abbrev S256x512 : Shape := ⟨2, ![256, 512]⟩
abbrev S512x512 : Shape := ⟨2, ![512, 512]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S2048x256, .f32⟩
  | .hbm, ⟨3, _⟩ => ⟨S1024x1024, .bf16⟩
  | .hbm, ⟨4, _⟩ => ⟨S768x1024, .bf16⟩
  | .hbm, ⟨5, _⟩ => ⟨S256x1024, .bf16⟩
  | .hbm, ⟨6, _⟩ => ⟨S2048x1024, .f32⟩
  | .local _ .vmem, ⟨0, _⟩ => ⟨S512x768, .f32⟩
  | .local _ .vmem, ⟨1, _⟩ => ⟨S512x768, .f32⟩
  | .local _ .vmem, ⟨2, _⟩ => ⟨S768x512, .bf16⟩
  | .local _ .vmem, ⟨3, _⟩ => ⟨S768x512, .bf16⟩
  | .local _ .vmem, ⟨4, _⟩ => ⟨S512x256, .f32⟩
  | .local _ .vmem, ⟨5, _⟩ => ⟨S512x256, .f32⟩
  | .local _ .vmem, ⟨6, _⟩ => ⟨S256x512, .bf16⟩
  | .local _ .vmem, ⟨7, _⟩ => ⟨S256x512, .bf16⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutPlainIdeal.lean ====
abbrev S2048x1024 : Shape := ⟨2, ![2048, 1024]⟩
abbrev S2048x768 : Shape := ⟨2, ![2048, 768]⟩
abbrev S2048x256 : Shape := ⟨2, ![2048, 256]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x768, .f32⟩
  | .hbm, ⟨2, _⟩ => ⟨S2048x256, .f32⟩
  | .hbm, ⟨3, _⟩ => ⟨S1024x1024, .bf16⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== OutH.lean ====
abbrev S2048x1024 : Shape := ⟨2, ![2048, 1024]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutHPlainIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .bf16⟩
  | .hbm, ⟨2, _⟩ => ⟨S_, .f32⟩
  | .hbm, ⟨3, _⟩ => ⟨S2048x1024, .f32⟩
  | .hbm, ⟨4, _⟩ => ⟨S1024x1024, .f32⟩
  | .hbm, ⟨5, _⟩ => ⟨S2048x1024, .f32⟩
  | .hbm, ⟨6, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutA.lean ====
abbrev S2048x768 : Shape := ⟨2, ![2048, 768]⟩
abbrev S2048x1024 : Shape := ⟨2, ![2048, 1024]⟩
abbrev S768x1024 : Shape := ⟨2, ![768, 1024]⟩
abbrev S2048x384 : Shape := ⟨2, ![2048, 384]⟩
abbrev S2048x512 : Shape := ⟨2, ![2048, 512]⟩
abbrev S384x512 : Shape := ⟨2, ![384, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S768x1024, .bf16⟩
  | .local _ .vmem, ⟨0, _⟩ => ⟨S2048x384, .f32⟩
  | .local _ .vmem, ⟨1, _⟩ => ⟨S2048x384, .f32⟩
  | .local _ .vmem, ⟨2, _⟩ => ⟨S2048x512, .f32⟩
  | .local _ .vmem, ⟨3, _⟩ => ⟨S2048x512, .f32⟩
  | .local _ .vmem, ⟨4, _⟩ => ⟨S384x512, .bf16⟩
  | .local _ .vmem, ⟨5, _⟩ => ⟨S384x512, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAIdeal.lean ====
abbrev S2048x768 : Shape := ⟨2, ![2048, 768]⟩
abbrev S2048x1024 : Shape := ⟨2, ![2048, 1024]⟩
abbrev S768x1024 : Shape := ⟨2, ![768, 1024]⟩
abbrev S2048x384 : Shape := ⟨2, ![2048, 384]⟩
abbrev S2048x512 : Shape := ⟨2, ![2048, 512]⟩
abbrev S384x512 : Shape := ⟨2, ![384, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S768x1024, .bf16⟩
  | .local _ .vmem, ⟨0, _⟩ => ⟨S2048x384, .f32⟩
  | .local _ .vmem, ⟨1, _⟩ => ⟨S2048x384, .f32⟩
  | .local _ .vmem, ⟨2, _⟩ => ⟨S2048x512, .f32⟩
  | .local _ .vmem, ⟨3, _⟩ => ⟨S2048x512, .f32⟩
  | .local _ .vmem, ⟨4, _⟩ => ⟨S384x512, .bf16⟩
  | .local _ .vmem, ⟨5, _⟩ => ⟨S384x512, .bf16⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S384x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutAPlainIdeal.lean ====
abbrev S2048x768 : Shape := ⟨2, ![2048, 768]⟩
abbrev S2048x1024 : Shape := ⟨2, ![2048, 1024]⟩
abbrev S_ : Shape := ⟨0, ![]⟩
abbrev S768x1024 : Shape := ⟨2, ![768, 1024]⟩
abbrev S1024x768 : Shape := ⟨2, ![1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x1024, .f32⟩
  | .hbm, ⟨2, _⟩ => ⟨S_, .bf16⟩
  | .hbm, ⟨3, _⟩ => ⟨S768x1024, .bf16⟩
  | .hbm, ⟨4, _⟩ => ⟨S768x1024, .f32⟩
  | .hbm, ⟨5, _⟩ => ⟨S2048x1024, .f32⟩
  | .hbm, ⟨6, _⟩ => ⟨S1024x768, .f32⟩
  | .hbm, ⟨7, _⟩ => ⟨S768x1024, .f32⟩
  | .hbm, ⟨8, _⟩ => ⟨S768x1024, .bf16⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutB.lean ====
abbrev S2048x256 : Shape := ⟨2, ![2048, 256]⟩
abbrev S2048x1024 : Shape := ⟨2, ![2048, 1024]⟩
abbrev S256x1024 : Shape := ⟨2, ![256, 1024]⟩
abbrev S2048x512 : Shape := ⟨2, ![2048, 512]⟩
abbrev S256x512 : Shape := ⟨2, ![256, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S256x1024, .bf16⟩
  | .local _ .vmem, ⟨0, _⟩ => ⟨S2048x256, .f32⟩
  | .local _ .vmem, ⟨1, _⟩ => ⟨S2048x512, .f32⟩
  | .local _ .vmem, ⟨2, _⟩ => ⟨S2048x512, .f32⟩
  | .local _ .vmem, ⟨3, _⟩ => ⟨S256x512, .bf16⟩
  | .local _ .vmem, ⟨4, _⟩ => ⟨S256x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S2048x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBPlainIdeal.lean ====
abbrev S2048x256 : Shape := ⟨2, ![2048, 256]⟩
abbrev S2048x1024 : Shape := ⟨2, ![2048, 1024]⟩
abbrev S_ : Shape := ⟨0, ![]⟩
abbrev S256x1024 : Shape := ⟨2, ![256, 1024]⟩
abbrev S1024x256 : Shape := ⟨2, ![1024, 256]⟩

abbrev nBuf : Space → Nat
  | .hbm => 9
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x1024, .f32⟩
  | .hbm, ⟨2, _⟩ => ⟨S_, .bf16⟩
  | .hbm, ⟨3, _⟩ => ⟨S256x1024, .bf16⟩
  | .hbm, ⟨4, _⟩ => ⟨S256x1024, .f32⟩
  | .hbm, ⟨5, _⟩ => ⟨S2048x1024, .f32⟩
  | .hbm, ⟨6, _⟩ => ⟨S1024x256, .f32⟩
  | .hbm, ⟨7, _⟩ => ⟨S256x1024, .f32⟩
  | .hbm, ⟨8, _⟩ => ⟨S256x1024, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kv.lean ====
abbrev S2048x1024 : Shape := ⟨2, ![2048, 1024]⟩
abbrev S1024x2048 : Shape := ⟨2, ![1024, 2048]⟩
abbrev S2048x2048 : Shape := ⟨2, ![2048, 2048]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvPlainIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvH.lean ====
abbrev S2048x2048 : Shape := ⟨2, ![2048, 2048]⟩
abbrev S1024x2048 : Shape := ⟨2, ![1024, 2048]⟩
abbrev S2048x1024 : Shape := ⟨2, ![2048, 1024]⟩
abbrev S512x2048 : Shape := ⟨2, ![512, 2048]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S2048x1024, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .f32⟩
  | .local _ .vmem, ⟨5, _⟩ => ⟨S512x512, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvHPlainIdeal.lean ====
abbrev S2048x2048 : Shape := ⟨2, ![2048, 2048]⟩
abbrev S1024x2048 : Shape := ⟨2, ![1024, 2048]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S1024x2048, .bf16⟩
  | .hbm, ⟨2, _⟩ => ⟨S_, .f32⟩
  | .hbm, ⟨3, _⟩ => ⟨S2048x1024, .f32⟩
  | .hbm, ⟨4, _⟩ => ⟨S1024x2048, .f32⟩
  | .hbm, ⟨5, _⟩ => ⟨S2048x2048, .f32⟩
  | .hbm, ⟨6, _⟩ => ⟨S2048x2048, .f32⟩
  | .hbm, ⟨7, _⟩ => ⟨S2048x1024, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== KvW.lean ====
abbrev S2048x1024 : Shape := ⟨2, ![2048, 1024]⟩
abbrev S2048x2048 : Shape := ⟨2, ![2048, 2048]⟩
abbrev S1024x2048 : Shape := ⟨2, ![1024, 2048]⟩
abbrev S2048x512 : Shape := ⟨2, ![2048, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S1024x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S512x512, .bf16⟩
  | .local _ .vmem, ⟨5, _⟩ => ⟨S512x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvWPlainIdeal.lean ====
abbrev S2048x1024 : Shape := ⟨2, ![2048, 1024]⟩
abbrev S2048x2048 : Shape := ⟨2, ![2048, 2048]⟩
abbrev S_ : Shape := ⟨0, ![]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S_, .bf16⟩
  | .hbm, ⟨3, _⟩ => ⟨S1024x2048, .bf16⟩
  | .hbm, ⟨4, _⟩ => ⟨S2048x1024, .f32⟩
  | .hbm, ⟨5, _⟩ => ⟨S1024x2048, .f32⟩
  | .hbm, ⟨6, _⟩ => ⟨S2048x2048, .f32⟩
  | .hbm, ⟨7, _⟩ => ⟨S2048x2048, .f32⟩
  | .hbm, ⟨8, _⟩ => ⟨S2048x1024, .f32⟩
  | .hbm, ⟨9, _⟩ => ⟨S1024x2048, .f32⟩
  | .hbm, ⟨10, _⟩ => ⟨S1024x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnA.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S512x1024 : Shape := ⟨2, ![512, 1024]⟩
abbrev S1x1024x352 : Shape := ⟨3, ![1, 1024, 352]⟩
abbrev S1x352x1024 : Shape := ⟨3, ![1, 352, 1024]⟩
abbrev S1x512x352 : Shape := ⟨3, ![1, 512, 352]⟩
abbrev S512 : Shape := ⟨1, ![512]⟩
abbrev S512x1 : Shape := ⟨2, ![512, 1]⟩
abbrev S1024x352 : Shape := ⟨2, ![1024, 352]⟩
abbrev S512x352 : Shape := ⟨2, ![512, 352]⟩
abbrev S352x1024 : Shape := ⟨2, ![352, 1024]⟩
abbrev S1024 : Shape := ⟨1, ![1024]⟩

abbrev nBuf : Space → Nat
  | .hbm => 11
  | .vmem => 23
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x352, .bf16⟩
  | .hbm, ⟨3, _⟩ => ⟨S8x352x1024, .bf16⟩
  | .hbm, ⟨4, _⟩ => ⟨S2048x1024, .f32⟩
  | .hbm, ⟨5, _⟩ => ⟨S2048x1024, .f32⟩
  | .hbm, ⟨6, _⟩ => ⟨S1x1024, .f32⟩
  | .hbm, ⟨7, _⟩ => ⟨S2048x1024, .bf16⟩
  | .hbm, ⟨8, _⟩ => ⟨S8x2048x352, .bf16⟩
  | .hbm, ⟨9, _⟩ => ⟨S8x2048x352, .bf16⟩
  | .hbm, ⟨10, _⟩ => ⟨S8x2048x352, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024x352, .bf16⟩
  | .local _ .vmem, ⟨6, _⟩ => ⟨S1x1024x352, .bf16⟩
  | .local _ .vmem, ⟨7, _⟩ => ⟨S1x1024x352, .bf16⟩
  | .local _ .vmem, ⟨8, _⟩ => ⟨S1x1024x352, .bf16⟩
  | .local _ .vmem, ⟨9, _⟩ => ⟨S1x352x1024, .bf16⟩
  | .local _ .vmem, ⟨10, _⟩ => ⟨S1x352x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x512x352, .bf16⟩
  | .local _ .vmem, ⟨17, _⟩ => ⟨S1x512x352, .bf16⟩
  | .local _ .vmem, ⟨18, _⟩ => ⟨S1x512x352, .bf16⟩
  | .local _ .vmem, ⟨19, _⟩ => ⟨S1x512x352, .bf16⟩
  | .local _ .vmem, ⟨20, _⟩ => ⟨S1x512x352, .bf16⟩
  | .local _ .vmem, ⟨21, _⟩ => ⟨S1x512x352, .bf16⟩
  | .local _ .vmem, ⟨22, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![4, 8], ![false, false]⟩

def k0_cond3 (i : grid0.Coords) : BitVec 1 :=
  let arg1 : BitVec 32 := BitVec.ofNat 32 (i 1).val
  let c7_i32 : BitVec 32 := 7#32
  let v57 : BitVec 1 := Scalar.cmpi .eq arg1 c7_i32
  let v58 : BitVec 32 := Scalar.extui v57
  let c0_i32_41 : BitVec 32 := 0#32
  let v59 : BitVec 1 := Scalar.cmpi .ne v58 c0_i32_41
  v59

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![arg1.toNat, c1_i32.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x352x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512x352 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x352 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x352 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== FfnAPlainIdeal.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S8x1024x352 : Shape := ⟨3, ![8, 1024, 352]⟩
abbrev S1024x8x352 : Shape := ⟨3, ![1024, 8, 352]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S1024 : Shape := ⟨1, ![1024]⟩
abbrev S2048x8x352 : Shape := ⟨3, ![2048, 8, 352]⟩

abbrev nBuf : Space → Nat
  | .hbm => 166
  | .vmem => 0
  | .smem => 0
  | _ => 0

abbrev hbmTy0_0 (i : Nat) : BufTy := match i % 128 with
  | 0 => ⟨S2048x1024, .f32⟩
  | 1 => ⟨S1x1024, .f32⟩
  | 2 => ⟨S8x2048x352, .bf16⟩
  | 3 => ⟨S8x352x1024, .bf16⟩
  | 4 => ⟨S2048x1024, .f32⟩
  | 5 => ⟨S8x2048x352, .f32⟩
  | 6 => ⟨S8x352x1024, .f32⟩
  | 7 => ⟨S8x1024x352, .f32⟩
  | 8 => ⟨S1024x8x352, .f32⟩
  | 9 => ⟨S1024x2816, .f32⟩
  | 10 => ⟨S8x1024x352, .f32⟩
  | 11 => ⟨S1024x8x352, .f32⟩
  | 12 => ⟨S1024x2816, .f32⟩
  | 13 => ⟨S2816x1024, .f32⟩
  | 14 => ⟨S2048x1024, .f32⟩
  | 15 => ⟨S_, .f32⟩
  | 16 => ⟨S2048, .f32⟩
  | 17 => ⟨S2048x1, .f32⟩
  | 18 => ⟨S_, .f32⟩
  | 19 => ⟨S2048x1, .f32⟩
  | 20 => ⟨S2048x1, .f32⟩
  | 21 => ⟨S_, .f32⟩
  | 22 => ⟨S2048x1, .f32⟩
  | 23 => ⟨S2048x1, .f32⟩
  | 24 => ⟨S2048x1, .f32⟩
  | 25 => ⟨S2048x1, .f32⟩
  | 26 => ⟨S_, .f32⟩
  | 27 => ⟨S2048x1, .f32⟩
  | 28 => ⟨S2048x1, .f32⟩
  | 29 => ⟨S2048x1024, .f32⟩
  | 30 => ⟨S2048x1024, .f32⟩
  | 31 => ⟨S2048x1024, .f32⟩
  | 32 => ⟨S2048x1024, .f32⟩
  | 33 => ⟨S2048x2816, .f32⟩
  | 34 => ⟨S2048x2816, .f32⟩
  | 35 => ⟨S2048x2816, .f32⟩
  | 36 => ⟨S_, .f32⟩
  | 37 => ⟨S2048x2816, .f32⟩
  | 38 => ⟨S2048x2816, .f32⟩
  | 39 => ⟨S_, .f32⟩
  | 40 => ⟨S2048x2816, .f32⟩
  | 41 => ⟨S2048x2816, .f32⟩
  | 42 => ⟨S_, .f32⟩
  | 43 => ⟨S2048x2816, .f32⟩
  | 44 => ⟨S2048x2816, .f32⟩
  | 45 => ⟨S2048x2816, .f32⟩
  | 46 => ⟨S2048x2816, .f32⟩
  | 47 => ⟨S2048x2816, .f32⟩
  | 48 => ⟨S2048x2816, .f32⟩
  | 49 => ⟨S2048x1024, .f32⟩
  | 50 => ⟨S_, .f32⟩
  | 51 => ⟨S2048x1024, .f32⟩
  | 52 => ⟨S2048x1024, .f32⟩
  | 53 => ⟨S2048x1024, .f32⟩
  | 54 => ⟨S2048x1024, .f32⟩
  | 55 => ⟨S_, .f32⟩
  | 56 => ⟨S2048x1024, .f32⟩
  | 57 => ⟨S2048x1024, .f32⟩
  | 58 => ⟨S2048x2816, .f32⟩
  | 59 => ⟨S2048x2816, .f32⟩
  | 60 => ⟨S2048x2816, .f32⟩
  | 61 => ⟨S2048x1024, .f32⟩
  | 62 => ⟨S2048x2816, .f32⟩
  | 63 => ⟨S2048x2816, .f32⟩
  | 64 => ⟨S2048x2816, .f32⟩
  | 65 => ⟨S2048x2816, .f32⟩
  | 66 => ⟨S2048x1024, .f32⟩
  | 67 => ⟨S2048x1024, .f32⟩
  | 68 => ⟨S2048x1024, .f32⟩
  | 69 => ⟨S_, .f32⟩
  | 70 => ⟨S1024, .f32⟩
  | 71 => ⟨S1x1024, .f32⟩
  | 72 => ⟨S2048x1024, .f32⟩
  | 73 => ⟨S2048x1024, .f32⟩
  | 74 => ⟨S2048x1024, .f32⟩
  | 75 => ⟨S_, .f32⟩
  | 76 => ⟨S2048, .f32⟩
  | 77 => ⟨S2048x1, .f32⟩
  | 78 => ⟨S2048x1024, .f32⟩
  | 79 => ⟨S2048x1024, .f32⟩
  | 80 => ⟨S2048x1024, .f32⟩
  | 81 => ⟨S2048x1, .f32⟩
  | 82 => ⟨S_, .f32⟩
  | 83 => ⟨S2048x1, .f32⟩
  | 84 => ⟨S2048x1, .f32⟩
  | 85 => ⟨S_, .f32⟩
  | 86 => ⟨S2048, .f32⟩
  | 87 => ⟨S2048x1024, .f32⟩
  | 88 => ⟨S2048x1024, .f32⟩
  | 89 => ⟨S2048x1024, .f32⟩
  | 90 => ⟨S2048x1024, .f32⟩
  | 91 => ⟨S2048x1024, .f32⟩
  | 92 => ⟨S8x2048x352, .f32⟩
  | 93 => ⟨S8x352x1024, .f32⟩
  | 94 => ⟨S8x1024x352, .f32⟩
  | 95 => ⟨S1024x8x352, .f32⟩
  | 96 => ⟨S1024x2816, .f32⟩
  | 97 => ⟨S8x1024x352, .f32⟩
  | 98 => ⟨S1024x8x352, .f32⟩
  | 99 => ⟨S1024x2816, .f32⟩
  | 100 => ⟨S2816x1024, .f32⟩
  | 101 => ⟨S2048x1024, .f32⟩
  | 102 => ⟨S_, .f32⟩
  | 103 => ⟨S2048, .f32⟩
  | 104 => ⟨S2048x1, .f32⟩
  | 105 => ⟨S_, .f32⟩
  | 106 => ⟨S2048x1, .f32⟩
  | 107 => ⟨S2048x1, .f32⟩
  | 108 => ⟨S_, .f32⟩
  | 109 => ⟨S2048x1, .f32⟩
  | 110 => ⟨S2048x1, .f32⟩
  | 111 => ⟨S2048x1, .f32⟩
  | 112 => ⟨S2048x1024, .f32⟩
  | 113 => ⟨S2048x1024, .f32⟩
  | 114 => ⟨S2048x1024, .f32⟩
  | 115 => ⟨S2048x1024, .f32⟩
  | 116 => ⟨S2048x2816, .f32⟩
  | 117 => ⟨S2048x2816, .f32⟩
  | 118 => ⟨S2048x2816, .f32⟩
  | 119 => ⟨S2048x2816, .f32⟩
  | 120 => ⟨S_, .f32⟩
  | 121 => ⟨S2048x2816, .f32⟩
  | 122 => ⟨S2048x2816, .f32⟩
  | 123 => ⟨S_, .f32⟩
  | 124 => ⟨S2048x2816, .f32⟩
  | 125 => ⟨S2048x2816, .f32⟩
  | 126 => ⟨S_, .f32⟩
  | 127 => ⟨S2048x2816, .f32⟩
  | _ => ⟨S2048x1024, .f32⟩

abbrev hbmTy0_1 (i : Nat) : BufTy := match i % 128 with
  | 0 => ⟨S2048x2816, .f32⟩
  | 1 => ⟨S2048x2816, .f32⟩
  | 2 => ⟨S2048x2816, .f32⟩
  | 3 => ⟨S2048x2816, .f32⟩
  | 4 => ⟨S2048x1024, .f32⟩
  | 5 => ⟨S_, .f32⟩
  | 6 => ⟨S2048x1024, .f32⟩
  | 7 => ⟨S2048x1024, .f32⟩
  | 8 => ⟨S_, .f32⟩
  | 9 => ⟨S2048x1024, .f32⟩
  | 10 => ⟨S2048x1024, .f32⟩
  | 11 => ⟨S2048x2816, .f32⟩
  | 12 => ⟨S2048x2816, .f32⟩
  | 13 => ⟨S2048x2816, .f32⟩
  | 14 => ⟨S2048x2816, .f32⟩
  | 15 => ⟨S2048x2816, .f32⟩
  | 16 => ⟨S2048x2816, .f32⟩
  | 17 => ⟨S2048x2816, .f32⟩
  | 18 => ⟨S2048x2816, .f32⟩
  | 19 => ⟨S2048x2816, .f32⟩
  | 20 => ⟨S_, .f32⟩
  | 21 => ⟨S2048x2816, .f32⟩
  | 22 => ⟨S2048x2816, .f32⟩
  | 23 => ⟨S_, .f32⟩
  | 24 => ⟨S2048x2816, .f32⟩
  | 25 => ⟨S2048x2816, .f32⟩
  | 26 => ⟨S2048x2816, .f32⟩
  | 27 => ⟨S2048x2816, .f32⟩
  | 28 => ⟨S2048x8x352, .f32⟩
  | 29 => ⟨S8x2048x352, .f32⟩
  | 30 => ⟨S2048x8x352, .f32⟩
  | 31 => ⟨S8x2048x352, .f32⟩
  | 32 => ⟨S2048x8x352, .f32⟩
  | 33 => ⟨S8x2048x352, .f32⟩
  | 34 => ⟨S2048x1024, .bf16⟩
  | 35 => ⟨S8x2048x352, .bf16⟩
  | 36 => ⟨S8x2048x352, .bf16⟩
  | 37 => ⟨S8x2048x352, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v25_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v25_1 : Ref sig .tc := ⟨.hbm, 45, rfl⟩
abbrev main_v25_0 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_4 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_cst_5 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_6 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_cst_8 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_9 : Ref sig .tc := ⟨.hbm, 102, rfl⟩
abbrev main_v72 : Ref sig .tc := ⟨.hbm, 103, rfl⟩
abbrev main_v73 : Ref sig .tc := ⟨.hbm, 104, rfl⟩
abbrev main_cst_10 : Ref sig .tc := ⟨.hbm, 105, rfl⟩
abbrev main_v74 : Ref sig .tc := ⟨.hbm, 106, rfl⟩
abbrev main_v75 : Ref sig .tc := ⟨.hbm, 107, rfl⟩
abbrev main_cst_11 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call2_v0 : Ref sig .tc := ⟨.hbm, 118, rfl⟩
abbrev main_call2_v1 : Ref sig .tc := ⟨.hbm, 119, rfl⟩
abbrev main_call2_cst : Ref sig .tc := ⟨.hbm, 120, rfl⟩
abbrev main_call2_v2 : Ref sig .tc := ⟨.hbm, 121, rfl⟩
abbrev main_call2_v3 : Ref sig .tc := ⟨.hbm, 122, rfl⟩
abbrev main_call2_cst_0 : Ref sig .tc := ⟨.hbm, 123, rfl⟩
abbrev main_call2_v4 : Ref sig .tc := ⟨.hbm, 124, rfl⟩
abbrev main_v85_2 : Ref sig .tc := ⟨.hbm, 125, rfl⟩
abbrev main_call2_cst_1 : Ref sig .tc := ⟨.hbm, 126, rfl⟩
abbrev main_call2_v6 : Ref sig .tc := ⟨.hbm, 127, rfl⟩
abbrev main_call2_v7 : Ref sig .tc := ⟨.hbm, 128, rfl⟩
abbrev main_v85_1 : Ref sig .tc := ⟨.hbm, 129, rfl⟩
abbrev main_v85_0 : Ref sig .tc := ⟨.hbm, 130, rfl⟩
abbrev main_v86 : Ref sig .tc := ⟨.hbm, 131, rfl⟩
abbrev main_v87 : Ref sig .tc := ⟨.hbm, 132, rfl⟩
abbrev main_cst_12 : Ref sig .tc := ⟨.hbm, 133, rfl⟩
abbrev main_v88 : Ref sig .tc := ⟨.hbm, 134, rfl⟩
abbrev main_v89 : Ref sig .tc := ⟨.hbm, 135, rfl⟩
abbrev main_cst_13 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v95 : Ref sig .tc := ⟨.hbm, 145, rfl⟩
abbrev main_call4_v0 : Ref sig .tc := ⟨.hbm, 146, rfl⟩
abbrev main_call4_v1 : Ref sig .tc := ⟨.hbm, 147, rfl⟩
abbrev main_call4_cst : Ref sig .tc := ⟨.hbm, 148, rfl⟩
abbrev main_call4_v2 : Ref sig .tc := ⟨.hbm, 149, rfl⟩
abbrev main_call4_v3 : Ref sig .tc := ⟨.hbm, 150, rfl⟩
abbrev main_call4_cst_0 : Ref sig .tc := ⟨.hbm, 151, rfl⟩
abbrev main_call4_v4 : Ref sig .tc := ⟨.hbm, 152, rfl⟩
abbrev main_call4_v5 : Ref sig .tc := ⟨.hbm, 153, rfl⟩
abbrev main_v96 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_v104 : Ref sig .tc := ⟨.hbm, 162, rfl⟩
abbrev main_v105 : Ref sig .tc := ⟨.hbm, 163, rfl⟩
abbrev main_v106 : Ref sig .tc := ⟨.hbm, 164, rfl⟩
abbrev main_v107 : Ref sig .tc := ⟨.hbm, 165, rfl⟩

abbrev nD : Nat := 1
abbrev τ : Topo := Topo.v7x

variable {F : FTy → Type} [FloatOps F]
-- ==== FfnW.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S8x1024x352 : Shape := ⟨3, ![8, 1024, 352]⟩
abbrev S1024x8x352 : Shape := ⟨3, ![1024, 8, 352]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩
abbrev S2048x8x352 : Shape := ⟨3, ![2048, 8, 352]⟩
abbrev S1x2048x352 : Shape := ⟨3, ![1, 2048, 352]⟩
abbrev S1x1024x352 : Shape := ⟨3, ![1, 1024, 352]⟩
abbrev S1x352x1024 : Shape := ⟨3, ![1, 352, 1024]⟩
abbrev S2048x352 : Shape := ⟨2, ![2048, 352]⟩
abbrev S1024x352 : Shape := ⟨2, ![1024, 352]⟩
abbrev S352x1024 : Shape := ⟨2, ![352, 1024]⟩

abbrev nBuf : Space → Nat
  | .hbm => 82
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x352, .bf16⟩
  | .hbm, ⟨3, _⟩ => ⟨S8x352x1024, .bf16⟩
  | .hbm, ⟨4, _⟩ => ⟨S2048x1024, .f32⟩
  | .hbm, ⟨5, _⟩ => ⟨S8x2048x352, .f32⟩
  | .hbm, ⟨6, _⟩ => ⟨S8x352x1024, .f32⟩
  | .hbm, ⟨7, _⟩ => ⟨S8x1024x352, .f32⟩
  | .hbm, ⟨8, _⟩ => ⟨S1024x8x352, .f32⟩
  | .hbm, ⟨9, _⟩ => ⟨S1024x2816, .f32⟩
  | .hbm, ⟨10, _⟩ => ⟨S8x1024x352, .f32⟩
  | .hbm, ⟨11, _⟩ => ⟨S1024x8x352, .f32⟩
  | .hbm, ⟨12, _⟩ => ⟨S1024x2816, .f32⟩
  | .hbm, ⟨13, _⟩ => ⟨S2816x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S_, .f32⟩
  | .hbm, ⟨34, _⟩ => ⟨S2048x2816, .f32⟩
  | .hbm, ⟨35, _⟩ => ⟨S2048x2816, .f32⟩
  | .hbm, ⟨36, _⟩ => ⟨S_, .f32⟩
  | .hbm, ⟨37, _⟩ => ⟨S2048x2816, .f32⟩
  | .hbm, ⟨38, _⟩ => ⟨S2048x2816, .f32⟩
  | .hbm, ⟨39, _⟩ => ⟨S_, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S_, .f32⟩
  | .hbm, ⟨50, _⟩ => ⟨S2048x1024, .f32⟩
  | .hbm, ⟨51, _⟩ => ⟨S2048x1024, .f32⟩
  | .hbm, ⟨52, _⟩ => ⟨S2048x2816, .f32⟩
  | .hbm, ⟨53, _⟩ => ⟨S2048x2816, .f32⟩
  | .hbm, ⟨54, _⟩ => ⟨S2048x2816, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2048x2816, .f32⟩
  | .hbm, ⟨59, _⟩ => ⟨S2048x2816, .f32⟩
  | .hbm, ⟨60, _⟩ => ⟨S2048x2816, .f32⟩
  | .hbm, ⟨61, _⟩ => ⟨S_, .f32⟩
  | .hbm, ⟨62, _⟩ => ⟨S2048x2816, .f32⟩
  | .hbm, ⟨63, _⟩ => ⟨S2048x2816, .f32⟩
  | .hbm, ⟨64, _⟩ => ⟨S_, .f32⟩
  | .hbm, ⟨65, _⟩ => ⟨S2048x2816, .f32⟩
  | .hbm, ⟨66, _⟩ => ⟨S2048x2816, .f32⟩
  | .hbm, ⟨67, _⟩ => ⟨S2048x2816, .f32⟩
  | .hbm, ⟨68, _⟩ => ⟨S2048x2816, .f32⟩
  | .hbm, ⟨69, _⟩ => ⟨S2048x8x352, .f32⟩
  | .hbm, ⟨70, _⟩ => ⟨S8x2048x352, .f32⟩
  | .hbm, ⟨71, _⟩ => ⟨S2048x8x352, .f32⟩
  | .hbm, ⟨72, _⟩ => ⟨S8x2048x352, .f32⟩
  | .hbm, ⟨73, _⟩ => ⟨S2048x8x352, .f32⟩
  | .hbm, ⟨74, _⟩ => ⟨S8x2048x352, .f32⟩
  | .hbm, ⟨75, _⟩ => ⟨S2048x1024, .bf16⟩
  | .hbm, ⟨76, _⟩ => ⟨S8x2048x352, .bf16⟩
  | .hbm, ⟨77, _⟩ => ⟨S8x2048x352, .bf16⟩
  | .hbm, ⟨78, _⟩ => ⟨S8x2048x352, .bf16⟩
  | .hbm, ⟨79, _⟩ => ⟨S8x1024x352, .bf16⟩
  | .hbm, ⟨80, _⟩ => ⟨S8x1024x352, .bf16⟩
  | .hbm, ⟨81, _⟩ => ⟨S8x352x1024, .bf16⟩
  | .local _ .vmem, ⟨0, _⟩ => ⟨S2048x1024, .bf16⟩
  | .local _ .vmem, ⟨1, _⟩ => ⟨S2048x1024, .f32⟩
  | .local _ .vmem, ⟨2, _⟩ => ⟨S1x2048x352, .bf16⟩
  | .local _ .vmem, ⟨3, _⟩ => ⟨S1x2048x352, .bf16⟩
  | .local _ .vmem, ⟨4, _⟩ => ⟨S1x2048x352, .bf16⟩
  | .local _ .vmem, ⟨5, _⟩ => ⟨S1x2048x352, .bf16⟩
  | .local _ .vmem, ⟨6, _⟩ => ⟨S1x2048x352, .bf16⟩
  | .local _ .vmem, ⟨7, _⟩ => ⟨S1x2048x352, .bf16⟩
  | .local _ .vmem, ⟨8, _⟩ => ⟨S1x1024x352, .bf16⟩
  | .local _ .vmem, ⟨9, _⟩ => ⟨S1x1024x352, .bf16⟩
  | .local _ .vmem, ⟨10, _⟩ => ⟨S1x1024x352, .bf16⟩
  | .local _ .vmem, ⟨11, _⟩ => ⟨S1x1024x352, .bf16⟩
  | .local _ .vmem, ⟨12, _⟩ => ⟨S1x352x1024, .bf16⟩
  | .local _ .vmem, ⟨13, _⟩ => ⟨S1x352x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v23_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v23_1 : Ref sig .tc := ⟨.hbm, 42, rfl⟩
abbrev main_v23_0 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_cst_3 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_call1_v0 : Ref sig .tc := ⟨.hbm, 55, rfl⟩
abbrev main_call1_v1 : Ref sig .tc := ⟨.hbm, 56, rfl⟩
abbrev main_call1_v2 : Ref sig .tc := ⟨.hbm, 57, rfl⟩
abbrev main_v33 : Ref sig .tc := ⟨.hbm, 58, rfl⟩
abbrev main_call2_v0 : Ref sig .tc := ⟨.hbm, 59, rfl⟩
abbrev main_call2_v1 : Ref sig .tc := ⟨.hbm, 60, rfl⟩
abbrev main_call2_cst : Ref sig .tc := ⟨.hbm, 61, rfl⟩
abbrev main_call2_v2 : Ref sig .tc := ⟨.hbm, 62, rfl⟩
abbrev main_call2_v3 : Ref sig .tc := ⟨.hbm, 63, rfl⟩
abbrev main_call2_cst_0 : Ref sig .tc := ⟨.hbm, 64, rfl⟩
abbrev main_call2_v4 : Ref sig .tc := ⟨.hbm, 65, rfl⟩
abbrev main_call2_v5 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46_0 : Ref sig .tc := ⟨.hbm, 79, rfl⟩
abbrev main_v46_1 : Ref sig .tc := ⟨.hbm, 80, rfl⟩
abbrev main_v46_2 : Ref sig .tc := ⟨.hbm, 81, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x2048x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x352 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x352 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnWPlainIdeal.lean ====
abbrev S2048x1024 : Shape := ⟨2, ![2048, 1024]⟩
abbrev S1x1024 : Shape := ⟨2, ![1, 1024]⟩
abbrev S8x2048x352 : Shape := ⟨3, ![8, 2048, 352]⟩
abbrev S8x352x1024 : Shape := ⟨3, ![8, 352, 1024]⟩
abbrev S8x1024x352 : Shape := ⟨3, ![8, 1024, 352]⟩
abbrev S1024x8x352 : Shape := ⟨3, ![1024, 8, 352]⟩
abbrev S1024x2816 : Shape := ⟨2, ![1024, 2816]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S2048x2816 : Shape := ⟨2, ![2048, 2816]⟩

abbrev nBuf : Space → Nat
  | .hbm => 74
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x2048x352, .bf16⟩
  | .hbm, ⟨3, _⟩ => ⟨S8x352x1024, .bf16⟩
  | .hbm, ⟨4, _⟩ => ⟨S2048x1024, .f32⟩
  | .hbm, ⟨5, _⟩ => ⟨S8x2048x352, .f32⟩
  | .hbm, ⟨6, _⟩ => ⟨S8x352x1024, .f32⟩
  | .hbm, ⟨7, _⟩ => ⟨S8x1024x352, .f32⟩
  | .hbm, ⟨8, _⟩ => ⟨S1024x8x352, .f32⟩
  | .hbm, ⟨9, _⟩ => ⟨S1024x2816, .f32⟩
  | .hbm, ⟨10, _⟩ => ⟨S8x1024x352, .f32⟩
  | .hbm, ⟨11, _⟩ => ⟨S1024x8x352, .f32⟩
  | .hbm, ⟨12, _⟩ => ⟨S1024x2816, .f32⟩
  | .hbm, ⟨13, _⟩ => ⟨S2816x1024, .f32⟩
  | .hbm, ⟨14, _⟩ => ⟨S2048x1024, .f32⟩
  | .hbm, ⟨15, _⟩ => ⟨S_, .f32⟩
  | .hbm, ⟨16, _⟩ => ⟨S2048, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S_, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S2048x1024, .f32⟩
  | .hbm, ⟨46, _⟩ => ⟨S_, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S1024x2816, .f32⟩
  | .hbm, ⟨54, _⟩ => ⟨S2816x1024, .f32⟩
  | .hbm, ⟨55, _⟩ => ⟨S2048x2816, .f32⟩
  | .hbm, ⟨56, _⟩ => ⟨S2048x2816, .f32⟩
  | .hbm, ⟨57, _⟩ => ⟨S2048x2816, .f32⟩
  | .hbm, ⟨58, _⟩ => ⟨S2816x1024, .f32⟩
  | .hbm, ⟨59, _⟩ => ⟨S1024x2816, .f32⟩
  | .hbm, ⟨60, _⟩ => ⟨S2048x2816, .f32⟩
  | .hbm, ⟨61, _⟩ => ⟨S2048x2816, .f32⟩
  | .hbm, ⟨62, _⟩ => ⟨S2048x2816, .f32⟩
  | .hbm, ⟨63, _⟩ => ⟨S2048x2816, .f32⟩
  | .hbm, ⟨64, _⟩ => ⟨S2816x1024, .f32⟩
  | .hbm, ⟨65, _⟩ => ⟨S1024x2816, .f32⟩
  | .hbm, ⟨66, _⟩ => ⟨S1024x8x352, .f32⟩
  | .hbm, ⟨67, _⟩ => ⟨S8x1024x352, .f32⟩
  | .hbm, ⟨68, _⟩ => ⟨S8x1024x352, .bf16⟩
  | .hbm, ⟨69, _⟩ => ⟨S1024x8x352, .f32⟩
  | .hbm, ⟨70, _⟩ => ⟨S8x1024x352, .f32⟩
  | .hbm, ⟨71, _⟩ => ⟨S8x1024x352, .bf16⟩
  | .hbm, ⟨72, _⟩ => ⟨S8x352x1024, .f32⟩
  | .hbm, ⟨73, _⟩ => ⟨S8x352x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v22_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v22_1 : Ref sig .tc := ⟨.hbm, 41, rfl⟩
abbrev main_v22_0 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_3 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]
-- ==== Proof.Lift.lean ====
/-
  Arrays of real numbers among arrays of extended reals, and the scalar operations read on them.

  A claim about finite inputs is proved in the field of real numbers: every operation of a program,
  applied to images of real numbers, gives the image of a real number. The lemmas here say which,
  operation by operation, so that one rewriting moves a whole expression into the reals.
-/
module

public import Idealize.ShloMosaic.Lib.Pointwise

@[expose] public section

noncomputable section

namespace Cert.Lift

open Idealize.ShloMosaic

/-- The image of a matrix of real numbers. -/
def up {n k : ℕ} (f : Fin n → Fin k → ℝ) : (⟨2, ![n, k]⟩ : Shape).Idx → EReal :=
  fun i => ((f (i 0) (i 1) : ℝ) : EReal)

theorem up_ix2 {n k : ℕ} (f : Fin n → Fin k → ℝ) (a : Fin n) (b : Fin k) :
    up f (ix2 a b) = ((f a b : ℝ) : EReal) := rfl

theorem sum_coe {ι : Type*} [Fintype ι] (f : ι → ℝ) : (∑ k, ((f k : ℝ) : EReal)) = ((∑ k, f k : ℝ) : EReal) := by
  classical
  have key : ∀ s : Finset ι, (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact key Finset.univ

/-- A quotient of real numbers by a nonzero one. -/
theorem div_real {a b : ℝ} (h : b ≠ 0) : Ideal.div (a : EReal) (b : EReal) = ((a / b : ℝ) : EReal) := by
  rw [Ideal.div_coe h, ← EReal.coe_mul, mul_one_div]

/-- The reciprocal root of a positive number. -/
theorem rsqrt_real {a : ℝ} (h : 0 < a) : Ideal.rsqrt (a : EReal) = (((Real.sqrt a)⁻¹ : ℝ) : EReal) := by
  rw [Ideal.rsqrt_coe, if_neg (not_lt.mpr h.le), if_neg h.ne']

/-- The largest of finitely many real numbers, from −∞ on, is a real number. -/
theorem fold_max_real {n : ℕ} (f : Fin (n + 1) → ℝ) :
    ∃ M : ℝ, Finset.univ.fold max (⊥ : EReal) (fun k => ((f k : ℝ) : EReal)) = (M : EReal) := by
  have key : ∀ s : Finset (Fin (n + 1)), s.fold max (⊥ : EReal) (fun k => ((f k : ℝ) : EReal)) = ⊥
      ∧ s = ∅ ∨ ∃ M : ℝ, s.fold max (⊥ : EReal) (fun k => ((f k : ℝ) : EReal)) = (M : EReal) := by
    intro s
    induction s using Finset.induction_on with
    | empty => exact Or.inl ⟨rfl, rfl⟩
    | insert a s ha ih =>
      refine Or.inr ?_
      rw [Finset.fold_insert ha]
      rcases ih with ⟨h, -⟩ | ⟨M, h⟩
      · exact ⟨f a, by rw [h]; exact max_bot_right _⟩
      · exact ⟨max (f a) M, by rw [h]; exact (EReal.coe_strictMono.monotone.map_max).symm⟩
  rcases key Finset.univ with ⟨-, h⟩ | h
  · exact absurd (Finset.mem_univ (0 : Fin (n + 1))) (by rw [h]; exact Finset.notMem_empty _)
  · exact h

/-- The word of the small number that the norms add. -/
theorem ofBits_eps : Ideal.ofBits .f32 0x358637BD#32 = ((8796093 / 8796093022208 : ℝ) : EReal) := by
  simp [Ideal.ofBits, Ideal.ieee, -EReal.coe_mul]; norm_num

theorem ofBits_64 : Ideal.ofBits .f32 0x42800000#32 = ((64 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_eighth : Ideal.ofBits .f32 0x3E000000#32 = ((1 / 8 : ℝ) : EReal) := by
  simp [Ideal.ofBits, Ideal.ieee, -EReal.coe_mul]; norm_num

theorem ofBits_half : Ideal.ofBits .f32 0x3F000000#32 = ((1 / 2 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_inf : Ideal.ofBits .f32 0xFF800000#32 = (⊥ : EReal) := by
  simp [Ideal.ofBits, Ideal.ieee]

end Cert.Lift

end
-- ==== Proof.AttnReal.lean ====
/-
  The attention's gradient over the real numbers: the normalised rows and their backward pass, the
  softmax of the scaled logits and its backward pass. Rows of 64 lanes; `n` queries and `m` keys.
-/
module

public import proofs.«01_k».proof.Proof.Lift

@[expose] public section

noncomputable section

namespace Cert.AttnReal

/-- The number that keeps the root away from zero. -/
def eps : ℝ := 8796093 / 8796093022208

/-- The mean square of a row, and the small number. -/
def ms (x : Fin 64 → ℝ) : ℝ := (∑ d, x d * x d) / 64 + eps

theorem ms_pos (x : Fin 64 → ℝ) : 0 < ms x := by
  have h : 0 ≤ ∑ d, x d * x d := Finset.sum_nonneg fun d _ => mul_self_nonneg _
  unfold ms eps; positivity

/-- The reciprocal root mean square of a row. -/
def rr (x : Fin 64 → ℝ) : ℝ := (Real.sqrt (ms x))⁻¹

/-- The row over its root mean square. -/
def unit (x : Fin 64 → ℝ) (d : Fin 64) : ℝ := x d * rr x

/-- … times the gain. -/
def nrm (x g : Fin 64 → ℝ) (d : Fin 64) : ℝ := unit x d * g d

/-- The part of a row's cotangent that reaches the row through its root mean square. -/
def through (x g ct : Fin 64 → ℝ) : ℝ := (∑ k, x k * (ct k * g k)) * (-(1 / 2) * (rr x / ms x)) / 64

/-- The cotangent of a row, from the cotangent `ct` of its normalised row. -/
def back (x g ct : Fin 64 → ℝ) (d : Fin 64) : ℝ := ct d * g d * rr x + x d * through x g ct + through x g ct * x d

section

variable {n m : ℕ} (q : Fin n → Fin 64 → ℝ) (k v : Fin m → Fin 64 → ℝ) (ct : Fin n → Fin 64 → ℝ)

/-- The scaled logits. -/
def logit (t : Fin n) (s : Fin m) : ℝ := (∑ d, q t d * k s d) * (1 / 8)

/-- The softmax's denominator, without a shift. -/
def den (t : Fin n) : ℝ := ∑ s, Real.exp (logit q k t s)

/-- The softmax. -/
def prob (t : Fin n) (s : Fin m) : ℝ := Real.exp (logit q k t s) / den q k t

/-- The cotangent of the softmax. -/
def dprob (t : Fin n) (s : Fin m) : ℝ := ∑ d, ct t d * v s d

/-- The cotangent of the logits. -/
def dlogit (t : Fin n) (s : Fin m) : ℝ :=
  prob q k t s * (dprob v ct t s - ∑ s', prob q k t s' * dprob v ct t s')

/-- The cotangent of the normalised queries. -/
def dqn (t : Fin n) (d : Fin 64) : ℝ := (∑ s, dlogit q k v ct t s * k s d) * (1 / 8)

/-- The cotangent of the normalised keys. -/
def dkn (s : Fin m) (d : Fin 64) : ℝ := (∑ t, dlogit q k v ct t s * q t d) * (1 / 8)

/-- The cotangent of the values. -/
def dval (s : Fin m) (d : Fin 64) : ℝ := ∑ t, prob q k t s * ct t d

end

section

variable {n m : ℕ} (q : Fin n → Fin 64 → ℝ) (k v : Fin m → Fin 64 → ℝ) (gq gk : Fin 64 → ℝ) (ct : Fin n → Fin 64 → ℝ)

/-- A head's cotangents, from its queries, keys, values, the two gains and the cotangent of its output: of the
    queries, the keys, the values, and (its part of) the gains. -/
def gradQ (t : Fin n) : Fin 64 → ℝ := back (q t) gq (dqn (fun t => nrm (q t) gq) (fun s => nrm (k s) gk) v ct t)

def gradK (s : Fin m) : Fin 64 → ℝ := back (k s) gk (dkn (fun t => nrm (q t) gq) (fun s => nrm (k s) gk) v ct s)

def gradV (s : Fin m) : Fin 64 → ℝ := dval (fun t => nrm (q t) gq) (fun s => nrm (k s) gk) ct s

def gradGq (d : Fin 64) : ℝ := ∑ t, unit (q t) d * dqn (fun t => nrm (q t) gq) (fun s => nrm (k s) gk) v ct t d

def gradGk (d : Fin 64) : ℝ := ∑ s, unit (k s) d * dkn (fun t => nrm (q t) gq) (fun s => nrm (k s) gk) v ct s d

end

/-- The four heads, side by side in 256 columns; the keys in the first 256 of 512 columns and the values in the last. -/
def headOf {w : ℕ} (j : Fin w) : Fin 4 := ⟨j.val / 64 % 4, Nat.mod_lt _ (by decide)⟩

def laneOf {w : ℕ} (j : Fin w) : Fin 64 := ⟨j.val % 64, Nat.mod_lt _ (by decide)⟩

def qh {n : ℕ} (X : Fin n → Fin 256 → ℝ) (h : Fin 4) : Fin n → Fin 64 → ℝ := fun t d => X t ⟨64 * h.val + d.val, by omega⟩

def kh {n : ℕ} (X : Fin n → Fin 512 → ℝ) (h : Fin 4) : Fin n → Fin 64 → ℝ := fun t d => X t ⟨64 * h.val + d.val, by omega⟩

def vh {n : ℕ} (X : Fin n → Fin 512 → ℝ) (h : Fin 4) : Fin n → Fin 64 → ℝ := fun t d => X t ⟨256 + 64 * h.val + d.val, by omega⟩

section

variable {n m : ℕ} (X : Fin n → Fin 256 → ℝ) (KV : Fin m → Fin 512 → ℝ) (gq gk : Fin 64 → ℝ) (CT : Fin n → Fin 256 → ℝ)

/-- The cotangents of all four heads' queries, keys and values, and of the gains. -/
def allQ (t : Fin n) (j : Fin 256) : ℝ :=
  gradQ (qh X (headOf j)) (kh KV (headOf j)) (vh KV (headOf j)) gq gk (qh CT (headOf j)) t (laneOf j)

def allKV (s : Fin m) (j : Fin 512) : ℝ :=
  if j.val < 256 then gradK (qh X (headOf j)) (kh KV (headOf j)) (vh KV (headOf j)) gq gk (qh CT (headOf j)) s (laneOf j)
  else gradV (qh X (headOf j)) (kh KV (headOf j)) gq gk (qh CT (headOf j)) s (laneOf j)

theorem allQ_at (t : Fin n) (h : Fin 4) (d : Fin 64) (hw : 64 * h.val + d.val < 256) :
    allQ X KV gq gk CT t ⟨64 * h.val + d.val, hw⟩ = gradQ (qh X h) (kh KV h) (vh KV h) gq gk (qh CT h) t d := by
  have h1 : headOf (⟨64 * h.val + d.val, hw⟩ : Fin 256) = h := by apply Fin.ext; show (64 * h.val + d.val) / 64 % 4 = h.val; omega
  have h2 : laneOf (⟨64 * h.val + d.val, hw⟩ : Fin 256) = d := by apply Fin.ext; show (64 * h.val + d.val) % 64 = d.val; omega
  unfold allQ; rw [h1, h2]

theorem allKV_key (s : Fin m) (h : Fin 4) (d : Fin 64) (hw : 64 * h.val + d.val < 512) :
    allKV X KV gq gk CT s ⟨64 * h.val + d.val, hw⟩ = gradK (qh X h) (kh KV h) (vh KV h) gq gk (qh CT h) s d := by
  have h1 : headOf (⟨64 * h.val + d.val, hw⟩ : Fin 512) = h := by apply Fin.ext; show (64 * h.val + d.val) / 64 % 4 = h.val; omega
  have h2 : laneOf (⟨64 * h.val + d.val, hw⟩ : Fin 512) = d := by apply Fin.ext; show (64 * h.val + d.val) % 64 = d.val; omega
  unfold allKV; rw [h1, h2, if_pos (by dsimp only; omega)]

theorem allKV_val (s : Fin m) (h : Fin 4) (d : Fin 64) (hw : 256 + 64 * h.val + d.val < 512) :
    allKV X KV gq gk CT s ⟨256 + 64 * h.val + d.val, hw⟩ = gradV (qh X h) (kh KV h) gq gk (qh CT h) s d := by
  have h1 : headOf (⟨256 + 64 * h.val + d.val, hw⟩ : Fin 512) = h := by apply Fin.ext; show (256 + 64 * h.val + d.val) / 64 % 4 = h.val; omega
  have h2 : laneOf (⟨256 + 64 * h.val + d.val, hw⟩ : Fin 512) = d := by apply Fin.ext; show (256 + 64 * h.val + d.val) % 64 = d.val; omega
  unfold allKV; rw [h1, h2, if_neg (by dsimp only; omega)]

/-- The gains' cotangents: the heads' parts together. -/
def allGq (d : Fin 64) : ℝ := ∑ h, gradGq (qh X h) (kh KV h) (vh KV h) gq gk (qh CT h) d

def allGk (d : Fin 64) : ℝ := ∑ h, gradGk (qh X h) (kh KV h) (vh KV h) gq gk (qh CT h) d

end

/-- A sum of exponentials over at least one index is positive. -/
theorem sum_exp_pos {m : ℕ} (f : Fin (m + 1) → ℝ) : 0 < ∑ s, Real.exp (f s) :=
  Finset.sum_pos (fun _ _ => Real.exp_pos _) Finset.univ_nonempty

theorem den_pos {n m : ℕ} (q : Fin n → Fin 64 → ℝ) (k : Fin (m + 1) → Fin 64 → ℝ) (t : Fin n) : 0 < den q k t :=
  sum_exp_pos _

/-- The softmax does not see a shift of its row. -/
theorem softmax_shift {m : ℕ} (f : Fin m → ℝ) (M : ℝ) (s : Fin m) :
    Real.exp (f s - M) / ∑ s', Real.exp (f s' - M) = Real.exp (f s) / ∑ s', Real.exp (f s') := by
  simp only [Real.exp_sub, ← Finset.sum_div]
  rw [div_div_div_cancel_right₀ (Real.exp_pos M).ne']

end Cert.AttnReal

end
-- ==== Proof.MemHead.lean ====
/-
  One head of the memory attention's backward kernel, stage by stage, on arrays of real numbers.

  The kernel's body treats its four heads by the same operations; the stages below are the printed ones
  of the first head. Each lemma says: on images of real matrices the stage is the image of the real
  formula of `AttnReal`.
-/
module

public import proofs.«01_k».proof.Proof.AttnReal
public import proofs.«01_k».proof.Proof.Gen.MemIdeal.Skeleton

@[expose] public section

set_option maxRecDepth 16384

noncomputable section

namespace Cert.MemIdeal.Head

open Cert.MemIdeal Cert.MemIdeal.Gen Idealize.ShloMosaic Cert.Lift Cert.AttnReal

/-- Two matrices with the same entries are the same. -/
theorem ext2 {n k : ℕ} {α : Type} {f g : (⟨2, ![n, k]⟩ : Shape).Idx → α} (h : ∀ a b, f (ix2 a b) = g (ix2 a b)) : f = g := by
  funext i; rw [eq_ix2 i]; exact h _ _

variable (x : Fin 512 → Fin 64 → ℝ) (y : Fin 256 → Fin 64 → ℝ) (g : Fin 64 → ℝ)

/-- A row vector. -/
abbrev rowUp {k : ℕ} (g : Fin k → ℝ) : (⟨2, ![1, k]⟩ : Shape).Idx → EReal := up fun _ => g

/-- A column. -/
abbrev colUp {n : ℕ} (f : Fin n → ℝ) : (⟨2, ![n, 1]⟩ : Shape).Idx → EReal := up fun t _ => f t

/-- The stages of the queries' normalisation. -/
theorem pay8_up : k0_pay8 (F := Ideal) (up x) = colUp fun t => ms (x t) := by
  refine ext2 fun a b => ?_
  pointwise [k0_pay8]
  simp only [up_ix2, ofBits_64, ofBits_eps, ← EReal.coe_mul, sum_coe, div_real (by norm_num : (64 : ℝ) ≠ 0), ← EReal.coe_add]
  rfl

theorem pay9_up : k0_pay9 (F := Ideal) (up x) = colUp fun t => rr (x t) := by
  refine ext2 fun a b => ?_
  pointwise [k0_pay9]
  simp only [pay8_up, up_ix2, rsqrt_real (ms_pos _)]
  rfl

theorem pay10_up : k0_pay10 (F := Ideal) (up x) = colUp fun t => -(1 / 2) * (rr (x t) / ms (x t)) := by
  refine ext2 fun a b => ?_
  pointwise [k0_pay10]
  simp only [pay9_up, pay8_up, up_ix2, ofBits_neg_half, div_real (ms_pos _).ne', ← EReal.coe_mul]

theorem pay11_up : k0_pay11 (F := Ideal) (up x) = up fun t => unit (x t) := by
  refine ext2 fun a b => ?_
  pointwise [k0_pay11]
  simp only [pay9_up, up_ix2, ← EReal.coe_mul]
  rfl

theorem pay16_up : k0_pay16 (F := Ideal) (up x) (rowUp g) = up fun t => nrm (x t) g := by
  refine ext2 fun a b => ?_
  pointwise [k0_pay16]
  simp only [pay11_up, up_ix2, ← EReal.coe_mul]
  rfl

/-- The stages of the keys' normalisation. -/
theorem pay12_up : k0_pay12 (F := Ideal) (up y) = colUp fun t => ms (y t) := by
  refine ext2 fun a b => ?_
  pointwise [k0_pay12]
  simp only [up_ix2, ofBits_64, ofBits_eps, ← EReal.coe_mul, sum_coe, div_real (by norm_num : (64 : ℝ) ≠ 0), ← EReal.coe_add]
  rfl

theorem pay13_up : k0_pay13 (F := Ideal) (up y) = colUp fun t => rr (y t) := by
  refine ext2 fun a b => ?_
  pointwise [k0_pay13]
  simp only [pay12_up, up_ix2, rsqrt_real (ms_pos _)]
  rfl

theorem pay14_up : k0_pay14 (F := Ideal) (up y) = colUp fun t => -(1 / 2) * (rr (y t) / ms (y t)) := by
  refine ext2 fun a b => ?_
  pointwise [k0_pay14]
  simp only [pay13_up, pay12_up, up_ix2, ofBits_neg_half, div_real (ms_pos _).ne', ← EReal.coe_mul]

theorem pay15_up : k0_pay15 (F := Ideal) (up y) = up fun t => unit (y t) := by
  refine ext2 fun a b => ?_
  pointwise [k0_pay15]
  simp only [pay13_up, up_ix2, ← EReal.coe_mul]
  rfl

theorem pay17_up : k0_pay17 (F := Ideal) (up y) (rowUp g) = up fun t => nrm (y t) g := by
  refine ext2 fun a b => ?_
  pointwise [k0_pay17]
  simp only [pay15_up, up_ix2, ← EReal.coe_mul]
  rfl

variable (q ct : Fin 512 → Fin 64 → ℝ) (k v : Fin 256 → Fin 64 → ℝ)

/-- The softmax of the scaled logits: the row's largest logit leaves it as it is. -/
theorem pay18_up : k0_pay18 (F := Ideal) (up q) (up k) = up fun t s => prob q k t s := by
  refine ext2 fun a b => ?_
  pointwise [k0_pay18]
  simp only [up_ix2, ofBits_eighth, ofBits_neg_inf, ← EReal.coe_mul, sum_coe, zero_add]
  obtain ⟨M, hM⟩ := fold_max_real (n := 255) fun s => logit q k a s
  simp only [logit] at hM
  simp only [hM, ← EReal.coe_sub, Ideal.exp_coe, sum_coe]
  rw [div_real (sum_exp_pos _).ne', softmax_shift (fun s => (∑ d, q a d * k s d) * (1 / 8)) M b]
  rfl

theorem pay19_up : k0_pay19 (F := Ideal) (up ct) = up ct := by
  refine ext2 fun a b => ?_
  pointwise [k0_pay19]

/-- The cotangent of the logits. -/
theorem pay20_up : k0_pay20 (F := Ideal) (up q) (up k) (up v) (up ct) = up fun t s => dlogit q k v ct t s := by
  refine ext2 fun a b => ?_
  pointwise [k0_pay20]
  simp only [pay18_up, pay19_up, up_ix2, ← EReal.coe_mul, sum_coe, zero_add, ← EReal.coe_sub]
  rfl

/-- The cotangent of the normalised queries. -/
theorem pay21_up : k0_pay21 (F := Ideal) (up q) (up k) (up v) (up ct) = up fun t d => dqn q k v ct t d := by
  refine ext2 fun a b => ?_
  pointwise [k0_pay21]
  simp only [pay20_up, up_ix2, ofBits_eighth, ← EReal.coe_mul, sum_coe, zero_add]
  rfl

/-- The queries' part of their gain's cotangent. -/
theorem pay22_up (u : Fin 512 → Fin 64 → ℝ) : k0_pay22 (F := Ideal) (up u) (up q) (up k) (up v) (up ct)
    = rowUp fun d => ∑ t, u t d * dqn q k v ct t d := by
  refine ext2 fun a b => ?_
  pointwise [k0_pay22]
  simp only [pay21_up, up_ix2, ← EReal.coe_mul, sum_coe, zero_add]

theorem pay23_up : k0_pay23 (F := Ideal) (rowUp g) (up q) (up k) (up v) (up ct)
    = up fun t d => dqn q k v ct t d * g d := by
  refine ext2 fun a b => ?_
  pointwise [k0_pay23]
  simp only [pay21_up, up_ix2, ← EReal.coe_mul]

theorem pay24_up (c : Fin 512 → ℝ) : k0_pay24 (F := Ideal) (up x) (rowUp g) (colUp c) (up q) (up k) (up v) (up ct)
    = up fun t _ => (∑ d, x t d * (dqn q k v ct t d * g d)) * c t / 64 := by
  refine ext2 fun a b => ?_
  pointwise [k0_pay24]
  simp only [pay23_up, up_ix2, ← EReal.coe_mul, sum_coe, zero_add, ofBits_64, div_real (by norm_num : (64 : ℝ) ≠ 0)]
  simp

theorem pay25_up (c r : Fin 512 → ℝ) : k0_pay25 (F := Ideal) (up x) (rowUp g) (colUp r) (colUp c) (up q) (up k) (up v) (up ct)
    = up fun t d => dqn q k v ct t d * g d * r t + x t d * ((∑ d, x t d * (dqn q k v ct t d * g d)) * c t / 64) := by
  refine ext2 fun a b => ?_
  pointwise [k0_pay25]
  simp only [pay23_up, pay24_up, up_ix2, ← EReal.coe_mul, ← EReal.coe_add]

theorem pay28_up (e f : Fin 512 → Fin 64 → ℝ) : k0_pay28 (F := Ideal) (up x) (up e) (up f) = up fun t d => f t d + e t d * x t d := by
  refine ext2 fun a b => ?_
  pointwise [k0_pay28]
  simp only [up_ix2, ← EReal.coe_mul, ← EReal.coe_add]

variable (z : Fin 512 → Fin 256 → ℝ)

/-- The cotangent of the normalised keys, from that of the logits. -/
theorem pay26_up : k0_pay26 (F := Ideal) (up q) (up z) = up fun s d => (∑ t, z t s * q t d) * (1 / 8) := by
  refine ext2 fun a b => ?_
  pointwise [k0_pay26]
  simp only [up_ix2, ofBits_eighth, ← EReal.coe_mul, sum_coe, zero_add]

theorem pay27_up (u : Fin 256 → Fin 64 → ℝ) : k0_pay27 (F := Ideal) (up u) (up q) (up z)
    = rowUp fun d => ∑ s, u s d * ((∑ t, z t s * q t d) * (1 / 8)) := by
  refine ext2 fun a b => ?_
  pointwise [k0_pay27]
  simp only [pay26_up, up_ix2, ← EReal.coe_mul, sum_coe, zero_add]

/-- What a block adds to the keys' cotangent. -/
theorem pay29_up (r c : Fin 256 → ℝ) (acc : Fin 256 → Fin 64 → ℝ) :
    k0_pay29 (F := Ideal) (up y) (rowUp g) (colUp r) (colUp c) (up q) (up z) (up acc)
    = up fun s d => acc s d + ((∑ t, z t s * q t d) * (1 / 8) * g d * r s
        + y s d * ((∑ d, y s d * ((∑ t, z t s * q t d) * (1 / 8) * g d)) * c s / 64)
        + (∑ d, y s d * ((∑ t, z t s * q t d) * (1 / 8) * g d)) * c s / 64 * y s d) := by
  refine ext2 fun a b => ?_
  pointwise [k0_pay29]
  simp only [pay26_up, up_ix2, ← EReal.coe_mul, sum_coe, zero_add, ofBits_64, div_real (by norm_num : (64 : ℝ) ≠ 0), ← EReal.coe_add]
  simp

/-- What a block adds to the values' cotangent. -/
theorem pay30_up (p : Fin 512 → Fin 256 → ℝ) (acc : Fin 256 → Fin 64 → ℝ) : k0_pay30 (F := Ideal) (up p) (up ct) (up acc)
    = up fun s d => acc s d + ∑ t, p t s * ct t d := by
  refine ext2 fun a b => ?_
  pointwise [k0_pay30]
  simp only [up_ix2, ← EReal.coe_mul, sum_coe, zero_add, ← EReal.coe_add]

theorem pay31_up (w acc : Fin 64 → ℝ) : k0_pay31 (F := Ideal) (rowUp w) (rowUp acc) = rowUp fun d => acc d + w d := by
  refine ext2 fun a b => ?_
  pointwise [k0_pay31]
  simp only [up_ix2, ← EReal.coe_add]

theorem pay32_up (w acc : Fin 64 → ℝ) : k0_pay32 (F := Ideal) (rowUp w) (rowUp acc) = rowUp fun d => acc d + w d := by
  refine ext2 fun a b => ?_
  pointwise [k0_pay32]
  simp only [up_ix2, ← EReal.coe_add]

end Cert.MemIdeal.Head

end
-- ==== Proof.Finite.lean ====
/-
  An array all of whose entries have an absolute value below infinity is the image of an array of real numbers.
-/
module

public import proofs.«01_k».proof.Proof.Lift
public import proofs.«01_k».proof.Proof.MemHead

@[expose] public section

noncomputable section

namespace Cert.Lift

open Idealize.ShloMosaic
open Cert.MemIdeal.Head (ext2 rowUp)

theorem ofBits_inf : Ideal.ofBits .f32 0x7F800000#32 = (⊤ : EReal) := by simp [Ideal.ofBits, Ideal.ieee]

/-- The test of one entry says the entry is a real number. -/
theorem real_of_test (x : EReal) (h : Ideal.cmp .olt (max x (-x)) ⊤ = 1#1) : ∃ r : ℝ, x = (r : EReal) := by
  induction x with
  | bot => simp [Ideal.cmp] at h
  | coe r => exact ⟨r, rfl⟩
  | top => simp [Ideal.cmp] at h

theorem real_entries {s : Shape} {φ : FTy} (x y : FVec Ideal s φ) (hy : ∀ i, y i = (⊤ : EReal))
    (h : cmpf .olt (Host.absf x) y = fun _ => 1#1) : ∀ i, ∃ r : ℝ, x i = (r : EReal) := fun i => by
  have h1 : Ideal.cmp .olt (max (x i) (-(x i))) (y i) = 1#1 := congrFun h i
  rw [hy i] at h1
  exact real_of_test _ h1

theorem up_of_entries {a b : ℕ} (x : (⟨2, ![a, b]⟩ : Shape).Idx → EReal) (h : ∀ i, ∃ r : ℝ, x i = (r : EReal)) :
    ∃ X : Fin a → Fin b → ℝ, x = up X := by
  choose f hf using h
  exact ⟨fun s j => f (ix2 s j), ext2 fun s j => by rw [hf, up_ix2]⟩

theorem row_of_entries {b : ℕ} (x : (⟨2, ![1, b]⟩ : Shape).Idx → EReal) (h : ∀ i, ∃ r : ℝ, x i = (r : EReal)) :
    ∃ X : Fin b → ℝ, x = rowUp X := by
  choose f hf using h
  exact ⟨fun j => f (ix2 0 j), ext2 fun s j => by rw [hf, Subsingleton.elim s 0]; rfl⟩

end Cert.Lift

end
-- ==== Proof.MemOut.lean ====
/-
  What one grid point of the memory attention's backward kernel leaves in its four outputs, in terms of the
  first head's stages: the printed body treats its four heads one after the other, each with its own 64
  columns of the queries, the keys, the values and the cotangent. The first point starts the three
  accumulated outputs from zero, the others from what the point before left.
-/
module

public import proofs.«01_k».proof.Proof.MemHead
public import proofs.«01_k».proof.Proof.Gen.MemIdeal.Value
public import Idealize.ShloMosaic.Lib.Pipeline.ReadBack
public import Idealize.ShloMosaic.Lib.Pipeline.CanonAppend
public import Idealize.ShloMosaic.Lib.Tactic

@[expose] public section

set_option maxRecDepth 16384

noncomputable section

namespace Cert.MemIdeal.Out

open Cert.MemIdeal Cert.MemIdeal.Gen Idealize.ShloMosaic Idealize.ShloMosaic.TcCoe

variable (q : Vec Ideal S512x64 .f32) (k v : Vec Ideal S256x64 .f32) (gq gk : Vec Ideal S1x64 .f32) (ct : Vec Ideal S512x64 .f32)

/-- A head's normalised queries and keys, its softmax and the cotangent of its logits. -/
def hQ : FVec Ideal S512x64 .bf16 := k0_pay16 q gq
def hK : FVec Ideal S256x64 .bf16 := k0_pay17 k gk
def hP : FVec Ideal S512x256 .f32 := k0_pay18 (hQ q gq) (hK k gk)
def hS : FVec Ideal S512x256 .bf16 := k0_pay20 (hQ q gq) (hK k gk) v ct

/-- The cotangent of the head's queries. -/
def hDq : FVec Ideal S512x64 .bf16 := k0_pay28 q (k0_pay24 q gq (k0_pay10 q) (hQ q gq) (hK k gk) v ct)
  (k0_pay25 q gq (k0_pay9 q) (k0_pay10 q) (hQ q gq) (hK k gk) v ct)

/-- The cotangents of its keys, its values and the two gains, added to what was there. -/
def hDk (acc : Vec Ideal S256x64 .f32) : FVec Ideal S256x64 .f32 :=
  k0_pay29 k gk (k0_pay13 k) (k0_pay14 k) (hQ q gq) (hS q k v gq gk ct) acc
def hDv (acc : Vec Ideal S256x64 .f32) : FVec Ideal S256x64 .f32 := k0_pay30 (hP q k gq gk) (k0_pay19 ct) acc
def hGq (acc : Vec Ideal S1x64 .f32) : FVec Ideal S1x64 .f32 := k0_pay31 (k0_pay22 (k0_pay11 q) (hQ q gq) (hK k gk) v ct) acc
def hGk (acc : Vec Ideal S1x64 .f32) : FVec Ideal S1x64 .f32 := k0_pay32 (k0_pay27 (k0_pay15 k) (hQ q gq) (hS q k v gq gk ct)) acc

theorem hz : (![0, 0] : Fin 2 → Nat) = fun _ => 0 := funext fun a => by fin_cases a <;> rfl

section

variable (x0 : Vec Ideal S512x256 .f32) (x1 : Vec Ideal S256x512 .f32) (x2 x3 : Vec Ideal S1x64 .f32) (x4 : Vec Ideal S512x256 .f32)

/-- The four stores into the queries' cotangent, last first. -/
def pieces5 : List (View.Piece (Elt Ideal) S512x256 .bf16) :=
   [⟨Rect.unit ![0, 192] ![512, 64] inb_S512x256_S512x64_0_192, hDq (View.ld x0 (Rect.unit ![0, 192] ![512, 64] inb_S512x256_S512x64_0_192)) (View.ld x1 (Rect.unit ![0, 192] ![256, 64] inb_S256x512_S256x64_0_192)) (View.ld x1 (Rect.unit ![0, 448] ![256, 64] inb_S256x512_S256x64_0_448)) x2 x3 (View.ld x4 (Rect.unit ![0, 192] ![512, 64] inb_S512x256_S512x64_0_192))⟩,
    ⟨Rect.unit ![0, 128] ![512, 64] inb_S512x256_S512x64_0_128, hDq (View.ld x0 (Rect.unit ![0, 128] ![512, 64] inb_S512x256_S512x64_0_128)) (View.ld x1 (Rect.unit ![0, 128] ![256, 64] inb_S256x512_S256x64_0_128)) (View.ld x1 (Rect.unit ![0, 384] ![256, 64] inb_S256x512_S256x64_0_384)) x2 x3 (View.ld x4 (Rect.unit ![0, 128] ![512, 64] inb_S512x256_S512x64_0_128))⟩,
    ⟨Rect.unit ![0, 64] ![512, 64] inb_S512x256_S512x64_0_64, hDq (View.ld x0 (Rect.unit ![0, 64] ![512, 64] inb_S512x256_S512x64_0_64)) (View.ld x1 (Rect.unit ![0, 64] ![256, 64] inb_S256x512_S256x64_0_64)) (View.ld x1 (Rect.unit ![0, 320] ![256, 64] inb_S256x512_S256x64_0_320)) x2 x3 (View.ld x4 (Rect.unit ![0, 64] ![512, 64] inb_S512x256_S512x64_0_64))⟩,
    ⟨Rect.unit ![0, 0] ![512, 64] inb_S512x256_S512x64_0_0, hDq (View.ld x0 (Rect.unit ![0, 0] ![512, 64] inb_S512x256_S512x64_0_0)) (View.ld x1 (Rect.unit ![0, 0] ![256, 64] inb_S256x512_S256x64_0_0)) (View.ld x1 (Rect.unit ![0, 256] ![256, 64] inb_S256x512_S256x64_0_256)) x2 x3 (View.ld x4 (Rect.unit ![0, 0] ![512, 64] inb_S512x256_S512x64_0_0))⟩]

/-- The eight stores into the keys' and the values' cotangent, last first, over contents `acc`. -/
def pieces6 (acc : Vec Ideal S256x512 .f32) : List (View.Piece (Elt Ideal) S256x512 .f32) :=
   [⟨Rect.unit ![0, 448] ![256, 64] inb_S256x512_S256x64_0_448, hDv (View.ld x0 (Rect.unit ![0, 192] ![512, 64] inb_S512x256_S512x64_0_192)) (View.ld x1 (Rect.unit ![0, 192] ![256, 64] inb_S256x512_S256x64_0_192)) x2 x3 (View.ld x4 (Rect.unit ![0, 192] ![512, 64] inb_S512x256_S512x64_0_192)) (View.ld acc (Rect.unit ![0, 448] ![256, 64] inb_S256x512_S256x64_0_448))⟩,
    ⟨Rect.unit ![0, 192] ![256, 64] inb_S256x512_S256x64_0_192, hDk (View.ld x0 (Rect.unit ![0, 192] ![512, 64] inb_S512x256_S512x64_0_192)) (View.ld x1 (Rect.unit ![0, 192] ![256, 64] inb_S256x512_S256x64_0_192)) (View.ld x1 (Rect.unit ![0, 448] ![256, 64] inb_S256x512_S256x64_0_448)) x2 x3 (View.ld x4 (Rect.unit ![0, 192] ![512, 64] inb_S512x256_S512x64_0_192)) (View.ld acc (Rect.unit ![0, 192] ![256, 64] inb_S256x512_S256x64_0_192))⟩,
    ⟨Rect.unit ![0, 384] ![256, 64] inb_S256x512_S256x64_0_384, hDv (View.ld x0 (Rect.unit ![0, 128] ![512, 64] inb_S512x256_S512x64_0_128)) (View.ld x1 (Rect.unit ![0, 128] ![256, 64] inb_S256x512_S256x64_0_128)) x2 x3 (View.ld x4 (Rect.unit ![0, 128] ![512, 64] inb_S512x256_S512x64_0_128)) (View.ld acc (Rect.unit ![0, 384] ![256, 64] inb_S256x512_S256x64_0_384))⟩,
    ⟨Rect.unit ![0, 128] ![256, 64] inb_S256x512_S256x64_0_128, hDk (View.ld x0 (Rect.unit ![0, 128] ![512, 64] inb_S512x256_S512x64_0_128)) (View.ld x1 (Rect.unit ![0, 128] ![256, 64] inb_S256x512_S256x64_0_128)) (View.ld x1 (Rect.unit ![0, 384] ![256, 64] inb_S256x512_S256x64_0_384)) x2 x3 (View.ld x4 (Rect.unit ![0, 128] ![512, 64] inb_S512x256_S512x64_0_128)) (View.ld acc (Rect.unit ![0, 128] ![256, 64] inb_S256x512_S256x64_0_128))⟩,
    ⟨Rect.unit ![0, 320] ![256, 64] inb_S256x512_S256x64_0_320, hDv (View.ld x0 (Rect.unit ![0, 64] ![512, 64] inb_S512x256_S512x64_0_64)) (View.ld x1 (Rect.unit ![0, 64] ![256, 64] inb_S256x512_S256x64_0_64)) x2 x3 (View.ld x4 (Rect.unit ![0, 64] ![512, 64] inb_S512x256_S512x64_0_64)) (View.ld acc (Rect.unit ![0, 320] ![256, 64] inb_S256x512_S256x64_0_320))⟩,
    ⟨Rect.unit ![0, 64] ![256, 64] inb_S256x512_S256x64_0_64, hDk (View.ld x0 (Rect.unit ![0, 64] ![512, 64] inb_S512x256_S512x64_0_64)) (View.ld x1 (Rect.unit ![0, 64] ![256, 64] inb_S256x512_S256x64_0_64)) (View.ld x1 (Rect.unit ![0, 320] ![256, 64] inb_S256x512_S256x64_0_320)) x2 x3 (View.ld x4 (Rect.unit ![0, 64] ![512, 64] inb_S512x256_S512x64_0_64)) (View.ld acc (Rect.unit ![0, 64] ![256, 64] inb_S256x512_S256x64_0_64))⟩,
    ⟨Rect.unit ![0, 256] ![256, 64] inb_S256x512_S256x64_0_256, hDv (View.ld x0 (Rect.unit ![0, 0] ![512, 64] inb_S512x256_S512x64_0_0)) (View.ld x1 (Rect.unit ![0, 0] ![256, 64] inb_S256x512_S256x64_0_0)) x2 x3 (View.ld x4 (Rect.unit ![0, 0] ![512, 64] inb_S512x256_S512x64_0_0)) (View.ld acc (Rect.unit ![0, 256] ![256, 64] inb_S256x512_S256x64_0_256))⟩,
    ⟨Rect.unit ![0, 0] ![256, 64] inb_S256x512_S256x64_0_0, hDk (View.ld x0 (Rect.unit ![0, 0] ![512, 64] inb_S512x256_S512x64_0_0)) (View.ld x1 (Rect.unit ![0, 0] ![256, 64] inb_S256x512_S256x64_0_0)) (View.ld x1 (Rect.unit ![0, 256] ![256, 64] inb_S256x512_S256x64_0_256)) x2 x3 (View.ld x4 (Rect.unit ![0, 0] ![512, 64] inb_S512x256_S512x64_0_0)) (View.ld acc (Rect.unit ![0, 0] ![256, 64] inb_S256x512_S256x64_0_0))⟩]

/-- The gains' cotangents after the four heads, over contents `acc`. -/
def gains7 (acc : Vec Ideal S1x64 .f32) : Vec Ideal S1x64 .f32 := hGq (View.ld x0 (Rect.unit ![0, 192] ![512, 64] inb_S512x256_S512x64_0_192)) (View.ld x1 (Rect.unit ![0, 192] ![256, 64] inb_S256x512_S256x64_0_192)) (View.ld x1 (Rect.unit ![0, 448] ![256, 64] inb_S256x512_S256x64_0_448)) x2 x3 (View.ld x4 (Rect.unit ![0, 192] ![512, 64] inb_S512x256_S512x64_0_192))
    (hGq (View.ld x0 (Rect.unit ![0, 128] ![512, 64] inb_S512x256_S512x64_0_128)) (View.ld x1 (Rect.unit ![0, 128] ![256, 64] inb_S256x512_S256x64_0_128)) (View.ld x1 (Rect.unit ![0, 384] ![256, 64] inb_S256x512_S256x64_0_384)) x2 x3 (View.ld x4 (Rect.unit ![0, 128] ![512, 64] inb_S512x256_S512x64_0_128))
    (hGq (View.ld x0 (Rect.unit ![0, 64] ![512, 64] inb_S512x256_S512x64_0_64)) (View.ld x1 (Rect.unit ![0, 64] ![256, 64] inb_S256x512_S256x64_0_64)) (View.ld x1 (Rect.unit ![0, 320] ![256, 64] inb_S256x512_S256x64_0_320)) x2 x3 (View.ld x4 (Rect.unit ![0, 64] ![512, 64] inb_S512x256_S512x64_0_64))
    (hGq (View.ld x0 (Rect.unit ![0, 0] ![512, 64] inb_S512x256_S512x64_0_0)) (View.ld x1 (Rect.unit ![0, 0] ![256, 64] inb_S256x512_S256x64_0_0)) (View.ld x1 (Rect.unit ![0, 256] ![256, 64] inb_S256x512_S256x64_0_256)) x2 x3 (View.ld x4 (Rect.unit ![0, 0] ![512, 64] inb_S512x256_S512x64_0_0))
    acc)))
def gains8 (acc : Vec Ideal S1x64 .f32) : Vec Ideal S1x64 .f32 := hGk (View.ld x0 (Rect.unit ![0, 192] ![512, 64] inb_S512x256_S512x64_0_192)) (View.ld x1 (Rect.unit ![0, 192] ![256, 64] inb_S256x512_S256x64_0_192)) (View.ld x1 (Rect.unit ![0, 448] ![256, 64] inb_S256x512_S256x64_0_448)) x2 x3 (View.ld x4 (Rect.unit ![0, 192] ![512, 64] inb_S512x256_S512x64_0_192))
    (hGk (View.ld x0 (Rect.unit ![0, 128] ![512, 64] inb_S512x256_S512x64_0_128)) (View.ld x1 (Rect.unit ![0, 128] ![256, 64] inb_S256x512_S256x64_0_128)) (View.ld x1 (Rect.unit ![0, 384] ![256, 64] inb_S256x512_S256x64_0_384)) x2 x3 (View.ld x4 (Rect.unit ![0, 128] ![512, 64] inb_S512x256_S512x64_0_128))
    (hGk (View.ld x0 (Rect.unit ![0, 64] ![512, 64] inb_S512x256_S512x64_0_64)) (View.ld x1 (Rect.unit ![0, 64] ![256, 64] inb_S256x512_S256x64_0_64)) (View.ld x1 (Rect.unit ![0, 320] ![256, 64] inb_S256x512_S256x64_0_320)) x2 x3 (View.ld x4 (Rect.unit ![0, 64] ![512, 64] inb_S512x256_S512x64_0_64))
    (hGk (View.ld x0 (Rect.unit ![0, 0] ![512, 64] inb_S512x256_S512x64_0_0)) (View.ld x1 (Rect.unit ![0, 0] ![256, 64] inb_S256x512_S256x64_0_0)) (View.ld x1 (Rect.unit ![0, 256] ![256, 64] inb_S256x512_S256x64_0_256)) x2 x3 (View.ld x4 (Rect.unit ![0, 0] ![512, 64] inb_S512x256_S512x64_0_0))
    acc)))

end

theorem out_A_5 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : cond0_0 i)
    (x0 : Vec Ideal S512x256 .f32) (x1 : Vec Ideal S256x512 .f32) (x2 : Vec Ideal S1x64 .f32) (x3 : Vec Ideal S1x64 .f32) (x4 : Vec Ideal S512x256 .f32)  :
    out0_A_5 (F := Ideal) c i arg1 harg1 arg2 harg2 arg3 harg3 arg4 harg4 arg5 harg5 arg6 harg6 arg7 harg7 arg8 harg8 arg9 harg9 hc0 x0 x1 x2 x3 x4 = View.canon (pieces5 x0 x1 x2 x3 x4) := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S1x64) hz, View.readCov_cons_toLoadRect, View.canon_cons_unit_zero (S := S1x64) hz]
  rfl

theorem out_A_6 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : cond0_0 i)
    (x0 : Vec Ideal S512x256 .f32) (x1 : Vec Ideal S256x512 .f32) (x2 : Vec Ideal S1x64 .f32) (x3 : Vec Ideal S1x64 .f32) (x4 : Vec Ideal S512x256 .f32)  :
    out0_A_6 (F := Ideal) c i arg1 harg1 arg2 harg2 arg3 harg3 arg4 harg4 arg5 harg5 arg6 harg6 arg7 harg7 arg8 harg8 arg9 harg9 hc0 x0 x1 x2 x3 x4 = View.canon (pieces6 x0 x1 x2 x3 x4 (k0_pay5 (F := Ideal)) ++ [⟨Rect.unit ![0, 0] ![256, 512] inb_S256x512_S256x512_0_0, k0_pay5 (F := Ideal)⟩]) := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp (disch := decide) only [View.readAt_eq_ld, harg1.read_unread, harg2.read_unread, harg3.read_unread, harg4.read_unread, harg5.read_unread, View.ld_unit_zero (S := S1x64) hz, View.readCov_cons_toLoadRect, View.canon_cons_unit_zero (S := S1x64) hz, View.readCov_skip, View.readCov_fill]
  rfl

theorem out_A_7 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : cond0_0 i)
    (x0 : Vec Ideal S512x256 .f32) (x1 : Vec Ideal S256x512 .f32) (x2 : Vec Ideal S1x64 .f32) (x3 : Vec Ideal S1x64 .f32) (x4 : Vec Ideal S512x256 .f32)  :
    out0_A_7 (F := Ideal) c i arg1 harg1 arg2 harg2 arg3 harg3 arg4 harg4 arg5 harg5 arg6 harg6 arg7 harg7 arg8 harg8 arg9 harg9 hc0 x0 x1 x2 x3 x4 = gains7 x0 x1 x2 x3 x4 (k0_pay6 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S1x64) hz, View.readCov_cons_toLoadRect, View.canon_cons_unit_zero (S := S1x64) hz]
  rfl

theorem out_A_8 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : cond0_0 i)
    (x0 : Vec Ideal S512x256 .f32) (x1 : Vec Ideal S256x512 .f32) (x2 : Vec Ideal S1x64 .f32) (x3 : Vec Ideal S1x64 .f32) (x4 : Vec Ideal S512x256 .f32)  :
    out0_A_8 (F := Ideal) c i arg1 harg1 arg2 harg2 arg3 harg3 arg4 harg4 arg5 harg5 arg6 harg6 arg7 harg7 arg8 harg8 arg9 harg9 hc0 x0 x1 x2 x3 x4 = gains8 x0 x1 x2 x3 x4 (k0_pay7 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 hc0 x0 x1 x2 x3 x4)]
  unfold kernelRun0_A
  dsimp only
  sl_unfold_words
  simp only [View.readAt_eq_ld, harg1.read_unread, harg2.read_unread, harg3.read_unread, harg4.read_unread, harg5.read_unread, View.ld_unit_zero (S := S1x64) hz, View.readCov_cons_toLoadRect, View.canon_cons_unit_zero (S := S1x64) hz]
  rfl

theorem out_B_5 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : ¬cond0_0 i)
    (x0 : Vec Ideal S512x256 .f32) (x1 : Vec Ideal S256x512 .f32) (x2 : Vec Ideal S1x64 .f32) (x3 : Vec Ideal S1x64 .f32) (x4 : Vec Ideal S512x256 .f32) (xo6 : Vec Ideal S256x512 .f32) (xo7 : Vec Ideal S1x64 .f32) (xo8 : Vec Ideal S1x64 .f32) :
    out0_B_5 (F := Ideal) c i arg1 harg1 arg2 harg2 arg3 harg3 arg4 harg4 arg5 harg5 arg6 harg6 arg7 harg7 arg8 harg8 arg9 harg9 hc0 x0 x1 x2 x3 x4 xo6 xo7 xo8 = View.canon (pieces5 x0 x1 x2 x3 x4) := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, harg1.read_unread, harg2.read_unread, harg3.read_unread, harg4.read_unread, harg5.read_unread, harg7.read_unread, harg8.read_unread, harg9.read_unread, View.ld_unit_zero (S := S1x64) hz, View.readCov_cons_toLoadRect, View.canon_cons_unit_zero (S := S1x64) hz]
  rfl

theorem out_B_6 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : ¬cond0_0 i)
    (x0 : Vec Ideal S512x256 .f32) (x1 : Vec Ideal S256x512 .f32) (x2 : Vec Ideal S1x64 .f32) (x3 : Vec Ideal S1x64 .f32) (x4 : Vec Ideal S512x256 .f32) (xo6 : Vec Ideal S256x512 .f32) (xo7 : Vec Ideal S1x64 .f32) (xo8 : Vec Ideal S1x64 .f32) :
    out0_B_6 (F := Ideal) c i arg1 harg1 arg2 harg2 arg3 harg3 arg4 harg4 arg5 harg5 arg6 harg6 arg7 harg7 arg8 harg8 arg9 harg9 hc0 x0 x1 x2 x3 x4 xo6 xo7 xo8 = View.canon (pieces6 x0 x1 x2 x3 x4 xo6) := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, harg1.read_unread, harg2.read_unread, harg3.read_unread, harg4.read_unread, harg5.read_unread, harg7.read_unread, harg8.read_unread, harg9.read_unread, View.ld_unit_zero (S := S1x64) hz, View.readCov_cons_toLoadRect, View.canon_cons_unit_zero (S := S1x64) hz]
  rfl

theorem out_B_7 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : ¬cond0_0 i)
    (x0 : Vec Ideal S512x256 .f32) (x1 : Vec Ideal S256x512 .f32) (x2 : Vec Ideal S1x64 .f32) (x3 : Vec Ideal S1x64 .f32) (x4 : Vec Ideal S512x256 .f32) (xo6 : Vec Ideal S256x512 .f32) (xo7 : Vec Ideal S1x64 .f32) (xo8 : Vec Ideal S1x64 .f32) :
    out0_B_7 (F := Ideal) c i arg1 harg1 arg2 harg2 arg3 harg3 arg4 harg4 arg5 harg5 arg6 harg6 arg7 harg7 arg8 harg8 arg9 harg9 hc0 x0 x1 x2 x3 x4 xo6 xo7 xo8 = gains7 x0 x1 x2 x3 x4 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, harg1.read_unread, harg2.read_unread, harg3.read_unread, harg4.read_unread, harg5.read_unread, harg7.read_unread, harg8.read_unread, harg9.read_unread, View.ld_unit_zero (S := S1x64) hz, View.readCov_cons_toLoadRect, View.canon_cons_unit_zero (S := S1x64) hz]
  rfl

theorem out_B_8 (c : Dev nD) (i : grid0.Coords) (arg1 : Memref sig .tc .vmem S512x256 .f32) (harg1 : arg1.IsWhole) (arg2 : Memref sig .tc .vmem S256x512 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S512x256 .f32) (harg5 : arg5.IsWhole) (arg6 : Memref sig .tc .vmem S512x256 .bf16) (harg6 : arg6.IsWhole) (arg7 : Memref sig .tc .vmem S256x512 .f32) (harg7 : arg7.IsWhole) (arg8 : Memref sig .tc .vmem S1x64 .f32) (harg8 : arg8.IsWhole) (arg9 : Memref sig .tc .vmem S1x64 .f32) (harg9 : arg9.IsWhole) (hc0 : ¬cond0_0 i)
    (x0 : Vec Ideal S512x256 .f32) (x1 : Vec Ideal S256x512 .f32) (x2 : Vec Ideal S1x64 .f32) (x3 : Vec Ideal S1x64 .f32) (x4 : Vec Ideal S512x256 .f32) (xo6 : Vec Ideal S256x512 .f32) (xo7 : Vec Ideal S1x64 .f32) (xo8 : Vec Ideal S1x64 .f32) :
    out0_B_8 (F := Ideal) c i arg1 harg1 arg2 harg2 arg3 harg3 arg4 harg4 arg5 harg5 arg6 harg6 arg7 harg7 arg8 harg8 arg9 harg9 hc0 x0 x1 x2 x3 x4 xo6 xo7 xo8 = gains8 x0 x1 x2 x3 x4 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc0 x0 x1 x2 x3 x4 xo6 xo7 xo8)]
  unfold kernelRun0_B
  dsimp only
  sl_unfold_words
  simp only [View.readAt_eq_ld, harg1.read_unread, harg2.read_unread, harg3.read_unread, harg4.read_unread, harg5.read_unread, harg7.read_unread, harg8.read_unread, harg9.read_unread, View.ld_unit_zero (S := S1x64) hz, View.readCov_cons_toLoadRect, View.canon_cons_unit_zero (S := S1x64) hz]
  rfl

end Cert.MemIdeal.Out

end
-- ==== Proof.MemPoint.lean ====
/-
  One grid point of the memory attention's backward kernel on arrays of real numbers: it adds its 512 rows'
  share of every cotangent to what the outputs held.
-/
module

public import proofs.«01_k».proof.Proof.MemOut

@[expose] public section

set_option maxRecDepth 16384

noncomputable section

namespace Cert.MemIdeal.Out

open Cert.MemIdeal Cert.MemIdeal.Gen Idealize.ShloMosaic Cert.Lift Cert.AttnReal Cert.MemIdeal.Head

section

variable (q : Fin 512 → Fin 64 → ℝ) (k v : Fin 256 → Fin 64 → ℝ) (gq gk : Fin 64 → ℝ) (ct : Fin 512 → Fin 64 → ℝ)

theorem hDq_up : hDq (up q) (up k) (up v) (rowUp gq) (rowUp gk) (up ct) = up (gradQ q k v gq gk ct) := by
  simp only [hDq, hQ, hK, pay16_up, pay17_up, pay10_up, pay9_up, pay24_up, pay25_up, pay28_up]
  rfl

theorem hDk_up (acc : Fin 256 → Fin 64 → ℝ) : hDk (up q) (up k) (up v) (rowUp gq) (rowUp gk) (up ct) (up acc)
    = up fun s d => acc s d + gradK q k v gq gk ct s d := by
  simp only [hDk, hS, hQ, hK, pay16_up, pay17_up, pay13_up, pay14_up, pay20_up, pay29_up]
  rfl

theorem hDv_up (acc : Fin 256 → Fin 64 → ℝ) : hDv (up q) (up k) (rowUp gq) (rowUp gk) (up ct) (up acc)
    = up fun s d => acc s d + gradV q k gq gk ct s d := by
  simp only [hDv, hP, hQ, hK, pay16_up, pay17_up, pay18_up, pay19_up, pay30_up]
  rfl

theorem hGq_up (acc : Fin 64 → ℝ) : hGq (up q) (up k) (up v) (rowUp gq) (rowUp gk) (up ct) (rowUp acc)
    = rowUp fun d => acc d + gradGq q k v gq gk ct d := by
  simp only [hGq, hQ, hK, pay16_up, pay17_up, pay11_up, pay22_up, pay31_up]
  rfl

theorem hGk_up (acc : Fin 64 → ℝ) : hGk (up q) (up k) (up v) (rowUp gq) (rowUp gk) (up ct) (rowUp acc)
    = rowUp fun d => acc d + gradGk q k v gq gk ct d := by
  simp only [hGk, hS, hQ, hK, pay16_up, pay17_up, pay15_up, pay20_up, pay27_up, pay32_up]
  rfl

end

/-- A load of a head's 64 columns of an image of a real matrix. -/
theorem ld_up {n w : ℕ} (o : ℕ) (X : Fin n → Fin w → ℝ) (Y : Fin n → Fin 64 → ℝ)
    (inb : ∀ a, (![0, o] : Fin 2 → ℕ) a + (![n, 64] : Fin 2 → ℕ) a ≤ (⟨2, ![n, w]⟩ : Shape).size a) (ho : o + 64 ≤ w)
    (hY : ∀ t (d : Fin 64), Y t d = X t ⟨o + d.val, by omega⟩) :
    View.ld (Val := Elt Ideal) (e' := .f32) (up X) (Rect.unit (s := ⟨2, ![n, w]⟩) ![0, o] ![n, 64] inb) = up Y := by
  refine ext2 (n := n) (k := 64) fun a b => ?_
  show ((X _ _ : ℝ) : EReal) = ((Y a b : ℝ) : EReal)
  rw [hY]
  congr 2
  · apply Fin.ext; show 0 + 1 * a.val = a.val; omega
  · apply Fin.ext; show o + 1 * b.val = o + b.val; omega

theorem ld_qh0 (X : Fin 512 → Fin 256 → ℝ) : View.ld (Val := Elt Ideal) (e' := .f32) (up X) (Rect.unit ![0, 0] ![512, 64] inb_S512x256_S512x64_0_0) = up (qh X 0) :=
  ld_up 0 X (qh X 0) inb_S512x256_S512x64_0_0 (by decide) fun _ _ => rfl

theorem ld_kh0 (X : Fin 256 → Fin 512 → ℝ) : View.ld (Val := Elt Ideal) (e' := .f32) (up X) (Rect.unit ![0, 0] ![256, 64] inb_S256x512_S256x64_0_0) = up (kh X 0) :=
  ld_up 0 X (kh X 0) inb_S256x512_S256x64_0_0 (by decide) fun _ _ => rfl

theorem ld_vh0 (X : Fin 256 → Fin 512 → ℝ) : View.ld (Val := Elt Ideal) (e' := .f32) (up X) (Rect.unit ![0, 256] ![256, 64] inb_S256x512_S256x64_0_256) = up (vh X 0) :=
  ld_up 256 X (vh X 0) inb_S256x512_S256x64_0_256 (by decide) fun _ _ => rfl

theorem ld_qh1 (X : Fin 512 → Fin 256 → ℝ) : View.ld (Val := Elt Ideal) (e' := .f32) (up X) (Rect.unit ![0, 64] ![512, 64] inb_S512x256_S512x64_0_64) = up (qh X 1) :=
  ld_up 64 X (qh X 1) inb_S512x256_S512x64_0_64 (by decide) fun _ _ => rfl

theorem ld_kh1 (X : Fin 256 → Fin 512 → ℝ) : View.ld (Val := Elt Ideal) (e' := .f32) (up X) (Rect.unit ![0, 64] ![256, 64] inb_S256x512_S256x64_0_64) = up (kh X 1) :=
  ld_up 64 X (kh X 1) inb_S256x512_S256x64_0_64 (by decide) fun _ _ => rfl

theorem ld_vh1 (X : Fin 256 → Fin 512 → ℝ) : View.ld (Val := Elt Ideal) (e' := .f32) (up X) (Rect.unit ![0, 320] ![256, 64] inb_S256x512_S256x64_0_320) = up (vh X 1) :=
  ld_up 320 X (vh X 1) inb_S256x512_S256x64_0_320 (by decide) fun _ _ => rfl

theorem ld_qh2 (X : Fin 512 → Fin 256 → ℝ) : View.ld (Val := Elt Ideal) (e' := .f32) (up X) (Rect.unit ![0, 128] ![512, 64] inb_S512x256_S512x64_0_128) = up (qh X 2) :=
  ld_up 128 X (qh X 2) inb_S512x256_S512x64_0_128 (by decide) fun _ _ => rfl

theorem ld_kh2 (X : Fin 256 → Fin 512 → ℝ) : View.ld (Val := Elt Ideal) (e' := .f32) (up X) (Rect.unit ![0, 128] ![256, 64] inb_S256x512_S256x64_0_128) = up (kh X 2) :=
  ld_up 128 X (kh X 2) inb_S256x512_S256x64_0_128 (by decide) fun _ _ => rfl

theorem ld_vh2 (X : Fin 256 → Fin 512 → ℝ) : View.ld (Val := Elt Ideal) (e' := .f32) (up X) (Rect.unit ![0, 384] ![256, 64] inb_S256x512_S256x64_0_384) = up (vh X 2) :=
  ld_up 384 X (vh X 2) inb_S256x512_S256x64_0_384 (by decide) fun _ _ => rfl

theorem ld_qh3 (X : Fin 512 → Fin 256 → ℝ) : View.ld (Val := Elt Ideal) (e' := .f32) (up X) (Rect.unit ![0, 192] ![512, 64] inb_S512x256_S512x64_0_192) = up (qh X 3) :=
  ld_up 192 X (qh X 3) inb_S512x256_S512x64_0_192 (by decide) fun _ _ => rfl

theorem ld_kh3 (X : Fin 256 → Fin 512 → ℝ) : View.ld (Val := Elt Ideal) (e' := .f32) (up X) (Rect.unit ![0, 192] ![256, 64] inb_S256x512_S256x64_0_192) = up (kh X 3) :=
  ld_up 192 X (kh X 3) inb_S256x512_S256x64_0_192 (by decide) fun _ _ => rfl

theorem ld_vh3 (X : Fin 256 → Fin 512 → ℝ) : View.ld (Val := Elt Ideal) (e' := .f32) (up X) (Rect.unit ![0, 448] ![256, 64] inb_S256x512_S256x64_0_448) = up (vh X 3) :=
  ld_up 448 X (vh X 3) inb_S256x512_S256x64_0_448 (by decide) fun _ _ => rfl

variable (X : Fin 512 → Fin 256 → ℝ) (KV : Fin 256 → Fin 512 → ℝ) (gq gk : Fin 64 → ℝ) (CT : Fin 512 → Fin 256 → ℝ)

/-- The gains' outputs after a point. -/
theorem gains7_up (acc : Fin 64 → ℝ) : gains7 (up X) (up KV) (rowUp gq) (rowUp gk) (up CT) (rowUp acc)
    = rowUp fun d => acc d + allGq X KV gq gk CT d := by
  unfold gains7
  simp only [ld_qh0, ld_kh0, ld_vh0, ld_qh1, ld_kh1, ld_vh1, ld_qh2, ld_kh2, ld_vh2, ld_qh3, ld_kh3, ld_vh3, hGq_up, allGq, Fin.sum_univ_four, add_assoc]

theorem gains8_up (acc : Fin 64 → ℝ) : gains8 (up X) (up KV) (rowUp gq) (rowUp gk) (up CT) (rowUp acc)
    = rowUp fun d => acc d + allGk X KV gq gk CT d := by
  unfold gains8
  simp only [ld_qh0, ld_kh0, ld_vh0, ld_qh1, ld_kh1, ld_vh1, ld_qh2, ld_kh2, ld_vh2, ld_qh3, ld_kh3, ld_vh3, hGk_up, allGk, Fin.sum_univ_four, add_assoc]

/-- A stored block of 64 columns agrees with a matrix that has them at those columns. -/
theorem piece_up {n w : ℕ} (o : ℕ) (F : Fin n → Fin w → ℝ) (Y : Fin n → Fin 64 → ℝ)
    (inb : ∀ a, (![0, o] : Fin 2 → ℕ) a + (![n, 64] : Fin 2 → ℕ) a ≤ (⟨2, ![n, w]⟩ : Shape).size a) (ho : o + 64 ≤ w)
    (hY : ∀ t (d : Fin 64), Y t d = F t ⟨o + d.val, by omega⟩) (x : (⟨2, ![n, 64]⟩ : Shape).Idx) :
    up Y x = up F ((Rect.unit (s := ⟨2, ![n, w]⟩) ![0, o] ![n, 64] inb).emb x) := by
  refine (congrArg (fun r : ℝ => (r : EReal)) (hY (x 0) (x 1))).trans ?_
  show ((F _ _ : ℝ) : EReal) = ((F _ _ : ℝ) : EReal)
  congr 2
  · apply Fin.ext; show (x 0).val = 0 + 1 * (x 0).val; omega
  · apply Fin.ext; show o + (x 1).val = o + 1 * (x 1).val; omega

/-- The stores cover their buffers. -/
theorem cover5 (x0 x1 x2 x3 x4) (y : S512x256.Idx) : ∃ p ∈ pieces5 x0 x1 x2 x3 x4, y ∈ p.1.set :=
  View.cover_of_tiledL (pieces5 x0 x1 x2 x3 x4) S512x64.size (by sl_kernel_rfl) y

theorem cover6 (x0 x1 x2 x3 x4 acc) (y : S256x512.Idx) : ∃ p ∈ pieces6 x0 x1 x2 x3 x4 acc, y ∈ p.1.set :=
  View.cover_of_tiledL (pieces6 x0 x1 x2 x3 x4 acc) S256x64.size (by sl_kernel_rfl) y

/-- The queries' cotangent after a point. -/
theorem canon5_up : View.canon (pieces5 (up X) (up KV) (rowUp gq) (rowUp gk) (up CT)) = up (allQ X KV gq gk CT) := by
  funext y
  refine View.canon_apply_of_pieces (Val := Elt Ideal) (e := .bf16) (up (allQ X KV gq gk CT)) _ ?_ y ?_
  · unfold pieces5
    simp only [ld_qh0, ld_kh0, ld_vh0, ld_qh1, ld_kh1, ld_vh1, ld_qh2, ld_kh2, ld_vh2, ld_qh3, ld_kh3, ld_vh3, hDq_up]
    intro p hp
    simp only [List.mem_cons, List.not_mem_nil, or_false] at hp
    rcases hp with rfl | rfl | rfl | rfl
    · exact fun x => piece_up 192 (allQ X KV gq gk CT) (gradQ (qh X 3) (kh KV 3) (vh KV 3) gq gk (qh CT 3)) inb_S512x256_S512x64_0_192 (by decide)
        (fun t d => (allQ_at X KV gq gk CT t 3 d (by simp; omega)).symm) x
    · exact fun x => piece_up 128 (allQ X KV gq gk CT) (gradQ (qh X 2) (kh KV 2) (vh KV 2) gq gk (qh CT 2)) inb_S512x256_S512x64_0_128 (by decide)
        (fun t d => (allQ_at X KV gq gk CT t 2 d (by simp; omega)).symm) x
    · exact fun x => piece_up 64 (allQ X KV gq gk CT) (gradQ (qh X 1) (kh KV 1) (vh KV 1) gq gk (qh CT 1)) inb_S512x256_S512x64_0_64 (by decide)
        (fun t d => (allQ_at X KV gq gk CT t 1 d (by simp; omega)).symm) x
    · exact fun x => piece_up 0 (allQ X KV gq gk CT) (gradQ (qh X 0) (kh KV 0) (vh KV 0) gq gk (qh CT 0)) inb_S512x256_S512x64_0_0 (by decide)
        (fun t d => (allQ_at X KV gq gk CT t 0 d (by simp; omega)).symm) x
  · exact cover5 _ _ _ _ _ y

/-- The keys' and the values' cotangent after a point over contents `acc`, with other stores before it. -/
theorem canon6_up (acc : Fin 256 → Fin 512 → ℝ) (L : List (View.Piece (Elt Ideal) S256x512 .f32)) :
    View.canon (pieces6 (up X) (up KV) (rowUp gq) (rowUp gk) (up CT) (up acc) ++ L) = up fun s j => acc s j + allKV X KV gq gk CT s j := by
  funext y
  refine View.canon_append_of_pieces (Val := Elt Ideal) (e := .f32) (up fun s j => acc s j + allKV X KV gq gk CT s j) L _ ?_ y ?_
  · unfold pieces6
    simp only [ld_qh0, ld_kh0, ld_vh0, ld_qh1, ld_kh1, ld_vh1, ld_qh2, ld_kh2, ld_vh2, ld_qh3, ld_kh3, ld_vh3, hDk_up, hDv_up]
    intro p hp
    simp only [List.mem_cons, List.not_mem_nil, or_false] at hp
    rcases hp with rfl | rfl | rfl | rfl | rfl | rfl | rfl | rfl
    · exact fun x => piece_up 448 (fun s j => acc s j + allKV X KV gq gk CT s j) (fun s d => vh acc 3 s d + gradV (qh X 3) (kh KV 3) gq gk (qh CT 3) s d) inb_S256x512_S256x64_0_448 (by decide)
        (fun t d => (congrArg (_ + ·) (allKV_val X KV gq gk CT t 3 d (by simp; omega))).symm) x
    · exact fun x => piece_up 192 (fun s j => acc s j + allKV X KV gq gk CT s j) (fun s d => kh acc 3 s d + gradK (qh X 3) (kh KV 3) (vh KV 3) gq gk (qh CT 3) s d) inb_S256x512_S256x64_0_192 (by decide)
        (fun t d => (congrArg (_ + ·) (allKV_key X KV gq gk CT t 3 d (by simp; omega))).symm) x
    · exact fun x => piece_up 384 (fun s j => acc s j + allKV X KV gq gk CT s j) (fun s d => vh acc 2 s d + gradV (qh X 2) (kh KV 2) gq gk (qh CT 2) s d) inb_S256x512_S256x64_0_384 (by decide)
        (fun t d => (congrArg (_ + ·) (allKV_val X KV gq gk CT t 2 d (by simp; omega))).symm) x
    · exact fun x => piece_up 128 (fun s j => acc s j + allKV X KV gq gk CT s j) (fun s d => kh acc 2 s d + gradK (qh X 2) (kh KV 2) (vh KV 2) gq gk (qh CT 2) s d) inb_S256x512_S256x64_0_128 (by decide)
        (fun t d => (congrArg (_ + ·) (allKV_key X KV gq gk CT t 2 d (by simp; omega))).symm) x
    · exact fun x => piece_up 320 (fun s j => acc s j + allKV X KV gq gk CT s j) (fun s d => vh acc 1 s d + gradV (qh X 1) (kh KV 1) gq gk (qh CT 1) s d) inb_S256x512_S256x64_0_320 (by decide)
        (fun t d => (congrArg (_ + ·) (allKV_val X KV gq gk CT t 1 d (by simp; omega))).symm) x
    · exact fun x => piece_up 64 (fun s j => acc s j + allKV X KV gq gk CT s j) (fun s d => kh acc 1 s d + gradK (qh X 1) (kh KV 1) (vh KV 1) gq gk (qh CT 1) s d) inb_S256x512_S256x64_0_64 (by decide)
        (fun t d => (congrArg (_ + ·) (allKV_key X KV gq gk CT t 1 d (by simp; omega))).symm) x
    · exact fun x => piece_up 256 (fun s j => acc s j + allKV X KV gq gk CT s j) (fun s d => vh acc 0 s d + gradV (qh X 0) (kh KV 0) gq gk (qh CT 0) s d) inb_S256x512_S256x64_0_256 (by decide)
        (fun t d => (congrArg (_ + ·) (allKV_val X KV gq gk CT t 0 d (by simp; omega))).symm) x
    · exact fun x => piece_up 0 (fun s j => acc s j + allKV X KV gq gk CT s j) (fun s d => kh acc 0 s d + gradK (qh X 0) (kh KV 0) (vh KV 0) gq gk (qh CT 0) s d) inb_S256x512_S256x64_0_0 (by decide)
        (fun t d => (congrArg (_ + ·) (allKV_key X KV gq gk CT t 0 d (by simp; omega))).symm) x
  · exact cover6 _ _ _ _ _ _ y

end Cert.MemIdeal.Out

end
-- ==== Proof.MemSplit.lean ====
/-
  The memory attention's cotangents over 2048 rows are, in the queries, row by row, and in everything else the sums of
  those over four blocks of 512 rows.
-/
module

public import proofs.«01_k».proof.Proof.AttnReal

@[expose] public section

noncomputable section

namespace Cert.AttnReal

/-- The memory's 256 query columns of the projection, and the 256 columns of the mix's cotangent. -/
def queries (proj : Fin 2048 → Fin 1792 → ℝ) : Fin 2048 → Fin 256 → ℝ := fun t j => proj t ⟨1536 + j.val, by omega⟩

def mixed (dm : Fin 2048 → Fin 1024 → ℝ) : Fin 2048 → Fin 256 → ℝ := fun t j => dm t ⟨768 + j.val, by omega⟩

/-- Row `a` of block `t`. -/
def row (t : Fin 4) (a : Fin 512) : Fin 2048 := ⟨512 * t.val + a.val, by omega⟩

/-- Block `t` of 512 rows. -/
def part {w : ℕ} (X : Fin 2048 → Fin w → ℝ) (t : Fin 4) : Fin 512 → Fin w → ℝ := fun a => X (row t a)

theorem sum_rows (f : Fin 2048 → ℝ) : ∑ i, f i = ∑ t, ∑ a, f (row t a) := by
  rw [← Fintype.sum_prod_type', ← Equiv.sum_comp (finProdFinEquiv (m := 4) (n := 512)) f]
  refine Finset.sum_congr rfl fun p _ => congrArg f (Fin.ext ?_)
  show p.2.val + 512 * p.1.val = 512 * p.1.val + p.2.val
  omega

theorem through_sum {ι : Type*} [Fintype ι] (x g : Fin 64 → ℝ) (f : ι → Fin 64 → ℝ) :
    through x g (fun d => ∑ i, f i d) = ∑ i, through x g (f i) := by
  unfold through
  rw [← Finset.sum_div, ← Finset.sum_mul, Finset.sum_comm]
  simp only [Finset.sum_mul, Finset.mul_sum]

/-- A row's cotangent is linear in the cotangent of its normalised row. -/
theorem back_sum {ι : Type*} [Fintype ι] (x g : Fin 64 → ℝ) (f : ι → Fin 64 → ℝ) (d : Fin 64) :
    back x g (fun d => ∑ i, f i d) d = ∑ i, back x g (f i) d := by
  unfold back
  rw [through_sum, Finset.sum_add_distrib, Finset.sum_add_distrib, ← Finset.sum_mul, ← Finset.sum_mul, ← Finset.sum_mul,
    ← Finset.mul_sum]

section

variable {m : ℕ} (q : Fin 2048 → Fin 64 → ℝ) (k v : Fin m → Fin 64 → ℝ) (gq gk : Fin 64 → ℝ) (ct : Fin 2048 → Fin 64 → ℝ)

theorem dkn_rows (s : Fin m) (d : Fin 64) : dkn q k v ct s d = ∑ t, dkn (part q t) k v (part ct t) s d := by
  unfold dkn
  rw [← Finset.sum_mul, sum_rows]
  rfl

theorem gradK_rows (s : Fin m) (d : Fin 64) : gradK q k v gq gk ct s d = ∑ t, gradK (part q t) k v gq gk (part ct t) s d := by
  unfold gradK
  rw [← back_sum]
  exact congrFun (congrArg (back (k s) gk) (funext fun d => dkn_rows _ _ _ _ _ _)) d

theorem gradV_rows (s : Fin m) (d : Fin 64) : gradV q k gq gk ct s d = ∑ t, gradV (part q t) k gq gk (part ct t) s d := by
  unfold gradV dval
  rw [sum_rows]
  rfl

theorem gradGq_rows (d : Fin 64) : gradGq q k v gq gk ct d = ∑ t, gradGq (part q t) k v gq gk (part ct t) d := by
  unfold gradGq
  rw [sum_rows]
  rfl

theorem gradGk_rows (d : Fin 64) : gradGk q k v gq gk ct d = ∑ t, gradGk (part q t) k v gq gk (part ct t) d := by
  unfold gradGk
  rw [Finset.sum_comm]
  refine Finset.sum_congr rfl fun s _ => ?_
  rw [dkn_rows, Finset.mul_sum]
  rfl

end

variable {m : ℕ} (X : Fin 2048 → Fin 256 → ℝ) (KV : Fin m → Fin 512 → ℝ) (gq gk : Fin 64 → ℝ) (CT : Fin 2048 → Fin 256 → ℝ)

theorem allQ_row (t : Fin 4) (a : Fin 512) (j : Fin 256) :
    allQ X KV gq gk CT (row t a) j = allQ (part X t) KV gq gk (part CT t) a j := rfl

theorem allKV_rows (s : Fin m) (j : Fin 512) :
    allKV X KV gq gk CT s j = ∑ t, allKV (part X t) KV gq gk (part CT t) s j := by
  unfold allKV
  by_cases hj : j.val < 256
  · simp only [if_pos hj]; exact gradK_rows _ _ _ _ _ _ _ _
  · simp only [if_neg hj]; exact gradV_rows _ _ _ _ _ _ _

theorem allGq_rows (d : Fin 64) : allGq X KV gq gk CT d = ∑ t, allGq (part X t) KV gq gk (part CT t) d := by
  unfold allGq
  rw [Finset.sum_comm]
  exact Finset.sum_congr rfl fun h _ => gradGq_rows _ _ _ _ _ _ _

theorem allGk_rows (d : Fin 64) : allGk X KV gq gk CT d = ∑ t, allGk (part X t) KV gq gk (part CT t) d := by
  unfold allGk
  rw [Finset.sum_comm]
  exact Finset.sum_congr rfl fun h _ => gradGk_rows _ _ _ _ _ _ _

end Cert.AttnReal

end
-- ==== Proof.MemRun.lean ====
/-
  The memory attention's backward kernel over its four grid points, on arrays of real numbers: every point adds its
  512 rows' share, so the four result arrays end as the cotangents over all 2048 rows.
-/
module

public import proofs.«01_k».proof.Proof.MemPoint
public import proofs.«01_k».proof.Proof.MemSplit
public import proofs.«01_k».proof.Proof.Gen.MemIdeal.Value

@[expose] public section

set_option maxRecDepth 16384

noncomputable section

namespace Cert.MemIdeal.Real

open Cert.MemIdeal Cert.MemIdeal.Gen Idealize.ShloMosaic Idealize.ShloMosaic.TcCoe Idealize.SL.Sem
open Idealize.ShloMosaic.Pipeline (Dat)
open Cert.Lift Cert.AttnReal Cert.MemIdeal.Head Cert.MemIdeal.Out

theorem zero5 : k0_pay5 (F := Ideal) = up fun _ _ => (0 : ℝ) := by
  refine ext2 fun a b => ?_
  pointwise [k0_pay5]
  first
  | done
  | simp [up_ix2]

theorem zero6 : k0_pay6 (F := Ideal) = rowUp fun _ => (0 : ℝ) := by
  refine ext2 fun a b => ?_
  pointwise [k0_pay6]
  first
  | done
  | simp [rowUp, up_ix2]

theorem zero7 : k0_pay7 (F := Ideal) = rowUp fun _ => (0 : ℝ) := by
  refine ext2 fun a b => ?_
  pointwise [k0_pay7]
  first
  | done
  | simp [rowUp, up_ix2]

variable (m : (ℓ : Loc nD τ sig) → Buf (Elt Ideal) ℓ) (ρ : Dev nD → PrngReg) (c : Dev nD)
variable (proj : Fin 2048 → Fin 1792 → ℝ) (KV : Fin 256 → Fin 512 → ℝ) (gq gk : Fin 64 → ℝ) (dm : Fin 2048 → Fin 1024 → ℝ)

/-- The arguments' buffers hold real numbers, these. -/
structure Args : Prop where
  a0 : m ((c : Thread nD τ).loc main_arg0) = up proj
  a1 : m ((c : Thread nD τ).loc main_arg1) = up KV
  a2 : m ((c : Thread nD τ).loc main_arg2) = rowUp gq
  a3 : m ((c : Thread nD τ).loc main_arg3) = rowUp gk
  a4 : m ((c : Thread nD τ).loc main_arg4) = up dm

variable {m c proj KV gq gk dm}

theorem idx0 : ∀ t : Fin cfg0.N, win0_0.index t 0 = t.val ∧ win0_0.index t 1 = 6 :=
  (by decide +kernel : ∀ t : Fin grid0.N, win0_0.index t 0 = t.val ∧ win0_0.index t 1 = 6)

theorem idx4 : ∀ t : Fin cfg0.N, win0_4.index t 0 = t.val ∧ win0_4.index t 1 = 3 :=
  (by decide +kernel : ∀ t : Fin grid0.N, win0_4.index t 0 = t.val ∧ win0_4.index t 1 = 3)

theorem idx5 : ∀ t : Fin cfg0.N, win0_5.index t 0 = t.val ∧ win0_5.index t 1 = 0 :=
  (by decide +kernel : ∀ t : Fin grid0.N, win0_5.index t 0 = t.val ∧ win0_5.index t 1 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 ∧ win0_2.index t 1 = 0 :=
  (by decide +kernel : ∀ t : Fin grid0.N, win0_2.index t 0 = 0 ∧ win0_2.index t 1 = 0)

theorem idx3 : ∀ t : Fin cfg0.N, win0_3.index t 0 = 0 ∧ win0_3.index t 1 = 0 :=
  (by decide +kernel : ∀ t : Fin grid0.N, win0_3.index t 0 = 0 ∧ win0_3.index t 1 = 0)

/-- The point as a number below four. -/
def pt (n : ℕ) : Fin 4 := ⟨n % 4, Nat.mod_lt _ (by decide)⟩

theorem pt_val (t : Fin cfg0.N) : (pt t.val).val = t.val := by
  have h : t.val < 4 := lt_of_lt_of_eq t.isLt N_0
  exact Nat.mod_eq_of_lt h

theorem in0 (h : Args m c proj KV gq gk dm) (t : Fin cfg0.N) : iblk m c 0 t = up (part (queries proj) (pt t.val)) := by
  refine ext2 (n := 512) (k := 256) fun a b => ?_
  unfold iblk
  rw [View.read_apply]
  show V m c main_arg0 _ = _
  rw [V_main_arg0, h.a0]
  refine congrArg (fun r : ℝ => (r : EReal)) ?_
  show proj _ _ = proj _ _
  congr 1 <;> apply Fin.ext
  · show win0_0.index t 0 * 512 + 1 * a.val = 512 * (pt t.val).val + a.val; rw [(idx0 t).1, pt_val]; omega
  · show win0_0.index t 1 * 256 + 1 * b.val = 1536 + b.val; rw [(idx0 t).2]; omega

theorem in4 (h : Args m c proj KV gq gk dm) (t : Fin cfg0.N) : iblk m c 4 t = up (part (mixed dm) (pt t.val)) := by
  refine ext2 (n := 512) (k := 256) fun a b => ?_
  unfold iblk
  rw [View.read_apply]
  show V m c main_arg4 _ = _
  rw [V_main_arg4, h.a4]
  refine congrArg (fun r : ℝ => (r : EReal)) ?_
  show dm _ _ = dm _ _
  congr 1 <;> apply Fin.ext
  · show win0_4.index t 0 * 512 + 1 * a.val = 512 * (pt t.val).val + a.val; rw [(idx4 t).1, pt_val]; omega
  · show win0_4.index t 1 * 256 + 1 * b.val = 768 + b.val; rw [(idx4 t).2]; omega

theorem in1 (h : Args m c proj KV gq gk dm) (t : Fin cfg0.N) : iblk m c 1 t = up KV := by
  refine ext2 (n := 256) (k := 512) fun a b => ?_
  unfold iblk
  rw [View.read_apply]
  show V m c main_arg1 _ = _
  rw [V_main_arg1, h.a1]
  refine congrArg (fun r : ℝ => (r : EReal)) ?_
  show KV _ _ = KV _ _
  congr 1 <;> apply Fin.ext
  · show win0_1.index t 0 * 256 + 1 * a.val = a.val; rw [(idx1 t).1]; omega
  · show win0_1.index t 1 * 512 + 1 * b.val = b.val; rw [(idx1 t).2]; omega

theorem in2 (h : Args m c proj KV gq gk dm) (t : Fin cfg0.N) : iblk m c 2 t = rowUp gq := by
  refine ext2 (n := 1) (k := 64) fun a b => ?_
  unfold iblk
  rw [View.read_apply]
  show V m c main_arg2 _ = _
  rw [V_main_arg2, h.a2]
  refine congrArg (fun r : ℝ => (r : EReal)) ?_
  show gq _ = gq _
  congr 1; apply Fin.ext
  show win0_2.index t 1 * 64 + 1 * b.val = b.val; rw [(idx2 t).2]; omega

theorem in3 (h : Args m c proj KV gq gk dm) (t : Fin cfg0.N) : iblk m c 3 t = rowUp gk := by
  refine ext2 (n := 1) (k := 64) fun a b => ?_
  unfold iblk
  rw [View.read_apply]
  show V m c main_arg3 _ = _
  rw [V_main_arg3, h.a3]
  refine congrArg (fun r : ℝ => (r : EReal)) ?_
  show gk _ = gk _
  congr 1; apply Fin.ext
  show win0_3.index t 1 * 64 + 1 * b.val = b.val; rw [(idx3 t).2]; omega

/-- The outputs' buffers after point `n`: the queries' cotangents of the point's rows, and the sums so far. -/
theorem outs_eq (h : Args m c proj KV gq gk dm) : ∀ (n : ℕ) (hn : n < cfg0.N), outsAt0 m c n hn
    = (up (allQ (part (queries proj) (pt n)) KV gq gk (part (mixed dm) (pt n))),
       up (fun s j => ∑ i ∈ Finset.range (n + 1), allKV (part (queries proj) (pt i)) KV gq gk (part (mixed dm) (pt i)) s j),
       rowUp (fun d => ∑ i ∈ Finset.range (n + 1), allGq (part (queries proj) (pt i)) KV gq gk (part (mixed dm) (pt i)) d),
       rowUp (fun d => ∑ i ∈ Finset.range (n + 1), allGk (part (queries proj) (pt i)) KV gq gk (part (mixed dm) (pt i)) d))
  | 0, hn => by
    refine (outsAt0_A m c ⟨0, hn⟩ rfl).trans ?_
    rw [out_A_5, out_A_6, out_A_7, out_A_8, in0 h, in1 h, in2 h, in3 h, in4 h, zero5, zero6, zero7, canon5_up, canon6_up,
      gains7_up, gains8_up]
    simp only [Finset.range_one, Finset.sum_singleton, zero_add]
  | n + 1, hn => by
    have hN : cfg0.N = 4 := N_0
    have hB : ¬(⟨n + 1, hn⟩ : Fin cfg0.N).val % 4 = 0 := by dsimp only; omega
    refine (outsAt0_B m c ⟨n + 1, hn⟩ hB).trans ?_
    have ih := outs_eq h n (Nat.lt_of_succ_lt hn)
    have e6 : (outsAt0 m c ((⟨n + 1, hn⟩ : Fin cfg0.N).val - 1) (Nat.lt_of_le_of_lt (Nat.sub_le _ _) hn)) = outsAt0 m c n (Nat.lt_of_succ_lt hn) := rfl
    rw [out_B_5, out_B_6, out_B_7, out_B_8, in0 h, in1 h, in2 h, in3 h, in4 h]
    rw [e6, ih]
    dsimp only
    have c6 := canon6_up (part (queries proj) (pt (n + 1))) KV gq gk (part (mixed dm) (pt (n + 1)))
      (fun s j => ∑ i ∈ Finset.range (n + 1), allKV (part (queries proj) (pt i)) KV gq gk (part (mixed dm) (pt i)) s j) []
    rw [List.append_nil] at c6
    rw [canon5_up, c6, gains7_up, gains8_up]
    simp only [Finset.sum_range_succ _ (n + 1)]

/-- The sum over the four points. -/
theorem sum_points (f : Fin 4 → ℝ) : ∑ i ∈ Finset.range (3 + 1), f (pt i) = ∑ t, f t := by
  rw [Fin.sum_univ_four]
  simp only [Finset.sum_range_succ, Finset.sum_range_zero, zero_add]
  rfl

/-- The four results. -/
def resQ (proj : Fin 2048 → Fin 1792 → ℝ) (KV : Fin 256 → Fin 512 → ℝ) (gq gk : Fin 64 → ℝ) (dm : Fin 2048 → Fin 1024 → ℝ) :
    S2048x256.Idx → EReal := up (allQ (queries proj) KV gq gk (mixed dm))
def resKV (proj : Fin 2048 → Fin 1792 → ℝ) (KV : Fin 256 → Fin 512 → ℝ) (gq gk : Fin 64 → ℝ) (dm : Fin 2048 → Fin 1024 → ℝ) :
    S256x512.Idx → EReal := up (allKV (queries proj) KV gq gk (mixed dm))
def resGq (proj : Fin 2048 → Fin 1792 → ℝ) (KV : Fin 256 → Fin 512 → ℝ) (gq gk : Fin 64 → ℝ) (dm : Fin 2048 → Fin 1024 → ℝ) :
    S1x64.Idx → EReal := rowUp (allGq (queries proj) KV gq gk (mixed dm))
def resGk (proj : Fin 2048 → Fin 1792 → ℝ) (KV : Fin 256 → Fin 512 → ℝ) (gq gk : Fin 64 → ℝ) (dm : Fin 2048 → Fin 1024 → ℝ) :
    S1x64.Idx → EReal := rowUp (allGk (queries proj) KV gq gk (mixed dm))

theorem last (h : Args m c proj KV gq gk dm) : outsAt0 m c t0_3.val t0_3.isLt
    = (up (allQ (part (queries proj) (pt 3)) KV gq gk (part (mixed dm) (pt 3))), resKV proj KV gq gk dm,
       resGq proj KV gq gk dm, resGk proj KV gq gk dm) := by
  refine (outs_eq h 3 _).trans ?_
  unfold resKV resGq resGk
  congr 1
  congr 1
  · congr 1; funext s j
    rw [allKV_rows]; exact sum_points fun t => allKV (part (queries proj) t) KV gq gk (part (mixed dm) t) s j
  congr 1
  · congr 1; funext d
    rw [allGq_rows]; exact sum_points fun t => allGq (part (queries proj) t) KV gq gk (part (mixed dm) t) d
  · congr 1; funext d
    rw [allGk_rows]; exact sum_points fun t => allGk (part (queries proj) t) KV gq gk (part (mixed dm) t) d

/-- The queries' result array. -/
theorem final5 (h : Args m c proj KV gq gk dm) : (dats m 0 c).arrAt 5 cfg0.N = resQ proj KV gq gk dm := by
  refine (dats m 0 c).arrAt_eq_of_cover 5 (resQ proj KV gq gk dm) (fun t _ => ?_) fun i => ?_
  · rw [Value.flushed5, outs_eq h]
    dsimp only
    refine ext2 (n := 512) (k := 256) fun a b => ?_
    rw [View.read_apply]
    refine congrArg (fun r : ℝ => (r : EReal)) ?_
    refine (allQ_row (queries proj) KV gq gk (mixed dm) (pt t.val) a b).symm.trans ?_
    show allQ (queries proj) KV gq gk (mixed dm) _ _ = allQ (queries proj) KV gq gk (mixed dm) _ _
    congr 1 <;> apply Fin.ext
    · show 512 * (pt t.val).val + a.val = win0_5.index t 0 * 512 + 1 * a.val; rw [(idx5 t).1, pt_val]; omega
    · show b.val = win0_5.index t 1 * 256 + 1 * b.val; rw [(idx5 t).2]; omega
  · have h0 : (i 0 : ℕ) < 2048 := (i 0).isLt
    have h1 : (i 1 : ℕ) < 256 := (i 1).isLt
    have hN : cfg0.N = 4 := N_0
    let t : Fin cfg0.N := ⟨(i 0 : ℕ) / 512, by omega⟩
    refine ⟨t, flush0_5 t, ?_⟩
    show i ∈ ((View.whole main_v0_0).slice (win0_5.rect t)).set
    rw [View.set_slice_whole, Rect.mem_set_unit]
    intro a
    match a with
    | ⟨0, _⟩ =>
      show win0_5.index t 0 * 512 ≤ (i 0 : ℕ) ∧ (i 0 : ℕ) < win0_5.index t 0 * 512 + 512
      rw [(idx5 t).1]; show (i 0 : ℕ) / 512 * 512 ≤ _ ∧ _ < (i 0 : ℕ) / 512 * 512 + 512; omega
    | ⟨1, _⟩ =>
      show win0_5.index t 1 * 256 ≤ (i 1 : ℕ) ∧ (i 1 : ℕ) < win0_5.index t 1 * 256 + 256
      rw [(idx5 t).2]; omega

theorem point3 (t : Fin cfg0.N) (hf : t.val % 4 = 3) : t = t0_3 := by
  have hN : cfg0.N = 4 := N_0
  have := t.isLt
  exact Fin.ext (show t.val = 3 by omega)

/-- The keys' and values' result array. -/
theorem final6 (h : Args m c proj KV gq gk dm) : (dats m 0 c).arrAt 6 cfg0.N = resKV proj KV gq gk dm := by
  have hz' : (fun a => win0_6.index t0_3 a * main_v0_1.ty.shape.size a) = fun _ => 0 := funext fun a => by fin_cases a <;> decide
  refine (dats m 0 c).arrAt_eq_of_cover 6 (resKV proj KV gq gk dm) (fun t hf => ?_) fun i => ⟨t0_3, (flush0_6 t0_3).mpr rfl, ?_⟩
  · obtain rfl := point3 t ((flush0_6 t).mp hf)
    rw [Value.flushed6, last h]
    exact (Memref.read_access_unit_zero (Elt Ideal) main_v0_1 hz' (fun a => by rw [congrFun hz' a]; simp) (resKV proj KV gq gk dm)).symm
  · have h0 : (i 0 : ℕ) < 256 := (i 0).isLt
    have h1 : (i 1 : ℕ) < 512 := (i 1).isLt
    show i ∈ ((View.whole main_v0_1).slice (win0_6.rect t0_3)).set
    rw [View.set_slice_whole, Rect.mem_set_unit]
    intro a
    match a with
    | ⟨0, _⟩ =>
      show win0_6.index t0_3 0 * 256 ≤ (i 0 : ℕ) ∧ (i 0 : ℕ) < win0_6.index t0_3 0 * 256 + 256
      rw [show win0_6.index t0_3 0 = 0 from by decide +kernel]; omega
    | ⟨1, _⟩ =>
      show win0_6.index t0_3 1 * 512 ≤ (i 1 : ℕ) ∧ (i 1 : ℕ) < win0_6.index t0_3 1 * 512 + 512
      rw [show win0_6.index t0_3 1 = 0 from by decide +kernel]; omega

/-- The gains' result arrays. -/
theorem final7 (h : Args m c proj KV gq gk dm) : (dats m 0 c).arrAt 7 cfg0.N = resGq proj KV gq gk dm := by
  have hz' : (fun a => win0_7.index t0_3 a * main_v0_2.ty.shape.size a) = fun _ => 0 := funext fun a => by fin_cases a <;> decide
  refine (dats m 0 c).arrAt_eq_of_cover 7 (resGq proj KV gq gk dm) (fun t hf => ?_) fun i => ⟨t0_3, (flush0_7 t0_3).mpr rfl, ?_⟩
  · obtain rfl := point3 t ((flush0_7 t).mp hf)
    rw [Value.flushed7, last h]
    exact (Memref.read_access_unit_zero (Elt Ideal) main_v0_2 hz' (fun a => by rw [congrFun hz' a]; simp) (resGq proj KV gq gk dm)).symm
  · have h0 : (i 0 : ℕ) < 1 := (i 0).isLt
    have h1 : (i 1 : ℕ) < 64 := (i 1).isLt
    show i ∈ ((View.whole main_v0_2).slice (win0_7.rect t0_3)).set
    rw [View.set_slice_whole, Rect.mem_set_unit]
    intro a
    match a with
    | ⟨0, _⟩ =>
      show win0_7.index t0_3 0 * 1 ≤ (i 0 : ℕ) ∧ (i 0 : ℕ) < win0_7.index t0_3 0 * 1 + 1
      rw [show win0_7.index t0_3 0 = 0 from by decide +kernel]; omega
    | ⟨1, _⟩ =>
      show win0_7.index t0_3 1 * 64 ≤ (i 1 : ℕ) ∧ (i 1 : ℕ) < win0_7.index t0_3 1 * 64 + 64
      rw [show win0_7.index t0_3 1 = 0 from by decide +kernel]; omega

theorem final8 (h : Args m c proj KV gq gk dm) : (dats m 0 c).arrAt 8 cfg0.N = resGk proj KV gq gk dm := by
  have hz' : (fun a => win0_8.index t0_3 a * main_v0_3.ty.shape.size a) = fun _ => 0 := funext fun a => by fin_cases a <;> decide
  refine (dats m 0 c).arrAt_eq_of_cover 8 (resGk proj KV gq gk dm) (fun t hf => ?_) fun i => ⟨t0_3, (flush0_8 t0_3).mpr rfl, ?_⟩
  · obtain rfl := point3 t ((flush0_8 t).mp hf)
    rw [Value.flushed8, last h]
    exact (Memref.read_access_unit_zero (Elt Ideal) main_v0_3 hz' (fun a => by rw [congrFun hz' a]; simp) (resGk proj KV gq gk dm)).symm
  · have h0 : (i 0 : ℕ) < 1 := (i 0).isLt
    have h1 : (i 1 : ℕ) < 64 := (i 1).isLt
    show i ∈ ((View.whole main_v0_3).slice (win0_8.rect t0_3)).set
    rw [View.set_slice_whole, Rect.mem_set_unit]
    intro a
    match a with
    | ⟨0, _⟩ =>
      show win0_8.index t0_3 0 * 1 ≤ (i 0 : ℕ) ∧ (i 0 : ℕ) < win0_8.index t0_3 0 * 1 + 1
      rw [show win0_8.index t0_3 0 = 0 from by decide +kernel]; omega
    | ⟨1, _⟩ =>
      show win0_8.index t0_3 1 * 64 ≤ (i 1 : ℕ) ∧ (i 1 : ℕ) < win0_8.index t0_3 1 * 64 + 64
      rw [show win0_8.index t0_3 1 = 0 from by decide +kernel]; omega

end Cert.MemIdeal.Real

end
-- ==== Proof.MemPlain.lean ====
/-
  The reference's gradient of the memory attention, stage by stage, on arrays of real numbers: each stage is the image
  of the real formula of `AttnReal`.
-/
module

public import proofs.«01_k».proof.Proof.MemSplit
public import proofs.«01_k».proof.Proof.MemHead
public import proofs.«01_k».proof.Proof.Gen.MemPlainIdeal.Read
public import Idealize.ShloMosaic.Lib.Pointwise
public import Idealize.ShloMosaic.Lib.KernelVsHost

@[expose] public section

set_option maxRecDepth 16384

noncomputable section

namespace Cert.MemPlainIdeal.Real

open Cert.MemPlainIdeal Cert.MemPlainIdeal.Gen Idealize.ShloMosaic Cert.Lift Cert.AttnReal
open Cert.MemIdeal.Head (ext2 rowUp)

/-- The image of a stack of matrices of real numbers. -/
def up3 {a b c : ℕ} (f : Fin a → Fin b → Fin c → ℝ) : (⟨3, ![a, b, c]⟩ : Shape).Idx → EReal :=
  fun i => ((f (i 0) (i 1) (i 2) : ℝ) : EReal)

theorem up3_apply {a b c : ℕ} (f : Fin a → Fin b → Fin c → ℝ) (i) : up3 f i = ((f (i 0) (i 1) (i 2) : ℝ) : EReal) := rfl

theorem up_apply {a b : ℕ} (f : Fin a → Fin b → ℝ) (i) : up f i = ((f (i 0) (i 1) : ℝ) : EReal) := rfl

theorem zeroBits : Ideal.ofBits .f32 0x00000000#32 = (0 : EReal) := by simp [Ideal.ofBits, Ideal.ieee]

theorem exp_real (r : ℝ) : Ideal.exp (r : EReal) = ((Real.exp r : ℝ) : EReal) := Ideal.exp_coe r

theorem bot_max (x : EReal) : max ⊥ x = x := max_bot_left x

/-- A sum over the first two axes of a stack. -/
theorem sum_heads {a b c : ℕ} (h : (⟨3, ![a, b, c]⟩ : Shape).ReducesTo [0, 1] ⟨1, ![c]⟩)
    (v : FVec Ideal ⟨3, ![a, b, c]⟩ .f32) (z : FVec Ideal S_ .f32) (hu) (j : (⟨1, ![c]⟩ : Shape).Idx) :
    Host.reduceAdd v z h hu j = z (Shape.Idx.first hu) + ∑ p, ∑ q, v (ix3 p q (j 0)) := by
  simp only [Host.reduceAdd, Ideal.hostReduceAdd_def]
  refine congrArg (_ + ·) ?_
  refine (Finset.sum_filter_eq_sum_of_fiber _ (fun k : Fin a × Fin b => (ix3 k.1 k.2 (j 0) : (⟨3, ![a, b, c]⟩ : Shape).Idx))
    (fun _ _ e => Prod.ext (congrFun e 0) (congrFun e 1)) (fun i => ?_) v).trans ?_
  · constructor
    · intro e
      refine ⟨(i 0, i 1), ?_⟩
      funext x; apply Fin.ext
      match x with
      | ⟨0, _⟩ => rfl
      | ⟨1, _⟩ => rfl
      | ⟨2, _⟩ => exact (congrArg Fin.val (congrFun e 0)).symm
    · rintro ⟨k, rfl⟩
      funext x; apply Fin.ext
      match x with
      | ⟨0, _⟩ => rfl
  · simp only [Fintype.sum_prod_type]

/-- The reference writes the softmax's gradient over the shifted exponentials. -/
theorem dlogit_shift {n m : ℕ} (q : Fin n → Fin 64 → ℝ) (k v : Fin (m + 1) → Fin 64 → ℝ) (ct : Fin n → Fin 64 → ℝ) (M : ℝ)
    (t : Fin n) (s : Fin (m + 1)) :
    (dprob v ct t s / (∑ s, Real.exp (logit q k t s - M))
      + ∑ _k : Fin 1, -(∑ s, dprob v ct t s * (1 / ((∑ s, Real.exp (logit q k t s - M)) * ∑ s, Real.exp (logit q k t s - M)))
          * Real.exp (logit q k t s - M))) * Real.exp (logit q k t s - M)
      = dlogit q k v ct t s := by
  have hL : (∑ s, Real.exp (logit q k t s - M)) ≠ 0 := (sum_exp_pos _).ne'
  have hp : ∀ s, prob q k t s = Real.exp (logit q k t s - M) / ∑ s, Real.exp (logit q k t s - M) :=
    fun s => (softmax_shift (fun s => logit q k t s) M s).symm
  unfold dlogit
  simp only [hp]
  generalize (∑ s, Real.exp (logit q k t s - M)) = L at hL
  rw [Fin.sum_univ_one]
  have : ∑ s, dprob v ct t s * (1 / (L * L)) * Real.exp (logit q k t s - M)
      = (∑ s, Real.exp (logit q k t s - M) / L * dprob v ct t s) / L := by
    rw [Finset.sum_div]
    refine Finset.sum_congr rfl fun s _ => ?_
    field_simp
  rw [this]
  field_simp
  ring

variable (proj : Fin 2048 → Fin 1792 → ℝ) (KV : Fin 256 → Fin 512 → ℝ) (gq gk : Fin 64 → ℝ) (dm : Fin 2048 → Fin 1024 → ℝ)

/-- A head's normalised queries and keys. -/
abbrev qn (proj : Fin 2048 → Fin 1792 → ℝ) (gq : Fin 64 → ℝ) (h : Fin 4) : Fin 2048 → Fin 64 → ℝ := fun t => nrm (qh (queries proj) h t) gq

abbrev kn (KV : Fin 256 → Fin 512 → ℝ) (gk : Fin 64 → ℝ) (h : Fin 4) : Fin 256 → Fin 64 → ℝ := fun s => nrm (kh KV h s) gk

/-- The heads of the queries, the keys, the values and the cotangent. -/
theorem v24_up : Read.val_main_v24 (F := Ideal) (up proj) = up3 (fun h t d => qh (queries proj) h t d) := by
  funext i
  simp only [Read.val_main_v24_apply, Read.val_main_v23_apply, Read.val_main_v0_apply, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 2048 := (i 1).isLt
  have h2 : (i 2 : ℕ) < 64 := (i 2).isLt
  show proj _ _ = proj _ _
  congr 1 <;> apply Fin.ext
  · show ((((i 1 : ℕ) * 4 + (i 0 : ℕ)) * 64 + (i 2 : ℕ)) / 256) = (i 1 : ℕ); omega
  · show 1536 + (((i 1 : ℕ) * 4 + (i 0 : ℕ)) * 64 + (i 2 : ℕ)) % 256 = 1536 + (64 * (i 0 : ℕ) + (i 2 : ℕ)); omega

theorem v3_up : Read.val_main_v3 (F := Ideal) (up KV) = up3 (fun h t d => kh KV h t d) := by
  funext i
  simp only [Read.val_main_v3_apply, Read.val_main_v2_apply, Read.val_main_v1_apply, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 256 := (i 1).isLt
  have h2 : (i 2 : ℕ) < 64 := (i 2).isLt
  show KV _ _ = KV _ _
  congr 1 <;> apply Fin.ext
  · show ((((i 1 : ℕ) * 4 + (i 0 : ℕ)) * 64 + (i 2 : ℕ)) / 256) = (i 1 : ℕ); omega
  · show (((i 1 : ℕ) * 4 + (i 0 : ℕ)) * 64 + (i 2 : ℕ)) % 256 = 64 * (i 0 : ℕ) + (i 2 : ℕ); omega

theorem v22_up : Read.val_main_v22 (F := Ideal) (up KV) = up3 (fun h t d => vh KV h t d) := by
  funext i
  simp only [Read.val_main_v22_apply, Read.val_main_v21_apply, Read.val_main_v20_apply, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 256 := (i 1).isLt
  have h2 : (i 2 : ℕ) < 64 := (i 2).isLt
  show KV _ _ = KV _ _
  congr 1 <;> apply Fin.ext
  · show ((((i 1 : ℕ) * 4 + (i 0 : ℕ)) * 64 + (i 2 : ℕ)) / 256) = (i 1 : ℕ); omega
  · show 256 + (((i 1 : ℕ) * 4 + (i 0 : ℕ)) * 64 + (i 2 : ℕ)) % 256 = 256 + 64 * (i 0 : ℕ) + (i 2 : ℕ); omega

theorem v77_up : Read.val_main_v77 (F := Ideal) (up dm) = up3 (fun h t d => qh (mixed dm) h t d) := by
  funext i
  simp only [Read.val_main_v77_apply, Read.val_main_v76_apply, Read.val_main_v75_apply, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 2048 := (i 1).isLt
  have h2 : (i 2 : ℕ) < 64 := (i 2).isLt
  show dm _ _ = dm _ _
  congr 1 <;> apply Fin.ext
  · show ((((i 1 : ℕ) * 4 + (i 0 : ℕ)) * 64 + (i 2 : ℕ)) / 256) = (i 1 : ℕ); omega
  · show 768 + (((i 1 : ℕ) * 4 + (i 0 : ℕ)) * 64 + (i 2 : ℕ)) % 256 = 768 + (64 * (i 0 : ℕ) + (i 2 : ℕ)); omega

/-- The norms. -/
theorem v31_up : Read.val_main_v31 (F := Ideal) (up proj) = up3 (fun h t _ => ms (qh (queries proj) h t)) := by
  funext i
  simp only [Read.val_main_v31_apply, Read.val_main_v30_apply, Read.val_main_cst_5_apply, Read.val_main_v29_apply, Read.val_main_v28_apply, Read.val_main_cst_4_apply, Read.val_main_v27_apply, Read.val_main_v26_apply, Read.val_main_cst_3_apply, Read.val_main_v25_apply, v24_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (by norm_num : (64 : ℝ) ≠ 0)]
  rfl

theorem v32_up : Read.val_main_v32 (F := Ideal) (up proj) = up3 (fun h t _ => rr (qh (queries proj) h t)) := by
  funext i
  simp only [Read.val_main_v32_apply, v31_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, rsqrt_real (ms_pos _)]
  rfl

theorem v35_up : Read.val_main_v35 (F := Ideal) (up proj) = up3 (fun h t _ => -(1 / 2) * (rr (qh (queries proj) h t) / ms (qh (queries proj) h t))) := by
  funext i
  simp only [Read.val_main_v35_apply, Read.val_main_v34_apply, Read.val_main_cst_6_apply, Read.val_main_v33_apply, v32_up, v31_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (ms_pos _).ne']

theorem v37_up : Read.val_main_v37 (F := Ideal) (up proj) = up3 (fun h t d => unit (qh (queries proj) h t) d) := by
  funext i
  simp only [Read.val_main_v37_apply, Read.val_main_v36_apply, v24_up, v32_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v40_up : Read.val_main_v40 (F := Ideal) (up proj) (rowUp gq) = up3 (fun h t d => nrm (qh (queries proj) h t) gq d) := by
  funext i
  simp only [Read.val_main_v40_apply, Read.val_main_v39_apply, Read.val_main_v38_apply, v37_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v10_up : Read.val_main_v10 (F := Ideal) (up KV) = up3 (fun h t _ => ms (kh KV h t)) := by
  funext i
  simp only [Read.val_main_v10_apply, Read.val_main_v9_apply, Read.val_main_cst_1_apply, Read.val_main_v8_apply, Read.val_main_v7_apply, Read.val_main_cst_0_apply, Read.val_main_v6_apply, Read.val_main_v5_apply, Read.val_main_cst_apply, Read.val_main_v4_apply, v3_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (by norm_num : (64 : ℝ) ≠ 0)]
  rfl

theorem v11_up : Read.val_main_v11 (F := Ideal) (up KV) = up3 (fun h t _ => rr (kh KV h t)) := by
  funext i
  simp only [Read.val_main_v11_apply, v10_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, rsqrt_real (ms_pos _)]
  rfl

theorem v14_up : Read.val_main_v14 (F := Ideal) (up KV) = up3 (fun h t _ => -(1 / 2) * (rr (kh KV h t) / ms (kh KV h t))) := by
  funext i
  simp only [Read.val_main_v14_apply, Read.val_main_v13_apply, Read.val_main_cst_2_apply, Read.val_main_v12_apply, v11_up, v10_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (ms_pos _).ne']

theorem v16_up : Read.val_main_v16 (F := Ideal) (up KV) = up3 (fun h t d => unit (kh KV h t) d) := by
  funext i
  simp only [Read.val_main_v16_apply, Read.val_main_v15_apply, v3_up, v11_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v19_up : Read.val_main_v19 (F := Ideal) (up KV) (rowUp gk) = up3 (fun h t d => nrm (kh KV h t) gk d) := by
  funext i
  simp only [Read.val_main_v19_apply, Read.val_main_v18_apply, Read.val_main_v17_apply, v16_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

/-- The logits. -/
theorem v43_up : Read.val_main_v43 (F := Ideal) (up proj) (up KV) (rowUp gq) (rowUp gk) = up3 (fun h t s => logit (qn proj gq h) (kn KV gk h) t s) := by
  funext i
  simp only [Read.val_main_v43_apply, Read.val_main_v42_apply, Read.val_main_cst_7_apply, Read.val_main_v41_apply, v40_up, v19_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

/-- The largest logit of a row is a real number. -/
theorem v44_real : ∃ M : Fin 4 → Fin 2048 → ℝ, Read.val_main_v44 (F := Ideal) (up proj) (up KV) (rowUp gq) (rowUp gk) = up M := by
  have key : ∀ h t, ∃ r : ℝ, Read.val_main_v44 (F := Ideal) (up proj) (up KV) (rowUp gq) (rowUp gk) (ix2 h t) = (r : EReal) := by
    intro h t
    obtain ⟨r, hr⟩ := fold_max_real (n := 255) fun s => logit (qn proj gq h) (kn KV gk h) t s
    refine ⟨r, ?_⟩
    unfold Read.val_main_v44
    rw [v43_up]
    refine Eq.trans ?_ hr
    pointwise
    simp only [Read.val_main_cst_8, pointwise, Ideal.ofBits_def, ofBits_neg_inf]
    rfl
  choose M hM using key
  exact ⟨M, ext2 fun h t => hM h t⟩

section

variable {proj : Fin 2048 → Fin 1792 → ℝ} {KV : Fin 256 → Fin 512 → ℝ} {gq gk : Fin 64 → ℝ} {dm : Fin 2048 → Fin 1024 → ℝ}
  {M : Fin 4 → Fin 2048 → ℝ} (hM : Read.val_main_v44 (F := Ideal) (up proj) (up KV) (rowUp gq) (rowUp gk) = up M)
include hM

theorem v51_up : Read.val_main_v51 (F := Ideal) (up proj) (up KV) (rowUp gq) (rowUp gk) = up M := by
  funext i
  rw [Read.val_main_v51_apply, hM, Read.val_main_v50_apply, Read.val_main_cst_10_apply, Ideal.maximumf_def, Ideal.ofBits_def, ofBits_neg_inf]
  exact bot_max _

theorem v63_up : Read.val_main_v63 (F := Ideal) (up proj) (up KV) (rowUp gq) (rowUp gk) = up3 (fun h t s => logit (qn proj gq h) (kn KV gk h) t s - M h t) := by
  funext i
  simp only [Read.val_main_v63_apply, Read.val_main_v62_apply, Read.val_main_v61_apply, v43_up, v51_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v64_up : Read.val_main_v64 (F := Ideal) (up proj) (up KV) (rowUp gq) (rowUp gk) = up3 (fun h t s => Real.exp (logit (qn proj gq h) (kn KV gk h) t s - M h t)) := by
  funext i
  simp only [Read.val_main_v64_apply, v63_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, exp_real]

theorem v66_up : Read.val_main_v66 (F := Ideal) (up proj) (up KV) (rowUp gq) (rowUp gk) = up3 (fun h t _ => ∑ s, Real.exp (logit (qn proj gq h) (kn KV gk h) t s - M h t)) := by
  funext i
  simp only [Read.val_main_v66_apply, Read.val_main_v65_apply, Read.val_main_cst_16_apply, v64_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v68_up : Read.val_main_v68 (F := Ideal) (up proj) (up KV) (rowUp gq) (rowUp gk) = up3 (fun h t s => prob (qn proj gq h) (kn KV gk h) t s) := by
  funext i
  simp only [Read.val_main_v68_apply, Read.val_main_v67_apply, v64_up hM, v66_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (sum_exp_pos _).ne']
  exact congrArg (fun r : ℝ => (r : EReal)) (softmax_shift _ _ _)

theorem v71_up : Read.val_main_v71 (F := Ideal) (up proj) (up KV) (rowUp gq) (rowUp gk) = up3 (fun h t _ => 1 / ((∑ s, Real.exp (logit (qn proj gq h) (kn KV gk h) t s - M h t)) * (∑ s, Real.exp (logit (qn proj gq h) (kn KV gk h) t s - M h t)))) := by
  funext i
  simp only [Read.val_main_v71_apply, Read.val_main_v70_apply, Read.val_main_cst_17_apply, Read.val_main_v69_apply, v66_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (mul_pos (sum_exp_pos _) (sum_exp_pos _)).ne']

omit hM in

theorem v80_up : Read.val_main_v80 (F := Ideal) (up KV) (up dm) = up3 (fun h t s => dprob (vh KV h) (qh (mixed dm) h) t s) := by
  funext i
  simp only [Read.val_main_v80_apply, v77_up, v22_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v83_up : Read.val_main_v83 (F := Ideal) (up proj) (up KV) (rowUp gq) (rowUp gk) (up dm) = up3 (fun h t s => dprob (vh KV h) (qh (mixed dm) h) t s * (1 / ((∑ s, Real.exp (logit (qn proj gq h) (kn KV gk h) t s - M h t)) * (∑ s, Real.exp (logit (qn proj gq h) (kn KV gk h) t s - M h t)))) * Real.exp (logit (qn proj gq h) (kn KV gk h) t s - M h t)) := by
  funext i
  simp only [Read.val_main_v83_apply, Read.val_main_v82_apply, Read.val_main_v81_apply, v80_up, v71_up hM, v64_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

omit hM in
theorem v90_of {g : Fin 4 → Fin 2048 → ℝ} (hg : Read.val_main_v84 (F := Ideal) (up proj) (up KV) (rowUp gq) (rowUp gk) (up dm) = up g) : Read.val_main_v90 (F := Ideal) (up proj) (up KV) (rowUp gq) (rowUp gk) (up dm) = up3 (fun h t _ => ∑ _k : Fin 1, -(g h t)) := by
  funext i
  simp only [Read.val_main_v90_apply, Read.val_main_v89_apply, Read.val_main_cst_19_apply, Read.val_main_v86_apply, Read.val_main_v85_apply, hg, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 2048 := (i 1).isLt
  refine Finset.sum_congr rfl fun k _ => congrArg Neg.neg ?_
  have h2 : (k : ℕ) < 1 := k.isLt
  have e0 : (⟨(((i 0 : ℕ) * 2048 + (i 1 : ℕ)) * 1 + (k : ℕ)) / 2048, by omega⟩ : Fin 4) = i 0 := Fin.ext (by show _ / 2048 = (i 0 : ℕ); omega)
  have e1 : (⟨(((i 0 : ℕ) * 2048 + (i 1 : ℕ)) * 1 + (k : ℕ)) % 2048, by omega⟩ : Fin 2048) = i 1 := Fin.ext (by show _ % 2048 = (i 1 : ℕ); omega)
  exact congrArg₂ g e0 e1

theorem v84_up : Read.val_main_v84 (F := Ideal) (up proj) (up KV) (rowUp gq) (rowUp gk) (up dm) = up (fun h t => ∑ s, dprob (vh KV h) (qh (mixed dm) h) t s * (1 / ((∑ s, Real.exp (logit (qn proj gq h) (kn KV gk h) t s - M h t)) * (∑ s, Real.exp (logit (qn proj gq h) (kn KV gk h) t s - M h t)))) * Real.exp (logit (qn proj gq h) (kn KV gk h) t s - M h t)) := by
  funext i
  simp only [Read.val_main_v84_apply, Read.val_main_cst_18_apply, v83_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v94_up : Read.val_main_v94 (F := Ideal) (up proj) (up KV) (rowUp gq) (rowUp gk) (up dm) = up3 (fun h t s => dlogit (qn proj gq h) (kn KV gk h) (vh KV h) (qh (mixed dm) h) t s * (1 / 8)) := by
  funext i
  simp only [Read.val_main_v94_apply, Read.val_main_v93_apply, Read.val_main_cst_20_apply, Read.val_main_v92_apply, Read.val_main_v91_apply, Read.val_main_v88_apply, Read.val_main_v87_apply, v80_up, v66_up hM, v90_of (v84_up hM), v64_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, div_real (sum_exp_pos _).ne']
  exact congrArg (fun r : ℝ => ((r * (1 / 8) : ℝ) : EReal)) (dlogit_shift _ _ _ _ _ _ _)

end

/-- The cotangents of the normalised keys and queries. -/
theorem v95_up : Read.val_main_v95 (F := Ideal) (up proj) (up KV) (rowUp gq) (rowUp gk) (up dm) = up3 (fun h s d => dkn (qn proj gq h) (kn KV gk h) (vh KV h) (qh (mixed dm) h) s d) := by
  obtain ⟨M, hM⟩ := v44_real proj KV gq gk
  funext i
  simp only [Read.val_main_v95_apply, v40_up, v94_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  show ∑ t, _ = (∑ t, _) * (1 / 8 : ℝ)
  rw [Finset.sum_mul]
  exact Finset.sum_congr rfl fun t _ => mul_right_comm _ _ _

theorem v96_up : Read.val_main_v96 (F := Ideal) (up proj) (up KV) (rowUp gq) (rowUp gk) (up dm) = up3 (fun h t d => dqn (qn proj gq h) (kn KV gk h) (vh KV h) (qh (mixed dm) h) t d) := by
  obtain ⟨M, hM⟩ := v44_real proj KV gq gk
  funext i
  simp only [Read.val_main_v96_apply, v19_up, v94_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  show ∑ t, _ = (∑ t, _) * (1 / 8 : ℝ)
  rw [Finset.sum_mul]
  exact Finset.sum_congr rfl fun t _ => mul_right_comm _ _ _

theorem v79_up : Read.val_main_v79 (F := Ideal) (up proj) (up KV) (rowUp gq) (rowUp gk) (up dm) = up3 (fun h s d => gradV (qh (queries proj) h) (kh KV h) gq gk (qh (mixed dm) h) s d) := by
  obtain ⟨M, hM⟩ := v44_real proj KV gq gk
  funext i
  simp only [Read.val_main_v79_apply, Read.val_main_v78_apply, v77_up, v68_up hM, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  exact Finset.sum_congr rfl fun t _ => mul_comm _ _

theorem v101_up : Read.val_main_v101 (F := Ideal) (up proj) (up KV) (rowUp gq) (rowUp gk) (up dm) = up3 (fun h t d => dqn (qn proj gq h) (kn KV gk h) (vh KV h) (qh (mixed dm) h) t d * gq d) := by
  funext i
  simp only [Read.val_main_v101_apply, Read.val_main_v100_apply, Read.val_main_v38_apply, v96_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v106_of {g : Fin 4 → Fin 2048 → ℝ} (hg : Read.val_main_v105 (F := Ideal) (up proj) (up KV) (rowUp gq) (rowUp gk) (up dm) = up g) : Read.val_main_v106 (F := Ideal) (up proj) (up KV) (rowUp gq) (rowUp gk) (up dm) = up3 (fun h t _ => g h t) := by
  funext i
  simp only [Read.val_main_v106_apply, hg, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 2048 := (i 1).isLt
  have h2 : (i 2 : ℕ) < 1 := (i 2).isLt
  have e0 : (⟨(((i 0 : ℕ) * 2048 + (i 1 : ℕ)) * 1 + (i 2 : ℕ)) / 2048, by omega⟩ : Fin 4) = i 0 := Fin.ext (by show _ / 2048 = (i 0 : ℕ); omega)
  have e1 : (⟨(((i 0 : ℕ) * 2048 + (i 1 : ℕ)) * 1 + (i 2 : ℕ)) % 2048, by omega⟩ : Fin 2048) = i 1 := Fin.ext (by show _ % 2048 = (i 1 : ℕ); omega)
  exact congrArg₂ g e0 e1

theorem v105_up : Read.val_main_v105 (F := Ideal) (up proj) (up KV) (rowUp gq) (rowUp gk) (up dm) = up (fun h t => ∑ d, qh (queries proj) h t d * (dqn (qn proj gq h) (kn KV gk h) (vh KV h) (qh (mixed dm) h) t d * gq d)) := by
  funext i
  simp only [Read.val_main_v105_apply, Read.val_main_cst_23_apply, Read.val_main_v104_apply, v24_up, v101_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v113_up : Read.val_main_v113 (F := Ideal) (up proj) (up KV) (rowUp gq) (rowUp gk) (up dm) = up3 (fun h t _ => through (qh (queries proj) h t) gq (dqn (qn proj gq h) (kn KV gk h) (vh KV h) (qh (mixed dm) h) t)) := by
  funext i
  simp only [Read.val_main_v113_apply, Read.val_main_v112_apply, Read.val_main_cst_25_apply, Read.val_main_v111_apply, Read.val_main_v110_apply, Read.val_main_cst_24_apply, Read.val_main_v109_apply, v35_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, v106_of _ _ _ _ _ (v105_up proj KV gq gk dm), div_real (by norm_num : (64 : ℝ) ≠ 0)]
  exact congrArg (fun r : ℝ => (r : EReal)) (Fin.sum_univ_one _)

theorem v117_up : Read.val_main_v117 (F := Ideal) (up proj) (up KV) (rowUp gq) (rowUp gk) (up dm) = up3 (fun h t d => gradQ (qh (queries proj) h) (kh KV h) (vh KV h) gq gk (qh (mixed dm) h) t d) := by
  funext i
  simp only [Read.val_main_v117_apply, Read.val_main_v116_apply, Read.val_main_v115_apply, Read.val_main_v114_apply, Read.val_main_v108_apply, Read.val_main_v107_apply, v113_up, v101_up, v32_up, v24_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v127_up : Read.val_main_v127 (F := Ideal) (up proj) (up KV) (rowUp gq) (rowUp gk) (up dm) = up3 (fun h s d => dkn (qn proj gq h) (kn KV gk h) (vh KV h) (qh (mixed dm) h) s d * gk d) := by
  funext i
  simp only [Read.val_main_v127_apply, Read.val_main_v126_apply, Read.val_main_v17_apply, v95_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v132_of {g : Fin 4 → Fin 256 → ℝ} (hg : Read.val_main_v131 (F := Ideal) (up proj) (up KV) (rowUp gq) (rowUp gk) (up dm) = up g) : Read.val_main_v132 (F := Ideal) (up proj) (up KV) (rowUp gq) (rowUp gk) (up dm) = up3 (fun h t _ => g h t) := by
  funext i
  simp only [Read.val_main_v132_apply, hg, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 4 := (i 0).isLt
  have h1 : (i 1 : ℕ) < 256 := (i 1).isLt
  have h2 : (i 2 : ℕ) < 1 := (i 2).isLt
  have e0 : (⟨(((i 0 : ℕ) * 256 + (i 1 : ℕ)) * 1 + (i 2 : ℕ)) / 256, by omega⟩ : Fin 4) = i 0 := Fin.ext (by show _ / 256 = (i 0 : ℕ); omega)
  have e1 : (⟨(((i 0 : ℕ) * 256 + (i 1 : ℕ)) * 1 + (i 2 : ℕ)) % 256, by omega⟩ : Fin 256) = i 1 := Fin.ext (by show _ % 256 = (i 1 : ℕ); omega)
  exact congrArg₂ g e0 e1

theorem v131_up : Read.val_main_v131 (F := Ideal) (up proj) (up KV) (rowUp gq) (rowUp gk) (up dm) = up (fun h s => ∑ d, kh KV h s d * (dkn (qn proj gq h) (kn KV gk h) (vh KV h) (qh (mixed dm) h) s d * gk d)) := by
  funext i
  simp only [Read.val_main_v131_apply, Read.val_main_cst_29_apply, Read.val_main_v130_apply, v3_up, v127_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v139_up : Read.val_main_v139 (F := Ideal) (up proj) (up KV) (rowUp gq) (rowUp gk) (up dm) = up3 (fun h s _ => through (kh KV h s) gk (dkn (qn proj gq h) (kn KV gk h) (vh KV h) (qh (mixed dm) h) s)) := by
  funext i
  simp only [Read.val_main_v139_apply, Read.val_main_v138_apply, Read.val_main_cst_31_apply, Read.val_main_v137_apply, Read.val_main_v136_apply, Read.val_main_cst_30_apply, Read.val_main_v135_apply, v14_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add, v132_of _ _ _ _ _ (v131_up proj KV gq gk dm), div_real (by norm_num : (64 : ℝ) ≠ 0)]
  exact congrArg (fun r : ℝ => (r : EReal)) (Fin.sum_univ_one _)

theorem v143_up : Read.val_main_v143 (F := Ideal) (up proj) (up KV) (rowUp gq) (rowUp gk) (up dm) = up3 (fun h s d => gradK (qh (queries proj) h) (kh KV h) (vh KV h) gq gk (qh (mixed dm) h) s d) := by
  funext i
  simp only [Read.val_main_v143_apply, Read.val_main_v142_apply, Read.val_main_v141_apply, Read.val_main_v140_apply, Read.val_main_v134_apply, Read.val_main_v133_apply, v139_up, v127_up, v11_up, v3_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  rfl

theorem v97_up : Read.val_main_v97 (F := Ideal) (up proj) (up KV) (rowUp gq) (rowUp gk) (up dm) = up3 (fun h t d => unit (qh (queries proj) h t) d * dqn (qn proj gq h) (kn KV gk h) (vh KV h) (qh (mixed dm) h) t d) := by
  funext i
  simp only [Read.val_main_v97_apply, v37_up, v96_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]

theorem v123_up : Read.val_main_v123 (F := Ideal) (up proj) (up KV) (rowUp gq) (rowUp gk) (up dm) = up3 (fun h s d => unit (kh KV h s) d * dkn (qn proj gq h) (kn KV gk h) (vh KV h) (qh (mixed dm) h) s d) := by
  funext i
  simp only [Read.val_main_v123_apply, v16_up, v95_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]

theorem v103_up : Read.val_main_v103 (F := Ideal) (up proj) (up KV) (rowUp gq) (rowUp gk) (up dm) = rowUp (allGq (queries proj) KV gq gk (mixed dm)) := by
  funext i
  rw [Read.val_main_v103_apply]
  unfold Read.val_main_v102
  refine (sum_heads _ _ _ _ _).trans ?_
  simp only [Fin.sum_univ_one, Read.val_main_v99_apply]
  unfold Read.val_main_v98
  refine (congrArg (_ + ·) (sum_heads _ _ _ _ _)).trans ?_
  simp only [v97_up, up3_apply, up_apply, Read.val_main_cst_21_apply, Read.val_main_cst_22_apply, Ideal.ofBits_def, zeroBits, zero_add, sum_coe]
  refine congrArg (fun r : ℝ => (r : EReal)) ?_
  have h1 : (i 1 : ℕ) < 64 := (i 1).isLt
  refine congrArg (fun d : Fin 64 => ∑ h : Fin 4, ∑ t : Fin 2048, unit (qh (queries proj) h t) d * dqn (qn proj gq h) (kn KV gk h) (vh KV h) (qh (mixed dm) h) t d) (Fin.ext ?_ : _ = (i 1 : Fin 64))
  show (0 * 1 + 0) * 64 + (i 1 : ℕ) = (i 1 : ℕ); omega

theorem v129_up : Read.val_main_v129 (F := Ideal) (up proj) (up KV) (rowUp gq) (rowUp gk) (up dm) = rowUp (allGk (queries proj) KV gq gk (mixed dm)) := by
  funext i
  rw [Read.val_main_v129_apply]
  unfold Read.val_main_v128
  refine (sum_heads _ _ _ _ _).trans ?_
  simp only [Fin.sum_univ_one, Read.val_main_v125_apply]
  unfold Read.val_main_v124
  refine (congrArg (_ + ·) (sum_heads _ _ _ _ _)).trans ?_
  simp only [v123_up, up3_apply, up_apply, Read.val_main_cst_27_apply, Read.val_main_cst_28_apply, Ideal.ofBits_def, zeroBits, zero_add, sum_coe]
  refine congrArg (fun r : ℝ => (r : EReal)) ?_
  have h1 : (i 1 : ℕ) < 64 := (i 1).isLt
  refine congrArg (fun d : Fin 64 => ∑ h : Fin 4, ∑ s : Fin 256, unit (kh KV h s) d * dkn (qn proj gq h) (kn KV gk h) (vh KV h) (qh (mixed dm) h) s d) (Fin.ext ?_ : _ = (i 1 : Fin 64))
  show (0 * 1 + 0) * 64 + (i 1 : ℕ) = (i 1 : ℕ); omega

/-- The four results. -/
theorem v148_up : Read.val_main_v148 (F := Ideal) (up proj) (up KV) (rowUp gq) (rowUp gk) (up dm) = up (allQ (queries proj) KV gq gk (mixed dm)) := by
  funext i
  simp only [Read.val_main_v148_apply, Read.val_main_v119_apply, Read.val_main_v118_apply, v117_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 2048 := (i 0).isLt
  have h1 : (i 1 : ℕ) < 256 := (i 1).isLt
  have e0 : (Read.idx_main_v118 (Read.idx_main_v119 i) 0 : Fin 4) = headOf (i 1) := Fin.ext (by
    show ((i 0 : ℕ) * 256 + (i 1 : ℕ)) / 64 % 4 = (i 1 : ℕ) / 64 % 4; omega)
  have e1 : (Read.idx_main_v118 (Read.idx_main_v119 i) 1 : Fin 2048) = i 0 := Fin.ext (by
    show ((i 0 : ℕ) * 256 + (i 1 : ℕ)) / 256 = (i 0 : ℕ); omega)
  have e2 : (Read.idx_main_v118 (Read.idx_main_v119 i) 2 : Fin 64) = laneOf (i 1) := Fin.ext (by
    show ((i 0 : ℕ) * 256 + (i 1 : ℕ)) % 64 = (i 1 : ℕ) % 64; omega)
  exact (congrArg (fun h : Fin 4 => gradQ (qh (queries proj) h) (kh KV h) (vh KV h) gq gk (qh (mixed dm) h) (Read.idx_main_v118 (Read.idx_main_v119 i) 1) (Read.idx_main_v118 (Read.idx_main_v119 i) 2)) e0).trans
    ((congrArg (fun t : Fin 2048 => (fun h : Fin 4 => gradQ (qh (queries proj) h) (kh KV h) (vh KV h) gq gk (qh (mixed dm) h) t (Read.idx_main_v118 (Read.idx_main_v119 i) 2)) (headOf (i 1))) e1).trans
      (congrArg (fun d : Fin 64 => (fun h : Fin 4 => gradQ (qh (queries proj) h) (kh KV h) (vh KV h) gq gk (qh (mixed dm) h) (i 0) d) (headOf (i 1))) e2))

theorem v121_up : Read.val_main_v121 (F := Ideal) (up proj) (up KV) (rowUp gq) (rowUp gk) (up dm) = up (fun s j => (fun h => gradV (qh (queries proj) h) (kh KV h) gq gk (qh (mixed dm) h)) (headOf j) s (laneOf j)) := by
  funext i
  simp only [Read.val_main_v121_apply, Read.val_main_v120_apply, v79_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 256 := (i 0).isLt
  have h1 : (i 1 : ℕ) < 256 := (i 1).isLt
  have e0 : (Read.idx_main_v120 (Read.idx_main_v121 i) 0 : Fin 4) = headOf (i 1) := Fin.ext (by
    show ((i 0 : ℕ) * 256 + (i 1 : ℕ)) / 64 % 4 = (i 1 : ℕ) / 64 % 4; omega)
  have e1 : (Read.idx_main_v120 (Read.idx_main_v121 i) 1 : Fin 256) = i 0 := Fin.ext (by
    show ((i 0 : ℕ) * 256 + (i 1 : ℕ)) / 256 = (i 0 : ℕ); omega)
  have e2 : (Read.idx_main_v120 (Read.idx_main_v121 i) 2 : Fin 64) = laneOf (i 1) := Fin.ext (by
    show ((i 0 : ℕ) * 256 + (i 1 : ℕ)) % 64 = (i 1 : ℕ) % 64; omega)
  exact (congrArg (fun h : Fin 4 => gradV (qh (queries proj) h) (kh KV h) gq gk (qh (mixed dm) h) (Read.idx_main_v120 (Read.idx_main_v121 i) 1) (Read.idx_main_v120 (Read.idx_main_v121 i) 2)) e0).trans
    ((congrArg (fun t : Fin 256 => (fun h : Fin 4 => gradV (qh (queries proj) h) (kh KV h) gq gk (qh (mixed dm) h) t (Read.idx_main_v120 (Read.idx_main_v121 i) 2)) (headOf (i 1))) e1).trans
      (congrArg (fun d : Fin 64 => (fun h : Fin 4 => gradV (qh (queries proj) h) (kh KV h) gq gk (qh (mixed dm) h) (i 0) d) (headOf (i 1))) e2))

theorem v145_up : Read.val_main_v145 (F := Ideal) (up proj) (up KV) (rowUp gq) (rowUp gk) (up dm) = up (fun s j => (fun h => gradK (qh (queries proj) h) (kh KV h) (vh KV h) gq gk (qh (mixed dm) h)) (headOf j) s (laneOf j)) := by
  funext i
  simp only [Read.val_main_v145_apply, Read.val_main_v144_apply, v143_up, up3_apply, up_apply, Ideal.mulf_def, Ideal.addf_def, Ideal.subf_def, Ideal.hostDivf_def, Ideal.hostNegf_def, Ideal.negf_def, Ideal.maximumf_def, Ideal.hostUnary_rsqrt_def, Ideal.hostUnary_exp_def, Ideal.ofBits_def, Ideal.truncf_def, ofBits_64, ofBits_eps, ofBits_neg_half, ofBits_eighth, ofBits_one, zeroBits, ofBits_neg_inf, ← EReal.coe_mul, ← EReal.coe_add, ← EReal.coe_sub, ← EReal.coe_neg, sum_coe, zero_add]
  refine congrArg (fun r : ℝ => (r : EReal)) ?_
  have h0 : (i 0 : ℕ) < 256 := (i 0).isLt
  have h1 : (i 1 : ℕ) < 256 := (i 1).isLt
  have e0 : (Read.idx_main_v144 (Read.idx_main_v145 i) 0 : Fin 4) = headOf (i 1) := Fin.ext (by
    show ((i 0 : ℕ) * 256 + (i 1 : ℕ)) / 64 % 4 = (i 1 : ℕ) / 64 % 4; omega)
  have e1 : (Read.idx_main_v144 (Read.idx_main_v145 i) 1 : Fin 256) = i 0 := Fin.ext (by
    show ((i 0 : ℕ) * 256 + (i 1 : ℕ)) / 256 = (i 0 : ℕ); omega)
  have e2 : (Read.idx_main_v144 (Read.idx_main_v145 i) 2 : Fin 64) = laneOf (i 1) := Fin.ext (by
    show ((i 0 : ℕ) * 256 + (i 1 : ℕ)) % 64 = (i 1 : ℕ) % 64; omega)
  exact (congrArg (fun h : Fin 4 => gradK (qh (queries proj) h) (kh KV h) (vh KV h) gq gk (qh (mixed dm) h) (Read.idx_main_v144 (Read.idx_main_v145 i) 1) (Read.idx_main_v144 (Read.idx_main_v145 i) 2)) e0).trans
    ((congrArg (fun t : Fin 256 => (fun h : Fin 4 => gradK (qh (queries proj) h) (kh KV h) (vh KV h) gq gk (qh (mixed dm) h) t (Read.idx_main_v144 (Read.idx_main_v145 i) 2)) (headOf (i 1))) e1).trans
      (congrArg (fun d : Fin 64 => (fun h : Fin 4 => gradK (qh (queries proj) h) (kh KV h) (vh KV h) gq gk (qh (mixed dm) h) (i 0) d) (headOf (i 1))) e2))

/-- A matrix set at the left or at the right of a matrix of zeros. -/
theorem pad_right (x : FVec Ideal S256x256 .f32) (z : FVec Ideal S_ .f32) (h hu) (s : Fin 256) (j : Fin 512) :
    pad S256x512 ![0, 256] ![0, 0] ![0, 0] x z h hu (ix2 s j)
      = if hj : j.val < 256 then z (Shape.Idx.first hu) else x (ix2 s ⟨j.val - 256, by omega⟩) := by
  by_cases hj : j.val < 256
  · rw [dif_pos hj]
    exact pad_apply_of_not_inside _ _ _ x z h hu (ix2 s j) 1 (fun hh => absurd hh.1 (not_le.mpr hj))
  · rw [dif_neg hj]
    refine pad_apply_of_inside _ _ _ x z h hu (ix2 s j) (ix2 s ⟨j.val - 256, by omega⟩) fun a => ?_
    match a with
    | ⟨0, _⟩ => show (s : ℕ) = 0 + (s : ℕ) * (0 + 1); omega
    | ⟨1, _⟩ => show (j : ℕ) = 256 + ((j : ℕ) - 256) * (0 + 1); omega

theorem pad_left (x : FVec Ideal S256x256 .f32) (z : FVec Ideal S_ .f32) (h hu) (s : Fin 256) (j : Fin 512) :
    pad S256x512 ![0, 0] ![0, 256] ![0, 0] x z h hu (ix2 s j)
      = if hj : j.val < 256 then x (ix2 s ⟨j.val, hj⟩) else z (Shape.Idx.first hu) := by
  by_cases hj : j.val < 256
  · rw [dif_pos hj]
    refine pad_apply_of_inside _ _ _ x z h hu (ix2 s j) (ix2 s ⟨j.val, hj⟩) fun a => ?_
    match a with
    | ⟨0, _⟩ => show (s : ℕ) = 0 + (s : ℕ) * (0 + 1); omega
    | ⟨1, _⟩ => show (j : ℕ) = 0 + (j : ℕ) * (0 + 1); omega
  · rw [dif_neg hj]
    refine pad_apply_of_not_inside _ _ _ x z h hu (ix2 s j) 1 ?_
    rintro ⟨_, _, hh⟩
    have hh' : ((j : ℕ) - 0) / (0 + 1) < 256 := hh
    omega

theorem v147_up : Read.val_main_v147 (F := Ideal) (up proj) (up KV) (rowUp gq) (rowUp gk) (up dm) = up (allKV (queries proj) KV gq gk (mixed dm)) := by
  refine ext2 fun s j => ?_
  rw [Read.val_main_v147_apply, Ideal.addf_def, up_ix2]
  have hR := pad_right (Read.val_main_v121 (F := Ideal) (up proj) (up KV) (rowUp gq) (rowUp gk) (up dm)) (Read.val_main_cst_26 (F := Ideal)) pads_S256x256_S256x512_000_25600 h_S_ s j
  have hL := pad_left (Read.val_main_v145 (F := Ideal) (up proj) (up KV) (rowUp gq) (rowUp gk) (up dm)) (Read.val_main_cst_32 (F := Ideal)) pads_S256x256_S256x512_000_02560 h_S_ s j
  refine (congrArg₂ (fun x y : EReal => x + y) hR hL).trans ?_
  unfold allKV
  by_cases hj : j.val < 256
  · rw [dif_pos hj, dif_pos hj, if_pos hj, v145_up, up_ix2, Read.val_main_cst_26_apply, Ideal.ofBits_def, zeroBits, zero_add]
    rfl
  · have hk : j.val - 256 < 256 := by omega
    rw [dif_neg hj, dif_neg hj, if_neg hj, v121_up, up_ix2, Read.val_main_cst_32_apply, Ideal.ofBits_def, zeroBits, add_zero]
    have e0 : (headOf (⟨j.val - 256, hk⟩ : Fin 256)) = headOf j := Fin.ext (by
      show (j.val - 256) / 64 % 4 = j.val / 64 % 4; omega)
    have e1 : (laneOf (⟨j.val - 256, hk⟩ : Fin 256)) = laneOf j := Fin.ext (by
      show (j.val - 256) % 64 = j.val % 64; omega)
    simp only [e0, e1]

end Cert.MemPlainIdeal.Real

end
-- ==== Proof.MemClaim.lean ====
/-
  The memory attention's gradient: on finite arguments the kernel and the reference end with the same four results.
-/
module

public import proofs.«01_k».proof.Defs
public import proofs.«01_k».proof.Proof.Finite
public import proofs.«01_k».proof.Proof.MemRun
public import proofs.«01_k».proof.Proof.MemPlain
public import proofs.«01_k».proof.Proof.Gen.MemIdeal.Value
public import proofs.«01_k».proof.Proof.Gen.MemPlainIdeal.Run
public import proofs.«01_k».proof.Proof.Gen.Pre_mem_finite
public import Idealize.ShloMosaic.Adequacy
public import Idealize.ShloMosaic.Init

@[expose] public section

set_option maxRecDepth 16384

noncomputable section

namespace Cert.MemClaim

open Idealize.ShloMosaic Idealize.SL.Sem Cert.Lift Cert.MemIdeal.Real Idealize.ShloMosaic.StableHlo
open Cert.MemIdeal.Head (rowUp)

/-- Finite arguments are images of real arrays. -/
theorem args_of_pre (m : (ℓ : Loc Cert.MemIdeal.nD Cert.MemIdeal.τ Cert.MemIdeal.sig) → Buf (Elt Ideal) ℓ)
    (h : Cert.Pre_MemIdeal_mem_finite m) (c : Dev Cert.MemIdeal.nD) :
    ∃ proj KV gq gk dm, Args m c proj KV gq gk dm := by
  obtain ⟨h0, h1, h2, h3, h4⟩ := h c
  obtain ⟨proj, e0⟩ := up_of_entries _ (real_entries _ _ (fun _ => ofBits_inf) h0)
  obtain ⟨KV, e1⟩ := up_of_entries _ (real_entries _ _ (fun _ => ofBits_inf) h1)
  obtain ⟨gq, e2⟩ := row_of_entries _ (real_entries _ _ (fun _ => ofBits_inf) h2)
  obtain ⟨gk, e3⟩ := row_of_entries _ (real_entries _ _ (fun _ => ofBits_inf) h3)
  obtain ⟨dm, e4⟩ := up_of_entries _ (real_entries _ _ (fun _ => ofBits_inf) h4)
  exact ⟨proj, KV, gq, gk, dm, ⟨e0, e1, e2, e3, e4⟩⟩

/-- The reference's arguments hold real numbers, these. -/
structure Ops (V0 : Valuation Cert.MemPlainIdeal.τ Cert.MemPlainIdeal.sig (Elt Ideal)) (proj : Fin 2048 → Fin 1792 → ℝ)
    (KV : Fin 256 → Fin 512 → ℝ) (gq gk : Fin 64 → ℝ) (dm : Fin 2048 → Fin 1024 → ℝ) : Prop where
  a0 : V0 (Proc.devRef .tc Cert.MemPlainIdeal.main_arg0) = up proj
  a1 : V0 (Proc.devRef .tc Cert.MemPlainIdeal.main_arg1) = up KV
  a2 : V0 (Proc.devRef .tc Cert.MemPlainIdeal.main_arg2) = rowUp gq
  a3 : V0 (Proc.devRef .tc Cert.MemPlainIdeal.main_arg3) = rowUp gk
  a4 : V0 (Proc.devRef .tc Cert.MemPlainIdeal.main_arg4) = up dm

section
variable {V0 : Valuation Cert.MemPlainIdeal.τ Cert.MemPlainIdeal.sig (Elt Ideal)} {proj : Fin 2048 → Fin 1792 → ℝ}
    {KV : Fin 256 → Fin 512 → ℝ} {gq gk : Fin 64 → ℝ} {dm : Fin 2048 → Fin 1024 → ℝ}

theorem Ops.q (h : Ops V0 proj KV gq gk dm) : Cert.MemPlainIdeal.Read.val_main_v148 (F := Ideal)
      (V0 (Proc.devRef .tc Cert.MemPlainIdeal.main_arg0))
      (V0 (Proc.devRef .tc Cert.MemPlainIdeal.main_arg1))
      (V0 (Proc.devRef .tc Cert.MemPlainIdeal.main_arg2))
      (V0 (Proc.devRef .tc Cert.MemPlainIdeal.main_arg3))
      (V0 (Proc.devRef .tc Cert.MemPlainIdeal.main_arg4))
      = resQ proj KV gq gk dm := by
  rw [h.a0, h.a1, h.a2, h.a3, h.a4]; exact Cert.MemPlainIdeal.Real.v148_up _ _ _ _ _

theorem Ops.kv (h : Ops V0 proj KV gq gk dm) : Cert.MemPlainIdeal.Read.val_main_v147 (F := Ideal)
      (V0 (Proc.devRef .tc Cert.MemPlainIdeal.main_arg0))
      (V0 (Proc.devRef .tc Cert.MemPlainIdeal.main_arg1))
      (V0 (Proc.devRef .tc Cert.MemPlainIdeal.main_arg2))
      (V0 (Proc.devRef .tc Cert.MemPlainIdeal.main_arg3))
      (V0 (Proc.devRef .tc Cert.MemPlainIdeal.main_arg4))
      = resKV proj KV gq gk dm := by
  rw [h.a0, h.a1, h.a2, h.a3, h.a4]; exact Cert.MemPlainIdeal.Real.v147_up _ _ _ _ _

theorem Ops.gainQ (h : Ops V0 proj KV gq gk dm) : Cert.MemPlainIdeal.Read.val_main_v103 (F := Ideal)
      (V0 (Proc.devRef .tc Cert.MemPlainIdeal.main_arg0))
      (V0 (Proc.devRef .tc Cert.MemPlainIdeal.main_arg1))
      (V0 (Proc.devRef .tc Cert.MemPlainIdeal.main_arg2))
      (V0 (Proc.devRef .tc Cert.MemPlainIdeal.main_arg3))
      (V0 (Proc.devRef .tc Cert.MemPlainIdeal.main_arg4))
      = resGq proj KV gq gk dm := by
  rw [h.a0, h.a1, h.a2, h.a3, h.a4]; exact Cert.MemPlainIdeal.Real.v103_up _ _ _ _ _

theorem Ops.gainK (h : Ops V0 proj KV gq gk dm) : Cert.MemPlainIdeal.Read.val_main_v129 (F := Ideal)
      (V0 (Proc.devRef .tc Cert.MemPlainIdeal.main_arg0))
      (V0 (Proc.devRef .tc Cert.MemPlainIdeal.main_arg1))
      (V0 (Proc.devRef .tc Cert.MemPlainIdeal.main_arg2))
      (V0 (Proc.devRef .tc Cert.MemPlainIdeal.main_arg3))
      (V0 (Proc.devRef .tc Cert.MemPlainIdeal.main_arg4))
      = resGk proj KV gq gk dm := by
  rw [h.a0, h.a1, h.a2, h.a3, h.a4]; exact Cert.MemPlainIdeal.Real.v129_up _ _ _ _ _

end

theorem frame_plain : Cert.quiescent_MemPlainIdeal := fun m ρ _ =>
  (θ_run Cert.MemPlainIdeal.defs _ _).mono
    (fun r h => ⟨fun c => (h c).2.2.2.2, Idealize.ShloMosaic.sem_eq_zero_of_no_sems (by decide) r.2⟩)
    (Cert.MemPlainIdeal.Value.run (F := Ideal) m ρ)

theorem algebraic : Cert.algebraic_MemIdeal_MemPlainIdeal_pre_mem_finite := by
  intro m g m' g' hpre hargs
  choose proj KV gq gk dm hA using args_of_pre m hpre
  refine ⟨fun c => resQ (proj c) (KV c) (gq c) (gk c) (dm c), fun c => resKV (proj c) (KV c) (gq c) (gk c) (dm c),
    fun c => resGq (proj c) (KV c) (gq c) (gk c) (dm c), fun c => resGk (proj c) (KV c) (gq c) (gk c) (dm c), ?_, ?_⟩
  · refine (θ_run Cert.MemIdeal.defs _ _).mono (fun r h c => ?_) (Cert.MemIdeal.Value.run_blocks (F := Ideal) m g)
    obtain ⟨r0, r1, r2, r3, k⟩ := h c
    exact ⟨r0.trans (final5 (hA c)), r1.trans (final6 (hA c)), r2.trans (final7 (hA c)), r3.trans (final8 (hA c)), k⟩
  · refine (θ_run Cert.MemPlainIdeal.defs _ _).mono (fun r h c => ?_) (Cert.MemPlainIdeal.Value.run (F := Ideal) m' g')
    obtain ⟨r0, r1, r2, r3, k⟩ := h c
    obtain ⟨q0, q1, q2, q3, q4⟩ := hargs c
    have hO : Ops (launchContents m' c) (proj c) (KV c) (gq c) (gk c) (dm c) :=
      ⟨q0.trans (hA c).a0, q1.trans (hA c).a1, q2.trans (hA c).a2, q3.trans (hA c).a3, q4.trans (hA c).a4⟩
    exact ⟨r0.trans ((Cert.MemPlainIdeal.Read.val_main_v148_eq (F := Ideal) _).trans hO.q),
      r1.trans ((Cert.MemPlainIdeal.Read.val_main_v147_eq (F := Ideal) _).trans hO.kv),
      r2.trans ((Cert.MemPlainIdeal.Read.val_main_v103_eq (F := Ideal) _).trans hO.gainQ),
      r3.trans ((Cert.MemPlainIdeal.Read.val_main_v129_eq (F := Ideal) _).trans hO.gainK), k⟩

end Cert.MemClaim

end
-- ==== Proof.FfnAStep.lean ====
/-
  The feed-forward input gradient's kernel at one grid point: what its body does to the buffers it is handed,
  in each of the four cases of its conditionals, over any float values.
-/
module

public import proofs.«01_k».proof.Proof.Gen.FfnAIdeal.Frame
public import proofs.«01_k».proof.Proof.Gen.FfnAIdeal.Skeleton
public import Idealize.ShloMosaic.Lib.Pipeline.Value
public import Idealize.ShloMosaic.Lib.Pipeline.ReadBack
public import Idealize.ShloMosaic.Lib.Pipeline.TableIdle

@[expose] public section

set_option maxRecDepth 16384

noncomputable section

namespace Cert.FfnAIdeal.Step

open Cert.FfnAIdeal Cert.FfnAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the body computes -/

/-- The normalised rows, scaled by the gain: the hidden input. -/
def hid (x : Vec F S512x1024 .f32) (g : Vec F S1x1024 .f32) : Vec F S512x1024 .bf16 := k0_pay11 x g

/-- The gated product of a shard. -/
def zed (h : Vec F S512x1024 .bf16) (wg wu : Vec F S1x1024x352 .bf16) : Vec F S1x512x352 .bf16 :=
  k0_pay2 (k0_pay16 h wu) (k0_pay19 h wg)

/-- The cotangent of a shard's gate. -/
def dgate (h : Vec F S512x1024 .bf16) (dy : Vec F S512x1024 .f32) (wg wu : Vec F S1x1024x352 .bf16) (wd : Vec F S1x352x1024 .bf16) : Vec F S1x512x352 .bf16 :=
  k0_pay3 (k0_pay20 h wg wu dy wd)

/-- The cotangent of a shard's up product. -/
def dup (h : Vec F S512x1024 .bf16) (dy : Vec F S512x1024 .f32) (wg : Vec F S1x1024x352 .bf16) (wd : Vec F S1x352x1024 .bf16) : Vec F S1x512x352 .bf16 :=
  k0_pay4 (k0_pay21 h wg dy wd)

/-- The hidden input's cotangent, a shard's part added to what is there. -/
def addHid (h : Vec F S512x1024 .bf16) (dy : Vec F S512x1024 .f32) (wg wu : Vec F S1x1024x352 .bf16) (wd : Vec F S1x352x1024 .bf16)
    (s : Vec F S512x1024 .f32) : Vec F S512x1024 .f32 :=
  k0_pay5 (k0_pay20 h wg wu dy wd) (k0_pay21 h wg dy wd) s wg wu

/-- The rows' gradient from the hidden input's cotangent, the incoming cotangent added. -/
def rows (x dy : Vec F S512x1024 .f32) (g : Vec F S1x1024 .f32) (s : Vec F S512x1024 .f32) : Vec F S512x1024 .f32 := k0_pay10 x g s dy

/-- The gain's gradient: a tile's part added to what is there. -/
def gain (x s : Vec F S512x1024 .f32) (y : Vec F S1x1024 .f32) : Vec F S1x1024 .f32 := k0_pay6 (k0_pay9 x s) y

/-! ## Whole-buffer loads and stores -/

theorem z2 : (![0, 0] : Fin 2 → ℕ) = fun _ => 0 := by funext a; fin_cases a <;> rfl
theorem z3 : (![0, 0, 0] : Fin 3 → ℕ) = fun _ => 0 := by funext a; fin_cases a <;> rfl

/-- A buffer whose last store was whole reads as what was stored. -/
theorem read_last {κ : Kind} {sp : Space} {S : Shape} {e : EltTy} (v : View sig κ sp S e) (f : v.ty.Contents (Elt F)) {off : Fin S.rank → ℕ} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  subst h
  rw [View.read_writes_eq_canon v f _ fun y => ⟨_, List.mem_cons_self .., by
    show y ∈ (Rect.whole S).set
    rw [Rect.set_whole]; exact Finset.mem_univ _⟩]
  exact View.canon_cons_unit_zero rfl inb w L

theorem ld_rows {e : EltTy} (v : Vec F S512x1024 e) (inb : ∀ a, (![0, 0] : Fin 2 → ℕ) a + (![512, 1024] : Fin 2 → ℕ) a ≤ S512x1024.size a) :
    View.ld (S := S512x1024) v (Rect.unit ![0, 0] ![512, 1024] inb) = v := View.ld_unit_zero (S := S512x1024) z2 inb v

theorem ld_gain {e : EltTy} (v : Vec F S1x1024 e) (inb : ∀ a, (![0, 0] : Fin 2 → ℕ) a + (![1, 1024] : Fin 2 → ℕ) a ≤ S1x1024.size a) :
    View.ld (S := S1x1024) v (Rect.unit ![0, 0] ![1, 1024] inb) = v := View.ld_unit_zero (S := S1x1024) z2 inb v

theorem ld_up {e : EltTy} (v : Vec F S1x1024x352 e) (inb : ∀ a, (![0, 0, 0] : Fin 3 → ℕ) a + (![1, 1024, 352] : Fin 3 → ℕ) a ≤ S1x1024x352.size a) :
    View.ld (S := S1x1024x352) v (Rect.unit ![0, 0, 0] ![1, 1024, 352] inb) = v := View.ld_unit_zero (S := S1x1024x352) z3 inb v

theorem ld_down {e : EltTy} (v : Vec F S1x352x1024 e) (inb : ∀ a, (![0, 0, 0] : Fin 3 → ℕ) a + (![1, 352, 1024] : Fin 3 → ℕ) a ≤ S1x352x1024.size a) :
    View.ld (S := S1x352x1024) v (Rect.unit ![0, 0, 0] ![1, 352, 1024] inb) = v := View.ld_unit_zero (S := S1x352x1024) z3 inb v

/-! ## The buffers at a point -/

/-- The thirteen buffers the body is handed, each whole at its contents: six inputs, six results, the accumulator. -/
def Held (c : Dev nD) (arg2 : Memref sig .tc .vmem S512x1024 .f32) (arg3 : Memref sig .tc .vmem S512x1024 .f32) (arg4 : Memref sig .tc .vmem S1x1024 .f32) (arg5 : Memref sig .tc .vmem S1x1024x352 .bf16) (arg6 : Memref sig .tc .vmem S1x1024x352 .bf16) (arg7 : Memref sig .tc .vmem S1x352x1024 .bf16) (arg8 : Memref sig .tc .vmem S512x1024 .f32) (arg9 : Memref sig .tc .vmem S1x1024 .f32) (arg10 : Memref sig .tc .vmem S512x1024 .bf16) (arg11 : Memref sig .tc .vmem S1x512x352 .bf16) (arg12 : Memref sig .tc .vmem S1x512x352 .bf16) (arg13 : Memref sig .tc .vmem S1x512x352 .bf16) (arg14 : Memref sig .tc .vmem S512x1024 .f32)
    (x : Vec F S512x1024 .f32) (dy : Vec F S512x1024 .f32) (g : Vec F S1x1024 .f32) (wg : Vec F S1x1024x352 .bf16) (wu : Vec F S1x1024x352 .bf16) (wd : Vec F S1x352x1024 .bf16) (y6 : Vec F S512x1024 .f32) (y7 : Vec F S1x1024 .f32) (y8 : Vec F S512x1024 .bf16) (y9 : Vec F S1x512x352 .bf16) (y10 : Vec F S1x512x352 .bf16) (y11 : Vec F S1x512x352 .bf16) (s : Vec F S512x1024 .f32) : sProp 𝕄 :=
  iprop(owns (c : Thread nD τ) arg2 fullShare x
      ∗ owns (c : Thread nD τ) arg3 fullShare dy
      ∗ owns (c : Thread nD τ) arg4 fullShare g
      ∗ owns (c : Thread nD τ) arg5 fullShare wg
      ∗ owns (c : Thread nD τ) arg6 fullShare wu
      ∗ owns (c : Thread nD τ) arg7 fullShare wd
      ∗ owns (c : Thread nD τ) arg8 fullShare y6
      ∗ owns (c : Thread nD τ) arg9 fullShare y7
      ∗ owns (c : Thread nD τ) arg10 fullShare y8
      ∗ owns (c : Thread nD τ) arg11 fullShare y9
      ∗ owns (c : Thread nD τ) arg12 fullShare y10
      ∗ owns (c : Thread nD τ) arg13 fullShare y11
      ∗ owns (c : Thread nD τ) arg14 fullShare s)

variable (c : Dev nD) (i : grid0.Coords) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024x352 .bf16) (harg5 : arg5.IsWhole) (arg6 : Memref sig .tc .vmem S1x1024x352 .bf16) (harg6 : arg6.IsWhole) (arg7 : Memref sig .tc .vmem S1x352x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x512x352 .bf16) (harg11 : arg11.IsWhole) (arg12 : Memref sig .tc .vmem S1x512x352 .bf16) (harg12 : arg12.IsWhole) (arg13 : Memref sig .tc .vmem S1x512x352 .bf16) (harg13 : arg13.IsWhole) (arg14 : Memref sig .tc .vmem S512x1024 .f32) (harg14 : arg14.IsWhole)
variable (x : Vec F S512x1024 .f32) (dy : Vec F S512x1024 .f32) (g : Vec F S1x1024 .f32) (wg : Vec F S1x1024x352 .bf16) (wu : Vec F S1x1024x352 .bf16) (wd : Vec F S1x352x1024 .bf16) (y6 : Vec F S512x1024 .f32) (y7 : Vec F S1x1024 .f32) (y8 : Vec F S512x1024 .bf16) (y9 : Vec F S1x512x352 .bf16) (y10 : Vec F S1x512x352 .bf16) (y11 : Vec F S1x512x352 .bf16) (s : Vec F S512x1024 .f32)

set_option maxHeartbeats 1600000 in
/-- A shard after the first and before the last: only the accumulator and the shard's three blocks change. -/
theorem run_mid (hc1 : ¬k0_cond1 i = 1#1) (hc2 : ¬k0_cond2 i = 1#1) (hc3 : ¬k0_cond3 i = 1#1) (E : Set ℕ) (K : PUnit → sProp 𝕄) :
    iprop(Held c arg2 arg3 arg4 arg5 arg6 arg7 arg8 arg9 arg10 arg11 arg12 arg13 arg14 x dy g wg wu wd y6 y7 y8 y9 y10 y11 s
        ∗ (Held c arg2 arg3 arg4 arg5 arg6 arg7 arg8 arg9 arg10 arg11 arg12 arg13 arg14 x dy g wg wu wd y6 y7 y8 (zed y8 wg wu) (dgate y8 dy wg wu wd) (dup y8 dy wg wd) (addHid y8 dy wg wu wd s) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13 arg14 harg14) K := by
  simp only [cc0_ffn_a_eq_skeleton]; unfold cc0_ffn_a_skel
  simp only [k0_part2_eq_skeleton, k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; · ipureintro; exact harg10.read_unread _
    iexact H10
  isplitl [H11]
  · iexists _; isplitr; swap; · iexact H11
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H12]
  · iexists _; isplitr; swap; · iexact H12
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H13]
  · iexists _; isplitr; swap; · iexact H13
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  iexists _; isplitr; swap; · iexact H14
  ipureintro
  refine (read_last _ _ z2 _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
  try rfl

set_option maxHeartbeats 1600000 in
/-- The first shard of a row tile after the first: the hidden input is stored and the accumulator starts from zero. -/
theorem run_first (hc1 : k0_cond1 i = 1#1) (hc2 : ¬k0_cond2 i = 1#1) (hc3 : ¬k0_cond3 i = 1#1) (E : Set ℕ) (K : PUnit → sProp 𝕄) :
    iprop(Held c arg2 arg3 arg4 arg5 arg6 arg7 arg8 arg9 arg10 arg11 arg12 arg13 arg14 x dy g wg wu wd y6 y7 y8 y9 y10 y11 s
        ∗ (Held c arg2 arg3 arg4 arg5 arg6 arg7 arg8 arg9 arg10 arg11 arg12 arg13 arg14 x dy g wg wu wd y6 y7 (hid x g) (zed (hid x g) wg wu) (dgate (hid x g) dy wg wu wd) (dup (hid x g) dy wg wd) (addHid (hid x g) dy wg wu wd (k0_pay12 (F := F))) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13 arg14 harg14) K := by
  simp only [cc0_ffn_a_eq_skeleton]; unfold cc0_ffn_a_skel
  simp only [k0_part2_eq_skeleton, k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr; swap; · iexact H10
    ipureintro
    refine (read_last _ _ z2 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H11]
  · iexists _; isplitr; swap; · iexact H11
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H12]
  · iexists _; isplitr; swap; · iexact H12
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H13]
  · iexists _; isplitr; swap; · iexact H13
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  iexists _; isplitr; swap; · iexact H14
  ipureintro
  refine (read_last _ _ z2 _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
  try rfl

set_option maxHeartbeats 1600000 in
/-- The first point: as a row tile's first shard, and the gain's gradient starts from zero. -/
theorem run_start (hc1 : k0_cond1 i = 1#1) (hc2 : k0_cond2 i = 1#1) (hc3 : ¬k0_cond3 i = 1#1) (E : Set ℕ) (K : PUnit → sProp 𝕄) :
    iprop(Held c arg2 arg3 arg4 arg5 arg6 arg7 arg8 arg9 arg10 arg11 arg12 arg13 arg14 x dy g wg wu wd y6 y7 y8 y9 y10 y11 s
        ∗ (Held c arg2 arg3 arg4 arg5 arg6 arg7 arg8 arg9 arg10 arg11 arg12 arg13 arg14 x dy g wg wu wd y6 (k0_pay13 (F := F)) (hid x g) (zed (hid x g) wg wu) (dgate (hid x g) dy wg wu wd) (dup (hid x g) dy wg wd) (addHid (hid x g) dy wg wu wd (k0_pay12 (F := F))) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13 arg14 harg14) K := by
  simp only [cc0_ffn_a_eq_skeleton]; unfold cc0_ffn_a_skel
  simp only [k0_part2_eq_skeleton, k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    refine (read_last _ _ z2 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H10]
  · iexists _; isplitr; swap; · iexact H10
    ipureintro
    refine (read_last _ _ z2 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H11]
  · iexists _; isplitr; swap; · iexact H11
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H12]
  · iexists _; isplitr; swap; · iexact H12
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H13]
  · iexists _; isplitr; swap; · iexact H13
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  iexists _; isplitr; swap; · iexact H14
  ipureintro
  refine (read_last _ _ z2 _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
  try rfl

set_option maxHeartbeats 1600000 in
/-- The last shard: the rows' and the gain's gradients are formed from the accumulator. -/
theorem run_last (hc1 : ¬k0_cond1 i = 1#1) (hc2 : ¬k0_cond2 i = 1#1) (hc3 : k0_cond3 i = 1#1) (E : Set ℕ) (K : PUnit → sProp 𝕄) :
    iprop(Held c arg2 arg3 arg4 arg5 arg6 arg7 arg8 arg9 arg10 arg11 arg12 arg13 arg14 x dy g wg wu wd y6 y7 y8 y9 y10 y11 s
        ∗ (Held c arg2 arg3 arg4 arg5 arg6 arg7 arg8 arg9 arg10 arg11 arg12 arg13 arg14 x dy g wg wu wd (rows x dy g (addHid y8 dy wg wu wd s)) (gain x (addHid y8 dy wg wu wd s) y7) y8 (zed y8 wg wu) (dgate y8 dy wg wu wd) (dup y8 dy wg wd) (addHid y8 dy wg wu wd s) -∗ K ⟨⟩))
      ⊢ wp frame (wpE (defs₀ (F := F)) Variants.none c none) E (cc0_ffn_a i arg2 harg2 arg3 harg3 arg4 harg4 arg5 harg5 arg6 harg6 arg7 harg7 arg8 harg8 arg9 harg9 arg10 harg10 arg11 harg11 arg12 harg12 arg13 harg13 arg14 harg14) K := by
  simp only [cc0_ffn_a_eq_skeleton]; unfold cc0_ffn_a_skel
  simp only [k0_part2_eq_skeleton, k0_part1_eq_skeleton]
  unfold Held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec (disch := first | sl_exact hc1 | sl_exact hc2 | sl_exact hc3)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; swap; · iexact H8
    ipureintro
    refine (read_last _ _ z2 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H9]
  · iexists _; isplitr; swap; · iexact H9
    ipureintro
    refine (read_last _ _ z2 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H10]
  · iexists _; isplitr; · ipureintro; exact harg10.read_unread _
    iexact H10
  isplitl [H11]
  · iexists _; isplitr; swap; · iexact H11
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H12]
  · iexists _; isplitr; swap; · iexact H12
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  isplitl [H13]
  · iexists _; isplitr; swap; · iexact H13
    ipureintro
    refine (read_last _ _ z3 _ _ _).trans ?_
    sl_unfold_words
    simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
    try rfl
  iexists _; isplitr; swap; · iexact H14
  ipureintro
  refine (read_last _ _ z2 _ _ _).trans ?_
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, ld_rows, ld_gain, ld_up, ld_down, View.readCov_cons_toLoadRect]
  try rfl

end Cert.FfnAIdeal.Step

end
-- ==== Proof.FfnAPoint.lean ====
/-
  The feed-forward input gradient, row by row: the formulas of one row, and what each value the kernel forms at a
  point of its grid says of a row of its blocks.
-/
module

public import proofs.«01_k».proof.Proof.FfnAStep
public import proofs.«01_k».proof.Proof.Lift
public import Idealize.ShloMosaic.Lib.Pointwise

@[expose] public section

set_option maxRecDepth 16384

noncomputable section

namespace Cert.FfnRow

open Idealize.ShloMosaic

/-! ## The formulas of one row -/

/-- A row's mean square, with the small constant added. -/
def meanSq (x : Fin 1024 → EReal) : EReal := Ideal.div (∑ k, x k * x k) (Ideal.ofBits .f32 0x44800000#32) + Ideal.ofBits .f32 0x358637BD#32

/-- The scale that normalizes a row. -/
def scale (x : Fin 1024 → EReal) : EReal := Ideal.rsqrt (meanSq x)

/-- The hidden input: the normalized row times the gain. -/
def hidden (x g : Fin 1024 → EReal) (k : Fin 1024) : EReal := x k * scale x * g k

/-- A product of a row with a column of weights. -/
def dot (h w : Fin 1024 → EReal) : EReal := ∑ k, h k * w k

/-- The cotangent of the gated product at a column: the row's cotangent through the down weights, halved. -/
def through (dy w : Fin 1024 → EReal) : EReal := Ideal.ofBits .f32 0x3F000000#32 * ∑ d, dy d * w d

/-- The gated product from the gate's and the up product. -/
def gated (a b : EReal) : EReal := a * Ideal.logistic a * b

/-- The gate's cotangent, the way the kernel forms it. -/
def gateCot (a b z : EReal) : EReal :=
  z * b * (Ideal.logistic a + a * Ideal.logistic a * (Ideal.ofBits .f32 0x3F800000#32 - Ideal.logistic a))

/-- The up product's cotangent. -/
def upCot (a z : EReal) : EReal := z * (a * Ideal.logistic a)

/-- How much a row's scale moves with the row, times half the row's cotangent. -/
def pull (x g dh : Fin 1024 → EReal) : EReal :=
  Ideal.div ((∑ k, x k * (dh k * g k)) * (Ideal.ofBits .f32 0xBF000000#32 * Ideal.div (scale x) (meanSq x))) (Ideal.ofBits .f32 0x44800000#32)

/-- The row's gradient from the hidden input's cotangent `dh` and the cotangent `dy` that passes by. -/
def back (x g dh dy : Fin 1024 → EReal) (k : Fin 1024) : EReal :=
  dh k * g k * scale x + x k * pull x g dh + pull x g dh * x k + dy k

end Cert.FfnRow

namespace Cert.FfnAIdeal.Point

open Cert.FfnAIdeal Cert.FfnAIdeal.Gen Cert.FfnAIdeal.Step Cert.FfnRow Idealize.ShloMosaic

theorem pay7_at (x : Vec Ideal S512x1024 .f32) (r : Fin 512) : k0_pay7 (F := Ideal) x (ix2 r 0) = meanSq fun k => x (ix2 r k) := by
  unfold meanSq
  pointwise [k0_pay7]

theorem pay8_at (x : Vec Ideal S512x1024 .f32) (r : Fin 512) : k0_pay8 (F := Ideal) x (ix2 r 0) = scale fun k => x (ix2 r k) := by
  unfold scale
  rw [← pay7_at]
  pointwise [k0_pay8]

theorem hid_at (x : Vec Ideal S512x1024 .f32) (g : Vec Ideal S1x1024 .f32) (r : Fin 512) (k : Fin 1024) :
    hid (F := Ideal) x g (ix2 r k) = hidden (fun k => x (ix2 r k)) (fun k => g (ix2 0 k)) k := by
  unfold hid
  unfold FfnRow.hidden scale meanSq
  pointwise [k0_pay11]

theorem pay15_at (h : Vec Ideal S512x1024 .bf16) (w : Vec Ideal S1x1024x352 .bf16) (r : Fin 512) (f : Fin 352) :
    k0_pay15 (F := Ideal) h w (ix2 r f) = dot (fun k => h (ix2 r k)) fun k => w (ix3 0 k f) := by
  unfold dot
  pointwise [k0_pay15, k0_pay14]

theorem pay16_at (h : Vec Ideal S512x1024 .bf16) (w : Vec Ideal S1x1024x352 .bf16) (r : Fin 512) (f : Fin 352) :
    k0_pay16 (F := Ideal) h w (ix2 r f) = dot (fun k => h (ix2 r k)) fun k => w (ix3 0 k f) := by
  unfold dot
  pointwise [k0_pay16, k0_pay14]

theorem pay17_at (dy : Vec Ideal S512x1024 .f32) (w : Vec Ideal S1x352x1024 .bf16) (r : Fin 512) (f : Fin 352) :
    k0_pay17 (F := Ideal) dy w (ix2 r f) = through (fun d => dy (ix2 r d)) fun d => w (ix3 0 f d) := by
  unfold through
  pointwise [k0_pay17]

theorem pay18_at (h : Vec Ideal S512x1024 .bf16) (w : Vec Ideal S1x1024x352 .bf16) (r : Fin 512) (f : Fin 352) :
    k0_pay18 (F := Ideal) h w (ix2 r f) = Ideal.logistic (dot (fun k => h (ix2 r k)) fun k => w (ix3 0 k f)) := by
  rw [← pay15_at]
  rfl

theorem pay19_at (h : Vec Ideal S512x1024 .bf16) (w : Vec Ideal S1x1024x352 .bf16) (r : Fin 512) (f : Fin 352) :
    k0_pay19 (F := Ideal) h w (ix2 r f)
      = dot (fun k => h (ix2 r k)) (fun k => w (ix3 0 k f)) * Ideal.logistic (dot (fun k => h (ix2 r k)) fun k => w (ix3 0 k f)) := by
  rw [← pay18_at, ← pay15_at]
  rfl

theorem pay20_at (h : Vec Ideal S512x1024 .bf16) (wg wu : Vec Ideal S1x1024x352 .bf16) (dy : Vec Ideal S512x1024 .f32)
    (wd : Vec Ideal S1x352x1024 .bf16) (r : Fin 512) (f : Fin 352) :
    k0_pay20 (F := Ideal) h wg wu dy wd (ix2 r f)
      = gateCot (dot (fun k => h (ix2 r k)) fun k => wg (ix3 0 k f)) (dot (fun k => h (ix2 r k)) fun k => wu (ix3 0 k f))
          (through (fun d => dy (ix2 r d)) fun d => wd (ix3 0 f d)) := by
  unfold gateCot
  rw [← pay19_at, ← pay18_at, ← pay17_at, ← pay16_at]
  rfl

theorem pay21_at (h : Vec Ideal S512x1024 .bf16) (wg : Vec Ideal S1x1024x352 .bf16) (dy : Vec Ideal S512x1024 .f32)
    (wd : Vec Ideal S1x352x1024 .bf16) (r : Fin 512) (f : Fin 352) :
    k0_pay21 (F := Ideal) h wg dy wd (ix2 r f)
      = upCot (dot (fun k => h (ix2 r k)) fun k => wg (ix3 0 k f)) (through (fun d => dy (ix2 r d)) fun d => wd (ix3 0 f d)) := by
  unfold upCot
  rw [← pay19_at, ← pay17_at]
  rfl

theorem pay2_at (b s : FVec Ideal S512x352 .f32) (r : Fin 512) (f : Fin 352) : k0_pay2 (F := Ideal) b s (ix3 0 r f) = s (ix2 r f) * b (ix2 r f) := by
  pointwise [k0_pay2]

theorem pay3_at (a : FVec Ideal S512x352 .bf16) (r : Fin 512) (f : Fin 352) : k0_pay3 (F := Ideal) a (ix3 0 r f) = a (ix2 r f) := by
  pointwise [k0_pay3]

theorem pay4_at (a : FVec Ideal S512x352 .f32) (r : Fin 512) (f : Fin 352) : k0_pay4 (F := Ideal) a (ix3 0 r f) = a (ix2 r f) := by
  pointwise [k0_pay4, k0_pay1]

theorem pay5_at (da : FVec Ideal S512x352 .bf16) (db : FVec Ideal S512x352 .f32) (s : Vec Ideal S512x1024 .f32) (wg wu : Vec Ideal S1x1024x352 .bf16)
    (r : Fin 512) (k : Fin 1024) :
    k0_pay5 (F := Ideal) da db s wg wu (ix2 r k)
      = s (ix2 r k) + ((∑ f : Fin 352, da (ix2 r f) * wg (ix3 0 k f)) + ∑ f : Fin 352, db (ix2 r f) * wu (ix3 0 k f)) := by
  pointwise [k0_pay5, k0_pay1]

theorem pay12_at (r : Fin 512) (k : Fin 1024) : k0_pay12 (F := Ideal) (ix2 r k) = 0 := by
  pointwise [k0_pay12]

theorem pay13_at (k : Fin 1024) : k0_pay13 (F := Ideal) (ix2 0 k) = 0 := by
  pointwise [k0_pay13]

theorem gain_at (x s : Vec Ideal S512x1024 .f32) (y : Vec Ideal S1x1024 .f32) (k : Fin 1024) :
    gain (F := Ideal) x s y (ix2 0 k) = y (ix2 0 k) + ∑ r : Fin 512, x (ix2 r k) * scale (fun d => x (ix2 r d)) * s (ix2 r k) := by
  unfold gain
  simp only [← pay8_at]
  pointwise [k0_pay6, k0_pay9]

theorem rows_at (x dy : Vec Ideal S512x1024 .f32) (g : Vec Ideal S1x1024 .f32) (s : Vec Ideal S512x1024 .f32) (r : Fin 512) (k : Fin 1024) :
    rows (F := Ideal) x dy g s (ix2 r k)
      = back (fun k => x (ix2 r k)) (fun k => g (ix2 0 k)) (fun k => s (ix2 r k)) (fun k => dy (ix2 r k)) k := by
  unfold rows back pull
  rw [← pay8_at, ← pay7_at]
  pointwise [k0_pay10]
  simp only [Fin.sum_univ_one, Fin.isValue]

end Cert.FfnAIdeal.Point

end
-- ==== Proof.FfnFPoint.lean ====
/-
  The forward half feed-forward step's kernel at one grid point: what the body leaves in the hidden input's buffer, in the
  accumulator and in the result's buffer in each of its three cases, and what each of these says of a row.
-/
module

public import proofs.«01_k».proof.Proof.FfnAPoint
public import proofs.«01_k».proof.Proof.Gen.FfnFIdeal.Value
public import Idealize.ShloMosaic.Lib.Pipeline.ReadBack

@[expose] public section

set_option maxRecDepth 16384

noncomputable section

namespace Cert.FfnFIdeal.Point

open Cert.FfnFIdeal Cert.FfnFIdeal.Gen Cert.FfnRow
open Idealize.ShloMosaic Idealize.ShloMosaic.TcCoe Idealize.SL.Sem

/-! ## What the body computes -/

/-- The normalised rows, scaled by the gain: the hidden input. -/
def hid (x : Vec Ideal S1024x1024 .f32) (g : Vec Ideal S1x1024 .f32) : Vec Ideal S1024x1024 .bf16 := k0_pay1 x g

/-- The accumulator before the first shard. -/
def blank : Vec Ideal S1024x1024 .f32 := k0_pay2 (F := Ideal)

/-- A shard's part of the output added to what is there. -/
def addShard (h : Vec Ideal S1024x1024 .bf16) (wg wu : Vec Ideal S1x1024x352 .bf16) (wd : Vec Ideal S1x352x1024 .bf16)
    (s : Vec Ideal S1024x1024 .f32) : Vec Ideal S1024x1024 .f32 := k0_pay3 h wg wu s wd

/-- The rows the step ends with: the input plus half of the accumulator. -/
def outp (x s : Vec Ideal S1024x1024 .f32) : Vec Ideal S1024x1024 .f32 := k0_pay4 x s

/-! ## The three cases -/

theorem off2 : (![0, 0] : Fin 2 → ℕ) = fun _ => 0 := by funext a; fin_cases a <;> rfl
theorem off3 : (![0, 0, 0] : Fin 3 → ℕ) = fun _ => 0 := by funext a; fin_cases a <;> rfl

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x352 .bf16) (harg4 : arg4.IsWhole) (arg5 : Memref sig .tc .vmem S1x1024x352 .bf16) (harg5 : arg5.IsWhole) (arg6 : Memref sig .tc .vmem S1x352x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
  (x : Vec Ideal S1024x1024 .f32) (g : Vec Ideal S1x1024 .f32) (wg wu : Vec Ideal S1x1024x352 .bf16) (wd : Vec Ideal S1x352x1024 .bf16)
  (h : Vec Ideal S1024x1024 .bf16) (s : Vec Ideal S1024x1024 .f32)

/-- A row tile's first shard stores the hidden input. -/
theorem first_hid (hc0 : cond0_0 i) (hc1 : ¬cond0_1 i) : sout0_A_0 (F := Ideal) c i arg2 harg2 arg3 harg3 arg4 harg4 arg5 harg5 arg6 harg6 arg7 harg7 arg8 harg8 arg9 harg9 hc0 hc1 x g wg wu wd = hid x g := by
  unfold sout0_A_0
  rw [View.read_writes_eq_canon _ _ _ (scover0_A_0 c i arg2 harg2 arg3 harg3 arg4 harg4 arg5 harg5 arg6 harg6 arg7 harg7 arg8 harg8 arg9 harg9 hc0 hc1 x g wg wu wd)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S1024x1024) off2,
    View.ld_unit_zero (S := S1x1024) off2, View.ld_unit_zero (S := S1x1024x352) off3, View.ld_unit_zero (S := S1x352x1024) off3,
    View.readCov_cons_toLoadRect, View.canon_cons_unit_zero (S := S1024x1024) off2]
  rfl

/-- A row tile's first shard starts the accumulator. -/
theorem first_acc (hc0 : cond0_0 i) (hc1 : ¬cond0_1 i) : sout0_A_1 (F := Ideal) c i arg2 harg2 arg3 harg3 arg4 harg4 arg5 harg5 arg6 harg6 arg7 harg7 arg8 harg8 arg9 harg9 hc0 hc1 x g wg wu wd = addShard (hid x g) wg wu wd blank := by
  unfold sout0_A_1
  rw [View.read_writes_eq_canon _ _ _ (scover0_A_1 c i arg2 harg2 arg3 harg3 arg4 harg4 arg5 harg5 arg6 harg6 arg7 harg7 arg8 harg8 arg9 harg9 hc0 hc1 x g wg wu wd)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S1024x1024) off2,
    View.ld_unit_zero (S := S1x1024) off2, View.ld_unit_zero (S := S1x1024x352) off3, View.ld_unit_zero (S := S1x352x1024) off3,
    View.readCov_cons_toLoadRect, View.canon_cons_unit_zero (S := S1024x1024) off2]
  rfl

/-- A shard between the first and the last adds its part. -/
theorem mid_acc (hc0 : ¬cond0_0 i) (hc1 : ¬cond0_1 i) : sout0_B_1 (F := Ideal) c i arg2 harg2 arg3 harg3 arg4 harg4 arg5 harg5 arg6 harg6 arg7 harg7 arg8 harg8 arg9 harg9 hc0 hc1 x g wg wu wd h s = addShard h wg wu wd s := by
  unfold sout0_B_1
  rw [View.read_writes_eq_canon _ _ _ (scover0_B_1 c i arg2 harg2 arg3 harg3 arg4 harg4 arg5 harg5 arg6 harg6 arg7 harg7 arg8 harg8 arg9 harg9 hc0 hc1 x g wg wu wd h s)]
  unfold kernelRun0_B
  dsimp only
  sl_unfold_words
  simp only [View.readAt_eq_ld, harg2.read_unread, harg3.read_unread, harg4.read_unread, harg5.read_unread, harg6.read_unread, harg7.read_unread, harg8.read_unread, harg9.read_unread, View.ld_unit_zero (S := S1024x1024) off2,
    View.ld_unit_zero (S := S1x1024) off2, View.ld_unit_zero (S := S1x1024x352) off3, View.ld_unit_zero (S := S1x352x1024) off3,
    View.readCov_cons_toLoadRect, View.canon_cons_unit_zero (S := S1024x1024) off2]
  rfl

/-- The last shard adds its part. -/
theorem last_acc (hc0 : ¬cond0_0 i) (hc1 : cond0_1 i) : sout0_C_1 (F := Ideal) c i arg2 harg2 arg3 harg3 arg4 harg4 arg5 harg5 arg6 harg6 arg7 harg7 arg8 harg8 arg9 harg9 hc0 hc1 x g wg wu wd h s = addShard h wg wu wd s := by
  unfold sout0_C_1
  rw [View.read_writes_eq_canon _ _ _ (scover0_C_1 c i arg2 harg2 arg3 harg3 arg4 harg4 arg5 harg5 arg6 harg6 arg7 harg7 arg8 harg8 arg9 harg9 hc0 hc1 x g wg wu wd h s)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S1024x1024) off2,
    View.ld_unit_zero (S := S1x1024) off2, View.ld_unit_zero (S := S1x1024x352) off3, View.ld_unit_zero (S := S1x352x1024) off3,
    View.readCov_cons_toLoadRect, View.canon_cons_unit_zero (S := S1024x1024) off2]
  rfl

/-- The last shard forms the result from the accumulator. -/
theorem last_out (hc0 : ¬cond0_0 i) (hc1 : cond0_1 i) : out0_C_5 (F := Ideal) c i arg2 harg2 arg3 harg3 arg4 harg4 arg5 harg5 arg6 harg6 arg7 harg7 arg8 harg8 arg9 harg9 hc0 hc1 x g wg wu wd h s = outp x (addShard h wg wu wd s) := by
  unfold out0_C_5
  rw [View.read_writes_eq_canon _ _ _ (cover0_C_5 c i arg2 harg2 arg3 harg3 arg4 harg4 arg5 harg5 arg6 harg6 arg7 harg7 arg8 harg8 arg9 harg9 hc0 hc1 x g wg wu wd h s)]
  unfold kernelRun0_C
  dsimp only
  sl_unfold_words
  simp only [View.readAt_eq_ld, harg2.read_unread, harg3.read_unread, harg4.read_unread, harg5.read_unread, harg6.read_unread, harg7.read_unread, harg8.read_unread, harg9.read_unread, View.ld_unit_zero (S := S1024x1024) off2,
    View.ld_unit_zero (S := S1x1024) off2, View.ld_unit_zero (S := S1x1024x352) off3, View.ld_unit_zero (S := S1x352x1024) off3,
    View.readCov_cons_toLoadRect, View.canon_cons_unit_zero (S := S1024x1024) off2]
  rfl

/-! ## Row by row -/

theorem hid_at (r k : Fin 1024) : hid x g (ix2 r k) = FfnRow.hidden (fun k => x (ix2 r k)) (fun k => g (ix2 0 k)) k := by
  unfold hid FfnRow.hidden scale meanSq
  pointwise [k0_pay1]

theorem blank_at (r k : Fin 1024) : blank (ix2 r k) = 0 := by
  unfold blank
  pointwise [k0_pay2]

theorem addShard_at (r k : Fin 1024) :
    addShard h wg wu wd s (ix2 r k)
      = s (ix2 r k) + ∑ f : Fin 352, gated (dot (fun k => h (ix2 r k)) fun k => wg (ix3 0 k f)) (dot (fun k => h (ix2 r k)) fun k => wu (ix3 0 k f)) * wd (ix3 0 f k) := by
  unfold addShard gated dot
  pointwise [k0_pay3]

theorem outp_at (r k : Fin 1024) : outp x s (ix2 r k) = x (ix2 r k) + Ideal.ofBits .f32 0x3F000000#32 * s (ix2 r k) := by
  unfold outp
  pointwise [k0_pay4]

end Cert.FfnFIdeal.Point

end
-- ==== Proof.FfnAPlain.lean ====
/-
  The reference of the feed-forward input gradient, entry by entry, in the row formulas.
-/
module

public import proofs.«01_k».proof.Proof.FfnAPoint
public import proofs.«01_k».proof.Proof.Gen.FfnAPlainIdeal.Read

@[expose] public section

set_option maxRecDepth 16384

noncomputable section

namespace Cert.FfnRow

open Idealize.ShloMosaic

/-- A place of an array of rank two is the pair of its coordinates. -/
theorem ix2_of {a b : ℕ} (i : (⟨2, ![a, b]⟩ : Shape).Idx) (p : Fin a) (q : Fin b) (h0 : (i 0).val = p.val) (h1 : (i 1).val = q.val) : i = ix2 p q :=
  (eq_ix2 (n0 := a) (n1 := b) i).trans (congrArg₂ (fun x y => ix2 x y) (Fin.ext h0) (Fin.ext h1))

/-- A place of an array of rank three is the triple of its coordinates. -/
theorem ix3_of {a b c : ℕ} (i : (⟨3, ![a, b, c]⟩ : Shape).Idx) (p : Fin a) (q : Fin b) (s : Fin c) (h0 : (i 0).val = p.val) (h1 : (i 1).val = q.val)
    (h2 : (i 2).val = s.val) : i = ix3 p q s := by
  refine (eq_ix3 (n0 := a) (n1 := b) (n2 := c) i).trans ?_
  rw [show (i 0 : Fin a) = p from Fin.ext h0, show (i 1 : Fin b) = q from Fin.ext h1, show (i 2 : Fin c) = s from Fin.ext h2]

/-! ## The whole gradient's formulas -/

/-- Row `k` of the gate's weights in the weights' array, which holds the gate's rows first. -/
def lo (k : Fin 1024) : Fin 2048 := ⟨k.val, by omega⟩

/-- Row `k` of the up weights. -/
def hi (k : Fin 1024) : Fin 2048 := ⟨1024 + k.val, by omega⟩

/-- Column `f` of shard `j` among all the hidden columns. -/
def col (j : Fin 8) (f : Fin 352) : Fin 2816 := ⟨352 * j.val + f.val, by omega⟩

/-- A sum over all hidden columns, shard by shard. -/
theorem sum_col (φ : Fin 2816 → EReal) : ∑ n, φ n = ∑ j, ∑ f, φ (col j f) := by
  rw [← Fintype.sum_prod_type' (f := fun j f => φ (col j f))]
  refine (Equiv.sum_comp (finProdFinEquiv (m := 8) (n := 352)) φ).symm.trans (Finset.sum_congr rfl fun p _ => congrArg φ (Fin.ext ?_))
  show p.2.val + 352 * p.1.val = 352 * p.1.val + p.2.val
  omega

variable (x0 x4 : (⟨2, ![2048, 1024]⟩ : Shape).Idx → EReal) (x1 : (⟨2, ![1, 1024]⟩ : Shape).Idx → EReal)
  (x2 : (⟨3, ![8, 2048, 352]⟩ : Shape).Idx → EReal) (x3 : (⟨3, ![8, 352, 1024]⟩ : Shape).Idx → EReal)

/-- Row `r` of an array of rows. -/
def row (x : (⟨2, ![2048, 1024]⟩ : Shape).Idx → EReal) (r : Fin 2048) (k : Fin 1024) : EReal := x (ix2 r k)

/-- The gain, as a row. -/
def gainRow (k : Fin 1024) : EReal := x1 (ix2 0 k)

/-- A column of the gate's weights. -/
def wGate (j : Fin 8) (f : Fin 352) (k : Fin 1024) : EReal := x2 (ix3 j (lo k) f)

/-- A column of the up weights. -/
def wUp (j : Fin 8) (f : Fin 352) (k : Fin 1024) : EReal := x2 (ix3 j (hi k) f)

/-- A row of the down weights. -/
def wDown (j : Fin 8) (f : Fin 352) (d : Fin 1024) : EReal := x3 (ix3 j f d)

/-- The gate's product. -/
def aAt (r : Fin 2048) (j : Fin 8) (f : Fin 352) : EReal := dot (hidden (row x0 r) (gainRow x1)) (wGate x2 j f)

/-- The up product. -/
def bAt (r : Fin 2048) (j : Fin 8) (f : Fin 352) : EReal := dot (hidden (row x0 r) (gainRow x1)) (wUp x2 j f)

/-- The gated product's cotangent. -/
def zAt (r : Fin 2048) (j : Fin 8) (f : Fin 352) : EReal := through (row x4 r) (wDown x3 j f)

/-- The gate's cotangent. -/
def daAt (r : Fin 2048) (j : Fin 8) (f : Fin 352) : EReal := gateCot (aAt x0 x1 x2 r j f) (bAt x0 x1 x2 r j f) (zAt x4 x3 r j f)

/-- The up product's cotangent. -/
def dbAt (r : Fin 2048) (j : Fin 8) (f : Fin 352) : EReal := upCot (aAt x0 x1 x2 r j f) (zAt x4 x3 r j f)

/-- What one shard adds to the hidden input's cotangent. -/
def dhPart (r : Fin 2048) (k : Fin 1024) (j : Fin 8) : EReal :=
  (∑ f, daAt x0 x4 x1 x2 x3 r j f * wGate x2 j f k) + ∑ f, dbAt x0 x4 x1 x2 x3 r j f * wUp x2 j f k

/-- The hidden input's cotangent. -/
def dhAt (r : Fin 2048) (k : Fin 1024) : EReal := ∑ j, dhPart x0 x4 x1 x2 x3 r k j

/-- What one row adds to the gain's gradient. -/
def dgPart (k : Fin 1024) (r : Fin 2048) : EReal := row x0 r k * scale (row x0 r) * dhAt x0 x4 x1 x2 x3 r k

end Cert.FfnRow

namespace Cert.FfnAPlainIdeal.Entry

open Cert.FfnAPlainIdeal Cert.FfnAPlainIdeal.Read Cert.FfnRow Idealize.ShloMosaic

/-- The gate's cotangent, the way the reference forms it. -/
def gateCotPlain (a b z : EReal) : EReal :=
  z * b * Ideal.logistic a + a * (z * b) * (Ideal.logistic a * (Ideal.ofBits .f32 0x3F800000#32 - Ideal.logistic a))

/-- A half times a sum of products: the half goes to each product's first factor. -/
theorem through_plain (dy w : Fin 1024 → EReal) : through dy w = ∑ d, Ideal.ofBits .f32 0x3F000000#32 * dy d * w d := by
  unfold through
  rw [Cert.Lift.ofBits_half]
  have h : ∀ s : Finset (Fin 1024), ((1 / 2 : ℝ) : EReal) * ∑ d ∈ s, dy d * w d = ∑ d ∈ s, ((1 / 2 : ℝ) : EReal) * dy d * w d := by
    intro s
    induction s using Finset.cons_induction with
    | empty => simp
    | cons i s hi ih =>
      rw [Finset.sum_cons, Finset.sum_cons, ← ih, EReal.left_distrib_of_nonneg_of_ne_top (by positivity) (EReal.coe_ne_top _), mul_assoc]
  exact h _

theorem ofBits_zero : Ideal.ofBits .f32 0x00000000#32 = (0 : EReal) := by simp [Ideal.ofBits, Ideal.ieee]

/-- One over one plus the exponential of the negated argument is the logistic function. -/
theorem logistic_plain (a : EReal) :
    Ideal.div (Ideal.ofBits .f32 0x3F800000#32) (Ideal.ofBits .f32 0x3F800000#32 + Ideal.exp (-a)) = Ideal.logistic a := by
  rw [Cert.Lift.ofBits_one, EReal.coe_one]
  rfl

variable (x0 x4 : (⟨2, ![2048, 1024]⟩ : Shape).Idx → EReal) (x1 : (⟨2, ![1, 1024]⟩ : Shape).Idx → EReal)
  (x2 : (⟨3, ![8, 2048, 352]⟩ : Shape).Idx → EReal) (x3 : (⟨3, ![8, 352, 1024]⟩ : Shape).Idx → EReal)

/-! ## The weights -/

theorem v4_at (k : Fin 1024) (j : Fin 8) (f : Fin 352) : val_main_v4 (F := Ideal) x2 (ix2 k (col j f)) = wGate x2 j f k := by
  refine (val_main_v4_apply ..).trans ((val_main_v3_apply ..).trans ((val_main_v2_apply ..).trans ((val_main_v0_apply ..).trans ?_)))
  refine congrArg x2 (ix3_of _ j (lo k) f ?_ ?_ ?_)
  · show (k.val * 2816 + (352 * j.val + f.val)) / 352 % 8 = j.val; omega
  · show (k.val * 2816 + (352 * j.val + f.val)) / 2816 = k.val; omega
  · show (k.val * 2816 + (352 * j.val + f.val)) % 352 = f.val; omega

theorem v7_at (k : Fin 1024) (j : Fin 8) (f : Fin 352) : val_main_v7 (F := Ideal) x2 (ix2 k (col j f)) = wUp x2 j f k := by
  refine (val_main_v7_apply ..).trans ((val_main_v6_apply ..).trans ((val_main_v5_apply ..).trans ((val_main_v0_apply ..).trans ?_)))
  refine congrArg x2 (ix3_of _ j (hi k) f ?_ ?_ ?_)
  · show (k.val * 2816 + (352 * j.val + f.val)) / 352 % 8 = j.val; omega
  · show 1024 + (k.val * 2816 + (352 * j.val + f.val)) / 2816 = 1024 + k.val; omega
  · show (k.val * 2816 + (352 * j.val + f.val)) % 352 = f.val; omega

theorem v8_at (j : Fin 8) (f : Fin 352) (d : Fin 1024) : val_main_v8 (F := Ideal) x3 (ix2 (col j f) d) = wDown x3 j f d := by
  refine (val_main_v8_apply ..).trans ((val_main_v1_apply ..).trans ?_)
  refine congrArg x3 (ix3_of _ j f d ?_ ?_ ?_)
  · show ((352 * j.val + f.val) * 1024 + d.val) / 360448 = j.val; omega
  · show ((352 * j.val + f.val) * 1024 + d.val) / 1024 % 352 = f.val; omega
  · show ((352 * j.val + f.val) * 1024 + d.val) % 1024 = d.val; omega

/-! ## The hidden input -/

theorem v15_at (r : Fin 2048) : val_main_v15 (F := Ideal) x0 (ix2 r 0) = meanSq (row x0 r) := by
  rw [val_main_v15_apply, val_main_v13_apply, val_main_v11_apply, val_main_v10_apply, val_main_v12_apply, val_main_v14_apply,
    val_main_cst_apply, val_main_cst_0_apply, val_main_cst_1_apply]
  refine (congrArg (fun s : EReal => Ideal.div s _ + _) ((congrArg (fun z : EReal => z + _) ofBits_zero).trans (zero_add _))).trans ?_
  refine congrArg (fun s : EReal => Ideal.div s _ + _) (Finset.sum_congr rfl fun k _ => ?_)
  rw [val_main_v9_apply, ix2_of (idx_main_v10 (idx_main_v11 (ix2 r 0)) k) r k rfl rfl]
  rfl

theorem v16_at (r : Fin 2048) : val_main_v16 (F := Ideal) x0 (ix2 r 0) = scale (row x0 r) := by
  rw [val_main_v16_apply, v15_at]
  rfl

theorem v21_at (r : Fin 2048) (k : Fin 1024) : val_main_v21 (F := Ideal) x0 (ix2 r k) = row x0 r k * scale (row x0 r) := by
  rw [val_main_v21_apply, val_main_v20_apply, ix2_of (idx_main_v20 (ix2 r k)) r 0 rfl rfl, v16_at]
  rfl

theorem v23_at (r : Fin 2048) (k : Fin 1024) : val_main_v23 (F := Ideal) x0 x1 (ix2 r k) = hidden (row x0 r) (gainRow x1) k := by
  rw [val_main_v23_apply, val_main_v22_apply, ix2_of (idx_main_v22 (ix2 r k)) 0 k rfl rfl, v21_at]
  rfl

/-! ## The hidden columns -/

theorem v24_at (r : Fin 2048) (j : Fin 8) (f : Fin 352) : val_main_v24 (F := Ideal) x0 x1 x2 (ix2 r (col j f)) = aAt x0 x1 x2 r j f := by
  rw [val_main_v24_apply]
  unfold aAt dot
  refine Finset.sum_congr rfl fun k _ => ?_
  rw [ix2_of (lidx_main_v24 (ix2 r (col j f)) k) r k rfl rfl, ix2_of (ridx_main_v24 (ix2 r (col j f)) k) k (col j f) rfl rfl, v23_at, v4_at]

theorem v26_at (r : Fin 2048) (j : Fin 8) (f : Fin 352) : val_main_v26 (F := Ideal) x0 x1 x2 (ix2 r (col j f)) = bAt x0 x1 x2 r j f := by
  rw [val_main_v26_apply]
  unfold bAt dot
  refine Finset.sum_congr rfl fun k _ => ?_
  rw [ix2_of (lidx_main_v26 (ix2 r (col j f)) k) r k rfl rfl, ix2_of (ridx_main_v26 (ix2 r (col j f)) k) k (col j f) rfl rfl, v23_at, v7_at]

theorem v25_2_at (r : Fin 2048) (j : Fin 8) (f : Fin 352) :
    val_main_v25_2 (F := Ideal) x0 x1 x2 (ix2 r (col j f)) = Ideal.logistic (aAt x0 x1 x2 r j f) := by
  rw [val_main_v25_2_apply, val_main_call0_v4_apply, val_main_call0_cst_0_apply, val_main_call0_v3_apply, val_main_call0_v2_apply,
    val_main_call0_cst_apply, val_main_call0_v1_apply, val_main_call0_v0_apply, v24_at]
  exact logistic_plain _

theorem v25_1_at (r : Fin 2048) (j : Fin 8) (f : Fin 352) :
    val_main_v25_1 (F := Ideal) x0 x1 x2 (ix2 r (col j f))
      = Ideal.logistic (aAt x0 x1 x2 r j f) * (Ideal.ofBits .f32 0x3F800000#32 - Ideal.logistic (aAt x0 x1 x2 r j f)) := by
  rw [val_main_v25_1_apply, val_main_call0_v7_apply, val_main_call0_v6_apply, val_main_call0_cst_1_apply, v25_2_at]
  rfl

theorem v25_0_at (r : Fin 2048) (j : Fin 8) (f : Fin 352) :
    val_main_v25_0 (F := Ideal) x0 x1 x2 (ix2 r (col j f)) = aAt x0 x1 x2 r j f * Ideal.logistic (aAt x0 x1 x2 r j f) := by
  rw [val_main_v25_0_apply, v25_2_at, v24_at]
  rfl

theorem v35_at (r : Fin 2048) (j : Fin 8) (f : Fin 352) : val_main_v35 (F := Ideal) x3 x4 (ix2 r (col j f)) = zAt x4 x3 r j f := by
  rw [val_main_v35_apply]
  refine Eq.trans ?_ (through_plain _ _).symm
  refine Finset.sum_congr rfl fun d _ => ?_
  rw [ix2_of (lidx_main_v35 (ix2 r (col j f)) d) r d rfl rfl, ix2_of (ridx_main_v35 (ix2 r (col j f)) d) (col j f) d rfl rfl, v8_at,
    val_main_v34_apply, val_main_v33_apply, val_main_cst_4_apply, val_main_v32_apply, ix2_of (idx_main_v32 (ix2 r d)) r d]
  · rfl
  · show (r.val * 1024 + d.val) / 1024 = r.val; omega
  · show (r.val * 1024 + d.val) % 1024 = d.val; omega

theorem v36_at (r : Fin 2048) (j : Fin 8) (f : Fin 352) :
    val_main_v36 (F := Ideal) x0 x1 x2 x3 x4 (ix2 r (col j f)) = dbAt x0 x4 x1 x2 x3 r j f := by
  rw [val_main_v36_apply, v25_0_at, v35_at]
  exact mul_comm _ _

theorem v39_plain (r : Fin 2048) (j : Fin 8) (f : Fin 352) :
    val_main_v39 (F := Ideal) x0 x1 x2 x3 x4 (ix2 r (col j f)) = gateCotPlain (aAt x0 x1 x2 r j f) (bAt x0 x1 x2 r j f) (zAt x4 x3 r j f) := by
  rw [val_main_v39_apply, val_main_call1_v1_apply, val_main_call1_v2_apply, val_main_call1_v0_apply, val_main_v37_apply, v25_2_at, v25_1_at, v24_at,
    v26_at, v35_at]
  rfl

/-- The three arguments the gate's cotangent is formed from are real numbers at every place. -/
def RealCols : Prop := ∀ r j f, (∃ u : ℝ, aAt x0 x1 x2 r j f = u) ∧ (∃ u : ℝ, bAt x0 x1 x2 r j f = u) ∧ ∃ u : ℝ, zAt x4 x3 r j f = u

/-- Of real numbers, the two ways to form the gate's cotangent agree. -/
theorem gateCot_plain (a b z : ℝ) : gateCotPlain a b z = gateCot a b z := by
  unfold gateCotPlain gateCot
  rw [Cert.Lift.ofBits_one, Ideal.logistic_coe]
  norm_cast
  ring

variable {x0 x4 x1 x2 x3}

theorem v39_at (h : RealCols x0 x4 x1 x2 x3) (r : Fin 2048) (j : Fin 8) (f : Fin 352) :
    val_main_v39 (F := Ideal) x0 x1 x2 x3 x4 (ix2 r (col j f)) = daAt x0 x4 x1 x2 x3 r j f := by
  rw [v39_plain]
  unfold daAt
  obtain ⟨⟨a, ha⟩, ⟨b, hb⟩, ⟨z, hz⟩⟩ := h r j f
  rw [ha, hb, hz]
  exact gateCot_plain a b z

/-! ## The rows' and the gain's gradient -/

theorem v41_at (h : RealCols x0 x4 x1 x2 x3) (r : Fin 2048) (k : Fin 1024) :
    val_main_v41 (F := Ideal) x0 x1 x2 x3 x4 (ix2 r k) = dhAt x0 x4 x1 x2 x3 r k := by
  rw [val_main_v41_apply, val_main_v38_apply, val_main_v40_apply, sum_col, sum_col]
  unfold dhAt dhPart
  refine Eq.trans ?_ Finset.sum_add_distrib.symm
  refine (add_comm _ _).trans (congrArg₂ (· + ·) ?_ ?_) <;> refine Finset.sum_congr rfl fun j _ => Finset.sum_congr rfl fun f _ => ?_
  · rw [ix2_of (lidx_main_v40 (ix2 r k) (col j f)) r (col j f) rfl rfl, ix2_of (ridx_main_v40 (ix2 r k) (col j f)) k (col j f) rfl rfl, v39_at h, v4_at]
  · rw [ix2_of (lidx_main_v38 (ix2 r k) (col j f)) r (col j f) rfl rfl, ix2_of (ridx_main_v38 (ix2 r k) (col j f)) k (col j f) rfl rfl, v36_at, v7_at]

theorem v44_at (h : RealCols x0 x4 x1 x2 x3) (k : Fin 1024) :
    val_main_v44 (F := Ideal) x0 x1 x2 x3 x4 (ix2 0 k) = ∑ r, dgPart x0 x4 x1 x2 x3 k r := by
  rw [val_main_v44_apply, val_main_v43_apply, val_main_cst_5_apply]
  refine ((congrArg (fun z : EReal => z + _) ofBits_zero).trans (zero_add _)).trans (Finset.sum_congr rfl fun r _ => ?_)
  rw [ix2_of (idx_main_v43 (idx_main_v44 (ix2 0 k)) r) r k rfl (by show 0 * 1024 + k.val = k.val; omega), val_main_v42_apply, v21_at, v41_at h]
  rfl

theorem v46_at (h : RealCols x0 x4 x1 x2 x3) (r : Fin 2048) (k : Fin 1024) :
    val_main_v46 (F := Ideal) x0 x1 x2 x3 x4 (ix2 r k) = dhAt x0 x4 x1 x2 x3 r k * gainRow x1 k := by
  rw [val_main_v46_apply, val_main_v45_apply, ix2_of (idx_main_v45 (ix2 r k)) 0 k rfl rfl, v41_at h]
  rfl

theorem v55_at (h : RealCols x0 x4 x1 x2 x3) (r : Fin 2048) :
    val_main_v55 (F := Ideal) x0 x1 x2 x3 x4 (ix2 r 0) = pull (row x0 r) (gainRow x1) (dhAt x0 x4 x1 x2 x3 r) := by
  rw [val_main_v55_apply, val_main_v54_apply, val_main_cst_7_apply, val_main_v53_apply, val_main_v19_apply, val_main_v18_apply, val_main_cst_2_apply,
    val_main_v17_apply, v16_at, v15_at, val_main_v49_apply, val_main_v48_apply, val_main_cst_6_apply]
  refine congrArg (fun s : EReal => Ideal.div (s * _) _) (((congrArg (fun z : EReal => z + _) ofBits_zero).trans (zero_add _)).trans ?_)
  refine Finset.sum_congr rfl fun k _ => ?_
  rw [ix2_of (idx_main_v48 (idx_main_v49 (ix2 r 0)) k) r k (by show r.val * 1 + 0 = r.val; omega) rfl, val_main_v47_apply, v46_at h]
  rfl

theorem v57_at (h : RealCols x0 x4 x1 x2 x3) (r : Fin 2048) (k : Fin 1024) :
    val_main_v57 (F := Ideal) x0 x1 x2 x3 x4 (ix2 r k) = pull (row x0 r) (gainRow x1) (dhAt x0 x4 x1 x2 x3 r) := by
  rw [val_main_v57_apply, val_main_v56_apply, val_main_cst_8_apply]
  refine ((congrArg (fun z : EReal => z + _) ofBits_zero).trans (zero_add _)).trans ?_
  rw [Fin.sum_univ_one, ix2_of (idx_main_v56 (idx_main_v57 (ix2 r k)) 0) r 0 rfl rfl, v55_at h]

theorem v61_at (h : RealCols x0 x4 x1 x2 x3) (r : Fin 2048) (k : Fin 1024) :
    val_main_v61 (F := Ideal) x0 x1 x2 x3 x4 (ix2 r k) = back (row x0 r) (gainRow x1) (dhAt x0 x4 x1 x2 x3 r) (row x4 r) k := by
  rw [val_main_v61_apply, val_main_v60_apply, val_main_v59_apply, val_main_v58_apply, val_main_v52_apply, val_main_v51_apply, val_main_v50_apply,
    v57_at h, v46_at h, ix2_of (idx_main_v50 (ix2 r k)) r 0 rfl rfl, v16_at]
  unfold back
  show row x4 r k + _ + _ + _ = _
  refine (congrArg (fun z : EReal => z + _) ((congrArg (fun z : EReal => z + _) (add_comm _ _)).trans (add_right_comm _ _ _))).trans (add_right_comm _ _ _)

end Cert.FfnAPlainIdeal.Entry

end
-- ==== Proof.FfnFPlain.lean ====
/-
  The reference of the forward half feed-forward step, entry by entry, in the row formulas.
-/
module

public import proofs.«01_k».proof.Proof.FfnAPlain
public import proofs.«01_k».proof.Proof.Gen.FfnFPlainIdeal.Read

@[expose] public section

set_option maxRecDepth 16384

noncomputable section

namespace Cert.FfnRow

open Idealize.ShloMosaic

variable (x0 : (⟨2, ![2048, 1024]⟩ : Shape).Idx → EReal) (x1 : (⟨2, ![1, 1024]⟩ : Shape).Idx → EReal)
  (x2 : (⟨3, ![8, 2048, 352]⟩ : Shape).Idx → EReal) (x3 : (⟨3, ![8, 352, 1024]⟩ : Shape).Idx → EReal)

/-- What one shard adds to the feed-forward's output. -/
def outPart (r : Fin 2048) (d : Fin 1024) (j : Fin 8) : EReal := ∑ f, gated (aAt x0 x1 x2 r j f) (bAt x0 x1 x2 r j f) * wDown x3 j f d

/-- A row after the half step: the row plus half of the feed-forward's output. -/
def stepAt (r : Fin 2048) (d : Fin 1024) : EReal := row x0 r d + Ideal.ofBits .f32 0x3F000000#32 * ∑ j, outPart x0 x1 x2 x3 r d j

end Cert.FfnRow

namespace Cert.FfnFPlainIdeal.Entry

open Cert.FfnFPlainIdeal Cert.FfnFPlainIdeal.Read Cert.FfnRow Idealize.ShloMosaic
open Cert.FfnAPlainIdeal.Entry (ofBits_zero logistic_plain)

variable (x0 : (⟨2, ![2048, 1024]⟩ : Shape).Idx → EReal) (x1 : (⟨2, ![1, 1024]⟩ : Shape).Idx → EReal)
  (x2 : (⟨3, ![8, 2048, 352]⟩ : Shape).Idx → EReal) (x3 : (⟨3, ![8, 352, 1024]⟩ : Shape).Idx → EReal)

/-! ## The hidden input -/

theorem v6_at (r : Fin 2048) : val_main_v6 (F := Ideal) x0 (ix2 r 0) = meanSq (row x0 r) := by
  rw [val_main_v6_apply, val_main_v4_apply, val_main_v2_apply, val_main_v1_apply, val_main_v3_apply, val_main_v5_apply,
    val_main_cst_apply, val_main_cst_0_apply, val_main_cst_1_apply]
  refine (congrArg (fun s : EReal => Ideal.div s _ + _) ((congrArg (fun z : EReal => z + _) ofBits_zero).trans (zero_add _))).trans ?_
  refine congrArg (fun s : EReal => Ideal.div s _ + _) (Finset.sum_congr rfl fun k _ => ?_)
  rw [val_main_v0_apply, ix2_of (idx_main_v1 (idx_main_v2 (ix2 r 0)) k) r k rfl rfl]
  rfl

theorem v11_at (r : Fin 2048) (k : Fin 1024) : val_main_v11 (F := Ideal) x0 x1 (ix2 r k) = FfnRow.hidden (row x0 r) (gainRow x1) k := by
  rw [val_main_v11_apply, val_main_v10_apply, ix2_of (idx_main_v10 (ix2 r k)) 0 k rfl rfl, val_main_v9_apply, val_main_v8_apply,
    ix2_of (idx_main_v8 (ix2 r k)) r 0 rfl rfl, val_main_v7_apply, v6_at]
  rfl

/-! ## The weights -/

theorem v16_at (k : Fin 1024) (j : Fin 8) (f : Fin 352) : val_main_v16 (F := Ideal) x2 (ix2 k (col j f)) = wGate x2 j f k := by
  refine (val_main_v16_apply ..).trans ((val_main_v15_apply ..).trans ((val_main_v14_apply ..).trans ((val_main_v12_apply ..).trans ?_)))
  refine congrArg x2 (ix3_of _ j (lo k) f ?_ ?_ ?_)
  · show (k.val * 2816 + (352 * j.val + f.val)) / 352 % 8 = j.val; omega
  · show (k.val * 2816 + (352 * j.val + f.val)) / 2816 = k.val; omega
  · show (k.val * 2816 + (352 * j.val + f.val)) % 352 = f.val; omega

theorem v19_at (k : Fin 1024) (j : Fin 8) (f : Fin 352) : val_main_v19 (F := Ideal) x2 (ix2 k (col j f)) = wUp x2 j f k := by
  refine (val_main_v19_apply ..).trans ((val_main_v18_apply ..).trans ((val_main_v17_apply ..).trans ((val_main_v12_apply ..).trans ?_)))
  refine congrArg x2 (ix3_of _ j (hi k) f ?_ ?_ ?_)
  · show (k.val * 2816 + (352 * j.val + f.val)) / 352 % 8 = j.val; omega
  · show 1024 + (k.val * 2816 + (352 * j.val + f.val)) / 2816 = 1024 + k.val; omega
  · show (k.val * 2816 + (352 * j.val + f.val)) % 352 = f.val; omega

theorem v20_at (j : Fin 8) (f : Fin 352) (d : Fin 1024) : val_main_v20 (F := Ideal) x3 (ix2 (col j f) d) = wDown x3 j f d := by
  refine (val_main_v20_apply ..).trans ((val_main_v13_apply ..).trans ?_)
  refine congrArg x3 (ix3_of _ j f d ?_ ?_ ?_)
  · show ((352 * j.val + f.val) * 1024 + d.val) / 360448 = j.val; omega
  · show ((352 * j.val + f.val) * 1024 + d.val) / 1024 % 352 = f.val; omega
  · show ((352 * j.val + f.val) * 1024 + d.val) % 1024 = d.val; omega

/-! ## The hidden columns -/

theorem v21_at (r : Fin 2048) (j : Fin 8) (f : Fin 352) : val_main_v21 (F := Ideal) x0 x1 x2 (ix2 r (col j f)) = aAt x0 x1 x2 r j f := by
  rw [val_main_v21_apply]
  unfold aAt dot
  refine Finset.sum_congr rfl fun k _ => ?_
  rw [ix2_of (lidx_main_v21 (ix2 r (col j f)) k) r k rfl rfl, ix2_of (ridx_main_v21 (ix2 r (col j f)) k) k (col j f) rfl rfl, v11_at, v16_at]

theorem v23_at (r : Fin 2048) (j : Fin 8) (f : Fin 352) : val_main_v23 (F := Ideal) x0 x1 x2 (ix2 r (col j f)) = bAt x0 x1 x2 r j f := by
  rw [val_main_v23_apply]
  unfold bAt dot
  refine Finset.sum_congr rfl fun k _ => ?_
  rw [ix2_of (lidx_main_v23 (ix2 r (col j f)) k) r k rfl rfl, ix2_of (ridx_main_v23 (ix2 r (col j f)) k) k (col j f) rfl rfl, v11_at, v19_at]

theorem logistic_at (r : Fin 2048) (j : Fin 8) (f : Fin 352) :
    val_main_call0_v5 (F := Ideal) x0 x1 x2 (ix2 r (col j f)) = Ideal.logistic (aAt x0 x1 x2 r j f) := by
  rw [val_main_call0_v5_apply, val_main_call0_v4_apply, val_main_call0_cst_0_apply, val_main_call0_v3_apply, val_main_call0_v2_apply,
    val_main_call0_cst_apply, val_main_call0_v1_apply, val_main_call0_v0_apply, v21_at]
  exact logistic_plain _

theorem v24_at (r : Fin 2048) (j : Fin 8) (f : Fin 352) :
    val_main_v24 (F := Ideal) x0 x1 x2 (ix2 r (col j f)) = gated (aAt x0 x1 x2 r j f) (bAt x0 x1 x2 r j f) := by
  rw [val_main_v24_apply, val_main_v22_apply, logistic_at, v21_at, v23_at]
  rfl

/-! ## The half step -/

theorem v25_at (r : Fin 2048) (d : Fin 1024) : val_main_v25 (F := Ideal) x0 x1 x2 x3 (ix2 r d) = ∑ j, outPart x0 x1 x2 x3 r d j := by
  rw [val_main_v25_apply, sum_col]
  unfold outPart
  refine Finset.sum_congr rfl fun j _ => Finset.sum_congr rfl fun f _ => ?_
  rw [ix2_of (lidx_main_v25 (ix2 r d) (col j f)) r (col j f) rfl rfl, ix2_of (ridx_main_v25 (ix2 r d) (col j f)) (col j f) d rfl rfl, v24_at, v20_at]

theorem v28_at (r : Fin 2048) (d : Fin 1024) : val_main_v28 (F := Ideal) x0 x1 x2 x3 (ix2 r d) = stepAt x0 x1 x2 x3 r d := by
  rw [val_main_v28_apply, val_main_v27_apply, val_main_v26_apply, val_main_cst_2_apply, v25_at]
  rfl

end Cert.FfnFPlainIdeal.Entry

end
-- ==== Proof.FfnFSum.lean ====
/-
  What the forward half feed-forward step's kernel holds at each point of its grid, as sums over the arguments' entries: the
  hidden input of the row tile, and in the accumulator the parts of the shards met so far in it.
-/
module

public import proofs.«01_k».proof.Proof.FfnFPoint
public import proofs.«01_k».proof.Proof.FfnFPlain

@[expose] public section

set_option maxRecDepth 16384

noncomputable section

namespace Cert.FfnFIdeal.Real

open Cert.FfnFIdeal Cert.FfnFIdeal.Gen Cert.FfnFIdeal.Point Cert.FfnRow
open Idealize.ShloMosaic Idealize.ShloMosaic.TcCoe Idealize.SL.Sem

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![1, 1024]⟩ : Shape).Idx → EReal := m ((c : Thread nD τ).loc main_arg1)
abbrev x2 : (⟨3, ![8, 2048, 352]⟩ : Shape).Idx → EReal := m ((c : Thread nD τ).loc main_arg2)
abbrev x3 : (⟨3, ![8, 352, 1024]⟩ : Shape).Idx → EReal := m ((c : Thread nD τ).loc main_arg3)

/-! ## Row tile and shard of a grid point -/

/-- The shard numbered `n`, counted round. -/
def shard (n : ℕ) : Fin 8 := ⟨n % 8, Nat.mod_lt _ (by decide)⟩

/-- Row `p` of the row tile numbered `i`, counted round. -/
def rowOf (i : ℕ) (p : Fin 1024) : Fin 2048 := ⟨1024 * (i % 2) + p.val, by omega⟩

theorem idx0 : ∀ t : Fin cfg0.N, win0_0.index t 0 = t.val / 8 % 2 ∧ win0_0.index t 1 = 0 :=
  (by decide +kernel : ∀ t : Fin grid0.N, win0_0.index t 0 = t.val / 8 % 2 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val % 8 ∧ win0_2.index t 1 = 0 ∧ win0_2.index t 2 = 0 :=
  (by decide +kernel : ∀ t : Fin grid0.N, win0_2.index t 0 = t.val % 8 ∧ win0_2.index t 1 = 0 ∧ win0_2.index t 2 = 0)
theorem idx3 : ∀ t : Fin cfg0.N, win0_3.index t 0 = t.val % 8 ∧ win0_3.index t 1 = 1 ∧ win0_3.index t 2 = 0 :=
  (by decide +kernel : ∀ t : Fin grid0.N, win0_3.index t 0 = t.val % 8 ∧ win0_3.index t 1 = 1 ∧ win0_3.index t 2 = 0)
theorem idx4 : ∀ t : Fin cfg0.N, win0_4.index t 0 = t.val % 8 ∧ win0_4.index t 1 = 0 ∧ win0_4.index t 2 = 0 :=
  (by decide +kernel : ∀ t : Fin grid0.N, win0_4.index t 0 = t.val % 8 ∧ win0_4.index t 1 = 0 ∧ win0_4.index t 2 = 0)

/-! ## The blocks a point reads -/

theorem in0 (t : Fin cfg0.N) (p k : Fin 1024) :
    iblk m c 0 t (ix2 (n0 := 1024) (n1 := 1024) p k) = row (x0 m c) (rowOf (t.val / 8) p) k := by
  unfold iblk
  rw [View.read_apply]
  refine congrArg (x0 m c) (ix2_of _ _ _ ?_ ?_)
  · show win0_0.index t 0 * 1024 + 1 * p.val = 1024 * (t.val / 8 % 2) + p.val; rw [(idx0 t).1]; omega
  · show win0_0.index t 1 * 1024 + 1 * k.val = k.val; rw [(idx0 t).2]; omega

theorem in1 (t : Fin cfg0.N) (k : Fin 1024) : iblk m c 1 t (ix2 (n0 := 1) (n1 := 1024) 0 k) = gainRow (x1 m c) k := by
  unfold iblk
  rw [View.read_apply]
  refine congrArg (x1 m c) (ix2_of _ _ _ ?_ ?_)
  · show win0_1.index t 0 * 1 + 1 * 0 = 0; rw [(idx1 t).1]
  · show win0_1.index t 1 * 1024 + 1 * k.val = k.val; rw [(idx1 t).2]; omega

theorem in2 (t : Fin cfg0.N) (k : Fin 1024) (f : Fin 352) :
    iblk m c 2 t (ix3 (n0 := 1) (n1 := 1024) (n2 := 352) 0 k f) = wGate (x2 m c) (shard t.val) f k := by
  unfold iblk
  rw [View.read_apply]
  refine congrArg (x2 m c) (ix3_of _ _ _ _ ?_ ?_ ?_)
  · show win0_2.index t 0 * 1 + 1 * 0 = t.val % 8; rw [(idx2 t).1]; omega
  · show win0_2.index t 1 * 1024 + 1 * k.val = k.val; rw [(idx2 t).2.1]; omega
  · show win0_2.index t 2 * 352 + 1 * f.val = f.val; rw [(idx2 t).2.2]; omega

theorem in3 (t : Fin cfg0.N) (k : Fin 1024) (f : Fin 352) :
    iblk m c 3 t (ix3 (n0 := 1) (n1 := 1024) (n2 := 352) 0 k f) = wUp (x2 m c) (shard t.val) f k := by
  unfold iblk
  rw [View.read_apply]
  refine congrArg (x2 m c) (ix3_of _ _ _ _ ?_ ?_ ?_)
  · show win0_3.index t 0 * 1 + 1 * 0 = t.val % 8; rw [(idx3 t).1]; omega
  · show win0_3.index t 1 * 1024 + 1 * k.val = 1024 + k.val; rw [(idx3 t).2.1]; omega
  · show win0_3.index t 2 * 352 + 1 * f.val = f.val; rw [(idx3 t).2.2]; omega

theorem in4 (t : Fin cfg0.N) (f : Fin 352) (d : Fin 1024) :
    iblk m c 4 t (ix3 (n0 := 1) (n1 := 352) (n2 := 1024) 0 f d) = wDown (x3 m c) (shard t.val) f d := by
  unfold iblk
  rw [View.read_apply]
  refine congrArg (x3 m c) (ix3_of _ _ _ _ ?_ ?_ ?_)
  · show win0_4.index t 0 * 1 + 1 * 0 = t.val % 8; rw [(idx4 t).1]; omega
  · show win0_4.index t 1 * 352 + 1 * f.val = f.val; rw [(idx4 t).2.1]; omega
  · show win0_4.index t 2 * 1024 + 1 * d.val = d.val; rw [(idx4 t).2.2]; omega

/-! ## From one point to the next -/

/-- The hidden input's buffer after point `n`. -/
def hidAt (n : ℕ) (h : n < cfg0.N) : Vec Ideal S1024x1024 .bf16 := (outsAt0 m c n h).2.1

/-- The accumulator after point `n`. -/
def accAt (n : ℕ) (h : n < cfg0.N) : Vec Ideal S1024x1024 .f32 := (outsAt0 m c n h).2.2

theorem before {t : Fin cfg0.N} : t.val - 1 < cfg0.N := lt_of_le_of_lt (Nat.sub_le _ _) t.isLt

/-- After a row tile's first shard. -/
theorem outs_first (t : Fin cfg0.N) (h0 : t.val % 8 = 0) :
    (outsAt0 m c t.val t.isLt).2 = (hid (iblk m c 0 t) (iblk m c 1 t),
      addShard (hid (iblk m c 0 t) (iblk m c 1 t)) (iblk m c 2 t) (iblk m c 3 t) (iblk m c 4 t) blank) := by
  refine (congrArg Prod.snd (outsAt0_A m c t h0 (by omega))).trans ?_
  dsimp only
  rw [first_hid, first_acc]

/-- After a shard between the first and the last. -/
theorem outs_mid (t : Fin cfg0.N) (h0 : ¬t.val % 8 = 0) (h1 : ¬t.val % 8 = 7) :
    (outsAt0 m c t.val t.isLt).2 = (hidAt m c (t.val - 1) before,
      addShard (hidAt m c (t.val - 1) before) (iblk m c 2 t) (iblk m c 3 t) (iblk m c 4 t) (accAt m c (t.val - 1) before)) := by
  refine (congrArg Prod.snd (outsAt0_B m c t h0 h1)).trans ?_
  dsimp only
  rw [mid_acc]
  unfold sout0_B_0
  rfl

/-- After the last shard. -/
theorem outs_last (t : Fin cfg0.N) (h0 : ¬t.val % 8 = 0) (h1 : t.val % 8 = 7) :
    outsAt0 m c t.val t.isLt
      = (outp (iblk m c 0 t) (addShard (hidAt m c (t.val - 1) before) (iblk m c 2 t) (iblk m c 3 t) (iblk m c 4 t) (accAt m c (t.val - 1) before)),
        hidAt m c (t.val - 1) before,
        addShard (hidAt m c (t.val - 1) before) (iblk m c 2 t) (iblk m c 3 t) (iblk m c 4 t) (accAt m c (t.val - 1) before)) := by
  refine (outsAt0_C m c t h0 h1).trans ?_
  rw [last_out, last_acc]
  unfold sout0_C_0
  rfl

theorem hidAt_first (t : Fin cfg0.N) (h0 : t.val % 8 = 0) : hidAt m c t.val t.isLt = hid (iblk m c 0 t) (iblk m c 1 t) :=
  congrArg Prod.fst (outs_first m c t h0)

theorem hidAt_next (t : Fin cfg0.N) (h0 : ¬t.val % 8 = 0) : hidAt m c t.val t.isLt = hidAt m c (t.val - 1) before := by
  by_cases h1 : t.val % 8 = 7
  · exact (congrArg (fun o => o.2.1) (outs_last m c t h0 h1)).trans rfl
  · exact (congrArg Prod.fst (outs_mid m c t h0 h1)).trans rfl

theorem accAt_first (t : Fin cfg0.N) (h0 : t.val % 8 = 0) :
    accAt m c t.val t.isLt = addShard (hidAt m c t.val t.isLt) (iblk m c 2 t) (iblk m c 3 t) (iblk m c 4 t) blank := by
  rw [hidAt_first m c t h0]
  exact congrArg Prod.snd (outs_first m c t h0)

theorem accAt_next (t : Fin cfg0.N) (h0 : ¬t.val % 8 = 0) :
    accAt m c t.val t.isLt = addShard (hidAt m c t.val t.isLt) (iblk m c 2 t) (iblk m c 3 t) (iblk m c 4 t) (accAt m c (t.val - 1) before) := by
  rw [hidAt_next m c t h0]
  by_cases h1 : t.val % 8 = 7
  · exact congrArg (fun o => o.2.2) (outs_last m c t h0 h1)
  · exact congrArg Prod.snd (outs_mid m c t h0 h1)

theorem outAt_last (t : Fin cfg0.N) (h1 : t.val % 8 = 7) : (outsAt0 m c t.val t.isLt).1 = outp (iblk m c 0 t) (accAt m c t.val t.isLt) := by
  have h0 : ¬t.val % 8 = 0 := by omega
  rw [accAt_next m c t h0, hidAt_next m c t h0]
  exact congrArg Prod.fst (outs_last m c t h0 h1)

/-! ## The hidden input, and what a shard adds -/

theorem hidAt_at (p k : Fin 1024) : ∀ (n : ℕ) (h : n < cfg0.N),
    hidAt m c n h (ix2 p k) = FfnRow.hidden (row (x0 m c) (rowOf (n / 8) p)) (gainRow (x1 m c)) k := by
  have first : ∀ t : Fin cfg0.N, t.val % 8 = 0 →
      hidAt m c t.val t.isLt (ix2 p k) = FfnRow.hidden (row (x0 m c) (rowOf (t.val / 8) p)) (gainRow (x1 m c)) k := by
    intro t h0
    rw [hidAt_first m c t h0, hid_at]
    exact congrArg₂ (fun x g => FfnRow.hidden x g k) (funext fun d => in0 m c t p d) (funext fun d => in1 m c t d)
  intro n
  induction n with
  | zero => exact fun h => first ⟨0, h⟩ rfl
  | succ n ih =>
    intro h
    by_cases h0 : (n + 1) % 8 = 0
    · exact first ⟨n + 1, h⟩ h0
    · refine (congrFun (hidAt_next m c ⟨n + 1, h⟩ h0) _).trans ((ih (Nat.lt_of_succ_lt h)).trans ?_)
      rw [show (n + 1) / 8 = n / 8 by omega]

theorem hid_row (t : Fin cfg0.N) (p : Fin 1024) :
    (fun k => hidAt m c t.val t.isLt (ix2 p k)) = FfnRow.hidden (row (x0 m c) (rowOf (t.val / 8) p)) (gainRow (x1 m c)) :=
  funext fun k => hidAt_at m c p k t.val t.isLt

/-- The gate's product at a place of a point's block. -/
theorem a_at (t : Fin cfg0.N) (p : Fin 1024) (f : Fin 352) :
    (dot (fun k => hidAt m c t.val t.isLt (ix2 p k)) fun k => iblk m c 2 t (ix3 (n0 := 1) (n1 := 1024) (n2 := 352) 0 k f))
      = aAt (x0 m c) (x1 m c) (x2 m c) (rowOf (t.val / 8) p) (shard t.val) f := by
  rw [hid_row, funext fun k => in2 m c t k f]
  rfl

/-- The up product at a place of a point's block. -/
theorem b_at (t : Fin cfg0.N) (p : Fin 1024) (f : Fin 352) :
    (dot (fun k => hidAt m c t.val t.isLt (ix2 p k)) fun k => iblk m c 3 t (ix3 (n0 := 1) (n1 := 1024) (n2 := 352) 0 k f))
      = bAt (x0 m c) (x1 m c) (x2 m c) (rowOf (t.val / 8) p) (shard t.val) f := by
  rw [hid_row, funext fun k => in3 m c t k f]
  rfl

/-- What shard `n`, counted round, adds to a row of the output. -/
def part (r : Fin 2048) (d : Fin 1024) (n : ℕ) : EReal := outPart (x0 m c) (x1 m c) (x2 m c) (x3 m c) r d (shard n)

theorem add_part (t : Fin cfg0.N) (s : Vec Ideal S1024x1024 .f32) (p d : Fin 1024) :
    addShard (hidAt m c t.val t.isLt) (iblk m c 2 t) (iblk m c 3 t) (iblk m c 4 t) s (ix2 p d)
      = s (ix2 p d) + part m c (rowOf (t.val / 8) p) d (t.val % 8) := by
  unfold part outPart
  rw [show shard (t.val % 8) = shard t.val from Fin.ext (Nat.mod_mod _ _)]
  refine (addShard_at _ _ _ _ _ p d).trans (congrArg _ (Finset.sum_congr rfl fun f _ => ?_))
  exact congrArg₂ (fun u v : EReal => u * v) (congrArg₂ gated (a_at m c t p f) (b_at m c t p f)) (in4 m c t f d)

theorem accAt_at (p d : Fin 1024) : ∀ (n : ℕ) (h : n < cfg0.N),
    accAt m c n h (ix2 p d) = ∑ s ∈ Finset.range (n % 8 + 1), part m c (rowOf (n / 8) p) d s := by
  have first : ∀ t : Fin cfg0.N, t.val % 8 = 0 →
      accAt m c t.val t.isLt (ix2 p d) = ∑ s ∈ Finset.range (t.val % 8 + 1), part m c (rowOf (t.val / 8) p) d s := by
    intro t h0
    rw [accAt_first m c t h0, add_part, blank_at, h0, zero_add, zero_add, Finset.sum_range_one]
  intro n
  induction n with
  | zero => exact fun h => first ⟨0, h⟩ rfl
  | succ n ih =>
    intro h
    by_cases h0 : (n + 1) % 8 = 0
    · exact first ⟨n + 1, h⟩ h0
    · refine (congrFun (accAt_next m c ⟨n + 1, h⟩ h0) _).trans ((add_part m c ⟨n + 1, h⟩ _ p d).trans ?_)
      refine (congrArg (fun z : EReal => z + _) (ih (Nat.lt_of_succ_lt h))).trans ?_
      show (∑ s ∈ Finset.range (n % 8 + 1), part m c (rowOf (n / 8) p) d s) + part m c (rowOf ((n + 1) / 8) p) d ((n + 1) % 8) = _
      rw [show (n + 1) / 8 = n / 8 by omega, show (n + 1) % 8 = n % 8 + 1 by omega, Finset.sum_range_succ (fun s => part m c (rowOf (n / 8) p) d s) (n % 8 + 1)]

/-- At a row tile's last shard the result's buffer holds the rows after the half step. -/
theorem outAt_at (t : Fin cfg0.N) (h : t.val % 8 = 7) (p d : Fin 1024) :
    (outsAt0 m c t.val t.isLt).1 (ix2 p d) = stepAt (x0 m c) (x1 m c) (x2 m c) (x3 m c) (rowOf (t.val / 8) p) d := by
  rw [outAt_last m c t h, outp_at, accAt_at, h, Finset.sum_range]
  refine congrArg₂ (fun u v : EReal => u + Ideal.ofBits .f32 0x3F000000#32 * v) (in0 m c t p d) (Finset.sum_congr rfl fun j _ => ?_)
  exact congrArg (outPart _ _ _ _ _ _) (Fin.ext (Nat.mod_eq_of_lt j.isLt))

end Cert.FfnFIdeal.Real

end
-- ==== Proof.FfnFClaim.lean ====
/-
  The forward half feed-forward step: from any arguments the kernel and the reference end with the same rows. Nothing is
  asked of the arguments: both sum the same products, the kernel shard by shard.
-/
module

public import proofs.«01_k».proof.Defs
public import proofs.«01_k».proof.Proof.FfnFSum
public import proofs.«01_k».proof.Proof.Gen.FfnFPlainIdeal.Run
public import Idealize.ShloMosaic.Lib.Pipeline.ValueKit
public import Idealize.ShloMosaic.Adequacy
public import Idealize.ShloMosaic.Init

@[expose] public section

set_option maxRecDepth 16384

noncomputable section

namespace Cert.FfnFIdeal.Real

open Cert.FfnFIdeal Cert.FfnFIdeal.Gen Cert.FfnRow
open Idealize.ShloMosaic Idealize.ShloMosaic.TcCoe Idealize.SL.Sem
open Idealize.ShloMosaic.Pipeline (Dat)

variable (m : (ℓ : Loc nD τ sig) → Buf (Elt Ideal) ℓ) (c : Dev nD)

/-- The reference's rows, of the kernel's arguments. -/
abbrev refY : (⟨2, ![2048, 1024]⟩ : Shape).Idx → EReal := Cert.FfnFPlainIdeal.Read.val_main_v28 (F := Ideal) (x0 m c) (x1 m c) (x2 m c) (x3 m c)

theorem idx5 : ∀ t : Fin cfg0.N, win0_5.index t 0 = t.val / 8 % 2 ∧ win0_5.index t 1 = 0 :=
  (by decide +kernel : ∀ t : Fin grid0.N, win0_5.index t 0 = t.val / 8 % 2 ∧ win0_5.index t 1 = 0)

/-- The place of a block's entry in the result. -/
theorem rows_ix {i : (⟨2, ![2048, 1024]⟩ : Shape).Idx} {u v n : ℕ} {p k : Fin 1024} (hu : u = n % 2) (hv : v = 0)
    (h0 : (i 0).val = u * 1024 + p.val) (h1 : (i 1).val = v * 1024 + k.val) : i = ix2 (rowOf n p) k :=
  ix2_of i _ _ (h0.trans (by show u * 1024 + p.val = 1024 * (n % 2) + p.val; omega)) (h1.trans (by omega))

/-- The result array, whole. -/
theorem whole : (dats m 0 c).arrAt 5 cfg0.N = refY m c := by
  refine (dats m 0 c).arrAt_eq_of_covers 5 (refY m c) (by decide +kernel) fun t hf y => ?_
  blk_simp
  rw [after0_5]
  obtain ⟨p, k, rfl⟩ : ∃ p k, y = ix2 (n0 := 1024) (n1 := 1024) p k := ⟨_, _, eq_ix2 (n0 := 1024) (n1 := 1024) y⟩
  refine (outAt_at m c t ((flush0_5 t).mp hf) p k).trans ((Cert.FfnFPlainIdeal.Entry.v28_at _ _ _ _ _ k).symm.trans (congrArg (refY m c) ?_))
  exact (rows_ix (idx5 t).1 (idx5 t).2 (by blk_simp) (by blk_simp)).symm

end Cert.FfnFIdeal.Real

namespace Cert.FfnFClaim

open Idealize.ShloMosaic Idealize.SL.Sem Idealize.ShloMosaic.StableHlo
open Cert.FfnFIdeal.Real

theorem frame_plain : Cert.quiescent_FfnFPlainIdeal := fun m ρ _ =>
  (θ_run Cert.FfnFPlainIdeal.defs _ _).mono
    (fun r h => ⟨fun c => (h c).2, Idealize.ShloMosaic.sem_eq_zero_of_no_sems (by decide) r.2⟩)
    (Cert.FfnFPlainIdeal.Value.run (F := Ideal) m ρ)

theorem algebraic : Cert.algebraic_FfnFIdeal_FfnFPlainIdeal := by
  intro m g m' g' _ hargs
  refine ⟨fun c => refY m c, ?_, ?_⟩
  · refine (θ_run Cert.FfnFIdeal.defs _ _).mono (fun r h c => ?_) (Cert.FfnFIdeal.Value.run_blocks (F := Ideal) m g)
    exact ⟨(h c).1.trans (whole m c), (h c).2⟩
  · refine (θ_run Cert.FfnFPlainIdeal.defs _ _).mono (fun r h c => ?_) (Cert.FfnFPlainIdeal.Value.run (F := Ideal) m' g')
    obtain ⟨q0, q1, q2, q3⟩ := hargs c
    refine ⟨(h c).1.trans ((Cert.FfnFPlainIdeal.Read.val_main_v28_eq (F := Ideal) _ _ _ _).trans ?_), (h c).2⟩
    rw [q0, q1, q2, q3]

end Cert.FfnFClaim

end
-- ==== Proof.MmRow.lean ====
/-
  A matrix product cut into tiles: the place of a tile's row or column in the whole, and what an entry of the product is when
  the tiles' entries are the whole factors'.
-/
module

public import proofs.«01_k».proof.Proof.FfnAPlain
public import Idealize.ShloMosaic.Lib.Pipeline.ValueKit

@[expose] public section

noncomputable section

namespace Cert.MmRow

open Idealize.ShloMosaic

/-- Place `p` of tile `t`, the tiles `b` long and side by side. -/
def at_ {b g n : ℕ} (h : b * g = n) (t : Fin g) (p : Fin b) : Fin n :=
  ⟨b * t.val + p.val, by
    subst h
    exact (Nat.add_lt_add_left p.isLt _).trans_le ((Nat.mul_succ b t.val).symm.le.trans (Nat.mul_le_mul_left b t.isLt))⟩

theorem at_val {b g n : ℕ} (h : b * g = n) (t : Fin g) (p : Fin b) {u v : ℕ} (hu : u = t.val) (hv : v = p.val) :
    u * b + 1 * v = (at_ h t p).val := by
  subst hu hv
  show t.val * b + 1 * p.val = b * t.val + p.val
  rw [Nat.mul_comm, Nat.one_mul]

/-- A place in an axis that is one tile. -/
theorem all_val {b : ℕ} (p : Fin b) {u v : ℕ} (hu : u = 0) (hv : v = p.val) : u * b + 1 * v = p.val := by
  subst hu hv
  rw [Nat.zero_mul, Nat.zero_add, Nat.one_mul]

theorem off2 : (![0, 0] : Fin 2 → ℕ) = fun _ => 0 := by funext a; fin_cases a <;> rfl

end Cert.MmRow

end
-- ==== Proof.InRow.lean ====
/-
  The input projection's columns, shard by shard: the whole weights have eight shards of `w` columns side by side. What a load
  of one shard, or of one shard's band of columns, reads, and what the bodies' stores, one for each shard, leave together.
-/
module

public import proofs.«01_k».proof.Proof.MmRow

@[expose] public section

set_option maxRecDepth 16384

noncomputable section

namespace Cert.InRow

open Idealize.ShloMosaic
open Cert.FfnRow (ix2_of ix3_of)
open Cert.MmRow (at_)

variable {w n : ℕ}

/-- Column `f` of shard `j` among all the projection's columns. -/
def col (h : w * 8 = n) (j : Fin 8) (f : Fin w) : Fin n := at_ h j f

/-- The shard a column is in. -/
def shard (h : w * 8 = n) (x : Fin n) : Fin 8 := ⟨x.val / w, Nat.div_lt_of_lt_mul (x.isLt.trans_eq h.symm)⟩

theorem width_pos (h : w * 8 = n) (x : Fin n) : 0 < w :=
  Nat.pos_of_ne_zero fun e => by have := x.isLt; subst e; omega

/-- A column's place in its shard. -/
def place (h : w * 8 = n) (x : Fin n) : Fin w := ⟨x.val % w, Nat.mod_lt _ (width_pos h x)⟩

theorem shard_col (h : w * 8 = n) (j : Fin 8) (f : Fin w) : shard h (col h j f) = j :=
  Fin.ext (show (w * j.val + f.val) / w = j.val by
    rw [Nat.mul_add_div (width_pos h (col h j f)), Nat.div_eq_of_lt f.isLt, Nat.add_zero])

theorem place_col (h : w * 8 = n) (j : Fin 8) (f : Fin w) : place h (col h j f) = f :=
  Fin.ext (show (w * j.val + f.val) % w = f.val by rw [Nat.mul_add_mod, Nat.mod_eq_of_lt f.isLt])

/-- A sum over all the columns, shard by shard. -/
theorem sum_col (h : w * 8 = n) (φ : Fin n → EReal) : ∑ x, φ x = ∑ j, ∑ f, φ (col h j f) := by
  rw [← Fintype.sum_prod_type' (f := fun j f => φ (col h j f))]
  refine (Equiv.sum_comp ((finProdFinEquiv (m := 8) (n := w)).trans (finCongr ((Nat.mul_comm 8 w).trans h))) φ).symm.trans
    (Finset.sum_congr rfl fun p _ => congrArg φ (Fin.ext ?_))
  show p.2.val + w * p.1.val = w * p.1.val + p.2.val
  exact Nat.add_comm ..

theorem from_zero (k : ℕ) : 0 + 1 * k = k := by omega

/-- A load of the band of columns of shard `j`. -/
theorem ld_band (h : w * 8 = n) {r : ℕ} (X : (⟨2, ![r, n]⟩ : Shape).Idx → EReal) (j : Fin 8) {o : ℕ} (ho : o = w * j.val)
    (inb : ∀ a, (![0, o] : Fin 2 → ℕ) a + (![r, w] : Fin 2 → ℕ) a ≤ (⟨2, ![r, n]⟩ : Shape).size a) (t : Fin r) (f : Fin w) :
    View.ld (Val := Elt Ideal) (e' := .bf16) X (Rect.unit ![0, o] ![r, w] inb) (ix2 (n0 := r) (n1 := w) t f) = X (ix2 t (col h j f)) :=
  congrArg X (ix2_of _ t (col h j f) (from_zero _) (show o + 1 * f.val = w * j.val + f.val by rw [ho, Nat.one_mul]))

/-- A load of shard `j` of the weights. -/
theorem ld_shard (W : (⟨3, ![8, 1024, w]⟩ : Shape).Idx → EReal) (j : Fin 8) {o : ℕ} (ho : o = j.val)
    (inb : ∀ a, (![o, 0, 0] : Fin 3 → ℕ) a + (![1, 1024, w] : Fin 3 → ℕ) a ≤ (⟨3, ![8, 1024, w]⟩ : Shape).size a) (k : Fin 1024) (f : Fin w) :
    View.ld (Val := Elt Ideal) (e' := .bf16) W (Rect.unit ![o, 0, 0] ![1, 1024, w] inb) (ix3 (n0 := 1) (n1 := 1024) (n2 := w) 0 k f) = W (ix3 j k f) :=
  congrArg W (ix3_of _ j k f (show o + 1 * 0 = j.val by omega) (from_zero _) (from_zero _))

/-- A tile of rows times the whole weights, every column taken from its shard. -/
def rows (h : w * 8 = n) (x0 : (⟨2, ![512, 1024]⟩ : Shape).Idx → EReal) (x1 : (⟨3, ![8, 1024, w]⟩ : Shape).Idx → EReal) :
    (⟨2, ![512, n]⟩ : Shape).Idx → EReal := fun y =>
  ∑ k : Fin 1024, x0 (ix2 (n0 := 512) (n1 := 1024) (y 0) k) * x1 (ix3 (n0 := 8) (n1 := 1024) (n2 := w) (shard h (y 1)) k (place h (y 1)))

/-- A band, the rows times one shard's weights, agrees with the whole product at its columns. -/
theorem band_rows (h : w * 8 = n) (x0 : (⟨2, ![512, 1024]⟩ : Shape).Idx → EReal) (x1 : (⟨3, ![8, 1024, w]⟩ : Shape).Idx → EReal)
    (band : (⟨2, ![512, w]⟩ : Shape).Idx → EReal) (j : Fin 8) (hb : ∀ p f, band (ix2 p f) = ∑ k : Fin 1024, x0 (ix2 p k) * x1 (ix3 j k f))
    {o : ℕ} (ho : o = w * j.val)
    (inb : ∀ a, (![0, o] : Fin 2 → ℕ) a + (![512, w] : Fin 2 → ℕ) a ≤ (⟨2, ![512, n]⟩ : Shape).size a) (x : (⟨2, ![512, w]⟩ : Shape).Idx) :
    band x = rows h x0 x1 ((Rect.unit (s := ⟨2, ![512, n]⟩) ![0, o] ![512, w] inb).emb x) := by
  obtain ⟨p, f, rfl⟩ : ∃ p f, x = ix2 (n0 := 512) (n1 := w) p f := ⟨_, _, eq_ix2 (n0 := 512) (n1 := w) x⟩
  rw [hb, ix2_of ((Rect.unit (s := ⟨2, ![512, n]⟩) ![0, o] ![512, w] inb).emb (ix2 p f)) p (col h j f)
    (from_zero _) (show o + 1 * f.val = w * j.val + f.val by rw [ho, Nat.one_mul])]
  show _ = ∑ k : Fin 1024, x0 (ix2 p k) * x1 (ix3 (shard h (col h j f)) k (place h (col h j f)))
  rw [shard_col, place_col]

/-- A tile of input columns of all the shards' gradients. -/
def grads (h : w * 8 = n) (x0 : (⟨2, ![2048, 512]⟩ : Shape).Idx → EReal) (x1 : (⟨2, ![2048, n]⟩ : Shape).Idx → EReal) :
    (⟨3, ![8, 512, w]⟩ : Shape).Idx → EReal := fun y =>
  ∑ r : Fin 2048, x0 (ix2 (n0 := 2048) (n1 := 512) r (y 1)) * x1 (ix2 (n0 := 2048) (n1 := n) r (col h (y 0) (y 2)))

/-- One shard's gradient agrees with them at its shard. -/
theorem grad_grads (h : w * 8 = n) (x0 : (⟨2, ![2048, 512]⟩ : Shape).Idx → EReal) (x1 : (⟨2, ![2048, n]⟩ : Shape).Idx → EReal)
    (grad : (⟨3, ![1, 512, w]⟩ : Shape).Idx → EReal) (j : Fin 8)
    (hg : ∀ k f, grad (ix3 0 k f) = ∑ r : Fin 2048, x0 (ix2 r k) * x1 (ix2 r (col h j f))) {s : ℕ} (hs : s = j.val)
    (inb : ∀ a, (![s, 0, 0] : Fin 3 → ℕ) a + (![1, 512, w] : Fin 3 → ℕ) a ≤ (⟨3, ![8, 512, w]⟩ : Shape).size a) (x : (⟨3, ![1, 512, w]⟩ : Shape).Idx) :
    grad x = grads h x0 x1 ((Rect.unit (s := ⟨3, ![8, 512, w]⟩) ![s, 0, 0] ![1, 512, w] inb).emb x) := by
  obtain ⟨z, k, f, rfl⟩ : ∃ z k f, x = ix3 (n0 := 1) (n1 := 512) (n2 := w) z k f := ⟨_, _, _, eq_ix3 (n0 := 1) (n1 := 512) (n2 := w) x⟩
  obtain rfl : z = 0 := Subsingleton.elim _ _
  rw [hg, ix3_of ((Rect.unit (s := ⟨3, ![8, 512, w]⟩) ![s, 0, 0] ![1, 512, w] inb).emb (ix3 0 k f)) j k f
    (show s + 1 * 0 = j.val by omega) (from_zero _) (from_zero _)]
  rfl

/-- A shard's part of the rows' gradient: a band of the cotangent times the shard's weights, transposed. -/
def part (d : (⟨2, ![512, w]⟩ : Shape).Idx → EReal) (x1 : (⟨3, ![1, 1024, w]⟩ : Shape).Idx → EReal) (p : Fin 512) (k : Fin 1024) : EReal :=
  ∑ f : Fin w, d (ix2 p f) * x1 (ix3 0 k f)

/-- A shard's part, of the whole blocks. -/
theorem part_ld (h : w * 8 = n) (x0 : (⟨2, ![512, n]⟩ : Shape).Idx → EReal) (x1 : (⟨3, ![8, 1024, w]⟩ : Shape).Idx → EReal) (j : Fin 8) {o s : ℕ}
    (ho : o = w * j.val) (hs : s = j.val) (inb0 : ∀ a, (![0, o] : Fin 2 → ℕ) a + (![512, w] : Fin 2 → ℕ) a ≤ (⟨2, ![512, n]⟩ : Shape).size a)
    (inb1 : ∀ a, (![s, 0, 0] : Fin 3 → ℕ) a + (![1, 1024, w] : Fin 3 → ℕ) a ≤ (⟨3, ![8, 1024, w]⟩ : Shape).size a) (p : Fin 512) (k : Fin 1024) :
    part (View.ld (Val := Elt Ideal) (e' := .bf16) x0 (Rect.unit ![0, o] ![512, w] inb0))
        (View.ld (Val := Elt Ideal) (e' := .bf16) x1 (Rect.unit ![s, 0, 0] ![1, 1024, w] inb1)) p k
      = ∑ f : Fin w, x0 (ix2 p (col h j f)) * x1 (ix3 j k f) :=
  Finset.sum_congr rfl fun f _ => congrArg₂ (· * ·) (ld_band h x0 j ho inb0 p f) (ld_shard x1 j hs inb1 k f)

/-- Entry `(k, x)` of the whole weights, by its place in their memory: in shard `x / w` at column `x % w`, still in row `k`. -/
theorem merged_row (h : w * 8 = n) (k : ℕ) (x : Fin n) : (k * n + x.val) / n = k := by
  rw [Nat.mul_comm, Nat.mul_add_div (Nat.pos_of_ne_zero fun e => by have := x.isLt; omega), Nat.div_eq_of_lt x.isLt, Nat.add_zero]

theorem merged_shard (h : w * 8 = n) (k : ℕ) (x : Fin n) : (k * n + x.val) / w % 8 = (shard h x).val := by
  have e : k * n = w * (8 * k) := by rw [← h]; ring
  rw [e, Nat.mul_add_div (width_pos h x), Nat.mul_add_mod]
  exact Nat.mod_eq_of_lt (shard h x).isLt

theorem merged_place (h : w * 8 = n) (k : ℕ) (x : Fin n) : (k * n + x.val) % w = (place h x).val := by
  have e : k * n = w * (8 * k) := by rw [← h]; ring
  rw [e, Nat.mul_add_mod]
  rfl

/-- Row `p` of the tile of 512 rows numbered `t`, and input column `k` of the tile of 512 input columns numbered `t`. -/
def rowOf (t : Fin 4) (p : Fin 512) : Fin 2048 := at_ rfl t p
def inCol (t : Fin 2) (k : Fin 512) : Fin 1024 := at_ rfl t k

/-- The recurrent layers' shards, and the attention layers'. -/
theorem Wide.wide : 416 * 8 = 3328 := rfl
theorem Narrow.narrow : 224 * 8 = 1792 := rfl

end Cert.InRow

end
-- ==== Proof.InPoint.lean ====
/-
  The input projection: what the kernel's body leaves in its result's buffer, entry by entry, and the same of the reference.
-/
module

public import proofs.«01_k».proof.Proof.InRow
public import proofs.«01_k».proof.Proof.Gen.InIdeal.Value
public import proofs.«01_k».proof.Proof.Gen.InPlainIdeal.Read
public import Idealize.ShloMosaic.Lib.Pipeline.ReadBack
public import Idealize.ShloMosaic.Lib.Pointwise

@[expose] public section

set_option maxRecDepth 16384

noncomputable section

namespace Cert.InIdeal.Point

open Cert.InIdeal Cert.InIdeal.Gen Cert.InRow Cert.InRow.Wide
open Cert.MmRow (off2)
open Idealize.ShloMosaic Idealize.ShloMosaic.TcCoe Idealize.SL.Sem
open Cert.FfnRow (ix2_of ix3_of)

/-- The rows times one shard's weights. -/
def band (h : Vec Ideal S512x1024 .bf16) (w : Vec Ideal S1x1024x416 .bf16) : Vec Ideal S512x416 .f32 := k0_pay1 h w

theorem band_at (h : Vec Ideal S512x1024 .bf16) (w : Vec Ideal S1x1024x416 .bf16) (p : Fin 512) (f : Fin 416) :
    band h w (ix2 p f) = ∑ k : Fin 1024, h (ix2 p k) * w (ix3 0 k f) := by
  unfold band
  pointwise [k0_pay1]

variable (x0 : Vec Ideal S512x1024 .bf16) (x1 : Vec Ideal S8x1024x416 .bf16)

/-- A stored band agrees with the whole product at its columns. -/
theorem stored (j : Fin 8) {o s : ℕ} (ho : o = 416 * j.val) (hs : s = j.val) (inb0) (inb1) (x : S512x416.Idx) :
    band (View.ld x0 r0_0) (View.ld x1 (Rect.unit (s := S8x1024x416) ![s, 0, 0] S1x1024x416.size inb1)) x
      = rows wide x0 x1 ((Rect.unit (s := S512x3328) ![0, o] S512x416.size inb0).emb x) := by
  refine band_rows wide x0 x1 _ j (fun p f => ?_) ho inb0 x
  rw [band_at, View.ld_unit_zero (S := S512x1024) off2]
  exact Finset.sum_congr rfl fun k _ => congrArg _ (ld_shard x1 j hs inb1 k f)

/-- What the body leaves: the rows times the whole weights. -/
theorem out_eq : out0_2 x0 x1 = rows wide x0 x1 := by
  funext y
  unfold out0_2
  refine View.canon_apply_of_pieces (Val := Elt Ideal) (e := .f32) (rows wide x0 x1) _ ?_ y (cover0_2 _ _ _ _ _ _ _ _ y)
  intro q hq
  simp only [List.mem_cons, List.not_mem_nil, or_false] at hq
  rcases hq with rfl | rfl | rfl | rfl | rfl | rfl | rfl | rfl
  · exact fun x => stored x0 x1 7 rfl rfl inb_S512x3328_S512x416_0_2912 inb_S8x1024x416_S1x1024x416_7_0_0 x
  · exact fun x => stored x0 x1 6 rfl rfl inb_S512x3328_S512x416_0_2496 inb_S8x1024x416_S1x1024x416_6_0_0 x
  · exact fun x => stored x0 x1 5 rfl rfl inb_S512x3328_S512x416_0_2080 inb_S8x1024x416_S1x1024x416_5_0_0 x
  · exact fun x => stored x0 x1 4 rfl rfl inb_S512x3328_S512x416_0_1664 inb_S8x1024x416_S1x1024x416_4_0_0 x
  · exact fun x => stored x0 x1 3 rfl rfl inb_S512x3328_S512x416_0_1248 inb_S8x1024x416_S1x1024x416_3_0_0 x
  · exact fun x => stored x0 x1 2 rfl rfl inb_S512x3328_S512x416_0_832 inb_S8x1024x416_S1x1024x416_2_0_0 x
  · exact fun x => stored x0 x1 1 rfl rfl inb_S512x3328_S512x416_0_416 inb_S8x1024x416_S1x1024x416_1_0_0 x
  · exact fun x => stored x0 x1 0 rfl rfl inb_S512x3328_S512x416_0_0 inb_S8x1024x416_S1x1024x416_0_0_0 x

theorem out_at (p : Fin 512) (n : Fin 3328) :
    out0_2 x0 x1 (ix2 p n) = ∑ k : Fin 1024, x0 (ix2 p k) * x1 (ix3 (shard wide n) k (place wide n)) := by
  rw [out_eq]
  rfl

end Cert.InIdeal.Point

namespace Cert.InPlainIdeal.Entry

open Cert.InPlainIdeal Cert.InPlainIdeal.Read Cert.InRow Cert.InRow.Wide Idealize.ShloMosaic
open Cert.FfnRow (ix2_of ix3_of)

variable (x0 : (⟨2, ![2048, 1024]⟩ : Shape).Idx → EReal) (x1 : (⟨3, ![8, 1024, 416]⟩ : Shape).Idx → EReal)

/-- The whole weights, column by column. -/
theorem v3_at (k : Fin 1024) (n : Fin 3328) : val_main_v3 (F := Ideal) x1 (ix2 k n) = x1 (ix3 (shard wide n) k (place wide n)) := by
  refine (val_main_v3_apply ..).trans ((val_main_v2_apply ..).trans ((val_main_v1_apply ..).trans ?_))
  exact congrArg x1 (ix3_of _ (shard wide n) k (place wide n) (merged_shard wide _ n) (merged_row wide _ n) (merged_place wide _ n))

/-- The projection. -/
theorem v4_at (r : Fin 2048) (n : Fin 3328) :
    val_main_v4 (F := Ideal) x0 x1 (ix2 r n) = ∑ k : Fin 1024, x0 (ix2 r k) * x1 (ix3 (shard wide n) k (place wide n)) := by
  rw [val_main_v4_apply]
  refine Finset.sum_congr rfl fun k _ => ?_
  rw [ix2_of (lidx_main_v4 (ix2 r n) k) r k rfl rfl, ix2_of (ridx_main_v4 (ix2 r n) k) k n rfl rfl, v3_at]
  rfl

end Cert.InPlainIdeal.Entry

end
-- ==== Proof.InClaim.lean ====
/-
  The input projection: from any arguments the kernel and the reference end with the same rows.
-/
module

public import proofs.«01_k».proof.Defs
public import proofs.«01_k».proof.Proof.InPoint
public import proofs.«01_k».proof.Proof.Gen.InPlainIdeal.Run
public import Idealize.ShloMosaic.Adequacy
public import Idealize.ShloMosaic.Init

@[expose] public section

set_option maxRecDepth 16384

noncomputable section

namespace Cert.InIdeal.Real

open Cert.InIdeal Cert.InIdeal.Gen Cert.InIdeal.Point Cert.InRow Cert.InRow.Wide
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 1024]⟩ : Shape).Idx → EReal := m ((c : Thread nD τ).loc main_arg0)
abbrev x1 : (⟨3, ![8, 1024, 416]⟩ : Shape).Idx → EReal := m ((c : Thread nD τ).loc main_arg1)

/-- The reference's rows, of the kernel's arguments. -/
abbrev refY : (⟨2, ![2048, 3328]⟩ : Shape).Idx → EReal := Cert.InPlainIdeal.Read.val_main_v4 (F := Ideal) (x0 m c) (x1 m c)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The tile a grid point works on. -/
def tile (t : Fin cfg0.N) : Fin 4 := ⟨t.val, lt_of_lt_of_eq t.isLt N_0⟩

theorem in0 (t : Fin cfg0.N) (p : Fin 512) (k : Fin 1024) : iblk m c 0 t (ix2 (n0 := 512) (n1 := 1024) p k) = x0 m c (ix2 (rowOf (tile t) p) k) := by
  unfold iblk
  rw [View.read_apply]
  show V m c main_arg0 _ = _
  rw [V_main_arg0]
  exact congrArg (x0 m c) (ix2_of _ (rowOf (tile t) p) k (at_val rfl (tile t) p (idx0 t).1 rfl) (all_val k (idx0 t).2 rfl))

theorem in1 (t : Fin cfg0.N) (j : Fin 8) (k : Fin 1024) (f : Fin 416) :
    iblk m c 1 t (ix3 (n0 := 8) (n1 := 1024) (n2 := 416) j k f) = x1 m c (ix3 j k f) := by
  unfold iblk
  rw [View.read_apply]
  show V m c main_arg1 _ = _
  rw [V_main_arg1]
  exact congrArg (x1 m c) (ix3_of _ j k f (all_val j (idx1 t).1 rfl) (all_val k (idx1 t).2.1 rfl) (all_val f (idx1 t).2.2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, n, rfl⟩ : ∃ p n, y = ix2 (n0 := 512) (n1 := 3328) p n := ⟨_, _, eq_ix2 (n0 := 512) (n1 := 3328) y⟩
  refine (out_at _ _ p n).trans (Eq.trans ?_ ((Cert.InPlainIdeal.Entry.v4_at (x0 m c) (x1 m c) (rowOf (tile t) p) n).symm.trans (congrArg (refY m c) ?_)))
  · exact Finset.sum_congr rfl fun k _ => congrArg₂ (· * ·) (in0 m c t p k) (in1 m c t (shard wide n) k (place wide n))
  · exact (ix2_of _ _ _ (at_val rfl (tile t) p (idx2 t).1 rfl) (all_val n (idx2 t).2 rfl)).symm

end Cert.InIdeal.Real

namespace Cert.InClaim

open Idealize.ShloMosaic Idealize.SL.Sem Idealize.ShloMosaic.StableHlo
open Cert.InIdeal.Real

theorem frame_plain : Cert.quiescent_InPlainIdeal := fun m ρ _ =>
  (θ_run Cert.InPlainIdeal.defs _ _).mono
    (fun r h => ⟨fun c => (h c).2, Idealize.ShloMosaic.sem_eq_zero_of_no_sems (by decide) r.2⟩)
    (Cert.InPlainIdeal.Value.run (F := Ideal) m ρ)

theorem algebraic : Cert.algebraic_InIdeal_InPlainIdeal := by
  intro m g m' g' _ hargs
  refine ⟨fun c => refY m c, ?_, ?_⟩
  · refine (θ_run Cert.InIdeal.defs _ _).mono (fun r h c => ?_) (Cert.InIdeal.Value.run_blocks (F := Ideal) m g)
    exact ⟨(h c).1.trans (whole m c), (h c).2⟩
  · refine (θ_run Cert.InPlainIdeal.defs _ _).mono (fun r h c => ?_) (Cert.InPlainIdeal.Value.run (F := Ideal) m' g')
    obtain ⟨q0, q1⟩ := hargs c
    refine ⟨(h c).1.trans ((Cert.InPlainIdeal.Read.val_main_v4_eq (F := Ideal) _ _).trans ?_), (h c).2⟩
    rw [q0, q1]

end Cert.InClaim

end
-- ==== Proof.InHPoint.lean ====
/-
  The gradient of the input projection's rows: what the kernel's body leaves in its result's buffer, entry by entry, and the
  same of the reference.
-/
module

public import proofs.«01_k».proof.Proof.InRow
public import proofs.«01_k».proof.Proof.Gen.InHIdeal.Value
public import proofs.«01_k».proof.Proof.Gen.InHPlainIdeal.Read
public import Idealize.ShloMosaic.Lib.Pipeline.ReadBack
public import Idealize.ShloMosaic.Lib.Pointwise

@[expose] public section

set_option maxRecDepth 16384

noncomputable section

namespace Cert.InHIdeal.Point

open Cert.InHIdeal Cert.InHIdeal.Gen Cert.InRow Cert.InRow.Wide
open Cert.MmRow (off2)
open Idealize.ShloMosaic Idealize.ShloMosaic.TcCoe Idealize.SL.Sem

/-- The first five shards' parts. -/
theorem early_at (d0 d1 d2 d3 d4 : Vec Ideal S512x416 .bf16) (w0 w1 w2 w3 w4 : Vec Ideal S1x1024x416 .bf16) (p : Fin 512) (k : Fin 1024) :
    k0_pay2 d0 w0 d1 w1 d2 w2 d3 w3 d4 w4 (ix2 p k) = 0 + part d0 w0 p k + part d1 w1 p k + part d2 w2 p k + part d3 w3 p k + part d4 w4 p k := by
  unfold part
  pointwise [k0_pay2]

/-- The last three shards' parts, added to what is there. -/
theorem late_at (s : Vec Ideal S512x1024 .f32) (d5 d6 d7 : Vec Ideal S512x416 .bf16) (w5 w6 w7 : Vec Ideal S1x1024x416 .bf16) (p : Fin 512) (k : Fin 1024) :
    k0_pay1 s d5 w5 d6 w6 d7 w7 (ix2 p k) = s (ix2 p k) + part d5 w5 p k + part d6 w6 p k + part d7 w7 p k := by
  unfold part
  pointwise [k0_pay1]

variable (x0 : Vec Ideal S512x3328 .bf16) (x1 : Vec Ideal S8x1024x416 .bf16)

/-- What the body leaves: the sum over all the shards' columns. -/
theorem out_at (p : Fin 512) (k : Fin 1024) :
    out0_2 x0 x1 (ix2 p k) = ∑ j : Fin 8, ∑ f : Fin 416, x0 (ix2 p (col wide j f)) * x1 (ix3 j k f) := by
  unfold out0_2
  rw [View.canon_unit_zero (S := S512x1024) off2, late_at, early_at, part_ld wide x0 x1 0 (o := 0) (s := 0) rfl rfl, part_ld wide x0 x1 1 (o := 416) (s := 1) rfl rfl, part_ld wide x0 x1 2 (o := 832) (s := 2) rfl rfl,
    part_ld wide x0 x1 3 (o := 1248) (s := 3) rfl rfl, part_ld wide x0 x1 4 (o := 1664) (s := 4) rfl rfl, part_ld wide x0 x1 5 (o := 2080) (s := 5) rfl rfl, part_ld wide x0 x1 6 (o := 2496) (s := 6) rfl rfl, part_ld wide x0 x1 7 (o := 2912) (s := 7) rfl rfl, zero_add,
    Fin.sum_univ_eight]

end Cert.InHIdeal.Point

namespace Cert.InHPlainIdeal.Entry

open Cert.InHPlainIdeal Cert.InHPlainIdeal.Read Cert.InRow Cert.InRow.Wide Idealize.ShloMosaic
open Cert.FfnRow (ix2_of ix3_of)

variable (x0 : (⟨2, ![2048, 3328]⟩ : Shape).Idx → EReal) (x1 : (⟨3, ![8, 1024, 416]⟩ : Shape).Idx → EReal)

/-- The whole weights, column by column. -/
theorem v3_at (k : Fin 1024) (j : Fin 8) (f : Fin 416) : val_main_v3 (F := Ideal) x1 (ix2 k (col wide j f)) = x1 (ix3 j k f) := by
  refine (val_main_v3_apply ..).trans ((val_main_v2_apply ..).trans ((val_main_v1_apply ..).trans ?_))
  exact congrArg x1 (ix3_of _ j k f ((merged_shard wide _ (col wide j f)).trans (congrArg Fin.val (shard_col wide j f)))
    (merged_row wide _ (col wide j f)) ((merged_place wide _ (col wide j f)).trans (congrArg Fin.val (place_col wide j f))))

/-- The rows' gradient. -/
theorem v6_at (r : Fin 2048) (k : Fin 1024) :
    val_main_v6 (F := Ideal) x0 x1 (ix2 r k) = ∑ j : Fin 8, ∑ f : Fin 416, x0 (ix2 r (col wide j f)) * x1 (ix3 j k f) := by
  rw [val_main_v6_apply, sum_col wide]
  refine Finset.sum_congr rfl fun j _ => Finset.sum_congr rfl fun f _ => ?_
  rw [ix2_of (lidx_main_v6 (ix2 r k) (col wide j f)) r (col wide j f) rfl rfl, ix2_of (ridx_main_v6 (ix2 r k) (col wide j f)) k (col wide j f) rfl rfl, v3_at]
  rfl

end Cert.InHPlainIdeal.Entry

end
-- ==== Proof.InHClaim.lean ====
/-
  The gradient of the input projection's rows: from any arguments the kernel and the reference end with the same rows.
-/
module

public import proofs.«01_k».proof.Defs
public import proofs.«01_k».proof.Proof.InHPoint
public import proofs.«01_k».proof.Proof.Gen.InHPlainIdeal.Run
public import Idealize.ShloMosaic.Adequacy
public import Idealize.ShloMosaic.Init

@[expose] public section

set_option maxRecDepth 16384

noncomputable section

namespace Cert.InHIdeal.Real

open Cert.InHIdeal Cert.InHIdeal.Gen Cert.InHIdeal.Point Cert.InRow Cert.InRow.Wide
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 3328]⟩ : Shape).Idx → EReal := m ((c : Thread nD τ).loc main_arg0)
abbrev x1 : (⟨3, ![8, 1024, 416]⟩ : Shape).Idx → EReal := m ((c : Thread nD τ).loc main_arg1)

/-- The reference's rows, of the kernel's arguments. -/
abbrev refY : (⟨2, ![2048, 1024]⟩ : Shape).Idx → EReal := Cert.InHPlainIdeal.Read.val_main_v6 (F := Ideal) (x0 m c) (x1 m c)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The tile a grid point works on. -/
def tile (t : Fin cfg0.N) : Fin 4 := ⟨t.val, lt_of_lt_of_eq t.isLt N_0⟩

theorem in0 (t : Fin cfg0.N) (p : Fin 512) (n : Fin 3328) : iblk m c 0 t (ix2 (n0 := 512) (n1 := 3328) p n) = x0 m c (ix2 (rowOf (tile t) p) n) := by
  unfold iblk
  rw [View.read_apply]
  show V m c main_arg0 _ = _
  rw [V_main_arg0]
  exact congrArg (x0 m c) (ix2_of _ (rowOf (tile t) p) n (at_val rfl (tile t) p (idx0 t).1 rfl) (all_val n (idx0 t).2 rfl))

theorem in1 (t : Fin cfg0.N) (j : Fin 8) (k : Fin 1024) (f : Fin 416) :
    iblk m c 1 t (ix3 (n0 := 8) (n1 := 1024) (n2 := 416) j k f) = x1 m c (ix3 j k f) := by
  unfold iblk
  rw [View.read_apply]
  show V m c main_arg1 _ = _
  rw [V_main_arg1]
  exact congrArg (x1 m c) (ix3_of _ j k f (all_val j (idx1 t).1 rfl) (all_val k (idx1 t).2.1 rfl) (all_val f (idx1 t).2.2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, k, rfl⟩ : ∃ p k, y = ix2 (n0 := 512) (n1 := 1024) p k := ⟨_, _, eq_ix2 (n0 := 512) (n1 := 1024) y⟩
  refine (out_at _ _ p k).trans (Eq.trans ?_ ((Cert.InHPlainIdeal.Entry.v6_at (x0 m c) (x1 m c) (rowOf (tile t) p) k).symm.trans (congrArg (refY m c) ?_)))
  · exact Finset.sum_congr rfl fun j _ => Finset.sum_congr rfl fun f _ => congrArg₂ (· * ·) (in0 m c t p (col wide j f)) (in1 m c t j k f)
  · exact (ix2_of _ _ _ (at_val rfl (tile t) p (idx2 t).1 rfl) (all_val k (idx2 t).2 rfl)).symm

end Cert.InHIdeal.Real

namespace Cert.InHClaim

open Idealize.ShloMosaic Idealize.SL.Sem Idealize.ShloMosaic.StableHlo
open Cert.InHIdeal.Real

theorem frame_plain : Cert.quiescent_InHPlainIdeal := fun m ρ _ =>
  (θ_run Cert.InHPlainIdeal.defs _ _).mono
    (fun r h => ⟨fun c => (h c).2, Idealize.ShloMosaic.sem_eq_zero_of_no_sems (by decide) r.2⟩)
    (Cert.InHPlainIdeal.Value.run (F := Ideal) m ρ)

theorem algebraic : Cert.algebraic_InHIdeal_InHPlainIdeal := by
  intro m g m' g' _ hargs
  refine ⟨fun c => refY m c, ?_, ?_⟩
  · refine (θ_run Cert.InHIdeal.defs _ _).mono (fun r h c => ?_) (Cert.InHIdeal.Value.run_blocks (F := Ideal) m g)
    exact ⟨(h c).1.trans (whole m c), (h c).2⟩
  · refine (θ_run Cert.InHPlainIdeal.defs _ _).mono (fun r h c => ?_) (Cert.InHPlainIdeal.Value.run (F := Ideal) m' g')
    obtain ⟨q0, q1⟩ := hargs c
    refine ⟨(h c).1.trans ((Cert.InHPlainIdeal.Read.val_main_v6_eq (F := Ideal) _ _).trans ?_), (h c).2⟩
    rw [q0, q1]

end Cert.InHClaim

end
-- ==== Proof.InWPoint.lean ====
/-
  The gradient of the input projection's weights: what the kernel's body leaves in its result's buffer, entry by entry, and the
  same of the reference.
-/
module

public import proofs.«01_k».proof.Proof.InRow
public import proofs.«01_k».proof.Proof.Gen.InWIdeal.Value
public import proofs.«01_k».proof.Proof.Gen.InWPlainIdeal.Read
public import Idealize.ShloMosaic.Lib.Pipeline.ReadBack
public import Idealize.ShloMosaic.Lib.Pointwise

@[expose] public section

set_option maxRecDepth 16384

noncomputable section

namespace Cert.InWIdeal.Point

open Cert.InWIdeal Cert.InWIdeal.Gen Cert.InRow Cert.InRow.Wide
open Cert.MmRow (off2)
open Idealize.ShloMosaic Idealize.ShloMosaic.TcCoe Idealize.SL.Sem
open Cert.FfnRow (ix2_of ix3_of)

/-- The rows, transposed, times a band of the cotangent: one shard's gradient. -/
def grad (h : Vec Ideal S2048x512 .bf16) (d : Vec Ideal S2048x416 .bf16) : Vec Ideal S1x512x416 .bf16 := k0_pay2 h d

theorem grad_at (h : Vec Ideal S2048x512 .bf16) (d : Vec Ideal S2048x416 .bf16) (k : Fin 512) (f : Fin 416) :
    grad h d (ix3 0 k f) = ∑ r : Fin 2048, h (ix2 r k) * d (ix2 r f) := by
  unfold grad
  pointwise [k0_pay2]

variable (x0 : Vec Ideal S2048x512 .bf16) (x1 : Vec Ideal S2048x3328 .bf16)

/-- A stored gradient agrees with all the shards' at its shard. -/
theorem stored (j : Fin 8) {o s : ℕ} (ho : o = 416 * j.val) (hs : s = j.val) (inb0) (inb1) (x : S1x512x416.Idx) :
    grad (View.ld x0 r0_0) (View.ld x1 (Rect.unit (s := S2048x3328) ![0, o] S2048x416.size inb1)) x
      = grads wide x0 x1 ((Rect.unit (s := S8x512x416) ![s, 0, 0] S1x512x416.size inb0).emb x) := by
  refine grad_grads wide x0 x1 _ j (fun k f => ?_) hs inb0 x
  rw [grad_at, View.ld_unit_zero (S := S2048x512) off2]
  exact Finset.sum_congr rfl fun r _ => congrArg (x0 (ix2 r k) * ·) (ld_band wide x1 j ho inb1 r f)

/-- What the body leaves: all the shards' gradients. -/
theorem out_eq : out0_2 x0 x1 = grads wide x0 x1 := by
  funext y
  unfold out0_2
  refine View.canon_apply_of_pieces (Val := Elt Ideal) (e := .bf16) (grads wide x0 x1) _ ?_ y (cover0_2 _ _ _ _ _ _ _ _ y)
  intro q hq
  simp only [List.mem_cons, List.not_mem_nil, or_false] at hq
  rcases hq with rfl | rfl | rfl | rfl | rfl | rfl | rfl | rfl
  · exact fun x => stored x0 x1 7 rfl rfl inb_S8x512x416_S1x512x416_7_0_0 inb_S2048x3328_S2048x416_0_2912 x
  · exact fun x => stored x0 x1 6 rfl rfl inb_S8x512x416_S1x512x416_6_0_0 inb_S2048x3328_S2048x416_0_2496 x
  · exact fun x => stored x0 x1 5 rfl rfl inb_S8x512x416_S1x512x416_5_0_0 inb_S2048x3328_S2048x416_0_2080 x
  · exact fun x => stored x0 x1 4 rfl rfl inb_S8x512x416_S1x512x416_4_0_0 inb_S2048x3328_S2048x416_0_1664 x
  · exact fun x => stored x0 x1 3 rfl rfl inb_S8x512x416_S1x512x416_3_0_0 inb_S2048x3328_S2048x416_0_1248 x
  · exact fun x => stored x0 x1 2 rfl rfl inb_S8x512x416_S1x512x416_2_0_0 inb_S2048x3328_S2048x416_0_832 x
  · exact fun x => stored x0 x1 1 rfl rfl inb_S8x512x416_S1x512x416_1_0_0 inb_S2048x3328_S2048x416_0_416 x
  · exact fun x => stored x0 x1 0 rfl rfl inb_S8x512x416_S1x512x416_0_0_0 inb_S2048x3328_S2048x416_0_0 x

theorem out_at (j : Fin 8) (k : Fin 512) (f : Fin 416) :
    out0_2 x0 x1 (ix3 j k f) = ∑ r : Fin 2048, x0 (ix2 r k) * x1 (ix2 r (col wide j f)) := by
  rw [out_eq]
  rfl

end Cert.InWIdeal.Point

namespace Cert.InWPlainIdeal.Entry

open Cert.InWPlainIdeal Cert.InWPlainIdeal.Read Cert.InRow Cert.InRow.Wide Idealize.ShloMosaic
open Cert.FfnRow (ix2_of ix3_of)

variable (x0 : (⟨2, ![2048, 1024]⟩ : Shape).Idx → EReal) (x1 : (⟨2, ![2048, 3328]⟩ : Shape).Idx → EReal)

theorem v6_at (n : Fin 3328) (k : Fin 1024) : val_main_v6 (F := Ideal) x0 x1 (ix2 n k) = ∑ r : Fin 2048, x0 (ix2 r k) * x1 (ix2 r n) := by
  rw [val_main_v6_apply]
  refine Finset.sum_congr rfl fun r _ => ?_
  rw [ix2_of (lidx_main_v6 (ix2 n k) r) r n rfl rfl, ix2_of (ridx_main_v6 (ix2 n k) r) r k rfl rfl, mul_comm]
  rfl

/-- The weights' gradient. -/
theorem v10_at (j : Fin 8) (k : Fin 1024) (f : Fin 416) :
    val_main_v10 (F := Ideal) x0 x1 (ix3 j k f) = ∑ r : Fin 2048, x0 (ix2 r k) * x1 (ix2 r (col wide j f)) := by
  refine (val_main_v10_apply ..).trans ((val_main_v9_apply ..).trans ((val_main_v8_apply ..).trans ((val_main_v7_apply ..).trans ?_)))
  refine (congrArg (val_main_v6 (F := Ideal) x0 x1) (ix2_of _ (col wide j f) k ?_ ?_)).trans (v6_at x0 x1 (col wide j f) k)
  · show ((k.val * 8 + j.val) * 416 + f.val) % 3328 = 416 * j.val + f.val; omega
  · show ((k.val * 8 + j.val) * 416 + f.val) / 3328 = k.val; omega

end Cert.InWPlainIdeal.Entry

end
-- ==== Proof.InWClaim.lean ====
/-
  The gradient of the input projection's weights: from any arguments the kernel and the reference end with the same gradient.
-/
module

public import proofs.«01_k».proof.Defs
public import proofs.«01_k».proof.Proof.InWPoint
public import proofs.«01_k».proof.Proof.Gen.InWPlainIdeal.Run
public import Idealize.ShloMosaic.Adequacy
public import Idealize.ShloMosaic.Init

@[expose] public section

set_option maxRecDepth 16384

noncomputable section

namespace Cert.InWIdeal.Real

open Cert.InWIdeal Cert.InWIdeal.Gen Cert.InWIdeal.Point Cert.InRow Cert.InRow.Wide
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![2048, 3328]⟩ : Shape).Idx → EReal := m ((c : Thread nD τ).loc main_arg1)

/-- The reference's gradient, of the kernel's arguments. -/
abbrev refY : (⟨3, ![8, 1024, 416]⟩ : Shape).Idx → EReal := Cert.InWPlainIdeal.Read.val_main_v10 (F := Ideal) (x0 m c) (x1 m c)

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

/-- The tile a grid point works on. -/
def tile (t : Fin cfg0.N) : Fin 2 := ⟨t.val, lt_of_lt_of_eq t.isLt N_0⟩

theorem in0 (t : Fin cfg0.N) (r : Fin 2048) (k : Fin 512) : iblk m c 0 t (ix2 (n0 := 2048) (n1 := 512) r k) = x0 m c (ix2 r (inCol (tile t) k)) := by
  unfold iblk
  rw [View.read_apply]
  show V m c main_arg0 _ = _
  rw [V_main_arg0]
  exact congrArg (x0 m c) (ix2_of _ r (inCol (tile t) k) (all_val r (idx0 t).1 rfl) (at_val rfl (tile t) k (idx0 t).2 rfl))

theorem in1 (t : Fin cfg0.N) (r : Fin 2048) (n : Fin 3328) : iblk m c 1 t (ix2 (n0 := 2048) (n1 := 3328) r n) = x1 m c (ix2 r n) := by
  unfold iblk
  rw [View.read_apply]
  show V m c main_arg1 _ = _
  rw [V_main_arg1]
  exact congrArg (x1 m c) (ix2_of _ r n (all_val r (idx1 t).1 rfl) (all_val n (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨j, k, f, rfl⟩ : ∃ j k f, y = ix3 (n0 := 8) (n1 := 512) (n2 := 416) j k f := ⟨_, _, _, eq_ix3 (n0 := 8) (n1 := 512) (n2 := 416) y⟩
  refine (out_at _ _ j k f).trans (Eq.trans ?_
    ((Cert.InWPlainIdeal.Entry.v10_at (x0 m c) (x1 m c) j (inCol (tile t) k) f).symm.trans (congrArg (refY m c) ?_)))
  · exact Finset.sum_congr rfl fun r _ => congrArg₂ (· * ·) (in0 m c t r k) (in1 m c t r (col wide j f))
  · exact (ix3_of _ _ _ _ (all_val j (idx2 t).1 rfl) (at_val rfl (tile t) k (idx2 t).2.1 rfl) (all_val f (idx2 t).2.2 rfl)).symm

end Cert.InWIdeal.Real

namespace Cert.InWClaim

open Idealize.ShloMosaic Idealize.SL.Sem Idealize.ShloMosaic.StableHlo
open Cert.InWIdeal.Real

theorem frame_plain : Cert.quiescent_InWPlainIdeal := fun m ρ _ =>
  (θ_run Cert.InWPlainIdeal.defs _ _).mono
    (fun r h => ⟨fun c => (h c).2, Idealize.ShloMosaic.sem_eq_zero_of_no_sems (by decide) r.2⟩)
    (Cert.InWPlainIdeal.Value.run (F := Ideal) m ρ)

theorem algebraic : Cert.algebraic_InWIdeal_InWPlainIdeal := by
  intro m g m' g' _ hargs
  refine ⟨fun c => refY m c, ?_, ?_⟩
  · refine (θ_run Cert.InWIdeal.defs _ _).mono (fun r h c => ?_) (Cert.InWIdeal.Value.run_blocks (F := Ideal) m g)
    exact ⟨(h c).1.trans (whole m c), (h c).2⟩
  · refine (θ_run Cert.InWPlainIdeal.defs _ _).mono (fun r h c => ?_) (Cert.InWPlainIdeal.Value.run (F := Ideal) m' g')
    obtain ⟨q0, q1, q2⟩ := hargs c
    refine ⟨(h c).1.trans ((Cert.InWPlainIdeal.Read.val_main_v10_eq (F := Ideal) _ _).trans ?_), (h c).2⟩
    rw [q0, q1]

end Cert.InWClaim

end
-- ==== Proof.InNPoint.lean ====
/-
  The attention layers' input projection: what the kernel's body leaves in its result's buffer, entry by entry, and the same of the reference.
-/
module

public import proofs.«01_k».proof.Proof.InRow
public import proofs.«01_k».proof.Proof.Gen.InNIdeal.Value
public import proofs.«01_k».proof.Proof.Gen.InNPlainIdeal.Read
public import Idealize.ShloMosaic.Lib.Pipeline.ReadBack
public import Idealize.ShloMosaic.Lib.Pointwise

@[expose] public section

set_option maxRecDepth 16384

noncomputable section

namespace Cert.InNIdeal.Point

open Cert.InNIdeal Cert.InNIdeal.Gen Cert.InRow Cert.InRow.Narrow
open Cert.MmRow (off2)
open Idealize.ShloMosaic Idealize.ShloMosaic.TcCoe Idealize.SL.Sem
open Cert.FfnRow (ix2_of ix3_of)

/-- The rows times one shard's weights. -/
def band (h : Vec Ideal S512x1024 .bf16) (w : Vec Ideal S1x1024x224 .bf16) : Vec Ideal S512x224 .f32 := k0_pay1 h w

theorem band_at (h : Vec Ideal S512x1024 .bf16) (w : Vec Ideal S1x1024x224 .bf16) (p : Fin 512) (f : Fin 224) :
    band h w (ix2 p f) = ∑ k : Fin 1024, h (ix2 p k) * w (ix3 0 k f) := by
  unfold band
  pointwise [k0_pay1]

variable (x0 : Vec Ideal S512x1024 .bf16) (x1 : Vec Ideal S8x1024x224 .bf16)

/-- A stored band agrees with the whole product at its columns. -/
theorem stored (j : Fin 8) {o s : ℕ} (ho : o = 224 * j.val) (hs : s = j.val) (inb0) (inb1) (x : S512x224.Idx) :
    band (View.ld x0 r0_0) (View.ld x1 (Rect.unit (s := S8x1024x224) ![s, 0, 0] S1x1024x224.size inb1)) x
      = rows narrow x0 x1 ((Rect.unit (s := S512x1792) ![0, o] S512x224.size inb0).emb x) := by
  refine band_rows narrow x0 x1 _ j (fun p f => ?_) ho inb0 x
  rw [band_at, View.ld_unit_zero (S := S512x1024) off2]
  exact Finset.sum_congr rfl fun k _ => congrArg _ (ld_shard x1 j hs inb1 k f)

/-- What the body leaves: the rows times the whole weights. -/
theorem out_eq : out0_2 x0 x1 = rows narrow x0 x1 := by
  funext y
  unfold out0_2
  refine View.canon_apply_of_pieces (Val := Elt Ideal) (e := .f32) (rows narrow x0 x1) _ ?_ y (cover0_2 _ _ _ _ _ _ _ _ y)
  intro q hq
  simp only [List.mem_cons, List.not_mem_nil, or_false] at hq
  rcases hq with rfl | rfl | rfl | rfl | rfl | rfl | rfl | rfl
  · exact fun x => stored x0 x1 7 rfl rfl inb_S512x1792_S512x224_0_1568 inb_S8x1024x224_S1x1024x224_7_0_0 x
  · exact fun x => stored x0 x1 6 rfl rfl inb_S512x1792_S512x224_0_1344 inb_S8x1024x224_S1x1024x224_6_0_0 x
  · exact fun x => stored x0 x1 5 rfl rfl inb_S512x1792_S512x224_0_1120 inb_S8x1024x224_S1x1024x224_5_0_0 x
  · exact fun x => stored x0 x1 4 rfl rfl inb_S512x1792_S512x224_0_896 inb_S8x1024x224_S1x1024x224_4_0_0 x
  · exact fun x => stored x0 x1 3 rfl rfl inb_S512x1792_S512x224_0_672 inb_S8x1024x224_S1x1024x224_3_0_0 x
  · exact fun x => stored x0 x1 2 rfl rfl inb_S512x1792_S512x224_0_448 inb_S8x1024x224_S1x1024x224_2_0_0 x
  · exact fun x => stored x0 x1 1 rfl rfl inb_S512x1792_S512x224_0_224 inb_S8x1024x224_S1x1024x224_1_0_0 x
  · exact fun x => stored x0 x1 0 rfl rfl inb_S512x1792_S512x224_0_0 inb_S8x1024x224_S1x1024x224_0_0_0 x

theorem out_at (p : Fin 512) (n : Fin 1792) :
    out0_2 x0 x1 (ix2 p n) = ∑ k : Fin 1024, x0 (ix2 p k) * x1 (ix3 (shard narrow n) k (place narrow n)) := by
  rw [out_eq]
  rfl

end Cert.InNIdeal.Point

namespace Cert.InNPlainIdeal.Entry

open Cert.InNPlainIdeal Cert.InNPlainIdeal.Read Cert.InRow Cert.InRow.Narrow Idealize.ShloMosaic
open Cert.FfnRow (ix2_of ix3_of)

variable (x0 : (⟨2, ![2048, 1024]⟩ : Shape).Idx → EReal) (x1 : (⟨3, ![8, 1024, 224]⟩ : Shape).Idx → EReal)

/-- The whole weights, column by column. -/
theorem v3_at (k : Fin 1024) (n : Fin 1792) : val_main_v3 (F := Ideal) x1 (ix2 k n) = x1 (ix3 (shard narrow n) k (place narrow n)) := by
  refine (val_main_v3_apply ..).trans ((val_main_v2_apply ..).trans ((val_main_v1_apply ..).trans ?_))
  exact congrArg x1 (ix3_of _ (shard narrow n) k (place narrow n) (merged_shard narrow _ n) (merged_row narrow _ n) (merged_place narrow _ n))

/-- The projection. -/
theorem v4_at (r : Fin 2048) (n : Fin 1792) :
    val_main_v4 (F := Ideal) x0 x1 (ix2 r n) = ∑ k : Fin 1024, x0 (ix2 r k) * x1 (ix3 (shard narrow n) k (place narrow n)) := by
  rw [val_main_v4_apply]
  refine Finset.sum_congr rfl fun k _ => ?_
  rw [ix2_of (lidx_main_v4 (ix2 r n) k) r k rfl rfl, ix2_of (ridx_main_v4 (ix2 r n) k) k n rfl rfl, v3_at]
  rfl

end Cert.InNPlainIdeal.Entry

end
-- ==== Proof.InNClaim.lean ====
/-
  The attention layers' input projection: from any arguments the kernel and the reference end with the same rows.
-/
module

public import proofs.«01_k».proof.Defs
public import proofs.«01_k».proof.Proof.InNPoint
public import proofs.«01_k».proof.Proof.Gen.InNPlainIdeal.Run
public import Idealize.ShloMosaic.Adequacy
public import Idealize.ShloMosaic.Init

@[expose] public section

set_option maxRecDepth 16384

noncomputable section

namespace Cert.InNIdeal.Real

open Cert.InNIdeal Cert.InNIdeal.Gen Cert.InNIdeal.Point Cert.InRow Cert.InRow.Narrow
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 1024]⟩ : Shape).Idx → EReal := m ((c : Thread nD τ).loc main_arg0)
abbrev x1 : (⟨3, ![8, 1024, 224]⟩ : Shape).Idx → EReal := m ((c : Thread nD τ).loc main_arg1)

/-- The reference's rows, of the kernel's arguments. -/
abbrev refY : (⟨2, ![2048, 1792]⟩ : Shape).Idx → EReal := Cert.InNPlainIdeal.Read.val_main_v4 (F := Ideal) (x0 m c) (x1 m c)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The tile a grid point works on. -/
def tile (t : Fin cfg0.N) : Fin 4 := ⟨t.val, lt_of_lt_of_eq t.isLt N_0⟩

theorem in0 (t : Fin cfg0.N) (p : Fin 512) (k : Fin 1024) : iblk m c 0 t (ix2 (n0 := 512) (n1 := 1024) p k) = x0 m c (ix2 (rowOf (tile t) p) k) := by
  unfold iblk
  rw [View.read_apply]
  show V m c main_arg0 _ = _
  rw [V_main_arg0]
  exact congrArg (x0 m c) (ix2_of _ (rowOf (tile t) p) k (at_val rfl (tile t) p (idx0 t).1 rfl) (all_val k (idx0 t).2 rfl))

theorem in1 (t : Fin cfg0.N) (j : Fin 8) (k : Fin 1024) (f : Fin 224) :
    iblk m c 1 t (ix3 (n0 := 8) (n1 := 1024) (n2 := 224) j k f) = x1 m c (ix3 j k f) := by
  unfold iblk
  rw [View.read_apply]
  show V m c main_arg1 _ = _
  rw [V_main_arg1]
  exact congrArg (x1 m c) (ix3_of _ j k f (all_val j (idx1 t).1 rfl) (all_val k (idx1 t).2.1 rfl) (all_val f (idx1 t).2.2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, n, rfl⟩ : ∃ p n, y = ix2 (n0 := 512) (n1 := 1792) p n := ⟨_, _, eq_ix2 (n0 := 512) (n1 := 1792) y⟩
  refine (out_at _ _ p n).trans (Eq.trans ?_ ((Cert.InNPlainIdeal.Entry.v4_at (x0 m c) (x1 m c) (rowOf (tile t) p) n).symm.trans (congrArg (refY m c) ?_)))
  · exact Finset.sum_congr rfl fun k _ => congrArg₂ (· * ·) (in0 m c t p k) (in1 m c t (shard narrow n) k (place narrow n))
  · exact (ix2_of _ _ _ (at_val rfl (tile t) p (idx2 t).1 rfl) (all_val n (idx2 t).2 rfl)).symm

end Cert.InNIdeal.Real

namespace Cert.InNClaim

open Idealize.ShloMosaic Idealize.SL.Sem Idealize.ShloMosaic.StableHlo
open Cert.InNIdeal.Real

theorem frame_plain : Cert.quiescent_InNPlainIdeal := fun m ρ _ =>
  (θ_run Cert.InNPlainIdeal.defs _ _).mono
    (fun r h => ⟨fun c => (h c).2, Idealize.ShloMosaic.sem_eq_zero_of_no_sems (by decide) r.2⟩)
    (Cert.InNPlainIdeal.Value.run (F := Ideal) m ρ)

theorem algebraic : Cert.algebraic_InNIdeal_InNPlainIdeal := by
  intro m g m' g' _ hargs
  refine ⟨fun c => refY m c, ?_, ?_⟩
  · refine (θ_run Cert.InNIdeal.defs _ _).mono (fun r h c => ?_) (Cert.InNIdeal.Value.run_blocks (F := Ideal) m g)
    exact ⟨(h c).1.trans (whole m c), (h c).2⟩
  · refine (θ_run Cert.InNPlainIdeal.defs _ _).mono (fun r h c => ?_) (Cert.InNPlainIdeal.Value.run (F := Ideal) m' g')
    obtain ⟨q0, q1⟩ := hargs c
    refine ⟨(h c).1.trans ((Cert.InNPlainIdeal.Read.val_main_v4_eq (F := Ideal) _ _).trans ?_), (h c).2⟩
    rw [q0, q1]

end Cert.InNClaim

end
-- ==== Proof.InNHPoint.lean ====
/-
  The gradient of the attention layers' input projection's rows: what the kernel's body leaves in its result's buffer, entry by entry, and the
  same of the reference.
-/
module

public import proofs.«01_k».proof.Proof.InRow
public import proofs.«01_k».proof.Proof.Gen.InNHIdeal.Value
public import proofs.«01_k».proof.Proof.Gen.InNHPlainIdeal.Read
public import Idealize.ShloMosaic.Lib.Pipeline.ReadBack
public import Idealize.ShloMosaic.Lib.Pointwise

@[expose] public section

set_option maxRecDepth 16384

noncomputable section

namespace Cert.InNHIdeal.Point

open Cert.InNHIdeal Cert.InNHIdeal.Gen Cert.InRow Cert.InRow.Narrow
open Cert.MmRow (off2)
open Idealize.ShloMosaic Idealize.ShloMosaic.TcCoe Idealize.SL.Sem

/-- The first five shards' parts. -/
theorem early_at (d0 d1 d2 d3 d4 : Vec Ideal S512x224 .bf16) (w0 w1 w2 w3 w4 : Vec Ideal S1x1024x224 .bf16) (p : Fin 512) (k : Fin 1024) :
    k0_pay2 d0 w0 d1 w1 d2 w2 d3 w3 d4 w4 (ix2 p k) = 0 + part d0 w0 p k + part d1 w1 p k + part d2 w2 p k + part d3 w3 p k + part d4 w4 p k := by
  unfold part
  pointwise [k0_pay2]

/-- The last three shards' parts, added to what is there. -/
theorem late_at (s : Vec Ideal S512x1024 .f32) (d5 d6 d7 : Vec Ideal S512x224 .bf16) (w5 w6 w7 : Vec Ideal S1x1024x224 .bf16) (p : Fin 512) (k : Fin 1024) :
    k0_pay1 s d5 w5 d6 w6 d7 w7 (ix2 p k) = s (ix2 p k) + part d5 w5 p k + part d6 w6 p k + part d7 w7 p k := by
  unfold part
  pointwise [k0_pay1]

variable (x0 : Vec Ideal S512x1792 .bf16) (x1 : Vec Ideal S8x1024x224 .bf16)

/-- What the body leaves: the sum over all the shards' columns. -/
theorem out_at (p : Fin 512) (k : Fin 1024) :
    out0_2 x0 x1 (ix2 p k) = ∑ j : Fin 8, ∑ f : Fin 224, x0 (ix2 p (col narrow j f)) * x1 (ix3 j k f) := by
  unfold out0_2
  rw [View.canon_unit_zero (S := S512x1024) off2, late_at, early_at, part_ld narrow x0 x1 0 (o := 0) (s := 0) rfl rfl, part_ld narrow x0 x1 1 (o := 224) (s := 1) rfl rfl, part_ld narrow x0 x1 2 (o := 448) (s := 2) rfl rfl,
    part_ld narrow x0 x1 3 (o := 672) (s := 3) rfl rfl, part_ld narrow x0 x1 4 (o := 896) (s := 4) rfl rfl, part_ld narrow x0 x1 5 (o := 1120) (s := 5) rfl rfl, part_ld narrow x0 x1 6 (o := 1344) (s := 6) rfl rfl, part_ld narrow x0 x1 7 (o := 1568) (s := 7) rfl rfl, zero_add,
    Fin.sum_univ_eight]

end Cert.InNHIdeal.Point

namespace Cert.InNHPlainIdeal.Entry

open Cert.InNHPlainIdeal Cert.InNHPlainIdeal.Read Cert.InRow Cert.InRow.Narrow Idealize.ShloMosaic
open Cert.FfnRow (ix2_of ix3_of)

variable (x0 : (⟨2, ![2048, 1792]⟩ : Shape).Idx → EReal) (x1 : (⟨3, ![8, 1024, 224]⟩ : Shape).Idx → EReal)

/-- The whole weights, column by column. -/
theorem v3_at (k : Fin 1024) (j : Fin 8) (f : Fin 224) : val_main_v3 (F := Ideal) x1 (ix2 k (col narrow j f)) = x1 (ix3 j k f) := by
  refine (val_main_v3_apply ..).trans ((val_main_v2_apply ..).trans ((val_main_v1_apply ..).trans ?_))
  exact congrArg x1 (ix3_of _ j k f ((merged_shard narrow _ (col narrow j f)).trans (congrArg Fin.val (shard_col narrow j f)))
    (merged_row narrow _ (col narrow j f)) ((merged_place narrow _ (col narrow j f)).trans (congrArg Fin.val (place_col narrow j f))))

/-- The rows' gradient. -/
theorem v6_at (r : Fin 2048) (k : Fin 1024) :
    val_main_v6 (F := Ideal) x0 x1 (ix2 r k) = ∑ j : Fin 8, ∑ f : Fin 224, x0 (ix2 r (col narrow j f)) * x1 (ix3 j k f) := by
  rw [val_main_v6_apply, sum_col narrow]
  refine Finset.sum_congr rfl fun j _ => Finset.sum_congr rfl fun f _ => ?_
  rw [ix2_of (lidx_main_v6 (ix2 r k) (col narrow j f)) r (col narrow j f) rfl rfl, ix2_of (ridx_main_v6 (ix2 r k) (col narrow j f)) k (col narrow j f) rfl rfl, v3_at]
  rfl

end Cert.InNHPlainIdeal.Entry

end
-- ==== Proof.InNHClaim.lean ====
/-
  The gradient of the attention layers' input projection's rows: from any arguments the kernel and the reference end with the same rows.
-/
module

public import proofs.«01_k».proof.Defs
public import proofs.«01_k».proof.Proof.InNHPoint
public import proofs.«01_k».proof.Proof.Gen.InNHPlainIdeal.Run
public import Idealize.ShloMosaic.Adequacy
public import Idealize.ShloMosaic.Init

@[expose] public section

set_option maxRecDepth 16384

noncomputable section

namespace Cert.InNHIdeal.Real

open Cert.InNHIdeal Cert.InNHIdeal.Gen Cert.InNHIdeal.Point Cert.InRow Cert.InRow.Narrow
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 1792]⟩ : Shape).Idx → EReal := m ((c : Thread nD τ).loc main_arg0)
abbrev x1 : (⟨3, ![8, 1024, 224]⟩ : Shape).Idx → EReal := m ((c : Thread nD τ).loc main_arg1)

/-- The reference's rows, of the kernel's arguments. -/
abbrev refY : (⟨2, ![2048, 1024]⟩ : Shape).Idx → EReal := Cert.InNHPlainIdeal.Read.val_main_v6 (F := Ideal) (x0 m c) (x1 m c)

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)
theorem idx2 : ∀ t : Fin cfg0.N, win0_2.index t 0 = t.val ∧ win0_2.index t 1 = 0 :=
  (by decide +kernel : ∀ t : Fin grid0.N, win0_2.index t 0 = t.val ∧ win0_2.index t 1 = 0)

/-- The tile a grid point works on. -/
def tile (t : Fin cfg0.N) : Fin 4 := ⟨t.val, lt_of_lt_of_eq t.isLt N_0⟩

theorem in0 (t : Fin cfg0.N) (p : Fin 512) (n : Fin 1792) : iblk m c 0 t (ix2 (n0 := 512) (n1 := 1792) p n) = x0 m c (ix2 (rowOf (tile t) p) n) := by
  unfold iblk
  rw [View.read_apply]
  show V m c main_arg0 _ = _
  rw [V_main_arg0]
  exact congrArg (x0 m c) (ix2_of _ (rowOf (tile t) p) n (at_val rfl (tile t) p (idx0 t).1 rfl) (all_val n (idx0 t).2 rfl))

theorem in1 (t : Fin cfg0.N) (j : Fin 8) (k : Fin 1024) (f : Fin 224) :
    iblk m c 1 t (ix3 (n0 := 8) (n1 := 1024) (n2 := 224) j k f) = x1 m c (ix3 j k f) := by
  unfold iblk
  rw [View.read_apply]
  show V m c main_arg1 _ = _
  rw [V_main_arg1]
  exact congrArg (x1 m c) (ix3_of _ j k f (all_val j (idx1 t).1 rfl) (all_val k (idx1 t).2.1 rfl) (all_val f (idx1 t).2.2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, k, rfl⟩ : ∃ p k, y = ix2 (n0 := 512) (n1 := 1024) p k := ⟨_, _, eq_ix2 (n0 := 512) (n1 := 1024) y⟩
  refine (out_at _ _ p k).trans (Eq.trans ?_ ((Cert.InNHPlainIdeal.Entry.v6_at (x0 m c) (x1 m c) (rowOf (tile t) p) k).symm.trans (congrArg (refY m c) ?_)))
  · exact Finset.sum_congr rfl fun j _ => Finset.sum_congr rfl fun f _ => congrArg₂ (· * ·) (in0 m c t p (col narrow j f)) (in1 m c t j k f)
  · exact (ix2_of _ _ _ (at_val rfl (tile t) p (idx2 t).1 rfl) (all_val k (idx2 t).2 rfl)).symm

end Cert.InNHIdeal.Real

namespace Cert.InNHClaim

open Idealize.ShloMosaic Idealize.SL.Sem Idealize.ShloMosaic.StableHlo
open Cert.InNHIdeal.Real

theorem frame_plain : Cert.quiescent_InNHPlainIdeal := fun m ρ _ =>
  (θ_run Cert.InNHPlainIdeal.defs _ _).mono
    (fun r h => ⟨fun c => (h c).2, Idealize.ShloMosaic.sem_eq_zero_of_no_sems (by decide) r.2⟩)
    (Cert.InNHPlainIdeal.Value.run (F := Ideal) m ρ)

theorem algebraic : Cert.algebraic_InNHIdeal_InNHPlainIdeal := by
  intro m g m' g' _ hargs
  refine ⟨fun c => refY m c, ?_, ?_⟩
  · refine (θ_run Cert.InNHIdeal.defs _ _).mono (fun r h c => ?_) (Cert.InNHIdeal.Value.run_blocks (F := Ideal) m g)
    exact ⟨(h c).1.trans (whole m c), (h c).2⟩
  · refine (θ_run Cert.InNHPlainIdeal.defs _ _).mono (fun r h c => ?_) (Cert.InNHPlainIdeal.Value.run (F := Ideal) m' g')
    obtain ⟨q0, q1⟩ := hargs c
    refine ⟨(h c).1.trans ((Cert.InNHPlainIdeal.Read.val_main_v6_eq (F := Ideal) _ _).trans ?_), (h c).2⟩
    rw [q0, q1]

end Cert.InNHClaim

end
-- ==== Proof.InNWPoint.lean ====
/-
  The gradient of the attention layers' input projection's weights: what the kernel's body leaves in its result's buffer, entry by entry, and the
  same of the reference.
-/
module

public import proofs.«01_k».proof.Proof.InRow
public import proofs.«01_k».proof.Proof.Gen.InNWIdeal.Value
public import proofs.«01_k».proof.Proof.Gen.InNWPlainIdeal.Read
public import Idealize.ShloMosaic.Lib.Pipeline.ReadBack
public import Idealize.ShloMosaic.Lib.Pointwise

@[expose] public section

set_option maxRecDepth 16384

noncomputable section

namespace Cert.InNWIdeal.Point

open Cert.InNWIdeal Cert.InNWIdeal.Gen Cert.InRow Cert.InRow.Narrow
open Cert.MmRow (off2)
open Idealize.ShloMosaic Idealize.ShloMosaic.TcCoe Idealize.SL.Sem
open Cert.FfnRow (ix2_of ix3_of)

/-- The rows, transposed, times a band of the cotangent: one shard's gradient. -/
def grad (h : Vec Ideal S2048x512 .bf16) (d : Vec Ideal S2048x224 .bf16) : Vec Ideal S1x512x224 .bf16 := k0_pay2 h d

theorem grad_at (h : Vec Ideal S2048x512 .bf16) (d : Vec Ideal S2048x224 .bf16) (k : Fin 512) (f : Fin 224) :
    grad h d (ix3 0 k f) = ∑ r : Fin 2048, h (ix2 r k) * d (ix2 r f) := by
  unfold grad
  pointwise [k0_pay2]

variable (x0 : Vec Ideal S2048x512 .bf16) (x1 : Vec Ideal S2048x1792 .bf16)

/-- A stored gradient agrees with all the shards' at its shard. -/
theorem stored (j : Fin 8) {o s : ℕ} (ho : o = 224 * j.val) (hs : s = j.val) (inb0) (inb1) (x : S1x512x224.Idx) :
    grad (View.ld x0 r0_0) (View.ld x1 (Rect.unit (s := S2048x1792) ![0, o] S2048x224.size inb1)) x
      = grads narrow x0 x1 ((Rect.unit (s := S8x512x224) ![s, 0, 0] S1x512x224.size inb0).emb x) := by
  refine grad_grads narrow x0 x1 _ j (fun k f => ?_) hs inb0 x
  rw [grad_at, View.ld_unit_zero (S := S2048x512) off2]
  exact Finset.sum_congr rfl fun r _ => congrArg (x0 (ix2 r k) * ·) (ld_band narrow x1 j ho inb1 r f)

/-- What the body leaves: all the shards' gradients. -/
theorem out_eq : out0_2 x0 x1 = grads narrow x0 x1 := by
  funext y
  unfold out0_2
  refine View.canon_apply_of_pieces (Val := Elt Ideal) (e := .bf16) (grads narrow x0 x1) _ ?_ y (cover0_2 _ _ _ _ _ _ _ _ y)
  intro q hq
  simp only [List.mem_cons, List.not_mem_nil, or_false] at hq
  rcases hq with rfl | rfl | rfl | rfl | rfl | rfl | rfl | rfl
  · exact fun x => stored x0 x1 7 rfl rfl inb_S8x512x224_S1x512x224_7_0_0 inb_S2048x1792_S2048x224_0_1568 x
  · exact fun x => stored x0 x1 6 rfl rfl inb_S8x512x224_S1x512x224_6_0_0 inb_S2048x1792_S2048x224_0_1344 x
  · exact fun x => stored x0 x1 5 rfl rfl inb_S8x512x224_S1x512x224_5_0_0 inb_S2048x1792_S2048x224_0_1120 x
  · exact fun x => stored x0 x1 4 rfl rfl inb_S8x512x224_S1x512x224_4_0_0 inb_S2048x1792_S2048x224_0_896 x
  · exact fun x => stored x0 x1 3 rfl rfl inb_S8x512x224_S1x512x224_3_0_0 inb_S2048x1792_S2048x224_0_672 x
  · exact fun x => stored x0 x1 2 rfl rfl inb_S8x512x224_S1x512x224_2_0_0 inb_S2048x1792_S2048x224_0_448 x
  · exact fun x => stored x0 x1 1 rfl rfl inb_S8x512x224_S1x512x224_1_0_0 inb_S2048x1792_S2048x224_0_224 x
  · exact fun x => stored x0 x1 0 rfl rfl inb_S8x512x224_S1x512x224_0_0_0 inb_S2048x1792_S2048x224_0_0 x

theorem out_at (j : Fin 8) (k : Fin 512) (f : Fin 224) :
    out0_2 x0 x1 (ix3 j k f) = ∑ r : Fin 2048, x0 (ix2 r k) * x1 (ix2 r (col narrow j f)) := by
  rw [out_eq]
  rfl

end Cert.InNWIdeal.Point

namespace Cert.InNWPlainIdeal.Entry

open Cert.InNWPlainIdeal Cert.InNWPlainIdeal.Read Cert.InRow Cert.InRow.Narrow Idealize.ShloMosaic
open Cert.FfnRow (ix2_of ix3_of)

variable (x0 : (⟨2, ![2048, 1024]⟩ : Shape).Idx → EReal) (x1 : (⟨2, ![2048, 1792]⟩ : Shape).Idx → EReal)

theorem v6_at (n : Fin 1792) (k : Fin 1024) : val_main_v6 (F := Ideal) x0 x1 (ix2 n k) = ∑ r : Fin 2048, x0 (ix2 r k) * x1 (ix2 r n) := by
  rw [val_main_v6_apply]
  refine Finset.sum_congr rfl fun r _ => ?_
  rw [ix2_of (lidx_main_v6 (ix2 n k) r) r n rfl rfl, ix2_of (ridx_main_v6 (ix2 n k) r) r k rfl rfl, mul_comm]
  rfl

/-- The weights' gradient. -/
theorem v10_at (j : Fin 8) (k : Fin 1024) (f : Fin 224) :
    val_main_v10 (F := Ideal) x0 x1 (ix3 j k f) = ∑ r : Fin 2048, x0 (ix2 r k) * x1 (ix2 r (col narrow j f)) := by
  refine (val_main_v10_apply ..).trans ((val_main_v9_apply ..).trans ((val_main_v8_apply ..).trans ((val_main_v7_apply ..).trans ?_)))
  refine (congrArg (val_main_v6 (F := Ideal) x0 x1) (ix2_of _ (col narrow j f) k ?_ ?_)).trans (v6_at x0 x1 (col narrow j f) k)
  · show ((k.val * 8 + j.val) * 224 + f.val) % 1792 = 224 * j.val + f.val; omega
  · show ((k.val * 8 + j.val) * 224 + f.val) / 1792 = k.val; omega

end Cert.InNWPlainIdeal.Entry

end
-- ==== Proof.InNWClaim.lean ====
/-
  The gradient of the attention layers' input projection's weights: from any arguments the kernel and the reference end with the same gradient.
-/
module

public import proofs.«01_k».proof.Defs
public import proofs.«01_k».proof.Proof.InNWPoint
public import proofs.«01_k».proof.Proof.Gen.InNWPlainIdeal.Run
public import Idealize.ShloMosaic.Adequacy
public import Idealize.ShloMosaic.Init

@[expose] public section

set_option maxRecDepth 16384

noncomputable section

namespace Cert.InNWIdeal.Real

open Cert.InNWIdeal Cert.InNWIdeal.Gen Cert.InNWIdeal.Point Cert.InRow Cert.InRow.Narrow
open Idealize.ShloMosaic Idealize.ShloMosaic.TcCoe Idealize.SL.Sem
open Idealize.ShloMosaic.Pipeline (Dat)
open Cert.FfnRow (ix2_of ix3_of)
open Cert.MmRow (at_val all_val)

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![2048, 1792]⟩ : Shape).Idx → EReal := m ((c : Thread nD τ).loc main_arg1)

/-- The reference's gradient, of the kernel's arguments. -/
abbrev refY : (⟨3, ![8, 1024, 224]⟩ : Shape).Idx → EReal := Cert.InNWPlainIdeal.Read.val_main_v10 (F := Ideal) (x0 m c) (x1 m c)

theorem idx0 : ∀ t : Fin cfg0.N, win0_0.index t 0 = 0 ∧ win0_0.index t 1 = t.val :=
  (by decide +kernel : ∀ t : Fin grid0.N, win0_0.index t 0 = 0 ∧ win0_0.index t 1 = t.val)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

/-- The tile a grid point works on. -/
def tile (t : Fin cfg0.N) : Fin 2 := ⟨t.val, lt_of_lt_of_eq t.isLt N_0⟩

theorem in0 (t : Fin cfg0.N) (r : Fin 2048) (k : Fin 512) : iblk m c 0 t (ix2 (n0 := 2048) (n1 := 512) r k) = x0 m c (ix2 r (inCol (tile t) k)) := by
  unfold iblk
  rw [View.read_apply]
  show V m c main_arg0 _ = _
  rw [V_main_arg0]
  exact congrArg (x0 m c) (ix2_of _ r (inCol (tile t) k) (all_val r (idx0 t).1 rfl) (at_val rfl (tile t) k (idx0 t).2 rfl))

theorem in1 (t : Fin cfg0.N) (r : Fin 2048) (n : Fin 1792) : iblk m c 1 t (ix2 (n0 := 2048) (n1 := 1792) r n) = x1 m c (ix2 r n) := by
  unfold iblk
  rw [View.read_apply]
  show V m c main_arg1 _ = _
  rw [V_main_arg1]
  exact congrArg (x1 m c) (ix2_of _ r n (all_val r (idx1 t).1 rfl) (all_val n (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨j, k, f, rfl⟩ : ∃ j k f, y = ix3 (n0 := 8) (n1 := 512) (n2 := 224) j k f := ⟨_, _, _, eq_ix3 (n0 := 8) (n1 := 512) (n2 := 224) y⟩
  refine (out_at _ _ j k f).trans (Eq.trans ?_
    ((Cert.InNWPlainIdeal.Entry.v10_at (x0 m c) (x1 m c) j (inCol (tile t) k) f).symm.trans (congrArg (refY m c) ?_)))
  · exact Finset.sum_congr rfl fun r _ => congrArg₂ (· * ·) (in0 m c t r k) (in1 m c t r (col narrow j f))
  · exact (ix3_of _ _ _ _ (all_val j (idx2 t).1 rfl) (at_val rfl (tile t) k (idx2 t).2.1 rfl) (all_val f (idx2 t).2.2 rfl)).symm

end Cert.InNWIdeal.Real

namespace Cert.InNWClaim

open Idealize.ShloMosaic Idealize.SL.Sem Idealize.ShloMosaic.StableHlo
open Cert.InNWIdeal.Real

theorem frame_plain : Cert.quiescent_InNWPlainIdeal := fun m ρ _ =>
  (θ_run Cert.InNWPlainIdeal.defs _ _).mono
    (fun r h => ⟨fun c => (h c).2, Idealize.ShloMosaic.sem_eq_zero_of_no_sems (by decide) r.2⟩)
    (Cert.InNWPlainIdeal.Value.run (F := Ideal) m ρ)

theorem algebraic : Cert.algebraic_InNWIdeal_InNWPlainIdeal := by
  intro m g m' g' _ hargs
  refine ⟨fun c => refY m c, ?_, ?_⟩
  · refine (θ_run Cert.InNWIdeal.defs _ _).mono (fun r h c => ?_) (Cert.InNWIdeal.Value.run_blocks (F := Ideal) m g)
    exact ⟨(h c).1.trans (whole m c), (h c).2⟩
  · refine (θ_run Cert.InNWPlainIdeal.defs _ _).mono (fun r h c => ?_) (Cert.InNWPlainIdeal.Value.run (F := Ideal) m' g')
    obtain ⟨q0, q1, q2⟩ := hargs c
    refine ⟨(h c).1.trans ((Cert.InNWPlainIdeal.Read.val_main_v10_eq (F := Ideal) _ _).trans ?_), (h c).2⟩
    rw [q0, q1]

end Cert.InNWClaim

end
-- ==== Proof.OutClaim.lean ====
/-
  The output projection: the mixer's columns and the memory attention's are multiplied each with its rows of the weights and added
  to the input. From any arguments the kernel and the reference end with the same rows.
-/
module

public import proofs.«01_k».proof.Defs
public import proofs.«01_k».proof.Proof.MmRow
public import proofs.«01_k».proof.Proof.Gen.OutIdeal.Value
public import proofs.«01_k».proof.Proof.Gen.OutPlainIdeal.Run
public import proofs.«01_k».proof.Proof.Gen.OutPlainIdeal.Read
public import Idealize.ShloMosaic.Lib.Pipeline.ReadBack
public import Idealize.ShloMosaic.Lib.StableHlo.RunRead
public import Idealize.ShloMosaic.Lib.Pointwise
public import Idealize.ShloMosaic.Adequacy
public import Idealize.ShloMosaic.Init

@[expose] public section

set_option maxRecDepth 16384

noncomputable section

namespace Cert.OutPlainIdeal.Entry

open Cert.OutPlainIdeal Cert.OutPlainIdeal.Read Idealize.ShloMosaic
open Cert.FfnRow (ix2_of)

/-- A mixer's column, and a memory attention's, among the columns side by side. -/
def lo (k : Fin 768) : Fin 1024 := ⟨k.val, by omega⟩
def hi (k : Fin 256) : Fin 1024 := ⟨768 + k.val, by omega⟩

/-- A sum over the columns side by side. -/
theorem sum_lo_hi (φ : Fin 1024 → EReal) : ∑ k, φ k = ∑ k, φ (lo k) + ∑ k, φ (hi k) := Fin.sum_univ_add (a := 768) (b := 256) φ

variable (x0 : (⟨2, ![2048, 1024]⟩ : Shape).Idx → EReal) (x1 : (⟨2, ![2048, 768]⟩ : Shape).Idx → EReal)
  (x2 : (⟨2, ![2048, 256]⟩ : Shape).Idx → EReal) (x3 : (⟨2, ![1024, 1024]⟩ : Shape).Idx → EReal)

theorem v0_lo (r : Fin 2048) (k : Fin 768) : val_main_v0 (F := Ideal) x1 x2 (ix2 r (lo k)) = x1 (ix2 r k) := by
  unfold val_main_v0
  exact concatenate_pair_apply_left (t := S2048x1024) (s₁ := S2048x768) (s₂ := S2048x256) (1 : Fin 2) x1 x2 _ (ix2 r (lo k)) rfl (ix2 r k) (Fin.forall_fin_two.mpr ⟨rfl, rfl⟩)

theorem v0_hi (r : Fin 2048) (k : Fin 256) : val_main_v0 (F := Ideal) x1 x2 (ix2 r (hi k)) = x2 (ix2 r k) := by
  unfold val_main_v0
  exact concatenate_pair_apply_right (t := S2048x1024) (s₁ := S2048x768) (s₂ := S2048x256) (1 : Fin 2) x1 x2 _ (ix2 r (hi k)) rfl rfl (ix2 r k)
    (Fin.forall_fin_two.mpr ⟨fun _ => rfl, fun hb => absurd rfl hb⟩) (Nat.add_comm k.val 768)

/-- The reference's rows, entry by entry. -/
theorem v3_at (r : Fin 2048) (n : Fin 1024) : val_main_v3 (F := Ideal) x0 x1 x2 x3 (ix2 r n)
    = x0 (ix2 r n) + ∑ k : Fin 768, x1 (ix2 r k) * x3 (ix2 (lo k) n) + ∑ k : Fin 256, x2 (ix2 r k) * x3 (ix2 (hi k) n) := by
  rw [add_assoc]
  refine (val_main_v3_apply ..).trans (congrArg (x0 (ix2 r n) + ·) ((val_main_v2_apply ..).trans ((sum_lo_hi _).trans ?_)))
  refine congrArg₂ (· + ·) (Finset.sum_congr rfl fun k _ => ?_) (Finset.sum_congr rfl fun k _ => ?_)
  · exact congrArg₂ (· * ·) ((congrArg (val_main_v0 (F := Ideal) x1 x2) (ix2_of _ r (lo k) rfl rfl)).trans (v0_lo x1 x2 r k))
      (congrArg x3 (ix2_of _ (lo k) n rfl rfl))
  · exact congrArg₂ (· * ·) ((congrArg (val_main_v0 (F := Ideal) x1 x2) (ix2_of _ r (hi k) rfl rfl)).trans (v0_hi x1 x2 r k))
      (congrArg x3 (ix2_of _ (hi k) n rfl rfl))

end Cert.OutPlainIdeal.Entry

namespace Cert.OutIdeal.Real

open Cert.OutIdeal Cert.OutIdeal.Gen Cert.MmRow
open Idealize.ShloMosaic Idealize.ShloMosaic.TcCoe Idealize.SL.Sem
open Idealize.ShloMosaic.Pipeline (Dat)
open Cert.FfnRow (ix2_of)
open Cert.OutPlainIdeal.Entry (lo hi)

/-- What the body leaves: the input's tile and the two products. -/
theorem out_at (x0 : Vec Ideal S512x768 .f32) (x1 : Vec Ideal S768x512 .bf16) (x2 : Vec Ideal S512x256 .f32) (x3 : Vec Ideal S256x512 .bf16)
    (x4 : Vec Ideal S512x512 .f32) (p : Fin 512) (q : Fin 512) : out0_5 x0 x1 x2 x3 x4 (ix2 p q)
      = x4 (ix2 p q) + ∑ k : Fin 768, x0 (ix2 p k) * x1 (ix2 k q) + ∑ k : Fin 256, x2 (ix2 p k) * x3 (ix2 k q) := by
  unfold out0_5
  rw [View.canon_unit_zero (S := S512x512) off2, View.ld_unit_zero (S := S512x768) off2, View.ld_unit_zero (S := S768x512) off2,
    View.ld_unit_zero (S := S512x256) off2, View.ld_unit_zero (S := S256x512) off2, View.ld_unit_zero (S := S512x512) off2]
  pointwise [k0_pay1]

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![2048, 768]⟩ : Shape).Idx → EReal := m ((c : Thread nD τ).loc main_arg1)
abbrev x2 : (⟨2, ![2048, 256]⟩ : Shape).Idx → EReal := m ((c : Thread nD τ).loc main_arg2)
abbrev x3 : (⟨2, ![1024, 1024]⟩ : Shape).Idx → EReal := m ((c : Thread nD τ).loc main_arg3)

/-- The reference's rows, of the kernel's arguments. -/
abbrev refY : (⟨2, ![2048, 1024]⟩ : Shape).Idx → EReal :=
  Cert.OutPlainIdeal.Read.val_main_v3 (F := Ideal) (x0 m c) (x1 m c) (x2 m c) (x3 m c)

/-- The mixer's rows of the weights, and the memory attention's, as the host cuts them. -/
theorem V_lo : V m c main_v0 = extractStridedSlice S768x1024 ![0, 0] (x3 m c) slices_S1024x1024_S768x1024_0_0 := by
  show StableHlo.after hostOps0 (fun b => m (c, b)) (Proc.devRef .tc main_v0) = _
  simp only [hostOps0, StableHlo.TRef.unary, StableHlo.TRef.toBuf, StableHlo.TRef.ofBuf, cast_eq]
  after_reads_simp

theorem V_hi : V m c main_v1 = extractStridedSlice S256x1024 ![768, 0] (x3 m c) slices_S1024x1024_S256x1024_768_0 := by
  show StableHlo.after hostOps0 (fun b => m (c, b)) (Proc.devRef .tc main_v1) = _
  simp only [hostOps0, StableHlo.TRef.unary, StableHlo.TRef.toBuf, StableHlo.TRef.ofBuf, cast_eq]
  after_reads_simp

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = 0 :=
  (by decide +kernel : ∀ t : Fin grid0.N, win0_2.index t 0 = t.val / 2 ∧ win0_2.index t 1 = 0)
theorem idx3 : ∀ t : Fin cfg0.N, win0_3.index t 0 = 0 ∧ win0_3.index t 1 = t.val % 2 :=
  (by decide +kernel : ∀ t : Fin grid0.N, win0_3.index t 0 = 0 ∧ win0_3.index t 1 = t.val % 2)
theorem idx4 : ∀ t : Fin cfg0.N, win0_4.index t 0 = t.val / 2 ∧ win0_4.index t 1 = t.val % 2 :=
  (by decide +kernel : ∀ t : Fin grid0.N, win0_4.index t 0 = t.val / 2 ∧ win0_4.index t 1 = t.val % 2)
theorem idx5 : ∀ t : Fin cfg0.N, win0_5.index t 0 = t.val / 2 ∧ win0_5.index t 1 = t.val % 2 :=
  (by decide +kernel : ∀ t : Fin grid0.N, win0_5.index t 0 = t.val / 2 ∧ win0_5.index t 1 = t.val % 2)

/-- The row and the column of the result that entry `(p, q)` of grid point `t`'s block is. -/
def row (t : Fin cfg0.N) (p : Fin 512) : Fin 2048 := at_ (g := 4) rfl ⟨t.val / 2, by have := lt_of_lt_of_eq t.isLt N_0; omega⟩ p
def colm (t : Fin cfg0.N) (q : Fin 512) : Fin 1024 := at_ (g := 2) rfl ⟨t.val % 2, Nat.mod_lt _ (by decide)⟩ q

theorem in0 (t : Fin cfg0.N) (p : Fin 512) (k : Fin 768) : iblk m c 0 t (ix2 (n0 := 512) (n1 := 768) p k) = x1 m c (ix2 (row t p) k) := by
  unfold iblk
  rw [View.read_apply]
  show V m c main_arg1 _ = _
  rw [V_main_arg1]
  exact congrArg (x1 m c) (ix2_of _ (row t p) k (at_val rfl _ p (idx0 t).1 rfl) (all_val k (idx0 t).2 rfl))

theorem in1 (t : Fin cfg0.N) (k : Fin 768) (q : Fin 512) : iblk m c 1 t (ix2 (n0 := 768) (n1 := 512) k q) = x3 m c (ix2 (lo k) (colm t q)) := by
  unfold iblk
  rw [View.read_apply]
  show V m c main_v0 _ = _
  rw [V_lo]
  refine (congrArg _ (ix2_of _ k (colm t q) (all_val k (idx1 t).1 rfl) (at_val rfl _ q (idx1 t).2 rfl))).trans ?_
  exact congrArg (x3 m c) (ix2_of _ (lo k) (colm t q) (Nat.zero_add _) (Nat.zero_add _))

theorem in2 (t : Fin cfg0.N) (p : Fin 512) (k : Fin 256) : iblk m c 2 t (ix2 (n0 := 512) (n1 := 256) p k) = x2 m c (ix2 (row t p) k) := by
  unfold iblk
  rw [View.read_apply]
  show V m c main_arg2 _ = _
  rw [V_main_arg2]
  exact congrArg (x2 m c) (ix2_of _ (row t p) k (at_val rfl _ p (idx2 t).1 rfl) (all_val k (idx2 t).2 rfl))

theorem in3 (t : Fin cfg0.N) (k : Fin 256) (q : Fin 512) : iblk m c 3 t (ix2 (n0 := 256) (n1 := 512) k q) = x3 m c (ix2 (hi k) (colm t q)) := by
  unfold iblk
  rw [View.read_apply]
  show V m c main_v1 _ = _
  rw [V_hi]
  refine (congrArg _ (ix2_of _ k (colm t q) (all_val k (idx3 t).1 rfl) (at_val rfl _ q (idx3 t).2 rfl))).trans ?_
  exact congrArg (x3 m c) (ix2_of _ (hi k) (colm t q) rfl (Nat.zero_add _))

theorem in4 (t : Fin cfg0.N) (p : Fin 512) (q : Fin 512) : iblk m c 4 t (ix2 (n0 := 512) (n1 := 512) p q) = x0 m c (ix2 (row t p) (colm t q)) := by
  unfold iblk
  rw [View.read_apply]
  show V m c main_arg0 _ = _
  rw [V_main_arg0]
  exact congrArg (x0 m c) (ix2_of _ (row t p) (colm t q) (at_val rfl _ p (idx4 t).1 rfl) (at_val rfl _ q (idx4 t).2 rfl))

/-- The result array, whole. -/
theorem whole : (dats m 0 c).arrAt 5 cfg0.N = refY m c := by
  refine (dats m 0 c).arrAt_eq_of_covers 5 (refY m c) (by decide +kernel) fun t hf y => ?_
  blk_simp
  rw [after0_5]
  obtain ⟨p, q, rfl⟩ : ∃ p q, y = ix2 (n0 := 512) (n1 := 512) p q := ⟨_, _, eq_ix2 (n0 := 512) (n1 := 512) y⟩
  refine (out_at _ _ _ _ _ p q).trans (Eq.trans ?_
    ((Cert.OutPlainIdeal.Entry.v3_at (x0 m c) (x1 m c) (x2 m c) (x3 m c) (row t p) (colm t q)).symm.trans (congrArg (refY m c) ?_)))
  · exact congrArg₂ (· + ·) (congrArg₂ (· + ·) (in4 m c t p q)
      (Finset.sum_congr rfl fun k _ => congrArg₂ (· * ·) (in0 m c t p k) (in1 m c t k q)))
      (Finset.sum_congr rfl fun k _ => congrArg₂ (· * ·) (in2 m c t p k) (in3 m c t k q))
  · exact (ix2_of _ _ _ (at_val rfl _ p (idx5 t).1 rfl) (at_val rfl _ q (idx5 t).2 rfl)).symm

end Cert.OutIdeal.Real

namespace Cert.OutClaim

open Idealize.ShloMosaic Idealize.SL.Sem Idealize.ShloMosaic.StableHlo
open Cert.OutIdeal.Real

theorem frame_plain : Cert.quiescent_OutPlainIdeal := fun m ρ _ =>
  (θ_run Cert.OutPlainIdeal.defs _ _).mono
    (fun r h => ⟨fun c => (h c).2, Idealize.ShloMosaic.sem_eq_zero_of_no_sems (by decide) r.2⟩)
    (Cert.OutPlainIdeal.Value.run (F := Ideal) m ρ)

theorem algebraic : Cert.algebraic_OutIdeal_OutPlainIdeal := by
  intro m g m' g' _ hargs
  refine ⟨fun c => refY m c, ?_, ?_⟩
  · refine (θ_run Cert.OutIdeal.defs _ _).mono (fun r h c => ?_) (Cert.OutIdeal.Value.run_blocks (F := Ideal) m g)
    exact ⟨(h c).1.trans (whole m c), (h c).2⟩
  · refine (θ_run Cert.OutPlainIdeal.defs _ _).mono (fun r h c => ?_) (Cert.OutPlainIdeal.Value.run (F := Ideal) m' g')
    obtain ⟨q0, q1, q2, q3⟩ := hargs c
    refine ⟨(h c).1.trans ((Cert.OutPlainIdeal.Read.val_main_v3_eq (F := Ideal) _ _ _ _).trans ?_), (h c).2⟩
    rw [q0, q1, q2, q3]

end Cert.OutClaim

end
-- ==== Proof.OutHClaim.lean ====
/-
  The gradient of the output projection's rows: from any arguments the kernel and the reference end with the same gradient.
-/
module

public import proofs.«01_k».proof.Defs
public import proofs.«01_k».proof.Proof.MmRow
public import proofs.«01_k».proof.Proof.Gen.OutHIdeal.Value
public import proofs.«01_k».proof.Proof.Gen.OutHPlainIdeal.Run
public import proofs.«01_k».proof.Proof.Gen.OutHPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.OutHPlainIdeal.Entry

open Cert.OutHPlainIdeal Cert.OutHPlainIdeal.Read Idealize.ShloMosaic
open Cert.FfnRow (ix2_of)

/-- The reference's gradient, entry by entry. -/
theorem v3_at (x0 : (⟨2, ![2048, 1024]⟩ : Shape).Idx → EReal) (x1 : (⟨2, ![1024, 1024]⟩ : Shape).Idx → EReal) (r : Fin 2048) (n : Fin 1024) :
    val_main_v3 (F := Ideal) x0 x1 (ix2 r n) = ∑ k : Fin 1024, x0 (ix2 r k) * x1 (ix2 n k) := by
  refine (val_main_v3_apply ..).trans (Finset.sum_congr rfl fun k _ => ?_)
  exact congrArg₂ (· * ·) (congrArg x0 (ix2_of _ r k rfl rfl)) (congrArg x1 (ix2_of _ n k rfl rfl))

end Cert.OutHPlainIdeal.Entry

namespace Cert.OutHIdeal.Real

open Cert.OutHIdeal Cert.OutHIdeal.Gen Cert.MmRow
open Idealize.ShloMosaic Idealize.ShloMosaic.TcCoe Idealize.SL.Sem
open Idealize.ShloMosaic.Pipeline (Dat)
open Cert.FfnRow (ix2_of)

/-- What the body leaves: the cotangent's tile times the weights' tile, transposed. -/
theorem out_at (x0 : Vec Ideal S512x1024 .f32) (x1 : Vec Ideal S512x1024 .bf16) (p : Fin 512) (q : Fin 512) :
    out0_2 x0 x1 (ix2 p q) = ∑ k : Fin 1024, x0 (ix2 p k) * x1 (ix2 q k) := by
  unfold out0_2
  rw [View.canon_unit_zero (S := S512x512) off2, View.ld_unit_zero (S := S512x1024) off2, View.ld_unit_zero (S := S512x1024) off2]
  pointwise [k0_pay1]

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![1024, 1024]⟩ : Shape).Idx → EReal := m ((c : Thread nD τ).loc main_arg1)

/-- The reference's gradient, of the kernel's arguments. -/
abbrev refY : (⟨2, ![2048, 1024]⟩ : Shape).Idx → EReal := Cert.OutHPlainIdeal.Read.val_main_v3 (F := Ideal) (x0 m c) (x1 m c)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The row and the column of the result that entry `(p, q)` of grid point `t`'s block is. -/
def row (t : Fin cfg0.N) (p : Fin 512) : Fin 2048 := at_ (g := 4) rfl ⟨t.val / 2, by have := lt_of_lt_of_eq t.isLt N_0; omega⟩ p
def colm (t : Fin cfg0.N) (q : Fin 512) : Fin 1024 := at_ (g := 2) rfl ⟨t.val % 2, Nat.mod_lt _ (by decide)⟩ q

theorem in0 (t : Fin cfg0.N) (p : Fin 512) (k : Fin 1024) : iblk m c 0 t (ix2 (n0 := 512) (n1 := 1024) p k) = x0 m c (ix2 (row t p) k) := by
  unfold iblk
  rw [View.read_apply]
  show V m c main_arg0 _ = _
  rw [V_main_arg0]
  exact congrArg (x0 m c) (ix2_of _ (row t p) k (at_val rfl _ p (idx0 t).1 rfl) (all_val k (idx0 t).2 rfl))

theorem in1 (t : Fin cfg0.N) (q : Fin 512) (k : Fin 1024) : iblk m c 1 t (ix2 (n0 := 512) (n1 := 1024) q k) = x1 m c (ix2 (colm t q) k) := by
  unfold iblk
  rw [View.read_apply]
  show V m c main_arg1 _ = _
  rw [V_main_arg1]
  exact congrArg (x1 m c) (ix2_of _ (colm t q) k (at_val rfl _ q (idx1 t).1 rfl) (all_val k (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 512) (n1 := 512) p q := ⟨_, _, eq_ix2 (n0 := 512) (n1 := 512) y⟩
  refine (out_at _ _ p q).trans (Eq.trans ?_
    ((Cert.OutHPlainIdeal.Entry.v3_at (x0 m c) (x1 m c) (row t p) (colm t q)).symm.trans (congrArg (refY m c) ?_)))
  · exact Finset.sum_congr rfl fun k _ => congrArg₂ (· * ·) (in0 m c t p k) (in1 m c t q k)
  · exact (ix2_of _ _ _ (at_val rfl _ p (idx2 t).1 rfl) (at_val rfl _ q (idx2 t).2 rfl)).symm

end Cert.OutHIdeal.Real

namespace Cert.OutHClaim

open Idealize.ShloMosaic Idealize.SL.Sem Idealize.ShloMosaic.StableHlo
open Cert.OutHIdeal.Real

theorem frame_plain : Cert.quiescent_OutHPlainIdeal := fun m ρ _ =>
  (θ_run Cert.OutHPlainIdeal.defs _ _).mono
    (fun r h => ⟨fun c => (h c).2, Idealize.ShloMosaic.sem_eq_zero_of_no_sems (by decide) r.2⟩)
    (Cert.OutHPlainIdeal.Value.run (F := Ideal) m ρ)

theorem algebraic : Cert.algebraic_OutHIdeal_OutHPlainIdeal := by
  intro m g m' g' _ hargs
  refine ⟨fun c => refY m c, ?_, ?_⟩
  · refine (θ_run Cert.OutHIdeal.defs _ _).mono (fun r h c => ?_) (Cert.OutHIdeal.Value.run_blocks (F := Ideal) m g)
    exact ⟨(h c).1.trans (whole m c), (h c).2⟩
  · refine (θ_run Cert.OutHPlainIdeal.defs _ _).mono (fun r h c => ?_) (Cert.OutHPlainIdeal.Value.run (F := Ideal) m' g')
    obtain ⟨q0, q1⟩ := hargs c
    refine ⟨(h c).1.trans ((Cert.OutHPlainIdeal.Read.val_main_v3_eq (F := Ideal) _ _).trans ?_), (h c).2⟩
    rw [q0, q1]

end Cert.OutHClaim

end
-- ==== Proof.OutAClaim.lean ====
/-
  The gradient of the output projection's weights, the rows the mixer's own columns meet: from any arguments the kernel and the
  reference end with the same gradient.
-/
module

public import proofs.«01_k».proof.Defs
public import proofs.«01_k».proof.Proof.MmRow
public import proofs.«01_k».proof.Proof.Gen.OutAIdeal.Value
public import proofs.«01_k».proof.Proof.Gen.OutAPlainIdeal.Run
public import proofs.«01_k».proof.Proof.Gen.OutAPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.OutAPlainIdeal.Entry

open Cert.OutAPlainIdeal Cert.OutAPlainIdeal.Read Idealize.ShloMosaic
open Cert.FfnRow (ix2_of)

/-- The reference's gradient, entry by entry. -/
theorem v5_at (x0 : (⟨2, ![2048, 768]⟩ : Shape).Idx → EReal) (x1 : (⟨2, ![2048, 1024]⟩ : Shape).Idx → EReal) (k : Fin 768) (n : Fin 1024) :
    val_main_v5 (F := Ideal) x0 x1 (ix2 k n) = ∑ r : Fin 2048, x0 (ix2 r k) * x1 (ix2 r n) := by
  refine (val_main_v5_apply ..).trans ((val_main_v4_apply ..).trans ((val_main_v3_apply ..).trans (Finset.sum_congr rfl fun r _ => ?_)))
  rw [mul_comm]
  exact congrArg₂ (· * ·) (congrArg x0 (ix2_of _ r k rfl rfl)) (congrArg x1 (ix2_of _ r n rfl rfl))

end Cert.OutAPlainIdeal.Entry

namespace Cert.OutAIdeal.Real

open Cert.OutAIdeal Cert.OutAIdeal.Gen Cert.MmRow
open Idealize.ShloMosaic Idealize.ShloMosaic.TcCoe Idealize.SL.Sem
open Idealize.ShloMosaic.Pipeline (Dat)
open Cert.FfnRow (ix2_of)

/-- What the body leaves: the rows' tile, transposed, times the cotangent's tile. -/
theorem out_at (x0 : Vec Ideal S2048x384 .f32) (x1 : Vec Ideal S2048x512 .f32) (p : Fin 384) (q : Fin 512) :
    out0_2 x0 x1 (ix2 p q) = ∑ r : Fin 2048, x0 (ix2 r p) * x1 (ix2 r q) := by
  unfold out0_2
  rw [View.canon_unit_zero (S := S384x512) off2, View.ld_unit_zero (S := S2048x384) off2, View.ld_unit_zero (S := S2048x512) off2]
  pointwise [k0_pay1]

variable (m : (ℓ : Loc nD τ sig) → Buf (Elt Ideal) ℓ) (c : Dev nD)

abbrev x0 : (⟨2, ![2048, 768]⟩ : Shape).Idx → EReal := m ((c : Thread nD τ).loc main_arg0)
abbrev x1 : (⟨2, ![2048, 1024]⟩ : Shape).Idx → EReal := m ((c : Thread nD τ).loc main_arg1)

/-- The reference's gradient, of the kernel's arguments. -/
abbrev refY : (⟨2, ![768, 1024]⟩ : Shape).Idx → EReal := Cert.OutAPlainIdeal.Read.val_main_v5 (F := Ideal) (x0 m c) (x1 m c)

theorem idx0 : ∀ t : Fin cfg0.N, win0_0.index t 0 = 0 ∧ win0_0.index t 1 = t.val / 2 :=
  (by decide +kernel : ∀ t : Fin grid0.N, win0_0.index t 0 = 0 ∧ win0_0.index t 1 = t.val / 2)
theorem idx1 : ∀ t : Fin cfg0.N, win0_1.index t 0 = 0 ∧ win0_1.index t 1 = t.val % 2 :=
  (by decide +kernel : ∀ t : Fin grid0.N, win0_1.index t 0 = 0 ∧ win0_1.index t 1 = t.val % 2)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The row and the column of the result that entry `(p, q)` of grid point `t`'s block is. -/
def row (t : Fin cfg0.N) (p : Fin 384) : Fin 768 := at_ (g := 2) rfl ⟨t.val / 2, by have := lt_of_lt_of_eq t.isLt N_0; omega⟩ p
def colm (t : Fin cfg0.N) (q : Fin 512) : Fin 1024 := at_ (g := 2) rfl ⟨t.val % 2, Nat.mod_lt _ (by decide)⟩ q

theorem in0 (t : Fin cfg0.N) (r : Fin 2048) (p : Fin 384) : iblk m c 0 t (ix2 (n0 := 2048) (n1 := 384) r p) = x0 m c (ix2 r (row t p)) := by
  unfold iblk
  rw [View.read_apply]
  show V m c main_arg0 _ = _
  rw [V_main_arg0]
  exact congrArg (x0 m c) (ix2_of _ r (row t p) (all_val r (idx0 t).1 rfl) (at_val rfl _ p (idx0 t).2 rfl))

theorem in1 (t : Fin cfg0.N) (r : Fin 2048) (q : Fin 512) : iblk m c 1 t (ix2 (n0 := 2048) (n1 := 512) r q) = x1 m c (ix2 r (colm t q)) := by
  unfold iblk
  rw [View.read_apply]
  show V m c main_arg1 _ = _
  rw [V_main_arg1]
  exact congrArg (x1 m c) (ix2_of _ r (colm t q) (all_val r (idx1 t).1 rfl) (at_val rfl _ q (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 384) (n1 := 512) p q := ⟨_, _, eq_ix2 (n0 := 384) (n1 := 512) y⟩
  refine (out_at _ _ p q).trans (Eq.trans ?_
    ((Cert.OutAPlainIdeal.Entry.v5_at (x0 m c) (x1 m c) (row t p) (colm t q)).symm.trans (congrArg (refY m c) ?_)))
  · exact Finset.sum_congr rfl fun r _ => congrArg₂ (· * ·) (in0 m c t r p) (in1 m c t r q)
  · exact (ix2_of _ _ _ (at_val rfl _ p (idx2 t).1 rfl) (at_val rfl _ q (idx2 t).2 rfl)).symm

end Cert.OutAIdeal.Real

namespace Cert.OutAClaim

open Idealize.ShloMosaic Idealize.SL.Sem Idealize.ShloMosaic.StableHlo
open Cert.OutAIdeal.Real

theorem frame_plain : Cert.quiescent_OutAPlainIdeal := fun m ρ _ =>
  (θ_run Cert.OutAPlainIdeal.defs _ _).mono
    (fun r h => ⟨fun c => (h c).2, Idealize.ShloMosaic.sem_eq_zero_of_no_sems (by decide) r.2⟩)
    (Cert.OutAPlainIdeal.Value.run (F := Ideal) m ρ)

theorem algebraic : Cert.algebraic_OutAIdeal_OutAPlainIdeal := by
  intro m g m' g' _ hargs
  refine ⟨fun c => refY m c, ?_, ?_⟩
  · refine (θ_run Cert.OutAIdeal.defs _ _).mono (fun r h c => ?_) (Cert.OutAIdeal.Value.run_blocks (F := Ideal) m g)
    exact ⟨(h c).1.trans (whole m c), (h c).2⟩
  · refine (θ_run Cert.OutAPlainIdeal.defs _ _).mono (fun r h c => ?_) (Cert.OutAPlainIdeal.Value.run (F := Ideal) m' g')
    obtain ⟨q0, q1⟩ := hargs c
    refine ⟨(h c).1.trans ((Cert.OutAPlainIdeal.Read.val_main_v5_eq (F := Ideal) _ _).trans ?_), (h c).2⟩
    rw [q0, q1]

end Cert.OutAClaim

end
-- ==== Proof.OutBClaim.lean ====
/-
  The gradient of the output projection's weights, the rows the memory attention's columns meet: from any arguments the kernel and the
  reference end with the same gradient.
-/
module

public import proofs.«01_k».proof.Defs
public import proofs.«01_k».proof.Proof.MmRow
public import proofs.«01_k».proof.Proof.Gen.OutBIdeal.Value
public import proofs.«01_k».proof.Proof.Gen.OutBPlainIdeal.Run
public import proofs.«01_k».proof.Proof.Gen.OutBPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.OutBPlainIdeal.Entry

open Cert.OutBPlainIdeal Cert.OutBPlainIdeal.Read Idealize.ShloMosaic
open Cert.FfnRow (ix2_of)

/-- The reference's gradient, entry by entry. -/
theorem v5_at (x0 : (⟨2, ![2048, 256]⟩ : Shape).Idx → EReal) (x1 : (⟨2, ![2048, 1024]⟩ : Shape).Idx → EReal) (k : Fin 256) (n : Fin 1024) :
    val_main_v5 (F := Ideal) x0 x1 (ix2 k n) = ∑ r : Fin 2048, x0 (ix2 r k) * x1 (ix2 r n) := by
  refine (val_main_v5_apply ..).trans ((val_main_v4_apply ..).trans ((val_main_v3_apply ..).trans (Finset.sum_congr rfl fun r _ => ?_)))
  rw [mul_comm]
  exact congrArg₂ (· * ·) (congrArg x0 (ix2_of _ r k rfl rfl)) (congrArg x1 (ix2_of _ r n rfl rfl))

end Cert.OutBPlainIdeal.Entry

namespace Cert.OutBIdeal.Real

open Cert.OutBIdeal Cert.OutBIdeal.Gen Cert.MmRow
open Idealize.ShloMosaic Idealize.ShloMosaic.TcCoe Idealize.SL.Sem
open Idealize.ShloMosaic.Pipeline (Dat)
open Cert.FfnRow (ix2_of)

/-- What the body leaves: the rows' tile, transposed, times the cotangent's tile. -/
theorem out_at (x0 : Vec Ideal S2048x256 .f32) (x1 : Vec Ideal S2048x512 .f32) (p : Fin 256) (q : Fin 512) :
    out0_2 x0 x1 (ix2 p q) = ∑ r : Fin 2048, x0 (ix2 r p) * x1 (ix2 r q) := by
  unfold out0_2
  rw [View.canon_unit_zero (S := S256x512) off2, View.ld_unit_zero (S := S2048x256) off2, View.ld_unit_zero (S := S2048x512) off2]
  pointwise [k0_pay1]

variable (m : (ℓ : Loc nD τ sig) → Buf (Elt Ideal) ℓ) (c : Dev nD)

abbrev x0 : (⟨2, ![2048, 256]⟩ : Shape).Idx → EReal := m ((c : Thread nD τ).loc main_arg0)
abbrev x1 : (⟨2, ![2048, 1024]⟩ : Shape).Idx → EReal := m ((c : Thread nD τ).loc main_arg1)

/-- The reference's gradient, of the kernel's arguments. -/
abbrev refY : (⟨2, ![256, 1024]⟩ : Shape).Idx → EReal := Cert.OutBPlainIdeal.Read.val_main_v5 (F := Ideal) (x0 m c) (x1 m c)

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = t.val :=
  (by decide +kernel : ∀ t : Fin grid0.N, win0_1.index t 0 = 0 ∧ win0_1.index t 1 = t.val)
theorem idx2 : ∀ t : Fin cfg0.N, win0_2.index t 0 = 0 ∧ win0_2.index t 1 = t.val :=
  (by decide +kernel : ∀ t : Fin grid0.N, win0_2.index t 0 = 0 ∧ win0_2.index t 1 = t.val)

/-- The column of the result that entry `(p, q)` of grid point `t`'s block is; the row is `p`, one tile holds them all. -/
def colm (t : Fin cfg0.N) (q : Fin 512) : Fin 1024 := at_ (g := 2) rfl ⟨t.val, lt_of_lt_of_eq t.isLt N_0⟩ q

theorem in0 (t : Fin cfg0.N) (r : Fin 2048) (p : Fin 256) : iblk m c 0 t (ix2 (n0 := 2048) (n1 := 256) r p) = x0 m c (ix2 r p) := by
  unfold iblk
  rw [View.read_apply]
  show V m c main_arg0 _ = _
  rw [V_main_arg0]
  exact congrArg (x0 m c) (ix2_of _ r p (all_val r (idx0 t).1 rfl) (all_val p (idx0 t).2 rfl))

theorem in1 (t : Fin cfg0.N) (r : Fin 2048) (q : Fin 512) : iblk m c 1 t (ix2 (n0 := 2048) (n1 := 512) r q) = x1 m c (ix2 r (colm t q)) := by
  unfold iblk
  rw [View.read_apply]
  show V m c main_arg1 _ = _
  rw [V_main_arg1]
  exact congrArg (x1 m c) (ix2_of _ r (colm t q) (all_val r (idx1 t).1 rfl) (at_val rfl _ q (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 256) (n1 := 512) p q := ⟨_, _, eq_ix2 (n0 := 256) (n1 := 512) y⟩
  refine (out_at _ _ p q).trans (Eq.trans ?_
    ((Cert.OutBPlainIdeal.Entry.v5_at (x0 m c) (x1 m c) p (colm t q)).symm.trans (congrArg (refY m c) ?_)))
  · exact Finset.sum_congr rfl fun r _ => congrArg₂ (· * ·) (in0 m c t r p) (in1 m c t r q)
  · exact (ix2_of _ _ _ (all_val p (idx2 t).1 rfl) (at_val rfl _ q (idx2 t).2 rfl)).symm

end Cert.OutBIdeal.Real

namespace Cert.OutBClaim

open Idealize.ShloMosaic Idealize.SL.Sem Idealize.ShloMosaic.StableHlo
open Cert.OutBIdeal.Real

theorem frame_plain : Cert.quiescent_OutBPlainIdeal := fun m ρ _ =>
  (θ_run Cert.OutBPlainIdeal.defs _ _).mono
    (fun r h => ⟨fun c => (h c).2, Idealize.ShloMosaic.sem_eq_zero_of_no_sems (by decide) r.2⟩)
    (Cert.OutBPlainIdeal.Value.run (F := Ideal) m ρ)

theorem algebraic : Cert.algebraic_OutBIdeal_OutBPlainIdeal := by
  intro m g m' g' _ hargs
  refine ⟨fun c => refY m c, ?_, ?_⟩
  · refine (θ_run Cert.OutBIdeal.defs _ _).mono (fun r h c => ?_) (Cert.OutBIdeal.Value.run_blocks (F := Ideal) m g)
    exact ⟨(h c).1.trans (whole m c), (h c).2⟩
  · refine (θ_run Cert.OutBPlainIdeal.defs _ _).mono (fun r h c => ?_) (Cert.OutBPlainIdeal.Value.run (F := Ideal) m' g')
    obtain ⟨q0, q1⟩ := hargs c
    refine ⟨(h c).1.trans ((Cert.OutBPlainIdeal.Read.val_main_v5_eq (F := Ideal) _ _).trans ?_), (h c).2⟩
    rw [q0, q1]

end Cert.OutBClaim

end
-- ==== Proof.KvClaim.lean ====
/-
  The projection to the attention's shared keys and values: from any arguments the kernel and the reference end with the same rows.
-/
module

public import proofs.«01_k».proof.Defs
public import proofs.«01_k».proof.Proof.MmRow
public import proofs.«01_k».proof.Proof.Gen.KvIdeal.Value
public import proofs.«01_k».proof.Proof.Gen.KvPlainIdeal.Run
public import proofs.«01_k».proof.Proof.Gen.KvPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.KvPlainIdeal.Entry

open Cert.KvPlainIdeal Cert.KvPlainIdeal.Read Idealize.ShloMosaic
open Cert.FfnRow (ix2_of)

/-- The reference's rows, entry by entry. -/
theorem v2_at (x0 : (⟨2, ![2048, 1024]⟩ : Shape).Idx → EReal) (x1 : (⟨2, ![1024, 2048]⟩ : Shape).Idx → EReal) (r : Fin 2048) (n : Fin 2048) :
    val_main_v2 (F := Ideal) x0 x1 (ix2 r n) = ∑ k : Fin 1024, x0 (ix2 r k) * x1 (ix2 k n) := by
  refine (val_main_v2_apply ..).trans (Finset.sum_congr rfl fun k _ => ?_)
  exact congrArg₂ (· * ·) (congrArg x0 (ix2_of _ r k rfl rfl)) (congrArg x1 (ix2_of _ k n rfl rfl))

end Cert.KvPlainIdeal.Entry

namespace Cert.KvIdeal.Real

open Cert.KvIdeal Cert.KvIdeal.Gen Cert.MmRow
open Idealize.ShloMosaic Idealize.ShloMosaic.TcCoe Idealize.SL.Sem
open Idealize.ShloMosaic.Pipeline (Dat)
open Cert.FfnRow (ix2_of)

/-- What the body leaves: the rows' tile times the weights' tile. -/
theorem out_at (x0 : Vec Ideal S512x1024 .bf16) (x1 : Vec Ideal S1024x512 .bf16) (p : Fin 512) (q : Fin 512) :
    out0_2 x0 x1 (ix2 p q) = ∑ k : Fin 1024, x0 (ix2 p k) * x1 (ix2 k q) := by
  unfold out0_2
  rw [View.canon_unit_zero (S := S512x512) off2, View.ld_unit_zero (S := S512x1024) off2, View.ld_unit_zero (S := S1024x512) off2]
  pointwise [k0_pay1]

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![1024, 2048]⟩ : Shape).Idx → EReal := m ((c : Thread nD τ).loc main_arg1)

/-- The reference's rows, of the kernel's arguments. -/
abbrev refY : (⟨2, ![2048, 2048]⟩ : Shape).Idx → EReal := Cert.KvPlainIdeal.Read.val_main_v2 (F := Ideal) (x0 m c) (x1 m c)

theorem idx0 : ∀ t : Fin cfg0.N, win0_0.index t 0 = t.val / 4 ∧ win0_0.index t 1 = 0 :=
  (by decide +kernel : ∀ t : Fin grid0.N, win0_0.index t 0 = t.val / 4 ∧ win0_0.index t 1 = 0)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The row and the column of the result that entry `(p, q)` of grid point `t`'s block is. -/
def row (t : Fin cfg0.N) (p : Fin 512) : Fin 2048 := at_ (g := 4) rfl ⟨t.val / 4, by have := lt_of_lt_of_eq t.isLt N_0; omega⟩ p
def colm (t : Fin cfg0.N) (q : Fin 512) : Fin 2048 := at_ (g := 4) rfl ⟨t.val % 4, Nat.mod_lt _ (by decide)⟩ q

theorem in0 (t : Fin cfg0.N) (p : Fin 512) (k : Fin 1024) : iblk m c 0 t (ix2 (n0 := 512) (n1 := 1024) p k) = x0 m c (ix2 (row t p) k) := by
  unfold iblk
  rw [View.read_apply]
  show V m c main_arg0 _ = _
  rw [V_main_arg0]
  exact congrArg (x0 m c) (ix2_of _ (row t p) k (at_val rfl _ p (idx0 t).1 rfl) (all_val k (idx0 t).2 rfl))

theorem in1 (t : Fin cfg0.N) (k : Fin 1024) (q : Fin 512) : iblk m c 1 t (ix2 (n0 := 1024) (n1 := 512) k q) = x1 m c (ix2 k (colm t q)) := by
  unfold iblk
  rw [View.read_apply]
  show V m c main_arg1 _ = _
  rw [V_main_arg1]
  exact congrArg (x1 m c) (ix2_of _ k (colm t q) (all_val k (idx1 t).1 rfl) (at_val rfl _ q (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 512) (n1 := 512) p q := ⟨_, _, eq_ix2 (n0 := 512) (n1 := 512) y⟩
  refine (out_at _ _ p q).trans (Eq.trans ?_
    ((Cert.KvPlainIdeal.Entry.v2_at (x0 m c) (x1 m c) (row t p) (colm t q)).symm.trans (congrArg (refY m c) ?_)))
  · exact Finset.sum_congr rfl fun k _ => congrArg₂ (· * ·) (in0 m c t p k) (in1 m c t k q)
  · exact (ix2_of _ _ _ (at_val rfl _ p (idx2 t).1 rfl) (at_val rfl _ q (idx2 t).2 rfl)).symm

end Cert.KvIdeal.Real

namespace Cert.KvClaim

open Idealize.ShloMosaic Idealize.SL.Sem Idealize.ShloMosaic.StableHlo
open Cert.KvIdeal.Real

theorem frame_plain : Cert.quiescent_KvPlainIdeal := fun m ρ _ =>
  (θ_run Cert.KvPlainIdeal.defs _ _).mono
    (fun r h => ⟨fun c => (h c).2, Idealize.ShloMosaic.sem_eq_zero_of_no_sems (by decide) r.2⟩)
    (Cert.KvPlainIdeal.Value.run (F := Ideal) m ρ)

theorem algebraic : Cert.algebraic_KvIdeal_KvPlainIdeal := by
  intro m g m' g' _ hargs
  refine ⟨fun c => refY m c, ?_, ?_⟩
  · refine (θ_run Cert.KvIdeal.defs _ _).mono (fun r h c => ?_) (Cert.KvIdeal.Value.run_blocks (F := Ideal) m g)
    exact ⟨(h c).1.trans (whole m c), (h c).2⟩
  · refine (θ_run Cert.KvPlainIdeal.defs _ _).mono (fun r h c => ?_) (Cert.KvPlainIdeal.Value.run (F := Ideal) m' g')
    obtain ⟨q0, q1⟩ := hargs c
    refine ⟨(h c).1.trans ((Cert.KvPlainIdeal.Read.val_main_v2_eq (F := Ideal) _ _).trans ?_), (h c).2⟩
    rw [q0, q1]

end Cert.KvClaim

end
-- ==== Proof.KvHClaim.lean ====
/-
  The gradient of the rows of the projection to the attention's shared keys and values: from any arguments the kernel and the reference end with the same gradient.
-/
module

public import proofs.«01_k».proof.Defs
public import proofs.«01_k».proof.Proof.MmRow
public import proofs.«01_k».proof.Proof.Gen.KvHIdeal.Value
public import proofs.«01_k».proof.Proof.Gen.KvHPlainIdeal.Run
public import proofs.«01_k».proof.Proof.Gen.KvHPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.KvHPlainIdeal.Entry

open Cert.KvHPlainIdeal Cert.KvHPlainIdeal.Read Idealize.ShloMosaic
open Cert.FfnRow (ix2_of)

/-- The reference's gradient, entry by entry. -/
theorem v4_at (x0 : (⟨2, ![2048, 2048]⟩ : Shape).Idx → EReal) (x1 : (⟨2, ![1024, 2048]⟩ : Shape).Idx → EReal) (r : Fin 2048) (n : Fin 1024) :
    val_main_v4 (F := Ideal) x0 x1 (ix2 r n) = ∑ k : Fin 2048, x0 (ix2 r k) * x1 (ix2 n k) := by
  refine (val_main_v4_apply ..).trans (Finset.sum_congr rfl fun k _ => ?_)
  exact congrArg₂ (· * ·) (congrArg x0 (ix2_of _ r k rfl rfl)) (congrArg x1 (ix2_of _ n k rfl rfl))

end Cert.KvHPlainIdeal.Entry

namespace Cert.KvHIdeal.Real

open Cert.KvHIdeal Cert.KvHIdeal.Gen Cert.MmRow
open Idealize.ShloMosaic Idealize.ShloMosaic.TcCoe Idealize.SL.Sem
open Idealize.ShloMosaic.Pipeline (Dat)
open Cert.FfnRow (ix2_of)

/-- What the body leaves: the cotangent's tile times the weights' tile, transposed. -/
theorem out_at (x0 : Vec Ideal S512x2048 .bf16) (x1 : Vec Ideal S512x2048 .bf16) (p : Fin 512) (q : Fin 512) :
    out0_2 x0 x1 (ix2 p q) = ∑ k : Fin 2048, x0 (ix2 p k) * x1 (ix2 q k) := by
  unfold out0_2
  rw [View.canon_unit_zero (S := S512x512) off2, View.ld_unit_zero (S := S512x2048) off2, View.ld_unit_zero (S := S512x2048) off2]
  pointwise [k0_pay1]

variable (m : (ℓ : Loc nD τ sig) → Buf (Elt Ideal) ℓ) (c : Dev nD)

abbrev x0 : (⟨2, ![2048, 2048]⟩ : Shape).Idx → EReal := m ((c : Thread nD τ).loc main_arg0)
abbrev x1 : (⟨2, ![1024, 2048]⟩ : Shape).Idx → EReal := m ((c : Thread nD τ).loc main_arg1)

/-- The reference's gradient, of the kernel's arguments. -/
abbrev refY : (⟨2, ![2048, 1024]⟩ : Shape).Idx → EReal := Cert.KvHPlainIdeal.Read.val_main_v4 (F := Ideal) (x0 m c) (x1 m c)

theorem idx0 : ∀ t : Fin cfg0.N, win0_0.index t 0 = t.val / 2 ∧ win0_0.index t 1 = 0 :=
  (by decide +kernel : ∀ t : Fin grid0.N, win0_0.index t 0 = t.val / 2 ∧ win0_0.index t 1 = 0)
theorem idx1 : ∀ t : Fin cfg0.N, win0_1.index t 0 = t.val % 2 ∧ win0_1.index t 1 = 0 :=
  (by decide +kernel : ∀ t : Fin grid0.N, win0_1.index t 0 = t.val % 2 ∧ win0_1.index t 1 = 0)
theorem idx2 : ∀ t : Fin cfg0.N, win0_2.index t 0 = t.val / 2 ∧ win0_2.index t 1 = t.val % 2 :=
  (by decide +kernel : ∀ t : Fin grid0.N, win0_2.index t 0 = t.val / 2 ∧ win0_2.index t 1 = t.val % 2)

/-- The row and the column of the result that entry `(p, q)` of grid point `t`'s block is. -/
def row (t : Fin cfg0.N) (p : Fin 512) : Fin 2048 := at_ (g := 4) rfl ⟨t.val / 2, by have := lt_of_lt_of_eq t.isLt N_0; omega⟩ p
def colm (t : Fin cfg0.N) (q : Fin 512) : Fin 1024 := at_ (g := 2) rfl ⟨t.val % 2, Nat.mod_lt _ (by decide)⟩ q

theorem in0 (t : Fin cfg0.N) (p : Fin 512) (k : Fin 2048) : iblk m c 0 t (ix2 (n0 := 512) (n1 := 2048) p k) = x0 m c (ix2 (row t p) k) := by
  unfold iblk
  rw [View.read_apply]
  show V m c main_arg0 _ = _
  rw [V_main_arg0]
  exact congrArg (x0 m c) (ix2_of _ (row t p) k (at_val rfl _ p (idx0 t).1 rfl) (all_val k (idx0 t).2 rfl))

theorem in1 (t : Fin cfg0.N) (q : Fin 512) (k : Fin 2048) : iblk m c 1 t (ix2 (n0 := 512) (n1 := 2048) q k) = x1 m c (ix2 (colm t q) k) := by
  unfold iblk
  rw [View.read_apply]
  show V m c main_arg1 _ = _
  rw [V_main_arg1]
  exact congrArg (x1 m c) (ix2_of _ (colm t q) k (at_val rfl _ q (idx1 t).1 rfl) (all_val k (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 512) (n1 := 512) p q := ⟨_, _, eq_ix2 (n0 := 512) (n1 := 512) y⟩
  refine (out_at _ _ p q).trans (Eq.trans ?_
    ((Cert.KvHPlainIdeal.Entry.v4_at (x0 m c) (x1 m c) (row t p) (colm t q)).symm.trans (congrArg (refY m c) ?_)))
  · exact Finset.sum_congr rfl fun k _ => congrArg₂ (· * ·) (in0 m c t p k) (in1 m c t q k)
  · exact (ix2_of _ _ _ (at_val rfl _ p (idx2 t).1 rfl) (at_val rfl _ q (idx2 t).2 rfl)).symm

end Cert.KvHIdeal.Real

namespace Cert.KvHClaim

open Idealize.ShloMosaic Idealize.SL.Sem Idealize.ShloMosaic.StableHlo
open Cert.KvHIdeal.Real

theorem frame_plain : Cert.quiescent_KvHPlainIdeal := fun m ρ _ =>
  (θ_run Cert.KvHPlainIdeal.defs _ _).mono
    (fun r h => ⟨fun c => (h c).2, Idealize.ShloMosaic.sem_eq_zero_of_no_sems (by decide) r.2⟩)
    (Cert.KvHPlainIdeal.Value.run (F := Ideal) m ρ)

theorem algebraic : Cert.algebraic_KvHIdeal_KvHPlainIdeal := by
  intro m g m' g' _ hargs
  refine ⟨fun c => refY m c, ?_, ?_⟩
  · refine (θ_run Cert.KvHIdeal.defs _ _).mono (fun r h c => ?_) (Cert.KvHIdeal.Value.run_blocks (F := Ideal) m g)
    exact ⟨(h c).1.trans (whole m c), (h c).2⟩
  · refine (θ_run Cert.KvHPlainIdeal.defs _ _).mono (fun r h c => ?_) (Cert.KvHPlainIdeal.Value.run (F := Ideal) m' g')
    obtain ⟨q0, q1⟩ := hargs c
    refine ⟨(h c).1.trans ((Cert.KvHPlainIdeal.Read.val_main_v4_eq (F := Ideal) _ _).trans ?_), (h c).2⟩
    rw [q0, q1]

end Cert.KvHClaim

end
-- ==== Proof.KvWClaim.lean ====
/-
  The gradient of the weights of the projection to the attention's shared keys and values: from any arguments the kernel and the
  reference end with the same gradient.
-/
module

public import proofs.«01_k».proof.Defs
public import proofs.«01_k».proof.Proof.MmRow
public import proofs.«01_k».proof.Proof.Gen.KvWIdeal.Value
public import proofs.«01_k».proof.Proof.Gen.KvWPlainIdeal.Run
public import proofs.«01_k».proof.Proof.Gen.KvWPlainIdeal.Read
public import Idealize.ShloMosaic.Lib.Pipeline.ReadBack
public import Idealize.ShloMosaic.Lib.Pointwise
public import Idealize.ShloMosaic.Adequacy
public import Idealize.ShloMosaic.Init

@[expose] public section

set_option maxRecDepth 16384

noncomputable section

namespace Cert.KvWPlainIdeal.Entry

open Cert.KvWPlainIdeal Cert.KvWPlainIdeal.Read Idealize.ShloMosaic
open Cert.FfnRow (ix2_of)

/-- The reference's gradient, entry by entry. -/
theorem v7_at (x0 : (⟨2, ![2048, 1024]⟩ : Shape).Idx → EReal) (x1 : (⟨2, ![2048, 2048]⟩ : Shape).Idx → EReal) (k : Fin 1024) (n : Fin 2048) :
    val_main_v7 (F := Ideal) x0 x1 (ix2 k n) = ∑ r : Fin 2048, x0 (ix2 r k) * x1 (ix2 r n) := by
  refine (val_main_v7_apply ..).trans ((val_main_v6_apply ..).trans ((val_main_v5_apply ..).trans (Finset.sum_congr rfl fun r _ => ?_)))
  rw [mul_comm]
  exact congrArg₂ (· * ·) (congrArg x0 (ix2_of _ r k rfl rfl)) (congrArg x1 (ix2_of _ r n rfl rfl))

end Cert.KvWPlainIdeal.Entry

namespace Cert.KvWIdeal.Real

open Cert.KvWIdeal Cert.KvWIdeal.Gen Cert.MmRow
open Idealize.ShloMosaic Idealize.ShloMosaic.TcCoe Idealize.SL.Sem
open Idealize.ShloMosaic.Pipeline (Dat)
open Cert.FfnRow (ix2_of)

/-- What the body leaves: the rows' tile, transposed, times the cotangent's tile. -/
theorem out_at (x0 : Vec Ideal S2048x512 .bf16) (x1 : Vec Ideal S2048x512 .bf16) (p : Fin 512) (q : Fin 512) :
    out0_2 x0 x1 (ix2 p q) = ∑ r : Fin 2048, x0 (ix2 r p) * x1 (ix2 r q) := by
  unfold out0_2
  rw [View.canon_unit_zero (S := S512x512) off2, View.ld_unit_zero (S := S2048x512) off2, View.ld_unit_zero (S := S2048x512) off2]
  pointwise [k0_pay1]

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![2048, 2048]⟩ : Shape).Idx → EReal := m ((c : Thread nD τ).loc main_arg1)

/-- The reference's gradient, of the kernel's arguments. -/
abbrev refY : (⟨2, ![1024, 2048]⟩ : Shape).Idx → EReal := Cert.KvWPlainIdeal.Read.val_main_v7 (F := Ideal) (x0 m c) (x1 m c)

theorem idx0 : ∀ t : Fin cfg0.N, win0_0.index t 0 = 0 ∧ win0_0.index t 1 = t.val / 4 :=
  (by decide +kernel : ∀ t : Fin grid0.N, win0_0.index t 0 = 0 ∧ win0_0.index t 1 = t.val / 4)
theorem idx1 : ∀ t : Fin cfg0.N, win0_1.index t 0 = 0 ∧ win0_1.index t 1 = t.val % 4 :=
  (by decide +kernel : ∀ t : Fin grid0.N, win0_1.index t 0 = 0 ∧ win0_1.index t 1 = t.val % 4)
theorem idx2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

/-- The row and the column of the result that entry `(p, q)` of grid point `t`'s block is. -/
def row (t : Fin cfg0.N) (p : Fin 512) : Fin 1024 := at_ (g := 2) rfl ⟨t.val / 4, by have := lt_of_lt_of_eq t.isLt N_0; omega⟩ p
def colm (t : Fin cfg0.N) (q : Fin 512) : Fin 2048 := at_ (g := 4) rfl ⟨t.val % 4, Nat.mod_lt _ (by decide)⟩ q

theorem in0 (t : Fin cfg0.N) (r : Fin 2048) (p : Fin 512) : iblk m c 0 t (ix2 (n0 := 2048) (n1 := 512) r p) = x0 m c (ix2 r (row t p)) := by
  unfold iblk
  rw [View.read_apply]
  show V m c main_arg0 _ = _
  rw [V_main_arg0]
  exact congrArg (x0 m c) (ix2_of _ r (row t p) (all_val r (idx0 t).1 rfl) (at_val rfl _ p (idx0 t).2 rfl))

theorem in1 (t : Fin cfg0.N) (r : Fin 2048) (q : Fin 512) : iblk m c 1 t (ix2 (n0 := 2048) (n1 := 512) r q) = x1 m c (ix2 r (colm t q)) := by
  unfold iblk
  rw [View.read_apply]
  show V m c main_arg1 _ = _
  rw [V_main_arg1]
  exact congrArg (x1 m c) (ix2_of _ r (colm t q) (all_val r (idx1 t).1 rfl) (at_val rfl _ q (idx1 t).2 rfl))

/-- The result array, whole. -/
theorem whole : (dats m 0 c).arrAt 2 cfg0.N = refY m c := by
  refine (dats m 0 c).arrAt_eq_of_covers 2 (refY m c) (by decide +kernel) fun t hf y => ?_
  blk_simp
  rw [after0_2]
  obtain ⟨p, q, rfl⟩ : ∃ p q, y = ix2 (n0 := 512) (n1 := 512) p q := ⟨_, _, eq_ix2 (n0 := 512) (n1 := 512) y⟩
  refine (out_at _ _ p q).trans (Eq.trans ?_
    ((Cert.KvWPlainIdeal.Entry.v7_at (x0 m c) (x1 m c) (row t p) (colm t q)).symm.trans (congrArg (refY m c) ?_)))
  · exact Finset.sum_congr rfl fun r _ => congrArg₂ (· * ·) (in0 m c t r p) (in1 m c t r q)
  · exact (ix2_of _ _ _ (at_val rfl _ p (idx2 t).1 rfl) (at_val rfl _ q (idx2 t).2 rfl)).symm

end Cert.KvWIdeal.Real

namespace Cert.KvWClaim

open Idealize.ShloMosaic Idealize.SL.Sem Idealize.ShloMosaic.StableHlo
open Cert.KvWIdeal.Real

theorem frame_plain : Cert.quiescent_KvWPlainIdeal := fun m ρ _ =>
  (θ_run Cert.KvWPlainIdeal.defs _ _).mono
    (fun r h => ⟨fun c => (h c).2, Idealize.ShloMosaic.sem_eq_zero_of_no_sems (by decide) r.2⟩)
    (Cert.KvWPlainIdeal.Value.run (F := Ideal) m ρ)

theorem algebraic : Cert.algebraic_KvWIdeal_KvWPlainIdeal := by
  intro m g m' g' _ hargs
  refine ⟨fun c => refY m c, ?_, ?_⟩
  · refine (θ_run Cert.KvWIdeal.defs _ _).mono (fun r h c => ?_) (Cert.KvWIdeal.Value.run_blocks (F := Ideal) m g)
    exact ⟨(h c).1.trans (whole m c), (h c).2⟩
  · refine (θ_run Cert.KvWPlainIdeal.defs _ _).mono (fun r h c => ?_) (Cert.KvWPlainIdeal.Value.run (F := Ideal) m' g')
    obtain ⟨q0, q1⟩ := hargs c
    refine ⟨(h c).1.trans ((Cert.KvWPlainIdeal.Read.val_main_v7_eq (F := Ideal) _ _).trans ?_), (h c).2⟩
    rw [q0, q1]

end Cert.KvWClaim

end
-- ==== Proof.FfnAFrame.lean ====
/-
  The feed-forward input gradient's kernel over its grid, over any float values: what its buffers hold after
  each point (four row tiles of eight shards each), the run of the whole grid, and the frame.
-/
module

public import proofs.«01_k».proof.Proof.FfnAStep
public import Idealize.ShloMosaic.Lib.Claim

@[expose] public section

set_option maxRecDepth 16384

noncomputable section

namespace Cert.FfnAIdeal.Grid

open Cert.FfnAIdeal Cert.FfnAIdeal.Gen Cert.FfnAIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem first_iff (t : Fin cfg0.N) : k0_cond1 (grid0.coords t) = 1#1 ↔ t.val % 8 = 0 := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  simp only [k0_cond1, e0, e1]
  word_cmp

theorem start_iff (t : Fin cfg0.N) : k0_cond2 (grid0.coords t) = 1#1 ↔ t.val % 32 = 0 := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  simp only [k0_cond2, e0, e1]
  word_cmp

theorem last_iff (t : Fin cfg0.N) : k0_cond3 (grid0.coords t) = 1#1 ↔ t.val % 8 = 7 := by
  have ht : t.val < 32 := Nat.lt_of_lt_of_eq t.isLt N_0
  have e0 : (grid0.coords t 0).val = t.val / 8 % 4 := Pipeline.Grid.coords_val t 0 (by decide) rfl
  have e1 : (grid0.coords t 1).val = t.val / 1 % 8 := Pipeline.Grid.coords_val t 1 (by decide) rfl
  simp only [k0_cond3, e0, e1]
  word_cmp

/-! ## What the buffers hold after a point -/

/-- The hidden input: formed at a row tile's first shard and kept through its others. -/
def hidAt (c : Dev nD) : (n : ℕ) → n < cfg0.N → Vec F S512x1024 .bf16
  | 0, h => hid (iblk m c 0 ⟨0, h⟩) (iblk m c 2 ⟨0, h⟩)
  | n + 1, h => if (n + 1) % 8 = 0 then hid (iblk m c 0 ⟨n + 1, h⟩) (iblk m c 2 ⟨n + 1, h⟩) else hidAt c n (Nat.lt_of_succ_lt h)

/-- The accumulator: from zero at a row tile's first shard, each shard's part added. -/
def accAt (c : Dev nD) : (n : ℕ) → n < cfg0.N → Vec F S512x1024 .f32
  | 0, h => addHid (hidAt m c 0 h) (iblk m c 1 ⟨0, h⟩) (iblk m c 3 ⟨0, h⟩) (iblk m c 4 ⟨0, h⟩) (iblk m c 5 ⟨0, h⟩) (k0_pay12 (F := F))
  | n + 1, h => addHid (hidAt m c (n + 1) h) (iblk m c 1 ⟨n + 1, h⟩) (iblk m c 3 ⟨n + 1, h⟩) (iblk m c 4 ⟨n + 1, h⟩) (iblk m c 5 ⟨n + 1, h⟩)
      (if (n + 1) % 8 = 0 then k0_pay12 (F := F) else accAt c n (Nat.lt_of_succ_lt h))

/-- The gain's gradient: from zero at the first point, a row tile's part added at its last shard. -/
def gainAt (c : Dev nD) : (n : ℕ) → n < cfg0.N → Vec F S1x1024 .f32
  | 0, _ => k0_pay13 (F := F)
  | n + 1, h => if (n + 1) % 8 = 7 then gain (iblk m c 0 ⟨n + 1, h⟩) (accAt m c (n + 1) h) (gainAt c n (Nat.lt_of_succ_lt h))
      else gainAt c n (Nat.lt_of_succ_lt h)

/-- The rows' gradient a row tile's last shard forms. -/
def rowsAt (c : Dev nD) (t : Fin cfg0.N) : Vec F S512x1024 .f32 :=
  rows (iblk m c 0 t) (iblk m c 1 t) (iblk m c 2 t) (accAt m c t.val t.isLt)

/-- The shard's gated product. -/
def zedAt (c : Dev nD) (t : Fin cfg0.N) : Vec F S1x512x352 .bf16 := zed (hidAt m c t.val t.isLt) (iblk m c 3 t) (iblk m c 4 t)

/-- The shard's gate cotangent. -/
def dgateAt (c : Dev nD) (t : Fin cfg0.N) : Vec F S1x512x352 .bf16 :=
  dgate (hidAt m c t.val t.isLt) (iblk m c 1 t) (iblk m c 3 t) (iblk m c 4 t) (iblk m c 5 t)

/-- The shard's up cotangent. -/
def dupAt (c : Dev nD) (t : Fin cfg0.N) : Vec F S1x512x352 .bf16 :=
  dup (hidAt m c t.val t.isLt) (iblk m c 1 t) (iblk m c 3 t) (iblk m c 5 t)

theorem pred_lt (t : Fin cfg0.N) : t.val - 1 < cfg0.N := Nat.lt_of_le_of_lt (Nat.sub_le _ _) t.isLt

theorem hidAt_first (c : Dev nD) (t : Fin cfg0.N) (h : t.val % 8 = 0) : hidAt m c t.val t.isLt = hid (iblk m c 0 t) (iblk m c 2 t) := by
  obtain ⟨n, hn⟩ := t
  cases n with
  | zero => rfl
  | succ n => exact if_pos h

theorem hidAt_next (c : Dev nD) (t : Fin cfg0.N) (h : ¬t.val % 8 = 0) : hidAt m c t.val t.isLt = hidAt m c (t.val - 1) (pred_lt t) := by
  obtain ⟨n, hn⟩ := t
  cases n with
  | zero => exact absurd rfl h
  | succ n => exact if_neg h

theorem accAt_first (c : Dev nD) (t : Fin cfg0.N) (h : t.val % 8 = 0) :
    accAt m c t.val t.isLt = addHid (hidAt m c t.val t.isLt) (iblk m c 1 t) (iblk m c 3 t) (iblk m c 4 t) (iblk m c 5 t) (k0_pay12 (F := F)) := by
  obtain ⟨n, hn⟩ := t
  cases n with
  | zero => rfl
  | succ n => exact congrArg (addHid _ _ _ _ _) (if_pos h)

theorem accAt_next (c : Dev nD) (t : Fin cfg0.N) (h : ¬t.val % 8 = 0) :
    accAt m c t.val t.isLt
      = addHid (hidAt m c t.val t.isLt) (iblk m c 1 t) (iblk m c 3 t) (iblk m c 4 t) (iblk m c 5 t) (accAt m c (t.val - 1) (pred_lt t)) := by
  obtain ⟨n, hn⟩ := t
  cases n with
  | zero => exact absurd rfl h
  | succ n => exact congrArg (addHid _ _ _ _ _) (if_neg h)

theorem gainAt_zero (c : Dev nD) (t : Fin cfg0.N) (h : t.val = 0) : gainAt m c t.val t.isLt = k0_pay13 (F := F) := by
  obtain ⟨n, hn⟩ := t
  cases n with
  | zero => rfl
  | succ n => exact absurd h (Nat.succ_ne_zero n)

theorem gainAt_last (c : Dev nD) (t : Fin cfg0.N) (h : t.val % 8 = 7) :
    gainAt m c t.val t.isLt = gain (iblk m c 0 t) (accAt m c t.val t.isLt) (gainAt m c (t.val - 1) (pred_lt t)) := by
  obtain ⟨n, hn⟩ := t
  cases n with
  | zero => exact absurd (show 0 % 8 = 7 from h) (by decide)
  | succ n => exact if_pos h

theorem gainAt_keep (c : Dev nD) (t : Fin cfg0.N) (h0 : t.val ≠ 0) (h : ¬t.val % 8 = 7) :
    gainAt m c t.val t.isLt = gainAt m c (t.val - 1) (pred_lt t) := by
  obtain ⟨n, hn⟩ := t
  cases n with
  | zero => exact absurd rfl h0
  | succ n => exact if_neg h

/-! ## The body at a point of the grid -/

/-- From what the point before left, the body leaves what `hidAt`, `accAt`, `gainAt` say; the rows' gradient is written at a
    row tile's last shard only. -/
theorem step (c : Dev nD) (t : Fin cfg0.N) (arg2 : Memref sig .tc .vmem S512x1024 .f32) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1x1024x352 .bf16) (harg5 : arg5.IsWhole) (arg6 : Memref sig .tc .vmem S1x1024x352 .bf16) (harg6 : arg6.IsWhole) (arg7 : Memref sig .tc .vmem S1x352x1024 .bf16) (harg7 : arg7.IsWhole) (arg8 : Memref sig .tc .vmem S512x1024 .f32) (harg8 : arg8.IsWhole) (arg9 : Memref sig .tc .vmem S1x1024 .f32) (harg9 : arg9.IsWhole) (arg10 : Memref sig .tc .vmem S512x1024 .bf16) (harg10 : arg10.IsWhole) (arg11 : Memref sig .tc .vmem S1x512x352 .bf16) (harg11 : arg11.IsWhole) (arg12 : Memref sig .tc .vmem S1x512x352 .bf16) (harg12 : arg12.IsWhole) (arg13 : Memref sig .tc .vmem S1x512x352 .bf16) (harg13 : arg13.IsWhole) (arg14 : Memref sig .tc .vmem S512x1024 .f32) (harg14 : arg14.IsWhole)
    (y6 : Vec F S512x1024 .f32) (y7 : Vec F S1x1024 .f32) (y8 : Vec F S512x1024 .bf16) (y9 y10 y11 : Vec F S1x512x352 .bf16) (s : Vec F S512x1024 .f32)
    (h7 : t.val ≠ 0 → y7 = gainAt m c (t.val - 1) (pred_lt t)) (h8 : ¬t.val % 8 = 0 → y8 = hidAt m c (t.val - 1) (pred_lt t))
    (hs : ¬t.val % 8 = 0 → s = accAt m c (t.val - 1) (pred_lt t)) (E : Set ℕ) (K : PUnit → sProp 𝕄) :
    iprop(Held c arg2 arg3 arg4 arg5 arg6 arg7 arg8 arg9 arg10 arg11 arg12 arg13 arg14 (iblk m c 0 t) (iblk m c 1 t) (iblk m c 2 t) (iblk m c 3 t) (iblk m c 4 t) (iblk m c 5 t) y6 y7 y8 y9 y10 y11 s
        ∗ (Held c arg2 arg3 arg4 arg5 arg6 arg7 arg8 arg9 arg10 arg11 arg12 arg13 arg14 (iblk m c 0 t) (iblk m c 1 t) (iblk m c 2 t) (iblk m c 3 t) (iblk m c 4 t) (iblk m c 5 t)
            (if t.val % 8 = 7 then rowsAt m c t else y6) (gainAt m c t.val t.isLt) (hidAt m c t.val t.isLt) (zedAt m c t) (dgateAt m c t) (dupAt m c t)
            (accAt m c t.val t.isLt) -∗ K ⟨⟩))
      ⊢ wp frame (wpE (defs₀ (F := F)) Variants.none c none) E (cc0_ffn_a (grid0.coords t) arg2 harg2 arg3 harg3 arg4 harg4 arg5 harg5 arg6 harg6 arg7 harg7 arg8 harg8 arg9 harg9 arg10 harg10 arg11 harg11 arg12 harg12 arg13 harg13 arg14 harg14) K := by
  have hN : t.val < 32 := lt_of_lt_of_eq t.isLt (show cfg0.N = 32 from N_0)
  by_cases h0 : t.val % 8 = 0
  · have h3 : ¬t.val % 8 = 7 := by omega
    rw [if_neg h3]
    unfold zedAt dgateAt dupAt
    by_cases h1 : t.val % 32 = 0
    · rw [gainAt_zero m c t (by omega), accAt_first m c t h0, hidAt_first m c t h0]
      exact run_start c (grid0.coords t) _ _ _ _ _ _ _ _ _ _ _ _ _ _ _ _ _ _ _ _ _ _ _ _ _ _ _ _ _ _ _ _ _ _ _ _ _ _ _ ((first_iff t).mpr h0) ((start_iff t).mpr h1)
        (fun h => h3 ((last_iff t).mp h)) E K
    · rw [gainAt_keep m c t (by omega) h3, accAt_first m c t h0, hidAt_first m c t h0, ← h7 (by omega)]
      exact run_first c (grid0.coords t) _ _ _ _ _ _ _ _ _ _ _ _ _ _ _ _ _ _ _ _ _ _ _ _ _ _ _ _ _ _ _ _ _ _ _ _ _ _ _ ((first_iff t).mpr h0) (fun h => h1 ((start_iff t).mp h))
        (fun h => h3 ((last_iff t).mp h)) E K
  · have h1 : ¬t.val % 32 = 0 := by omega
    by_cases h3 : t.val % 8 = 7
    · rw [if_pos h3]
      unfold rowsAt zedAt dgateAt dupAt
      rw [gainAt_last m c t h3, accAt_next m c t h0, hidAt_next m c t h0, ← h7 (by omega), ← h8 h0, ← hs h0]
      exact run_last c (grid0.coords t) _ _ _ _ _ _ _ _ _ _ _ _ _ _ _ _ _ _ _ _ _ _ _ _ _ _ _ _ _ _ _ _ _ _ _ _ _ _ _ (fun h => h0 ((first_iff t).mp h)) (fun h => h1 ((start_iff t).mp h))
        ((last_iff t).mpr h3) E K
    · rw [if_neg h3]
      unfold zedAt dgateAt dupAt
      rw [gainAt_keep m c t (by omega) h3, accAt_next m c t h0, hidAt_next m c t h0, ← h7 (by omega), ← h8 h0, ← hs h0]
      exact run_mid c (grid0.coords t) _ _ _ _ _ _ _ _ _ _ _ _ _ _ _ _ _ _ _ _ _ _ _ _ _ _ _ _ _ _ _ _ _ _ _ _ _ _ _ (fun h => h0 ((first_iff t).mp h)) (fun h => h1 ((start_iff t).mp h))
        (fun h => h3 ((last_iff t).mp h)) E K

/-! ## The proof data -/

/-- The accumulator's buffer. -/
abbrev accBuf : Memref sig .tc .vmem S512x1024 .f32 := Memref.whole cc0_scratch0

/-- The invariant: before the first point the accumulator at anything, then at what the point before left; the generator
    register at some state. -/
def inv (c : Dev nD) : (n : ℕ) → n ≤ cfg0.N → sProp 𝕄
  | 0, _ => Pipeline.ΦA spec0 c
  | n + 1, h => iprop(owns (c : Thread nD τ) accBuf fullShare (accAt m c n h) ∗ (∃ r, prngReg c r))

theorem launch_inv (c : Dev nD) :
    (Pipeline.ΦA spec0 c : sProp 𝕄) = iprop(iprop((∃ d, owns (c : Thread nD τ) accBuf fullShare d)) ∗ (∃ r, prngReg c r)) := by
  unfold Pipeline.ΦA; rw [scopedRest0_eq]; simp only [accBuf, owns_whole]; try rfl

/-- The invariant opened: the accumulator at some contents, the point before's unless a row tile starts. -/
theorem inv_open (c : Dev nD) (t : Fin cfg0.N) :
    inv m c t.val (Nat.le_of_lt t.isLt) ⊢ (iprop(∃ s, ⌜¬t.val % 8 = 0 → s = accAt m c (t.val - 1) (pred_lt t)⌝
      ∗ owns (c : Thread nD τ) accBuf fullShare s ∗ (∃ r, prngReg c r)) : sProp 𝕄) := by
  obtain ⟨n, hn⟩ := t
  cases n with
  | zero =>
    rw [show inv m c (⟨0, hn⟩ : Fin cfg0.N).val _ = Pipeline.ΦA spec0 c from rfl, launch_inv]
    iintro ⟨⟨%s, Hs⟩, Hr⟩
    iexists s
    isplitr; · ipureintro; intro h; exact absurd rfl h
    isplitl [Hs]; · iexact Hs
    iexact Hr
  | succ n =>
    rw [show inv m c (⟨n + 1, hn⟩ : Fin cfg0.N).val (Nat.le_of_lt hn)
      = iprop(owns (c : Thread nD τ) accBuf fullShare (accAt m c n (Nat.le_of_lt hn)) ∗ (∃ r, prngReg c r)) from rfl]
    iintro ⟨Hs, Hr⟩
    iexists _
    isplitr; swap
    · isplitl [Hs]; · iexact Hs
      iexact Hr
    ipureintro; intro _; rfl

/-- The proof data: each input's buffer at its block, the results' at what the recursions say. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => rowsAt m c t
    | ⟨7, _⟩ => gainAt m c t.val t.isLt
    | ⟨8, _⟩ => hidAt m c t.val t.isLt
    | ⟨9, _⟩ => zedAt m c t
    | ⟨10, _⟩ => dgateAt m c t
    | ⟨11, _⟩ => dupAt m c t
  Φ t := inv m c t.val (Nat.le_of_lt_succ t.isLt)
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = rowsAt m c t := by dsimp only [dats]
theorem after_7 (c : Dev nD) (t : Fin cfg0.N) : (dats m 0 c).after 7 t = gainAt m c t.val t.isLt := by dsimp only [dats]
theorem after_8 (c : Dev nD) (t : Fin cfg0.N) : (dats m 0 c).after 8 t = hidAt m c t.val t.isLt := by dsimp only [dats]
theorem after_9 (c : Dev nD) (t : Fin cfg0.N) : (dats m 0 c).after 9 t = zedAt m c t := by dsimp only [dats]
theorem after_10 (c : Dev nD) (t : Fin cfg0.N) : (dats m 0 c).after 10 t = dgateAt m c t := by dsimp only [dats]
theorem after_11 (c : Dev nD) (t : Fin cfg0.N) : (dats m 0 c).after 11 t = dupAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## What the carried result buffers hold before a point -/

/-- Whether the gain gradient's buffer is still to be stored: before the first point, and after the last. -/
def freshGain : ℕ → Bool
  | 0 => true
  | n + 1 => decide (n = 31)

theorem freshGain_step : ∀ t : Fin cfg0.N,
    freshGain (t.val + 1) = ((cfg0.win 7).flush t || (cfg0.idle 7 (cfg0.grid.coords t) && freshGain t.val)) := by decide +kernel

theorem fresh_gain : ∀ t : Fin cfg0.N, t.val ≠ 0 → cfg0.fresh 7 t.val = false := by
  intro t
  rw [Pipeline.Cfg.fresh_tab cfg0 7 freshGain rfl freshGain_step t.val (Nat.le_of_lt t.isLt)]
  revert t; decide +kernel

/-- Whether the hidden input's buffer is still to be stored: before a row tile's first shard. -/
def freshHid (n : ℕ) : Bool := decide (n % 8 = 0)

theorem freshHid_step : ∀ t : Fin cfg0.N,
    freshHid (t.val + 1) = ((cfg0.win 8).flush t || (cfg0.idle 8 (cfg0.grid.coords t) && freshHid t.val)) := by decide +kernel

theorem fresh_hid : ∀ t : Fin cfg0.N, ¬t.val % 8 = 0 → cfg0.fresh 8 t.val = false := by
  intro t
  rw [Pipeline.Cfg.fresh_tab cfg0 8 freshHid rfl freshHid_step t.val (Nat.le_of_lt t.isLt)]
  revert t; decide +kernel

theorem idle_gain : ∀ t : Fin cfg0.N, cfg0.idle 7 (grid0.coords t) = true → ¬t.val % 8 = 7 ∧ t.val ≠ 0 := by decide +kernel

theorem idle_hid : ∀ t : Fin cfg0.N, cfg0.idle 8 (grid0.coords t) = true → ¬t.val % 8 = 0 := by decide +kernel

theorem idle_rows : ∀ t : Fin cfg0.N, cfg0.idle 6 (grid0.coords t) = true → ¬t.val % 8 = 7 := by decide +kernel

theorem live_rows : ∀ t : Fin cfg0.N, cfg0.idle 6 (grid0.coords t) = false → t.val % 8 = 7 := by decide +kernel

theorem noflush_rows : ∀ t : Fin cfg0.N, cfg0.idle 6 (grid0.coords t) = true → (cfg0.win 6).flush t = false := by decide +kernel

theorem before_gain (c : Dev nD) (t : Fin cfg0.N) (h0 : t.val ≠ 0) (d) :
    (dats m 0 c).before 7 t d = gainAt m c (t.val - 1) (pred_lt t) := by
  rw [Dat.before_out_traj _ 7 rfl (fun _ _ => rfl) (fun t h0 hi _ => by
      rw [after_7, after_7]; exact gainAt_keep m c t h0 (idle_gain t hi).1) t.val t rfl d,
    if_neg (by rw [fresh_gain t h0]; exact Bool.false_ne_true)]
  dsimp only [dats]

theorem before_hid (c : Dev nD) (t : Fin cfg0.N) (h0 : ¬t.val % 8 = 0) (d) :
    (dats m 0 c).before 8 t d = hidAt m c (t.val - 1) (pred_lt t) := by
  rw [Dat.before_out_traj _ 8 rfl (fun _ _ => rfl) (fun t _ hi _ => by
      rw [after_8, after_8]; exact hidAt_next m c t (idle_hid t hi)) t.val t rfl d,
    if_neg (by rw [fresh_hid t h0]; exact Bool.false_ne_true)]
  dsimp only [dats]

/-! ## What the body hands back -/

/-- A buffer at what the proof data says is handed back, the window live or its prior contents the same. -/
theorem leaves_of (c : Dev nD) (w : Fin cfg0.W) (t : Fin cfg0.N)
    (h : cfg0.idle w (grid0.coords t) = true → ∃ d, (dats m 0 c).before w t d = (dats m 0 c).after w t) :
    owns (c : Thread nD τ) ((cfg0.win w).stage (cfg0.slots t w)) fullShare ((dats m 0 c).after w t) ⊢ (dats m 0 c).leavesExact w t := by
  unfold Dat.leavesExact
  rcases hi : cfg0.idle w (cfg0.grid.coords t) with _ | _
  · exact Entails.refl _
  · rcases (cfg0.win w).flush t with _ | _
    · obtain ⟨d, hd⟩ := h hi
      rw [← hd]
      iintro H
      iexists d
      iexact H
    · exact Entails.refl _

theorem leaves_in (c : Dev nD) (w : Fin cfg0.W) (t : Fin cfg0.N) {X : (cfg0.win w).block.Idx → Elt F (cfg0.win w).elt} (hX : (dats m 0 c).after w t = X)
    (hl : cfg0.idle w (grid0.coords t) = false) :
    owns (c : Thread nD τ) ((cfg0.win w).stage (cfg0.slots t w)) fullShare X ⊢ (dats m 0 c).leavesExact w t := by
  rw [← hX]
  exact leaves_of m c w t fun h => absurd (hl.symm.trans h) Bool.false_ne_true

/-- Window 0's staging buffer at point `t`. -/
abbrev stg0 (t : Fin cfg0.N) : Memref sig .tc .vmem S512x1024 .f32 := win0_0.stage (cfg0.slots t 0)
/-- Window 1's staging buffer at point `t`. -/
abbrev stg1 (t : Fin cfg0.N) : Memref sig .tc .vmem S512x1024 .f32 := win0_1.stage (cfg0.slots t 1)
/-- Window 2's staging buffer at point `t`. -/
abbrev stg2 (t : Fin cfg0.N) : Memref sig .tc .vmem S1x1024 .f32 := win0_2.stage (cfg0.slots t 2)
/-- Window 3's staging buffer at point `t`. -/
abbrev stg3 (t : Fin cfg0.N) : Memref sig .tc .vmem S1x1024x352 .bf16 := win0_3.stage (cfg0.slots t 3)
/-- Window 4's staging buffer at point `t`. -/
abbrev stg4 (t : Fin cfg0.N) : Memref sig .tc .vmem S1x1024x352 .bf16 := win0_4.stage (cfg0.slots t 4)
/-- Window 5's staging buffer at point `t`. -/
abbrev stg5 (t : Fin cfg0.N) : Memref sig .tc .vmem S1x352x1024 .bf16 := win0_5.stage (cfg0.slots t 5)
/-- Window 6's staging buffer at point `t`. -/
abbrev stg6 (t : Fin cfg0.N) : Memref sig .tc .vmem S512x1024 .f32 := win0_6.stage (cfg0.slots t 6)
/-- Window 7's staging buffer at point `t`. -/
abbrev stg7 (t : Fin cfg0.N) : Memref sig .tc .vmem S1x1024 .f32 := win0_7.stage (cfg0.slots t 7)
/-- Window 8's staging buffer at point `t`. -/
abbrev stg8 (t : Fin cfg0.N) : Memref sig .tc .vmem S512x1024 .bf16 := win0_8.stage (cfg0.slots t 8)
/-- Window 9's staging buffer at point `t`. -/
abbrev stg9 (t : Fin cfg0.N) : Memref sig .tc .vmem S1x512x352 .bf16 := win0_9.stage (cfg0.slots t 9)
/-- Window 10's staging buffer at point `t`. -/
abbrev stg10 (t : Fin cfg0.N) : Memref sig .tc .vmem S1x512x352 .bf16 := win0_10.stage (cfg0.slots t 10)
/-- Window 11's staging buffer at point `t`. -/
abbrev stg11 (t : Fin cfg0.N) : Memref sig .tc .vmem S1x512x352 .bf16 := win0_11.stage (cfg0.slots t 11)

theorem leaves_6 (c : Dev nD) (t : Fin cfg0.N) (d) :
    owns (c : Thread nD τ) (stg6 t) fullShare (if t.val % 8 = 7 then rowsAt m c t else (dats m 0 c).before 6 t d) ⊢ (dats m 0 c).leavesExact 6 t := by
  rcases hi : cfg0.idle 6 (grid0.coords t) with _ | _
  · rw [if_pos (live_rows t hi)]
    exact leaves_in m c 6 t (after_6 m c t) hi
  · rw [if_neg (idle_rows t hi), Dat.leavesExact_idle (dats m 0 c) 6 t hi (noflush_rows t hi)]
    iintro H
    iexists d
    iexact H

theorem leaves_7 (c : Dev nD) (t : Fin cfg0.N) (d : (cfg0.win 7).block.Idx → Elt F (cfg0.win 7).elt) :
    owns (c : Thread nD τ) (stg7 t) fullShare (gainAt m c t.val t.isLt) ⊢ (dats m 0 c).leavesExact 7 t := by
  rw [← after_7]
  exact leaves_of m c 7 t fun hi => ⟨d, by
    rw [after_7, before_gain m c t (idle_gain t hi).2 d, gainAt_keep m c t (idle_gain t hi).2 (idle_gain t hi).1]⟩

theorem leaves_8 (c : Dev nD) (t : Fin cfg0.N) (d : (cfg0.win 8).block.Idx → Elt F (cfg0.win 8).elt) :
    owns (c : Thread nD τ) (stg8 t) fullShare (hidAt m c t.val t.isLt) ⊢ (dats m 0 c).leavesExact 8 t := by
  rw [← after_8]
  exact leaves_of m c 8 t fun hi => ⟨d, by rw [after_8, before_hid m c t (idle_hid t hi) d, hidAt_next m c t (idle_hid t hi)]⟩

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d))
    ∗ (∃ d, owns (c : Thread nD τ) (stg9 t) fullShare ((dats m 0 c).before 9 t d))
    ∗ (∃ d, owns (c : Thread nD τ) (stg10 t) fullShare ((dats m 0 c).before 10 t d))
    ∗ (∃ d, owns (c : Thread nD τ) (stg11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl,
    show (dats m 0 c).Φ t.castSucc = inv m c t.val (Nat.le_of_lt t.isLt) from by dsimp only [dats]; exact Pipeline.Dat.Φ_castSucc (inv m c) t,
    show (dats m 0 c).Φ t.succ = iprop(owns (c : Thread nD τ) accBuf fullShare (accAt m c t.val t.isLt) ∗ (∃ r, prngReg c r)) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HΦ' := (inv_open m c t) $$ HΦ
  icases HΦ' with ⟨%s, %hs, Hs, Hr⟩
  have st := step m c t (stg0 t) (hstage0_0 ((cfg0.slots t 0).cast nbuf0_0)) (stg1 t) (hstage0_1 ((cfg0.slots t 1).cast nbuf0_1)) (stg2 t) (hstage0_2 ((cfg0.slots t 2).cast nbuf0_2)) (stg3 t) (hstage0_3 ((cfg0.slots t 3).cast nbuf0_3)) (stg4 t) (hstage0_4 ((cfg0.slots t 4).cast nbuf0_4)) (stg5 t) (hstage0_5 ((cfg0.slots t 5).cast nbuf0_5)) (stg6 t) (hstage0_6 ((cfg0.slots t 6).cast nbuf0_6)) (stg7 t) (hstage0_7 ((cfg0.slots t 7).cast nbuf0_7)) (stg8 t) (hstage0_8 ((cfg0.slots t 8).cast nbuf0_8)) (stg9 t) (hstage0_9 ((cfg0.slots t 9).cast nbuf0_9)) (stg10 t) (hstage0_10 ((cfg0.slots t 10).cast nbuf0_10)) (stg11 t) (hstage0_11 ((cfg0.slots t 11).cast nbuf0_11)) accBuf (Memref.isWhole_whole _) ((dats m 0 c).before 6 t d6) ((dats m 0 c).before 7 t d7) ((dats m 0 c).before 8 t d8)
    ((dats m 0 c).before 9 t d9) ((dats m 0 c).before 10 t d10) ((dats m 0 c).before 11 t d11) s
    (fun h => before_gain m c t h d7) (fun h => before_hid m c t h d8) hs Set.univ
  unfold Held at st
  iapply (st _)
  isplitl [H0 H1 H2 H3 H4 H5 H6 H7 H8 H9 H10 H11 Hs]
  · skip
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact Hs
  iintro ⟨H0, H1, H2, H3, H4, H5, H6, H7, H8, H9, H10, H11, Hs⟩
  isplitl [Hs Hr]
  · isplitl [Hs]; · iexact Hs
    iexact Hr
  isplitl [Ho]; · iexact Ho
  isplitl [H0]; · iapply (leaves_in m c 0 t (after_0 m c t) rfl); iexact H0
  isplitl [H1]; · iapply (leaves_in m c 1 t (after_1 m c t) rfl); iexact H1
  isplitl [H2]; · iapply (leaves_in m c 2 t (after_2 m c t) rfl); iexact H2
  isplitl [H3]; · iapply (leaves_in m c 3 t (after_3 m c t) rfl); iexact H3
  isplitl [H4]; · iapply (leaves_in m c 4 t (after_4 m c t) rfl); iexact H4
  isplitl [H5]; · iapply (leaves_in m c 5 t (after_5 m c t) rfl); iexact H5
  isplitl [H6]; · iapply (leaves_6 m c t d6); iexact H6
  isplitl [H7]; · iapply (leaves_7 m c t d7); iexact H7
  isplitl [H8]; · iapply (leaves_8 m c t d8); iexact H8
  isplitl [H9]; · iapply (leaves_in m c 9 t (after_9 m c t) rfl); iexact H9
  isplitl [H10]; · iapply (leaves_in m c 10 t (after_10 m c t) rfl); iexact H10
  iapply (leaves_in m c 11 t (after_11 m c t) rfl); iexact H11

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := .rfl

theorem hout (c : Dev nD) : (dats m 0 c).Φ (Fin.last cfg0.N) ⊢ Pipeline.ΦA spec0 c := by
  rw [show (dats m 0 c).Φ (Fin.last cfg0.N)
    = iprop(owns (c : Thread nD τ) accBuf fullShare (accAt m c 31 (by decide)) ∗ (∃ r, prngReg c r)) from rfl, launch_inv]
  iintro ⟨Hs, Hr⟩
  isplitl [Hs]
  · iexists _; iexact Hs
  iexact Hr

/-! ## The run and the frame -/

set_option backward.isDefEq.respectTransparency.types false in
/-- Every run ends with the arrays at what the proof data computes and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_all m ρ)

/-- The frame: the arguments end unchanged, every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_all m ρ))

end Cert.FfnAIdeal.Grid

end
-- ==== Proof.FfnASum.lean ====
/-
  What the feed-forward input gradient's kernel holds at each point of its grid, as sums over the arguments' entries:
  the accumulator sums the shards met so far in a row tile, the gain's gradient the row tiles finished so far.
-/
module

public import proofs.«01_k».proof.Proof.FfnAFrame
public import proofs.«01_k».proof.Proof.FfnAPlain

@[expose] public section

set_option maxRecDepth 16384

noncomputable section

namespace Cert.FfnAIdeal.Real

open Cert.FfnAIdeal Cert.FfnAIdeal.Gen Cert.FfnAIdeal.Step Cert.FfnAIdeal.Grid Cert.FfnAIdeal.Point Cert.FfnRow
open Idealize.ShloMosaic Idealize.ShloMosaic.TcCoe Idealize.SL.Sem

variable (m : (ℓ : Loc nD τ sig) → Buf (Elt Ideal) ℓ) (c : Dev nD)

abbrev x0 : (⟨2, ![2048, 1024]⟩ : Shape).Idx → EReal := m ((c : Thread nD τ).loc main_arg0)
abbrev x1 : (⟨2, ![1, 1024]⟩ : Shape).Idx → EReal := m ((c : Thread nD τ).loc main_arg1)
abbrev x2 : (⟨3, ![8, 2048, 352]⟩ : Shape).Idx → EReal := m ((c : Thread nD τ).loc main_arg2)
abbrev x3 : (⟨3, ![8, 352, 1024]⟩ : Shape).Idx → EReal := m ((c : Thread nD τ).loc main_arg3)
abbrev x4 : (⟨2, ![2048, 1024]⟩ : Shape).Idx → EReal := m ((c : Thread nD τ).loc main_arg4)

/-! ## Row tile and shard of a grid point -/

/-- The shard numbered `n`, counted round. -/
def shard (n : ℕ) : Fin 8 := ⟨n % 8, Nat.mod_lt _ (by decide)⟩

/-- Row `p` of the row tile numbered `i`, counted round. -/
def rowOf (i : ℕ) (p : Fin 512) : Fin 2048 := ⟨512 * (i % 4) + p.val, by omega⟩

theorem points (t : Fin cfg0.N) : t.val < 32 := lt_of_lt_of_eq t.isLt (show cfg0.N = 32 from N_0)

theorem idx0 : ∀ t : Fin cfg0.N, win0_0.index t 0 = t.val / 8 % 4 ∧ win0_0.index t 1 = 0 :=
  (by decide +kernel : ∀ t : Fin grid0.N, win0_0.index t 0 = t.val / 8 % 4 ∧ win0_0.index t 1 = 0)
theorem idx1 : ∀ t : Fin cfg0.N, win0_1.index t 0 = t.val / 8 % 4 ∧ win0_1.index t 1 = 0 :=
  (by decide +kernel : ∀ t : Fin grid0.N, win0_1.index t 0 = t.val / 8 % 4 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = t.val % 8 ∧ win0_3.index t 1 = 0 ∧ win0_3.index t 2 = 0 :=
  (by decide +kernel : ∀ t : Fin grid0.N, win0_3.index t 0 = t.val % 8 ∧ win0_3.index t 1 = 0 ∧ win0_3.index t 2 = 0)
theorem idx4 : ∀ t : Fin cfg0.N, win0_4.index t 0 = t.val % 8 ∧ win0_4.index t 1 = 1 ∧ win0_4.index t 2 = 0 :=
  (by decide +kernel : ∀ t : Fin grid0.N, win0_4.index t 0 = t.val % 8 ∧ win0_4.index t 1 = 1 ∧ win0_4.index t 2 = 0)
theorem idx5 : ∀ t : Fin cfg0.N, win0_5.index t 0 = t.val % 8 ∧ win0_5.index t 1 = 0 ∧ win0_5.index t 2 = 0 :=
  (by decide +kernel : ∀ t : Fin grid0.N, win0_5.index t 0 = t.val % 8 ∧ win0_5.index t 1 = 0 ∧ win0_5.index t 2 = 0)

/-! ## The blocks a point reads -/

theorem in0 (t : Fin cfg0.N) (p : Fin 512) (k : Fin 1024) :
    iblk m c 0 t (ix2 (n0 := 512) (n1 := 1024) p k) = row (x0 m c) (rowOf (t.val / 8) p) k := by
  unfold iblk
  rw [View.read_apply]
  refine congrArg (x0 m c) (ix2_of _ _ _ ?_ ?_)
  · show win0_0.index t 0 * 512 + 1 * p.val = 512 * (t.val / 8 % 4) + p.val; rw [(idx0 t).1]; omega
  · show win0_0.index t 1 * 1024 + 1 * k.val = k.val; rw [(idx0 t).2]; omega

theorem in1 (t : Fin cfg0.N) (p : Fin 512) (k : Fin 1024) :
    iblk m c 1 t (ix2 (n0 := 512) (n1 := 1024) p k) = row (x4 m c) (rowOf (t.val / 8) p) k := by
  unfold iblk
  rw [View.read_apply]
  refine congrArg (x4 m c) (ix2_of _ _ _ ?_ ?_)
  · show win0_1.index t 0 * 512 + 1 * p.val = 512 * (t.val / 8 % 4) + p.val; rw [(idx1 t).1]; omega
  · show win0_1.index t 1 * 1024 + 1 * k.val = k.val; rw [(idx1 t).2]; omega

theorem in2 (t : Fin cfg0.N) (k : Fin 1024) : iblk m c 2 t (ix2 (n0 := 1) (n1 := 1024) 0 k) = gainRow (x1 m c) k := by
  unfold iblk
  rw [View.read_apply]
  refine congrArg (x1 m c) (ix2_of _ _ _ ?_ ?_)
  · show win0_2.index t 0 * 1 + 1 * 0 = 0; rw [(idx2 t).1]
  · show win0_2.index t 1 * 1024 + 1 * k.val = k.val; rw [(idx2 t).2]; omega

theorem in3 (t : Fin cfg0.N) (k : Fin 1024) (f : Fin 352) :
    iblk m c 3 t (ix3 (n0 := 1) (n1 := 1024) (n2 := 352) 0 k f) = wGate (x2 m c) (shard t.val) f k := by
  unfold iblk
  rw [View.read_apply]
  refine congrArg (x2 m c) (ix3_of _ _ _ _ ?_ ?_ ?_)
  · show win0_3.index t 0 * 1 + 1 * 0 = t.val % 8; rw [(idx3 t).1]; omega
  · show win0_3.index t 1 * 1024 + 1 * k.val = k.val; rw [(idx3 t).2.1]; omega
  · show win0_3.index t 2 * 352 + 1 * f.val = f.val; rw [(idx3 t).2.2]; omega

theorem in4 (t : Fin cfg0.N) (k : Fin 1024) (f : Fin 352) :
    iblk m c 4 t (ix3 (n0 := 1) (n1 := 1024) (n2 := 352) 0 k f) = wUp (x2 m c) (shard t.val) f k := by
  unfold iblk
  rw [View.read_apply]
  refine congrArg (x2 m c) (ix3_of _ _ _ _ ?_ ?_ ?_)
  · show win0_4.index t 0 * 1 + 1 * 0 = t.val % 8; rw [(idx4 t).1]; omega
  · show win0_4.index t 1 * 1024 + 1 * k.val = 1024 + k.val; rw [(idx4 t).2.1]; omega
  · show win0_4.index t 2 * 352 + 1 * f.val = f.val; rw [(idx4 t).2.2]; omega

theorem in5 (t : Fin cfg0.N) (f : Fin 352) (d : Fin 1024) :
    iblk m c 5 t (ix3 (n0 := 1) (n1 := 352) (n2 := 1024) 0 f d) = wDown (x3 m c) (shard t.val) f d := by
  unfold iblk
  rw [View.read_apply]
  refine congrArg (x3 m c) (ix3_of _ _ _ _ ?_ ?_ ?_)
  · show win0_5.index t 0 * 1 + 1 * 0 = t.val % 8; rw [(idx5 t).1]; omega
  · show win0_5.index t 1 * 352 + 1 * f.val = f.val; rw [(idx5 t).2.1]; omega
  · show win0_5.index t 2 * 1024 + 1 * d.val = d.val; rw [(idx5 t).2.2]; omega

/-! ## The hidden input, and what a shard forms from it -/

theorem hidAt_at (p : Fin 512) (k : Fin 1024) : ∀ (n : ℕ) (h : n < cfg0.N),
    hidAt m c n h (ix2 p k) = hidden (row (x0 m c) (rowOf (n / 8) p)) (gainRow (x1 m c)) k := by
  have first : ∀ t : Fin cfg0.N, t.val % 8 = 0 →
      hidAt m c t.val t.isLt (ix2 p k) = hidden (row (x0 m c) (rowOf (t.val / 8) p)) (gainRow (x1 m c)) k := by
    intro t h0
    rw [hidAt_first m c t h0, hid_at]
    exact congrArg₂ (fun x g => hidden x g k) (funext fun d => in0 m c t p d) (funext fun d => in2 m c t d)
  intro n
  induction n with
  | zero => exact fun h => first ⟨0, h⟩ rfl
  | succ n ih =>
    intro h
    by_cases h0 : (n + 1) % 8 = 0
    · exact first ⟨n + 1, h⟩ h0
    · refine (congrFun (hidAt_next m c ⟨n + 1, h⟩ h0) _).trans ((ih (Nat.lt_of_succ_lt h)).trans ?_)
      rw [show (n + 1) / 8 = n / 8 by omega]

theorem hid_row (t : Fin cfg0.N) (p : Fin 512) :
    (fun k => hidAt m c t.val t.isLt (ix2 p k)) = hidden (row (x0 m c) (rowOf (t.val / 8) p)) (gainRow (x1 m c)) :=
  funext fun k => hidAt_at m c p k t.val t.isLt

/-- The gate's product at a place of a point's block. -/
theorem a_at (t : Fin cfg0.N) (p : Fin 512) (f : Fin 352) :
    (dot (fun k => hidAt m c t.val t.isLt (ix2 p k)) fun k => iblk m c 3 t (ix3 (n0 := 1) (n1 := 1024) (n2 := 352) 0 k f))
      = aAt (x0 m c) (x1 m c) (x2 m c) (rowOf (t.val / 8) p) (shard t.val) f := by
  rw [hid_row, funext fun k => in3 m c t k f]
  rfl

theorem b_at (t : Fin cfg0.N) (p : Fin 512) (f : Fin 352) :
    (dot (fun k => hidAt m c t.val t.isLt (ix2 p k)) fun k => iblk m c 4 t (ix3 (n0 := 1) (n1 := 1024) (n2 := 352) 0 k f))
      = bAt (x0 m c) (x1 m c) (x2 m c) (rowOf (t.val / 8) p) (shard t.val) f := by
  rw [hid_row, funext fun k => in4 m c t k f]
  rfl

theorem z_at (t : Fin cfg0.N) (p : Fin 512) (f : Fin 352) :
    (through (fun d => iblk m c 1 t (ix2 (n0 := 512) (n1 := 1024) p d)) fun d => iblk m c 5 t (ix3 (n0 := 1) (n1 := 352) (n2 := 1024) 0 f d))
      = zAt (x4 m c) (x3 m c) (rowOf (t.val / 8) p) (shard t.val) f := by
  rw [funext fun d => in1 m c t p d, funext fun d => in5 m c t f d]
  rfl

theorem da_at (t : Fin cfg0.N) (p : Fin 512) (f : Fin 352) :
    k0_pay20 (F := Ideal) (hidAt m c t.val t.isLt) (iblk m c 3 t) (iblk m c 4 t) (iblk m c 1 t) (iblk m c 5 t) (ix2 p f)
      = daAt (x0 m c) (x4 m c) (x1 m c) (x2 m c) (x3 m c) (rowOf (t.val / 8) p) (shard t.val) f := by
  refine (pay20_at _ _ _ _ _ p f).trans ?_
  rw [a_at, b_at, z_at]
  rfl

theorem db_at (t : Fin cfg0.N) (p : Fin 512) (f : Fin 352) :
    k0_pay21 (F := Ideal) (hidAt m c t.val t.isLt) (iblk m c 3 t) (iblk m c 1 t) (iblk m c 5 t) (ix2 p f)
      = dbAt (x0 m c) (x4 m c) (x1 m c) (x2 m c) (x3 m c) (rowOf (t.val / 8) p) (shard t.val) f := by
  refine (pay21_at _ _ _ _ p f).trans ?_
  rw [a_at, z_at]
  rfl

theorem zedAt_at (t : Fin cfg0.N) (p : Fin 512) (f : Fin 352) :
    zedAt m c t (ix3 0 p f)
      = gated (aAt (x0 m c) (x1 m c) (x2 m c) (rowOf (t.val / 8) p) (shard t.val) f) (bAt (x0 m c) (x1 m c) (x2 m c) (rowOf (t.val / 8) p) (shard t.val) f) := by
  unfold zedAt zed gated
  refine (pay2_at _ _ p f).trans (congrArg₂ (fun u v : EReal => u * v) ((pay19_at _ _ p f).trans ?_) ((pay16_at _ _ p f).trans (b_at m c t p f)))
  rw [a_at]

theorem dgateAt_at (t : Fin cfg0.N) (p : Fin 512) (f : Fin 352) :
    dgateAt m c t (ix3 0 p f) = daAt (x0 m c) (x4 m c) (x1 m c) (x2 m c) (x3 m c) (rowOf (t.val / 8) p) (shard t.val) f := by
  unfold dgateAt dgate
  exact (pay3_at _ p f).trans (da_at m c t p f)

theorem dupAt_at (t : Fin cfg0.N) (p : Fin 512) (f : Fin 352) :
    dupAt m c t (ix3 0 p f) = dbAt (x0 m c) (x4 m c) (x1 m c) (x2 m c) (x3 m c) (rowOf (t.val / 8) p) (shard t.val) f := by
  unfold dupAt dup
  exact (pay4_at _ p f).trans (db_at m c t p f)

/-! ## The accumulator -/

/-- What shard `n`, counted round, adds to the hidden input's cotangent. -/
def part (r : Fin 2048) (k : Fin 1024) (n : ℕ) : EReal := dhPart (x0 m c) (x4 m c) (x1 m c) (x2 m c) (x3 m c) r k (shard n)

theorem add_part (t : Fin cfg0.N) (s : Vec Ideal S512x1024 .f32) (p : Fin 512) (k : Fin 1024) :
    addHid (hidAt m c t.val t.isLt) (iblk m c 1 t) (iblk m c 3 t) (iblk m c 4 t) (iblk m c 5 t) s (ix2 p k)
      = s (ix2 p k) + part m c (rowOf (t.val / 8) p) k (t.val % 8) := by
  unfold addHid part dhPart
  rw [show shard (t.val % 8) = shard t.val from Fin.ext (Nat.mod_mod _ _)]
  refine (pay5_at _ _ _ _ _ p k).trans (congrArg _ (congrArg₂ (fun u v : EReal => u + v) ?_ ?_)) <;> refine Finset.sum_congr rfl fun f _ => ?_
  · exact congrArg₂ (fun u v : EReal => u * v) (da_at m c t p f) (in3 m c t k f)
  · exact congrArg₂ (fun u v : EReal => u * v) (db_at m c t p f) (in4 m c t k f)

theorem accAt_at (p : Fin 512) (k : Fin 1024) : ∀ (n : ℕ) (h : n < cfg0.N),
    accAt m c n h (ix2 p k) = ∑ s ∈ Finset.range (n % 8 + 1), part m c (rowOf (n / 8) p) k s := by
  have first : ∀ t : Fin cfg0.N, t.val % 8 = 0 →
      accAt m c t.val t.isLt (ix2 p k) = ∑ s ∈ Finset.range (t.val % 8 + 1), part m c (rowOf (t.val / 8) p) k s := by
    intro t h0
    rw [accAt_first m c t h0, add_part, pay12_at, h0, zero_add, zero_add, Finset.sum_range_one]
  intro n
  induction n with
  | zero => exact fun h => first ⟨0, h⟩ rfl
  | succ n ih =>
    intro h
    by_cases h0 : (n + 1) % 8 = 0
    · exact first ⟨n + 1, h⟩ h0
    · refine (congrFun (accAt_next m c ⟨n + 1, h⟩ h0) _).trans ((add_part m c ⟨n + 1, h⟩ _ p k).trans ?_)
      refine (congrArg (fun z : EReal => z + _) (ih (Nat.lt_of_succ_lt h))).trans ?_
      show (∑ s ∈ Finset.range (n % 8 + 1), part m c (rowOf (n / 8) p) k s) + part m c (rowOf ((n + 1) / 8) p) k ((n + 1) % 8) = _
      rw [show (n + 1) / 8 = n / 8 by omega, show (n + 1) % 8 = n % 8 + 1 by omega, Finset.sum_range_succ (fun s => part m c (rowOf (n / 8) p) k s) (n % 8 + 1)]

/-- At a row tile's last shard the accumulator is the hidden input's cotangent. -/
theorem accAt_last (t : Fin cfg0.N) (h : t.val % 8 = 7) (p : Fin 512) (k : Fin 1024) :
    accAt m c t.val t.isLt (ix2 p k) = dhAt (x0 m c) (x4 m c) (x1 m c) (x2 m c) (x3 m c) (rowOf (t.val / 8) p) k := by
  rw [accAt_at, h, Finset.sum_range]
  unfold dhAt part
  refine Finset.sum_congr rfl fun j _ => ?_
  rw [show shard j.val = j from Fin.ext (Nat.mod_eq_of_lt j.isLt)]

/-! ## The rows' gradient and the gain's -/

theorem rowsAt_at (t : Fin cfg0.N) (h : t.val % 8 = 7) (p : Fin 512) (k : Fin 1024) :
    rowsAt m c t (ix2 p k) = back (row (x0 m c) (rowOf (t.val / 8) p)) (gainRow (x1 m c))
      (dhAt (x0 m c) (x4 m c) (x1 m c) (x2 m c) (x3 m c) (rowOf (t.val / 8) p)) (row (x4 m c) (rowOf (t.val / 8) p)) k := by
  unfold rowsAt
  refine (rows_at _ _ _ _ p k).trans ?_
  rw [funext fun d => in0 m c t p d, funext fun d => in1 m c t p d, funext fun d => in2 m c t d, funext fun d => accAt_last m c t h p d]

/-- What the row tile numbered `i` adds to the gain's gradient. -/
def tilePart (k : Fin 1024) (i : ℕ) : EReal := ∑ p : Fin 512, dgPart (x0 m c) (x4 m c) (x1 m c) (x2 m c) (x3 m c) k (rowOf i p)

theorem gainAt_at (k : Fin 1024) : ∀ (n : ℕ) (h : n < cfg0.N), gainAt m c n h (ix2 0 k) = ∑ i ∈ Finset.range ((n + 1) / 8), tilePart m c k i := by
  intro n
  induction n with
  | zero => exact fun h => (congrFun (gainAt_zero m c ⟨0, h⟩ rfl) _).trans (pay13_at k)
  | succ n ih =>
    intro h
    by_cases h0 : (n + 1) % 8 = 7
    · refine (congrFun (gainAt_last m c ⟨n + 1, h⟩ h0) _).trans ((gain_at _ _ _ k).trans ?_)
      refine (congrArg (fun z : EReal => z + _) (ih (Nat.lt_of_succ_lt h))).trans ?_
      rw [show (n + 1 + 1) / 8 = (n + 1) / 8 + 1 by omega, Finset.sum_range_succ]
      refine congrArg _ (Finset.sum_congr rfl fun p _ => ?_)
      rw [funext fun d => in0 m c ⟨n + 1, h⟩ p d, in0, accAt_last m c ⟨n + 1, h⟩ h0]
      rfl
    · refine (congrFun (gainAt_keep m c ⟨n + 1, h⟩ (Nat.succ_ne_zero n) h0) _).trans ((ih (Nat.lt_of_succ_lt h)).trans ?_)
      rw [show (n + 1 + 1) / 8 = (n + 1) / 8 by omega]

/-- A sum over all rows, row tile by row tile. -/
theorem sum_rows (φ : Fin 2048 → EReal) : ∑ r, φ r = ∑ i ∈ Finset.range 4, ∑ p, φ (rowOf i p) := by
  rw [Finset.sum_range, ← Fintype.sum_prod_type' (f := fun (i : Fin 4) p => φ (rowOf i.val p))]
  refine (Equiv.sum_comp (finProdFinEquiv (m := 4) (n := 512)) φ).symm.trans (Finset.sum_congr rfl fun q _ => congrArg φ (Fin.ext ?_))
  show q.2.val + 512 * q.1.val = 512 * (q.1.val % 4) + q.2.val
  omega

/-- At the last point the gain's gradient sums all rows. -/
theorem gainAt_end (t : Fin cfg0.N) (h : t.val % 32 = 31) (k : Fin 1024) :
    gainAt m c t.val t.isLt (ix2 0 k) = ∑ r, dgPart (x0 m c) (x4 m c) (x1 m c) (x2 m c) (x3 m c) k r := by
  have := points t
  rw [gainAt_at, show (t.val + 1) / 8 = 4 by omega, sum_rows]
  rfl

end Cert.FfnAIdeal.Real

end
-- ==== Proof.FfnAAgain.lean ====
/-
  The reference's second pass over the hidden columns, whose results the weights' call reads: it forms the same
  values as the first pass, and cuts them into shards.
-/
module

public import proofs.«01_k».proof.Proof.FfnAPlain

@[expose] public section

set_option maxRecDepth 16384

noncomputable section

namespace Cert.FfnAPlainIdeal.Entry

open Cert.FfnAPlainIdeal Cert.FfnAPlainIdeal.Read Cert.FfnRow Idealize.ShloMosaic

variable (x0 x4 : (⟨2, ![2048, 1024]⟩ : Shape).Idx → EReal) (x1 : (⟨2, ![1, 1024]⟩ : Shape).Idx → EReal)
  (x2 : (⟨3, ![8, 2048, 352]⟩ : Shape).Idx → EReal) (x3 : (⟨3, ![8, 352, 1024]⟩ : Shape).Idx → EReal)

theorem again_h : val_main_v82 (F := Ideal) x0 x1 = val_main_v23 (F := Ideal) x0 x1 := rfl

theorem again_gate : val_main_v66 (F := Ideal) x2 = val_main_v4 (F := Ideal) x2 := rfl

theorem again_up : val_main_v69 (F := Ideal) x2 = val_main_v7 (F := Ideal) x2 := rfl

theorem again_down : val_main_v70 (F := Ideal) x3 = val_main_v8 (F := Ideal) x3 := rfl

theorem again_a : val_main_v83 (F := Ideal) x0 x1 x2 = val_main_v24 (F := Ideal) x0 x1 x2 := by
  unfold val_main_v83 val_main_v24
  rw [again_h, again_gate]

theorem again_b : val_main_v84 (F := Ideal) x0 x1 x2 = val_main_v26 (F := Ideal) x0 x1 x2 := by
  unfold val_main_v84 val_main_v26
  rw [again_h, again_up]

theorem again_s : val_main_v85_2 (F := Ideal) x0 x1 x2 = val_main_v25_2 (F := Ideal) x0 x1 x2 := by
  unfold val_main_v85_2 val_main_call2_v3 val_main_call2_v1 val_main_call2_v0
  rw [again_a]
  rfl

theorem again_t : val_main_v85_1 (F := Ideal) x0 x1 x2 = val_main_v25_1 (F := Ideal) x0 x1 x2 := by
  unfold val_main_v85_1 val_main_call2_v7
  rw [again_s]
  rfl

theorem again_silu : val_main_v85_0 (F := Ideal) x0 x1 x2 = val_main_v25_0 (F := Ideal) x0 x1 x2 := by
  unfold val_main_v85_0 val_main_v25_0
  rw [again_a, again_s]

theorem again_cot : val_main_v91 (F := Ideal) x4 = val_main_v34 (F := Ideal) x4 := by
  funext i
  rw [val_main_v91_apply, val_main_v34_apply, val_main_v32_apply]
  refine congrArg₂ (fun u v : EReal => u * v) rfl (congrArg x4 ?_)
  have h : (i 1 : ℕ) < 1024 := (i 1).isLt
  refine (eq_ix2 (n0 := 2048) (n1 := 1024) i).trans (ix2_of _ _ _ ?_ ?_).symm
  · show ((i 0 : ℕ) * 1024 + (i 1 : ℕ)) / 1024 = (i 0 : ℕ); omega
  · show ((i 0 : ℕ) * 1024 + (i 1 : ℕ)) % 1024 = (i 1 : ℕ); omega

theorem again_dz : val_main_v92 (F := Ideal) x3 x4 = val_main_v35 (F := Ideal) x3 x4 := by
  unfold val_main_v92 val_main_v35
  rw [again_down, again_cot]

theorem again_db : val_main_v93 (F := Ideal) x0 x1 x2 x3 x4 = val_main_v36 (F := Ideal) x0 x1 x2 x3 x4 := by
  unfold val_main_v93 val_main_v36
  rw [again_silu, again_dz]

theorem again_da : val_main_v95 (F := Ideal) x0 x1 x2 x3 x4 = val_main_v39 (F := Ideal) x0 x1 x2 x3 x4 := by
  unfold val_main_v95 val_main_call3_v1 val_main_call3_v2 val_main_call3_v0 val_main_v94
  rw [again_a, again_b, again_s, again_t, again_dz]
  rfl

/-- The place of shard `j`'s entry in the uncut array. -/
theorem cut_ix (j : Fin 8) (r : Fin 2048) (f : Fin 352) : idx_main_v98 (idx_main_v99 (ix3 j r f)) = ix2 r (col j f) := by
  refine ix2_of _ r (col j f) ?_ ?_
  · show ((r.val * 8 + j.val) * 352 + f.val) / 2816 = r.val; omega
  · show ((r.val * 8 + j.val) * 352 + f.val) % 2816 = 352 * j.val + f.val; omega

/-! ## The four results the weights' call reads -/

theorem v104_at (r : Fin 2048) (k : Fin 1024) : val_main_v104 (F := Ideal) x0 x1 (ix2 r k) = hidden (row x0 r) (gainRow x1) k := by
  rw [← v23_at, ← again_h]
  rfl

theorem v96_silu : val_main_v96 (F := Ideal) x0 x1 x2 = val_main_v25_0 (F := Ideal) x0 x1 x2 := by
  rw [← again_silu]
  rfl

theorem v105_at (j : Fin 8) (r : Fin 2048) (f : Fin 352) :
    val_main_v105 (F := Ideal) x0 x1 x2 (ix3 j r f) = gated (aAt x0 x1 x2 r j f) (bAt x0 x1 x2 r j f) := by
  refine (val_main_v105_apply ..).trans ((val_main_v99_apply ..).trans ((val_main_v98_apply ..).trans ?_))
  rw [cut_ix, val_main_v97_apply, v96_silu, again_b, v25_0_at, v26_at]
  rfl

theorem v107_at (j : Fin 8) (r : Fin 2048) (f : Fin 352) :
    val_main_v107 (F := Ideal) x0 x1 x2 x3 x4 (ix3 j r f) = dbAt x0 x4 x1 x2 x3 r j f := by
  refine (val_main_v107_apply ..).trans ((val_main_v103_apply ..).trans ((val_main_v102_apply ..).trans ?_))
  refine (congrArg _ (cut_ix j r f)).trans ?_
  rw [again_db, v36_at]

variable {x0 x4 x1 x2 x3}

theorem v106_at (h : RealCols x0 x4 x1 x2 x3) (j : Fin 8) (r : Fin 2048) (f : Fin 352) :
    val_main_v106 (F := Ideal) x0 x1 x2 x3 x4 (ix3 j r f) = daAt x0 x4 x1 x2 x3 r j f := by
  refine (val_main_v106_apply ..).trans ((val_main_v101_apply ..).trans ((val_main_v100_apply ..).trans ?_))
  refine (congrArg _ (cut_ix j r f)).trans ?_
  rw [again_da, v39_at h]

end Cert.FfnAPlainIdeal.Entry

end
-- ==== Proof.FfnAFinal.lean ====
/-
  The feed-forward input gradient's result arrays, whole: each is the reference's.
-/
module

public import proofs.«01_k».proof.Proof.FfnASum
public import proofs.«01_k».proof.Proof.FfnAAgain
public import Idealize.ShloMosaic.Lib.Pipeline.ValueKit

@[expose] public section

set_option maxRecDepth 16384

noncomputable section

namespace Cert.FfnAIdeal.Real

open Cert.FfnAIdeal Cert.FfnAIdeal.Gen Cert.FfnAIdeal.Step Cert.FfnAIdeal.Grid Cert.FfnRow
open Cert.FfnAPlainIdeal.Entry
open Idealize.ShloMosaic Idealize.ShloMosaic.TcCoe Idealize.SL.Sem
open Idealize.ShloMosaic.Pipeline (Dat)

variable (m : (ℓ : Loc nD τ sig) → Buf (Elt Ideal) ℓ) (c : Dev nD)

/-! ## The reference's results of the kernel's arguments -/

abbrev refDx : (⟨2, ![2048, 1024]⟩ : Shape).Idx → EReal := Cert.FfnAPlainIdeal.Read.val_main_v61 (F := Ideal) (x0 m c) (x1 m c) (x2 m c) (x3 m c) (x4 m c)
abbrev refDg : (⟨2, ![1, 1024]⟩ : Shape).Idx → EReal := Cert.FfnAPlainIdeal.Read.val_main_v44 (F := Ideal) (x0 m c) (x1 m c) (x2 m c) (x3 m c) (x4 m c)
abbrev refH : (⟨2, ![2048, 1024]⟩ : Shape).Idx → EReal := Cert.FfnAPlainIdeal.Read.val_main_v104 (F := Ideal) (x0 m c) (x1 m c)
abbrev refZ : (⟨3, ![8, 2048, 352]⟩ : Shape).Idx → EReal := Cert.FfnAPlainIdeal.Read.val_main_v105 (F := Ideal) (x0 m c) (x1 m c) (x2 m c)
abbrev refDa : (⟨3, ![8, 2048, 352]⟩ : Shape).Idx → EReal := Cert.FfnAPlainIdeal.Read.val_main_v106 (F := Ideal) (x0 m c) (x1 m c) (x2 m c) (x3 m c) (x4 m c)
abbrev refDb : (⟨3, ![8, 2048, 352]⟩ : Shape).Idx → EReal := Cert.FfnAPlainIdeal.Read.val_main_v107 (F := Ideal) (x0 m c) (x1 m c) (x2 m c) (x3 m c) (x4 m c)

/-! ## Which block a point writes -/

theorem idx6 : ∀ t : Fin cfg0.N, win0_6.index t 0 = t.val / 8 % 4 ∧ win0_6.index t 1 = 0 :=
  (by decide +kernel : ∀ t : Fin grid0.N, win0_6.index t 0 = t.val / 8 % 4 ∧ win0_6.index t 1 = 0)
theorem idx7 : ∀ t : Fin cfg0.N, win0_7.index t 0 = 0 ∧ win0_7.index t 1 = 0 :=
  (by decide +kernel : ∀ t : Fin grid0.N, win0_7.index t 0 = 0 ∧ win0_7.index t 1 = 0)
theorem idx8 : ∀ t : Fin cfg0.N, win0_8.index t 0 = t.val / 8 % 4 ∧ win0_8.index t 1 = 0 :=
  (by decide +kernel : ∀ t : Fin grid0.N, win0_8.index t 0 = t.val / 8 % 4 ∧ win0_8.index t 1 = 0)
theorem idx9 : ∀ t : Fin cfg0.N, win0_9.index t 0 = t.val % 8 ∧ win0_9.index t 1 = t.val / 8 % 4 ∧ win0_9.index t 2 = 0 :=
  (by decide +kernel : ∀ t : Fin grid0.N, win0_9.index t 0 = t.val % 8 ∧ win0_9.index t 1 = t.val / 8 % 4 ∧ win0_9.index t 2 = 0)
theorem idx10 : ∀ t : Fin cfg0.N, win0_10.index t 0 = t.val % 8 ∧ win0_10.index t 1 = t.val / 8 % 4 ∧ win0_10.index t 2 = 0 :=
  (by decide +kernel : ∀ t : Fin grid0.N, win0_10.index t 0 = t.val % 8 ∧ win0_10.index t 1 = t.val / 8 % 4 ∧ win0_10.index t 2 = 0)
theorem idx11 : ∀ t : Fin cfg0.N, win0_11.index t 0 = t.val % 8 ∧ win0_11.index t 1 = t.val / 8 % 4 ∧ win0_11.index t 2 = 0 :=
  (by decide +kernel : ∀ t : Fin grid0.N, win0_11.index t 0 = t.val % 8 ∧ win0_11.index t 1 = t.val / 8 % 4 ∧ win0_11.index t 2 = 0)

/-- The place of a block of rows' entry in its array. -/
theorem rows_ix {i : (⟨2, ![2048, 1024]⟩ : Shape).Idx} {u v : ℕ} {n : ℕ} {p : Fin 512} {k : Fin 1024} (hu : u = n % 4) (hv : v = 0)
    (h0 : (i 0).val = u * 512 + p.val) (h1 : (i 1).val = v * 1024 + k.val) : i = ix2 (rowOf n p) k :=
  ix2_of i _ _ (h0.trans (by show u * 512 + p.val = 512 * (n % 4) + p.val; omega)) (h1.trans (by omega))

/-- The place of a block of columns' entry in its array. -/
theorem cols_ix {i : (⟨3, ![8, 2048, 352]⟩ : Shape).Idx} {u v w : ℕ} {n l : ℕ} {p : Fin 512} {f : Fin 352} (hu : u = l % 8) (hv : v = n % 4) (hw : w = 0)
    (h0 : (i 0).val = u * 1 + 0) (h1 : (i 1).val = v * 512 + p.val) (h2 : (i 2).val = w * 352 + f.val) : i = ix3 (shard l) (rowOf n p) f :=
  ix3_of i _ _ _ (h0.trans (by show u * 1 + 0 = l % 8; omega)) (h1.trans (by show v * 512 + p.val = 512 * (n % 4) + p.val; omega)) (h2.trans (by omega))

/-- A place of a block of columns is a row and a column of it. -/
theorem col_place (y : (⟨3, ![1, 512, 352]⟩ : Shape).Idx) : ∃ p f, y = ix3 (n0 := 1) (n1 := 512) (n2 := 352) 0 p f :=
  ⟨_, _, (eq_ix3 (n0 := 1) (n1 := 512) (n2 := 352) y).trans (congrArg (fun a => ix3 a _ _) (Subsingleton.elim _ _))⟩

/-! ## The six arrays -/

/-- The hidden input, whole. -/
theorem final8 : (dats m 0 c).arrAt 8 cfg0.N = refH m c := by
  refine (dats m 0 c).arrAt_eq_of_covers 8 (refH m c) (by decide +kernel) fun t hf y => ?_
  blk_simp
  rw [after_8]
  obtain ⟨p, k, rfl⟩ : ∃ p k, y = ix2 (n0 := 512) (n1 := 1024) p k := ⟨_, _, eq_ix2 (n0 := 512) (n1 := 1024) y⟩
  refine (hidAt_at m c p k t.val t.isLt).trans ((v104_at _ _ _ k).symm.trans (congrArg (refH m c) ?_))
  exact (rows_ix (idx8 t).1 (idx8 t).2 (by blk_simp) (by blk_simp)).symm

/-- The rows' gradient, whole. -/
theorem final6 (h : RealCols (x0 m c) (x4 m c) (x1 m c) (x2 m c) (x3 m c)) : (dats m 0 c).arrAt 6 cfg0.N = refDx m c := by
  refine (dats m 0 c).arrAt_eq_of_covers 6 (refDx m c) (by decide +kernel) fun t hf y => ?_
  blk_simp
  rw [after_6]
  obtain ⟨p, k, rfl⟩ : ∃ p k, y = ix2 (n0 := 512) (n1 := 1024) p k := ⟨_, _, eq_ix2 (n0 := 512) (n1 := 1024) y⟩
  refine (rowsAt_at m c t ((flush0_6 t).mp hf) p k).trans ((v61_at h _ k).symm.trans (congrArg (refDx m c) ?_))
  exact (rows_ix (idx6 t).1 (idx6 t).2 (by blk_simp) (by blk_simp)).symm

/-- The gain's gradient, whole. -/
theorem final7 (h : RealCols (x0 m c) (x4 m c) (x1 m c) (x2 m c) (x3 m c)) : (dats m 0 c).arrAt 7 cfg0.N = refDg m c := by
  refine (dats m 0 c).arrAt_eq_of_covers 7 (refDg m c) (by decide +kernel) fun t hf y => ?_
  blk_simp
  rw [after_7]
  obtain ⟨k, rfl⟩ : ∃ k, y = ix2 (n0 := 1) (n1 := 1024) 0 k :=
    ⟨_, (eq_ix2 (n0 := 1) (n1 := 1024) y).trans (congrArg (fun a => ix2 a _) (Subsingleton.elim _ _))⟩
  refine (gainAt_end m c t ((flush0_7 t).mp hf) k).trans ((v44_at h k).symm.trans (congrArg (refDg m c) ?_))
  refine (ix2_of _ _ _ ?_ ?_).symm <;> blk_simp
  · rw [(idx7 t).1]; rfl
  · rw [(idx7 t).2]; omega

/-- The gated products, whole. -/
theorem final9 : (dats m 0 c).arrAt 9 cfg0.N = refZ m c := by
  refine (dats m 0 c).arrAt_eq_of_covers 9 (refZ m c) (by decide +kernel) fun t hf y => ?_
  blk_simp
  rw [after_9]
  obtain ⟨p, f, rfl⟩ := col_place y
  refine (zedAt_at m c t p f).trans ((v105_at _ _ _ _ _ f).symm.trans (congrArg (refZ m c) ?_))
  exact (cols_ix (idx9 t).1 (idx9 t).2.1 (idx9 t).2.2 (by blk_simp; rfl) (by blk_simp) (by blk_simp)).symm

/-- The gates' cotangents, whole. -/
theorem final10 (h : RealCols (x0 m c) (x4 m c) (x1 m c) (x2 m c) (x3 m c)) : (dats m 0 c).arrAt 10 cfg0.N = refDa m c := by
  refine (dats m 0 c).arrAt_eq_of_covers 10 (refDa m c) (by decide +kernel) fun t hf y => ?_
  blk_simp
  rw [after_10]
  obtain ⟨p, f, rfl⟩ := col_place y
  refine (dgateAt_at m c t p f).trans ((v106_at h _ _ f).symm.trans (congrArg (refDa m c) ?_))
  exact (cols_ix (idx10 t).1 (idx10 t).2.1 (idx10 t).2.2 (by blk_simp; rfl) (by blk_simp) (by blk_simp)).symm

/-- The up products' cotangents, whole. -/
theorem final11 : (dats m 0 c).arrAt 11 cfg0.N = refDb m c := by
  refine (dats m 0 c).arrAt_eq_of_covers 11 (refDb m c) (by decide +kernel) fun t hf y => ?_
  blk_simp
  rw [after_11]
  obtain ⟨p, f, rfl⟩ := col_place y
  refine (dupAt_at m c t p f).trans ((v107_at _ _ _ _ _ _ _ f).symm.trans (congrArg (refDb m c) ?_))
  exact (cols_ix (idx11 t).1 (idx11 t).2.1 (idx11 t).2.2 (by blk_simp; rfl) (by blk_simp) (by blk_simp)).symm

end Cert.FfnAIdeal.Real

end
-- ==== Proof.FfnAReal.lean ====
/-
  Of finite arguments the feed-forward layer's products are real numbers, so that the product with a sum in the gate's
  cotangent may be taken apart.
-/
module

public import proofs.«01_k».proof.Proof.FfnAPlain

@[expose] public section

set_option maxRecDepth 16384

noncomputable section

namespace Cert.FfnRow

open Idealize.ShloMosaic Cert.FfnAPlainIdeal.Entry

/-- Being a real number. -/
def IsReal (x : EReal) : Prop := ∃ u : ℝ, x = u

theorem IsReal.mul {x y : EReal} (hx : IsReal x) (hy : IsReal y) : IsReal (x * y) := by
  obtain ⟨u, rfl⟩ := hx
  obtain ⟨v, rfl⟩ := hy
  exact ⟨u * v, (EReal.coe_mul u v).symm⟩

theorem IsReal.sum {n : ℕ} {φ : Fin n → EReal} (h : ∀ k, IsReal (φ k)) : IsReal (∑ k, φ k) := by
  choose u hu using h
  exact ⟨∑ k, u k, (Finset.sum_congr rfl fun k _ => hu k).trans (Cert.Lift.sum_coe u)⟩

/-- A row of real numbers has a real scale: its mean square with the constant added is positive. -/
theorem scale_real {x : Fin 1024 → EReal} (h : ∀ k, IsReal (x k)) : IsReal (scale x) := by
  choose u hu using h
  have e : ∑ k, x k * x k = ((∑ k, u k * u k : ℝ) : EReal) := by
    rw [← Cert.Lift.sum_coe]
    exact Finset.sum_congr rfl fun k _ => by rw [hu k, EReal.coe_mul]
  have hpos : (0 : ℝ) < (∑ k, u k * u k) / 1024 + 8796093 / 8796093022208 :=
    add_pos_of_nonneg_of_pos (div_nonneg (Finset.sum_nonneg fun k _ => mul_self_nonneg (u k)) (by norm_num)) (by norm_num)
  unfold scale meanSq
  rw [e, Cert.Lift.ofBits_1024, Cert.Lift.ofBits_eps, Cert.Lift.div_real (by norm_num), ← EReal.coe_add, Cert.Lift.rsqrt_real hpos]
  exact ⟨_, rfl⟩

variable {x0 x4 : (⟨2, ![2048, 1024]⟩ : Shape).Idx → EReal} {x1 : (⟨2, ![1, 1024]⟩ : Shape).Idx → EReal}
  {x2 : (⟨3, ![8, 2048, 352]⟩ : Shape).Idx → EReal} {x3 : (⟨3, ![8, 352, 1024]⟩ : Shape).Idx → EReal}

theorem hidden_real (h0 : ∀ i, IsReal (x0 i)) (h1 : ∀ i, IsReal (x1 i)) (r : Fin 2048) (k : Fin 1024) : IsReal (hidden (row x0 r) (gainRow x1) k) :=
  ((h0 _).mul (scale_real fun _ => h0 _)).mul (h1 _)

/-- Of finite arguments the gate's and the up product and the gated product's cotangent are real numbers. -/
theorem realCols (h0 : ∀ i, IsReal (x0 i)) (h1 : ∀ i, IsReal (x1 i)) (h2 : ∀ i, IsReal (x2 i)) (h3 : ∀ i, IsReal (x3 i)) (h4 : ∀ i, IsReal (x4 i)) :
    RealCols x0 x4 x1 x2 x3 := fun _ _ _ =>
  ⟨IsReal.sum fun _ => (hidden_real h0 h1 _ _).mul (h2 _), IsReal.sum fun _ => (hidden_real h0 h1 _ _).mul (h2 _),
    IsReal.mul ⟨_, Cert.Lift.ofBits_half⟩ (IsReal.sum fun _ => (h4 _).mul (h3 _))⟩

end Cert.FfnRow

end
-- ==== Proof.FfnAClaim.lean ====
/-
  The feed-forward layer's input gradient: on finite arguments the kernel and the reference end with the same six
  results, and every run of either leaves the arguments as they were.
-/
module

public import proofs.«01_k».proof.Defs
public import proofs.«01_k».proof.Proof.FfnAFinal
public import proofs.«01_k».proof.Proof.FfnAReal
public import proofs.«01_k».proof.Proof.Finite
public import proofs.«01_k».proof.Proof.Gen.FfnA.Frame
public import proofs.«01_k».proof.Proof.Gen.FfnAPlainIdeal.Run
public import proofs.«01_k».proof.Proof.Gen.FfnAPlainIdeal.Read
public import proofs.«01_k».proof.Proof.Gen.Pre_ffn_finite
public import Idealize.ShloMosaic.Adequacy
public import Idealize.ShloMosaic.Init

@[expose] public section

set_option maxRecDepth 16384

noncomputable section

namespace Cert.FfnAClaim

open Idealize.ShloMosaic Idealize.SL.Sem Idealize.ShloMosaic.StableHlo
open Cert.FfnAIdeal.Real Cert.FfnAIdeal.Grid Cert.FfnAPlainIdeal.Entry

/-! ## The frames -/

/-- The two programs' kernel tables are the same, label by label. -/
theorem kernels_eq : Cert.FfnA.defs₀ (F := Bits) = Cert.FfnAIdeal.defs₀ (F := Bits) := by
  refine congrArg (Defs.onTc (nD := Cert.FfnA.nD) (τ := Cert.FfnA.τ) (sig := Cert.FfnA.sig) (Val := Elt Bits) (Λ := Cert.FfnA.Λ₀)) ?_
  funext l a
  match l, a with
  | 0, (t, s) => rfl

theorem table_eq : Cert.FfnA.defs (F := Bits) = Cert.FfnAIdeal.defs (F := Bits) :=
  congrArg (Pipeline.defs (Cert.FfnAIdeal.pcfgs (F := Bits))) kernels_eq

/-- The kernel's frame over the machine's values: its text is the idealization's own, so the one run gives both. -/
theorem frame_bits : Cert.quiescent_FfnA := fun m ρ _ => by
  rw [table_eq]
  exact frame_any (F := Bits) m ρ

theorem frame_ideal : Cert.quiescent_FfnAIdeal := fun m ρ _ => frame_any (F := Ideal) m ρ

theorem frame_plain : Cert.quiescent_FfnAPlainIdeal := fun m ρ _ =>
  (θ_run Cert.FfnAPlainIdeal.defs _ _).mono
    (fun r h => ⟨fun c => (h c).2.2.2.2.2.2, Idealize.ShloMosaic.sem_eq_zero_of_no_sems (by decide) r.2⟩)
    (Cert.FfnAPlainIdeal.Value.run (F := Ideal) m ρ)

/-! ## The values -/

theorem ofBits_inf16 : Ideal.ofBits .bf16 0x7F80#16 = (⊤ : EReal) := by simp [Ideal.ofBits, Ideal.ieee]

/-- Of finite arguments the products the gate's cotangent is taken of are real numbers. -/
theorem real_of_pre (m : (ℓ : Loc Cert.FfnAIdeal.nD Cert.FfnAIdeal.τ Cert.FfnAIdeal.sig) → Buf (Elt Ideal) ℓ)
    (h : Cert.Pre_FfnAIdeal_ffn_finite m) (c : Dev Cert.FfnAIdeal.nD) : RealCols (x0 m c) (x4 m c) (x1 m c) (x2 m c) (x3 m c) := by
  obtain ⟨h0, h1, h2, h3, h4⟩ := h c
  exact Cert.FfnRow.realCols (Cert.Lift.real_entries _ _ (fun _ => Cert.Lift.ofBits_inf) h0)
    (Cert.Lift.real_entries _ _ (fun _ => Cert.Lift.ofBits_inf) h1) (Cert.Lift.real_entries _ _ (fun _ => ofBits_inf16) h2)
    (Cert.Lift.real_entries _ _ (fun _ => ofBits_inf16) h3) (Cert.Lift.real_entries _ _ (fun _ => Cert.Lift.ofBits_inf) h4)

theorem algebraic : Cert.algebraic_FfnAIdeal_FfnAPlainIdeal_pre_ffn_finite := by
  intro m g m' g' hpre hargs
  refine ⟨fun c => refDx m c, fun c => refDg m c, fun c => refH m c, fun c => refZ m c, fun c => refDa m c, fun c => refDb m c, ?_, ?_⟩
  · refine (θ_run Cert.FfnAIdeal.defs _ _).mono (fun r h c => ?_) (θ_run_and (run_main (F := Ideal) m g) (frame_any (F := Ideal) m g))
    have hr := real_of_pre m hpre c
    exact ⟨((h.1 c).1 6).trans (final6 m c hr), ((h.1 c).1 7).trans (final7 m c hr), ((h.1 c).1 8).trans (final8 m c),
      ((h.1 c).1 9).trans (final9 m c), ((h.1 c).1 10).trans (final10 m c hr), ((h.1 c).1 11).trans (final11 m c), h.2.1 c⟩
  · refine (θ_run Cert.FfnAPlainIdeal.defs _ _).mono (fun r h c => ?_) (Cert.FfnAPlainIdeal.Value.run (F := Ideal) m' g')
    obtain ⟨r0, r1, r2, r3, r4, r5, k⟩ := h c
    obtain ⟨q0, q1, q2, q3, q4⟩ := hargs c
    refine ⟨r0.trans ((Cert.FfnAPlainIdeal.Read.val_main_v61_eq (F := Ideal) m' c).trans ?_),
      r1.trans ((Cert.FfnAPlainIdeal.Read.val_main_v44_eq (F := Ideal) m' c).trans ?_),
      r2.trans ((Cert.FfnAPlainIdeal.Read.val_main_v104_eq (F := Ideal) _ _).trans ?_),
      r3.trans ((Cert.FfnAPlainIdeal.Read.val_main_v105_eq (F := Ideal) _ _ _).trans ?_),
      r4.trans ((Cert.FfnAPlainIdeal.Read.val_main_v106_eq (F := Ideal) m' c).trans ?_),
      r5.trans ((Cert.FfnAPlainIdeal.Read.val_main_v107_eq (F := Ideal) _ _ _ _ _).trans ?_), k⟩
    · rw [q0, q1, q2, q3, q4]
    · rw [q0, q1, q2, q3, q4]
    · rw [q0, q1]
    · rw [q0, q1, q2]
    · rw [q0, q1, q2, q3, q4]
    · rw [q0, q1, q2, q3, q4]

end Cert.FfnAClaim

end
-- ==== Proof.FfnWHost.lean ====
/-
  What the weights' call finds in its operands: the host lines before it compute the hidden activations and their
  cotangents, the very arrays the reference computes on its way.
-/
module

public import proofs.«01_k».proof.Proof.Gen.FfnWIdeal.Value
public import proofs.«01_k».proof.Proof.Gen.FfnWPlainIdeal.Read
public import Idealize.ShloMosaic.Lib.Claim
public import Idealize.ShloMosaic.Lib.StableHlo.RunRead

@[expose] public section

set_option maxRecDepth 16384

noncomputable section

namespace Cert.FfnWIdeal.Host

open Cert.FfnWIdeal Cert.FfnWIdeal.Gen Idealize.ShloMosaic Idealize.ShloMosaic.TcCoe Idealize.SL.Sem
open Cert.FfnWPlainIdeal (Read.val_main_v20 Read.val_main_v24 Read.val_main_v34 Read.val_main_v38)

variable (m : (ℓ : Loc nD τ sig) → Buf (Elt Ideal) ℓ) (c : Dev nD)

/-- The arguments as launched. -/
abbrev x0 : FVec Ideal S2048x1024 .f32 := m ((c : Thread nD τ).loc main_arg0)
abbrev x1 : FVec Ideal S1x1024 .f32 := m ((c : Thread nD τ).loc main_arg1)
abbrev x2 : FVec Ideal S8x2048x352 .bf16 := m ((c : Thread nD τ).loc main_arg2)
abbrev x3 : FVec Ideal S8x352x1024 .bf16 := m ((c : Thread nD τ).loc main_arg3)
abbrev x4 : FVec Ideal S2048x1024 .f32 := m ((c : Thread nD τ).loc main_arg4)

/-- The normalised input. -/
abbrev hN : FVec Ideal S2048x1024 .f32 := Cert.FfnWPlainIdeal.Read.val_main_v20 (F := Ideal) (x0 m c) (x1 m c)

/-- The gated hidden, and the two cotangents. -/
abbrev zN : FVec Ideal S2048x2816 .f32 := Cert.FfnWPlainIdeal.Read.val_main_v24 (F := Ideal) (x0 m c) (x1 m c) (x2 m c)
abbrev daN : FVec Ideal S2048x2816 .f32 := Cert.FfnWPlainIdeal.Read.val_main_v38 (F := Ideal) (x0 m c) (x1 m c) (x2 m c) (x3 m c) (x4 m c)
abbrev dbN : FVec Ideal S2048x2816 .f32 := Cert.FfnWPlainIdeal.Read.val_main_v34 (F := Ideal) (x0 m c) (x1 m c) (x2 m c) (x3 m c) (x4 m c)

/-- A hidden array cut into the eight shards' columns. -/
abbrev cut8 (x : FVec Ideal S2048x2816 .f32) : FVec Ideal S8x2048x352 .f32 :=
  transpose S8x2048x352 [1, 0, 2] (shapeCast S2048x8x352 x shapeCasts_S2048x2816_S2048x8x352) transposes_S2048x8x352_S8x2048x352_1_0_2

theorem V_h : V m c main_v42 = truncf .bf16 (hN m c) bitsLt_bf16_f32 := by
  show StableHlo.after (List.flatten [hostOps0, hostOps0_1, hostOps0_2, hostOps0_3, hostOps0_4, hostOps0_5]) (fun b => m (c, b)) (Proc.devRef .tc main_v42) = _
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_reads_simp
  rfl

theorem V_z : V m c main_v43 = truncf .bf16 (cut8 (zN m c)) bitsLt_bf16_f32 := by
  show StableHlo.after (List.flatten [hostOps0, hostOps0_1, hostOps0_2, hostOps0_3, hostOps0_4, hostOps0_5]) (fun b => m (c, b)) (Proc.devRef .tc main_v43) = _
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_reads_simp
  rfl

theorem V_da : V m c main_v44 = truncf .bf16 (cut8 (daN m c)) bitsLt_bf16_f32 := by
  show StableHlo.after (List.flatten [hostOps0, hostOps0_1, hostOps0_2, hostOps0_3, hostOps0_4, hostOps0_5]) (fun b => m (c, b)) (Proc.devRef .tc main_v44) = _
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_reads_simp
  rfl

theorem V_db : V m c main_v45 = truncf .bf16 (cut8 (dbN m c)) bitsLt_bf16_f32 := by
  show StableHlo.after (List.flatten [hostOps0, hostOps0_1, hostOps0_2, hostOps0_3, hostOps0_4, hostOps0_5]) (fun b => m (c, b)) (Proc.devRef .tc main_v45) = _
  simp only [hostOps0, hostOps0_1, hostOps0_2, hostOps0_3, hostOps0_4, hostOps0_5, List.flatten_cons, List.flatten_nil, List.append_nil,
    List.cons_append, List.nil_append, StableHlo.TRef.binary, StableHlo.TRef.nullary, StableHlo.TRef.unary, StableHlo.TRef.toBuf, StableHlo.TRef.ofBuf, cast_eq]
  after_reads_simp
  rfl

end Cert.FfnWIdeal.Host

end
-- ==== Proof.FfnWRun.lean ====
/-
  The weights' call, shard by shard: each block it writes is the reference's block.
-/
module

public import proofs.«01_k».proof.Proof.FfnWHost
public import proofs.«01_k».proof.Proof.Lift
public import Idealize.ShloMosaic.Lib.Pointwise

@[expose] public section

set_option maxRecDepth 16384

noncomputable section

namespace Cert.FfnWIdeal.Real

open Cert.FfnWIdeal Cert.FfnWIdeal.Gen Idealize.ShloMosaic Idealize.ShloMosaic.TcCoe Idealize.SL.Sem
open Idealize.ShloMosaic.Pipeline (Dat)
open Cert.FfnWIdeal.Host

/-- Two arrays of rank three agree when they agree at every triple. -/
theorem ext3 {a b c : ℕ} {α : Type} {f g : (⟨3, ![a, b, c]⟩ : Shape).Idx → α} (h : ∀ i j k, f (ix3 i j k) = g (ix3 i j k)) : f = g := by
  funext i; rw [eq_ix3 i]; exact h _ _ _

/-- A product of the hidden input with a shard's cotangent, transposed. -/
theorem pay2_at (h : Vec Ideal S2048x1024 .bf16) (da : Vec Ideal S1x2048x352 .bf16) (d : Fin 1024) (f : Fin 352) :
    k0_pay2 (F := Ideal) h da (ix3 0 d f) = ∑ t : Fin 2048, h (ix2 t d) * da (ix3 0 t f) := by
  pointwise [k0_pay2, k0_pay1]

theorem pay3_at (h : Vec Ideal S2048x1024 .bf16) (db : Vec Ideal S1x2048x352 .bf16) (d : Fin 1024) (f : Fin 352) :
    k0_pay3 (F := Ideal) h db (ix3 0 d f) = ∑ t : Fin 2048, h (ix2 t d) * db (ix3 0 t f) := by
  pointwise [k0_pay3, k0_pay1]

theorem pay4_at (z : Vec Ideal S1x2048x352 .bf16) (dy : Vec Ideal S2048x1024 .f32) (f : Fin 352) (d : Fin 1024) :
    k0_pay4 (F := Ideal) z dy (ix3 0 f d) = Ideal.ofBits .f32 0x3F000000#32 * ∑ t : Fin 2048, z (ix3 0 t f) * dy (ix2 t d) := by
  pointwise [k0_pay4]

/-- Column `f` of shard `j` among all the hidden columns. -/
def col (j : Fin 8) (f : Fin 352) : Fin 2816 := ⟨352 * j.val + f.val, by omega⟩

theorem cut8_at (x : FVec Ideal S2048x2816 .f32) (j : Fin 8) (t : Fin 2048) (f : Fin 352) :
    cut8 x (ix3 j t f) = x (ix2 t (col j f)) := by
  unfold cut8
  rw [transpose_apply [1, 0, 2] _ transposes_S2048x8x352_S8x2048x352_1_0_2 (ix3 j t f) (ix3 t j f) (fun b => match b with
    | ⟨0, _⟩ => rfl
    | ⟨1, _⟩ => rfl
    | ⟨2, _⟩ => rfl)]
  refine shapeCast_apply x shapeCasts_S2048x2816_S2048x8x352 (ix3 t j f) (ix2 t (col j f)) ?_
  rewrite [Shape.rowMajor_val_two, Shape.rowMajor_val_three]
  show t.val * 2816 + (352 * j.val + f.val) = (t.val * 8 + j.val) * 352 + f.val
  omega

variable (m : (ℓ : Loc nD τ sig) → Buf (Elt Ideal) ℓ) (c : Dev nD)

theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = 0 ∧ win0_1.index t 1 = 0 :=
  (by decide +kernel : ∀ t : Fin grid0.N, win0_1.index t 0 = 0 ∧ win0_1.index t 1 = 0)
theorem idx2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)
theorem idx4 : ∀ t : Fin cfg0.N, win0_4.index t 0 = t.val ∧ win0_4.index t 1 = 0 ∧ win0_4.index t 2 = 0 :=
  (by decide +kernel : ∀ t : Fin grid0.N, win0_4.index t 0 = t.val ∧ win0_4.index t 1 = 0 ∧ win0_4.index t 2 = 0)
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)
theorem idx6 : ∀ t : Fin cfg0.N, win0_6.index t 0 = t.val ∧ win0_6.index t 1 = 0 ∧ win0_6.index t 2 = 0 :=
  (by decide +kernel : ∀ t : Fin grid0.N, win0_6.index t 0 = t.val ∧ win0_6.index t 1 = 0 ∧ win0_6.index t 2 = 0)
theorem idx7 : ∀ t : Fin cfg0.N, win0_7.index t 0 = t.val ∧ win0_7.index t 1 = 0 ∧ win0_7.index t 2 = 0 :=
  (by decide +kernel : ∀ t : Fin grid0.N, win0_7.index t 0 = t.val ∧ win0_7.index t 1 = 0 ∧ win0_7.index t 2 = 0)

/-- The shard a grid point works on. -/
def shard (t : Fin cfg0.N) : Fin 8 := ⟨t.val, lt_of_lt_of_eq t.isLt N_0⟩

theorem in0 (t : Fin cfg0.N) (a : Fin 2048) (b : Fin 1024) : iblk m c 0 t (ix2 (n0 := 2048) (n1 := 1024) a b) = hN m c (ix2 a b) := by
  unfold iblk
  rw [View.read_apply]
  show V m c main_v42 _ = _
  rw [V_h]
  show hN m c _ = hN m c _
  congr 1
  refine (eq_ix2 (n0 := 2048) (n1 := 1024) _).trans ?_
  congr 1 <;> apply Fin.ext
  · show win0_0.index t 0 * 2048 + 1 * a.val = a.val; rw [(idx0 t).1]; omega
  · show win0_0.index t 1 * 1024 + 1 * b.val = b.val; rw [(idx0 t).2]; omega

theorem in1 (t : Fin cfg0.N) (a : Fin 2048) (b : Fin 1024) : iblk m c 1 t (ix2 (n0 := 2048) (n1 := 1024) a b) = x4 m c (ix2 a b) := by
  unfold iblk
  rw [View.read_apply]
  show V m c main_arg4 _ = _
  rw [V_main_arg4]
  show x4 m c _ = x4 m c _
  congr 1
  refine (eq_ix2 (n0 := 2048) (n1 := 1024) _).trans ?_
  congr 1 <;> apply Fin.ext
  · show win0_1.index t 0 * 2048 + 1 * a.val = a.val; rw [(idx1 t).1]; omega
  · show win0_1.index t 1 * 1024 + 1 * b.val = b.val; rw [(idx1 t).2]; omega

theorem in2 (t : Fin cfg0.N) (a : Fin 2048) (f : Fin 352) :
    iblk m c 2 t (ix3 (n0 := 1) (n1 := 2048) (n2 := 352) 0 a f) = zN m c (ix2 a (col (shard t) f)) := by
  unfold iblk
  rw [View.read_apply]
  show V m c main_v43 _ = _
  rw [V_z]
  refine Eq.trans ?_ (cut8_at (zN m c) (shard t) a f)
  show cut8 (zN m c) _ = cut8 (zN m c) _
  congr 1
  refine (eq_ix3 (n0 := 8) (n1 := 2048) (n2 := 352) _).trans ?_
  congr 1 <;> apply Fin.ext
  · show win0_2.index t 0 * 1 + 1 * 0 = t.val; rw [(idx2 t).1]; omega
  · show win0_2.index t 1 * 2048 + 1 * a.val = a.val; rw [(idx2 t).2.1]; omega
  · show win0_2.index t 2 * 352 + 1 * f.val = f.val; rw [(idx2 t).2.2]; omega

theorem in3 (t : Fin cfg0.N) (a : Fin 2048) (f : Fin 352) :
    iblk m c 3 t (ix3 (n0 := 1) (n1 := 2048) (n2 := 352) 0 a f) = daN m c (ix2 a (col (shard t) f)) := by
  unfold iblk
  rw [View.read_apply]
  show V m c main_v44 _ = _
  rw [V_da]
  refine Eq.trans ?_ (cut8_at (daN m c) (shard t) a f)
  show cut8 (daN m c) _ = cut8 (daN m c) _
  congr 1
  refine (eq_ix3 (n0 := 8) (n1 := 2048) (n2 := 352) _).trans ?_
  congr 1 <;> apply Fin.ext
  · show win0_3.index t 0 * 1 + 1 * 0 = t.val; rw [(idx3 t).1]; omega
  · show win0_3.index t 1 * 2048 + 1 * a.val = a.val; rw [(idx3 t).2.1]; omega
  · show win0_3.index t 2 * 352 + 1 * f.val = f.val; rw [(idx3 t).2.2]; omega

theorem in4 (t : Fin cfg0.N) (a : Fin 2048) (f : Fin 352) :
    iblk m c 4 t (ix3 (n0 := 1) (n1 := 2048) (n2 := 352) 0 a f) = dbN m c (ix2 a (col (shard t) f)) := by
  unfold iblk
  rw [View.read_apply]
  show V m c main_v45 _ = _
  rw [V_db]
  refine Eq.trans ?_ (cut8_at (dbN m c) (shard t) a f)
  show cut8 (dbN m c) _ = cut8 (dbN m c) _
  congr 1
  refine (eq_ix3 (n0 := 8) (n1 := 2048) (n2 := 352) _).trans ?_
  congr 1 <;> apply Fin.ext
  · show win0_4.index t 0 * 1 + 1 * 0 = t.val; rw [(idx4 t).1]; omega
  · show win0_4.index t 1 * 2048 + 1 * a.val = a.val; rw [(idx4 t).2.1]; omega
  · show win0_4.index t 2 * 352 + 1 * f.val = f.val; rw [(idx4 t).2.2]; omega

/-- The reference's three results, entry by entry. -/
abbrev refWg : S8x1024x352.Idx → EReal := Cert.FfnWPlainIdeal.Read.val_main_v43 (F := Ideal) (x0 m c) (x1 m c) (x2 m c) (x3 m c) (x4 m c)
abbrev refWu : S8x1024x352.Idx → EReal := Cert.FfnWPlainIdeal.Read.val_main_v46 (F := Ideal) (x0 m c) (x1 m c) (x2 m c) (x3 m c) (x4 m c)
abbrev refWd : S8x352x1024.Idx → EReal := Cert.FfnWPlainIdeal.Read.val_main_v48 (F := Ideal) (x0 m c) (x1 m c) (x2 m c) (x4 m c)

open Cert.FfnWPlainIdeal.Read in
theorem refWg_at (j : Fin 8) (d : Fin 1024) (f : Fin 352) :
    refWg m c (ix3 j d f) = ∑ t : Fin 2048, daN m c (ix2 t (col j f)) * hN m c (ix2 t d) := by
  unfold refWg daN hN
  rw [val_main_v43_apply]
  refine (val_main_v42_apply ..).trans ((val_main_v41_apply ..).trans ((val_main_v40_apply ..).trans ((val_main_v39_apply ..).trans ?_)))
  refine Finset.sum_congr rfl fun t _ => ?_
  congr 1
  · congr 1
    refine (eq_ix2 (n0 := 2048) (n1 := 2816) _).trans ?_
    congr 1
    apply Fin.ext
    show ((d.val * 8 + j.val) * 352 + f.val) % 2816 = 352 * j.val + f.val
    omega
  · congr 1
    refine (eq_ix2 (n0 := 2048) (n1 := 1024) _).trans ?_
    congr 1
    apply Fin.ext
    show ((d.val * 8 + j.val) * 352 + f.val) / 2816 = d.val
    omega

open Cert.FfnWPlainIdeal.Read in
theorem refWu_at (j : Fin 8) (d : Fin 1024) (f : Fin 352) :
    refWu m c (ix3 j d f) = ∑ t : Fin 2048, dbN m c (ix2 t (col j f)) * hN m c (ix2 t d) := by
  unfold refWu dbN hN
  rw [val_main_v46_apply]
  refine (val_main_v45_apply ..).trans ((val_main_v44_apply ..).trans ((val_main_v37_apply ..).trans ((val_main_v36_apply ..).trans ?_)))
  refine Finset.sum_congr rfl fun t _ => ?_
  congr 1
  · congr 1
    refine (eq_ix2 (n0 := 2048) (n1 := 2816) _).trans ?_
    congr 1
    apply Fin.ext
    show ((d.val * 8 + j.val) * 352 + f.val) % 2816 = 352 * j.val + f.val
    omega
  · congr 1
    refine (eq_ix2 (n0 := 2048) (n1 := 1024) _).trans ?_
    congr 1
    apply Fin.ext
    show ((d.val * 8 + j.val) * 352 + f.val) / 2816 = d.val
    omega

open Cert.FfnWPlainIdeal.Read in
theorem refWd_at (j : Fin 8) (f : Fin 352) (d : Fin 1024) :
    refWd m c (ix3 j f d) = ∑ t : Fin 2048, (Ideal.ofBits .f32 0x3F000000#32 * x4 m c (ix2 t d)) * zN m c (ix2 t (col j f)) := by
  unfold refWd zN
  rw [val_main_v48_apply]
  refine (val_main_v47_apply ..).trans ((val_main_v32_apply ..).trans ((val_main_v31_apply ..).trans ?_))
  refine Finset.sum_congr rfl fun t _ => ?_
  have h0 : lidx_main_v31 (idx_main_v32 (idx_main_v47 (ix3 j f d))) t = ix2 t d := by
    refine (eq_ix2 (n0 := 2048) (n1 := 1024) _).trans ?_
    congr 1
    apply Fin.ext
    show ((j.val * 352 + f.val) * 1024 + d.val) % 1024 = d.val
    omega
  have h1 : ridx_main_v31 (idx_main_v32 (idx_main_v47 (ix3 j f d))) t = ix2 t (col j f) := by
    refine (eq_ix2 (n0 := 2048) (n1 := 2816) _).trans ?_
    congr 1
    apply Fin.ext
    show ((j.val * 352 + f.val) * 1024 + d.val) / 1024 = 352 * j.val + f.val
    omega
  rw [h0, h1]
  congr 1

/-- A half times a sum of products: the half goes into each product. -/
theorem half_sum (a b : Fin 2048 → EReal) :
    Ideal.ofBits .f32 0x3F000000#32 * ∑ t, a t * b t = ∑ t, (Ideal.ofBits .f32 0x3F000000#32 * b t) * a t := by
  rw [Cert.Lift.ofBits_half]
  have h : ∀ s : Finset (Fin 2048), ((1 / 2 : ℝ) : EReal) * ∑ t ∈ s, a t * b t = ∑ t ∈ s, (((1 / 2 : ℝ) : EReal) * b t) * a t := by
    intro s
    induction s using Finset.cons_induction with
    | empty => simp
    | cons i s hi ih =>
      rw [Finset.sum_cons, Finset.sum_cons, ← ih, EReal.left_distrib_of_nonneg_of_ne_top (by positivity) (EReal.coe_ne_top _), mul_comm (a i) (b i), mul_assoc]
  exact h _

theorem hz2 : (![0, 0] : Fin 2 → ℕ) = fun _ => 0 := funext fun a => by fin_cases a <;> rfl
theorem hz3 : (![0, 0, 0] : Fin 3 → ℕ) = fun _ => 0 := funext fun a => by fin_cases a <;> rfl

theorem out5 (a0 : Vec Ideal S2048x1024 .bf16) (a1 : Vec Ideal S2048x1024 .f32) (a2 a3 a4 : Vec Ideal S1x2048x352 .bf16) :
    out0_5 (F := Ideal) a0 a1 a2 a3 a4 = k0_pay2 a0 a3 := by
  unfold out0_5 r0_0 r0_1 r0_2
  rw [View.canon_cons_unit_zero (S := S1x1024x352) hz3, View.ld_unit_zero (S := S2048x1024) hz2, View.ld_unit_zero (S := S1x2048x352) hz3]

theorem out6 (a0 : Vec Ideal S2048x1024 .bf16) (a1 : Vec Ideal S2048x1024 .f32) (a2 a3 a4 : Vec Ideal S1x2048x352 .bf16) :
    out0_6 (F := Ideal) a0 a1 a2 a3 a4 = k0_pay3 a0 a4 := by
  unfold out0_6 r0_0 r0_1 r0_2
  rw [View.canon_cons_unit_zero (S := S1x1024x352) hz3, View.ld_unit_zero (S := S2048x1024) hz2, View.ld_unit_zero (S := S1x2048x352) hz3]

theorem out7 (a0 : Vec Ideal S2048x1024 .bf16) (a1 : Vec Ideal S2048x1024 .f32) (a2 a3 a4 : Vec Ideal S1x2048x352 .bf16) :
    out0_7 (F := Ideal) a0 a1 a2 a3 a4 = k0_pay4 a2 a1 := by
  unfold out0_7 r0_0 r0_1 r0_3
  rw [View.canon_cons_unit_zero (S := S1x352x1024) hz3, View.ld_unit_zero (S := S2048x1024) hz2, View.ld_unit_zero (S := S1x2048x352) hz3]

/-- The gate weights' gradient, whole. -/
theorem final5 : (dats m 0 c).arrAt 5 cfg0.N = refWg m c := by
  refine (dats m 0 c).arrAt_eq_of_cover 5 (refWg m c) (fun t _ => ?_) fun i => ?_
  · rw [Value.flushed5, out5]
    refine ext3 (a := 1) (b := 1024) (c := 352) fun j p q => ?_
    obtain rfl := Subsingleton.elim j 0
    rw [View.read_apply]
    refine (pay2_at _ _ p q).trans ?_
    simp only [in0, in3]
    refine Eq.trans ?_ (((refWg_at m c (shard t) p q).symm).trans ?_)
    · exact Finset.sum_congr rfl fun s _ => mul_comm _ _
    show refWg m c _ = refWg m c _
    congr 1
    refine Eq.trans ?_ (eq_ix3 (n0 := 8) (n1 := 1024) (n2 := 352) _).symm
    congr 1 <;> apply Fin.ext
    · show t.val = win0_5.index t 0 * 1 + 1 * 0; rw [(idx5 t).1]; omega
    · show p.val = win0_5.index t 1 * 1024 + 1 * p.val; rw [(idx5 t).2.1]; omega
    · show q.val = win0_5.index t 2 * 352 + 1 * q.val; rw [(idx5 t).2.2]; omega
  · have h0 : (i 0 : ℕ) < 8 := (i 0).isLt
    have h1 : (i 1 : ℕ) < 1024 := (i 1).isLt
    have h2 : (i 2 : ℕ) < 352 := (i 2).isLt
    have hN : cfg0.N = 8 := N_0
    let t : Fin cfg0.N := ⟨(i 0 : ℕ), by omega⟩
    refine ⟨t, flush0_5 t, ?_⟩
    show i ∈ ((View.whole main_v46_0).slice (win0_5.rect t)).set
    rw [View.set_slice_whole, Rect.mem_set_unit]
    intro a
    match a with
    | ⟨0, _⟩ =>
      show win0_5.index t 0 * 1 ≤ (i 0 : ℕ) ∧ (i 0 : ℕ) < win0_5.index t 0 * 1 + 1
      rw [(idx5 t).1]; show (i 0 : ℕ) * 1 ≤ _ ∧ _ < (i 0 : ℕ) * 1 + 1; omega
    | ⟨1, _⟩ =>
      show win0_5.index t 1 * 1024 ≤ (i 1 : ℕ) ∧ (i 1 : ℕ) < win0_5.index t 1 * 1024 + 1024
      rw [(idx5 t).2.1]; omega
    | ⟨2, _⟩ =>
      show win0_5.index t 2 * 352 ≤ (i 2 : ℕ) ∧ (i 2 : ℕ) < win0_5.index t 2 * 352 + 352
      rw [(idx5 t).2.2]; omega

/-- The up weights' gradient, whole. -/
theorem final6 : (dats m 0 c).arrAt 6 cfg0.N = refWu m c := by
  refine (dats m 0 c).arrAt_eq_of_cover 6 (refWu m c) (fun t _ => ?_) fun i => ?_
  · rw [Value.flushed6, out6]
    refine ext3 (a := 1) (b := 1024) (c := 352) fun j p q => ?_
    obtain rfl := Subsingleton.elim j 0
    rw [View.read_apply]
    refine (pay3_at _ _ p q).trans ?_
    simp only [in0, in4]
    refine Eq.trans ?_ (((refWu_at m c (shard t) p q).symm).trans ?_)
    · exact Finset.sum_congr rfl fun s _ => mul_comm _ _
    show refWu m c _ = refWu m c _
    congr 1
    refine Eq.trans ?_ (eq_ix3 (n0 := 8) (n1 := 1024) (n2 := 352) _).symm
    congr 1 <;> apply Fin.ext
    · show t.val = win0_6.index t 0 * 1 + 1 * 0; rw [(idx6 t).1]; omega
    · show p.val = win0_6.index t 1 * 1024 + 1 * p.val; rw [(idx6 t).2.1]; omega
    · show q.val = win0_6.index t 2 * 352 + 1 * q.val; rw [(idx6 t).2.2]; omega
  · have h0 : (i 0 : ℕ) < 8 := (i 0).isLt
    have h1 : (i 1 : ℕ) < 1024 := (i 1).isLt
    have h2 : (i 2 : ℕ) < 352 := (i 2).isLt
    have hN : cfg0.N = 8 := N_0
    let t : Fin cfg0.N := ⟨(i 0 : ℕ), by omega⟩
    refine ⟨t, flush0_6 t, ?_⟩
    show i ∈ ((View.whole main_v46_1).slice (win0_6.rect t)).set
    rw [View.set_slice_whole, Rect.mem_set_unit]
    intro a
    match a with
    | ⟨0, _⟩ =>
      show win0_6.index t 0 * 1 ≤ (i 0 : ℕ) ∧ (i 0 : ℕ) < win0_6.index t 0 * 1 + 1
      rw [(idx6 t).1]; show (i 0 : ℕ) * 1 ≤ _ ∧ _ < (i 0 : ℕ) * 1 + 1; omega
    | ⟨1, _⟩ =>
      show win0_6.index t 1 * 1024 ≤ (i 1 : ℕ) ∧ (i 1 : ℕ) < win0_6.index t 1 * 1024 + 1024
      rw [(idx6 t).2.1]; omega
    | ⟨2, _⟩ =>
      show win0_6.index t 2 * 352 ≤ (i 2 : ℕ) ∧ (i 2 : ℕ) < win0_6.index t 2 * 352 + 352
      rw [(idx6 t).2.2]; omega

/-- The down weights' gradient, whole. -/
theorem final7 : (dats m 0 c).arrAt 7 cfg0.N = refWd m c := by
  refine (dats m 0 c).arrAt_eq_of_cover 7 (refWd m c) (fun t _ => ?_) fun i => ?_
  · rw [Value.flushed7, out7]
    refine ext3 (a := 1) (b := 352) (c := 1024) fun j p q => ?_
    obtain rfl := Subsingleton.elim j 0
    rw [View.read_apply]
    refine (pay4_at _ _ p q).trans ?_
    simp only [in1, in2]
    refine Eq.trans ?_ (((refWd_at m c (shard t) p q).symm).trans ?_)
    · exact half_sum _ _
    show refWd m c _ = refWd m c _
    congr 1
    refine Eq.trans ?_ (eq_ix3 (n0 := 8) (n1 := 352) (n2 := 1024) _).symm
    congr 1 <;> apply Fin.ext
    · show t.val = win0_7.index t 0 * 1 + 1 * 0; rw [(idx7 t).1]; omega
    · show p.val = win0_7.index t 1 * 352 + 1 * p.val; rw [(idx7 t).2.1]; omega
    · show q.val = win0_7.index t 2 * 1024 + 1 * q.val; rw [(idx7 t).2.2]; omega
  · have h0 : (i 0 : ℕ) < 8 := (i 0).isLt
    have h1 : (i 1 : ℕ) < 352 := (i 1).isLt
    have h2 : (i 2 : ℕ) < 1024 := (i 2).isLt
    have hN : cfg0.N = 8 := N_0
    let t : Fin cfg0.N := ⟨(i 0 : ℕ), by omega⟩
    refine ⟨t, flush0_7 t, ?_⟩
    show i ∈ ((View.whole main_v46_2).slice (win0_7.rect t)).set
    rw [View.set_slice_whole, Rect.mem_set_unit]
    intro a
    match a with
    | ⟨0, _⟩ =>
      show win0_7.index t 0 * 1 ≤ (i 0 : ℕ) ∧ (i 0 : ℕ) < win0_7.index t 0 * 1 + 1
      rw [(idx7 t).1]; show (i 0 : ℕ) * 1 ≤ _ ∧ _ < (i 0 : ℕ) * 1 + 1; omega
    | ⟨1, _⟩ =>
      show win0_7.index t 1 * 352 ≤ (i 1 : ℕ) ∧ (i 1 : ℕ) < win0_7.index t 1 * 352 + 352
      rw [(idx7 t).2.1]; omega
    | ⟨2, _⟩ =>
      show win0_7.index t 2 * 1024 ≤ (i 2 : ℕ) ∧ (i 2 : ℕ) < win0_7.index t 2 * 1024 + 1024
      rw [(idx7 t).2.2]; omega

end Cert.FfnWIdeal.Real

end
-- ==== Proof.FfnWClaim.lean ====
/-
  The gated hidden layer's weight gradients: from any arguments the kernel and the reference end with the same three
  results. Nothing is asked of the arguments: the products are the same sums, and a finite half distributes over a sum.
-/
module

public import proofs.«01_k».proof.Defs
public import proofs.«01_k».proof.Proof.FfnWRun
public import proofs.«01_k».proof.Proof.Gen.FfnWPlainIdeal.Run
public import Idealize.ShloMosaic.Adequacy
public import Idealize.ShloMosaic.Init

@[expose] public section

set_option maxRecDepth 16384

noncomputable section

namespace Cert.FfnWClaim

open Idealize.ShloMosaic Idealize.SL.Sem Idealize.ShloMosaic.StableHlo
open Cert.FfnWIdeal.Real Cert.FfnWIdeal.Host

theorem frame_plain : Cert.quiescent_FfnWPlainIdeal := fun m ρ _ =>
  (θ_run Cert.FfnWPlainIdeal.defs _ _).mono
    (fun r h => ⟨fun c => (h c).2.2.2, Idealize.ShloMosaic.sem_eq_zero_of_no_sems (by decide) r.2⟩)
    (Cert.FfnWPlainIdeal.Value.run (F := Ideal) m ρ)

theorem algebraic : Cert.algebraic_FfnWIdeal_FfnWPlainIdeal := by
  intro m g m' g' _ hargs
  refine ⟨fun c => refWg m c, fun c => refWu m c, fun c => refWd m c, ?_, ?_⟩
  · refine (θ_run Cert.FfnWIdeal.defs _ _).mono (fun r h c => ?_) (Cert.FfnWIdeal.Value.run_blocks (F := Ideal) m g)
    obtain ⟨r0, r1, r2, k⟩ := h c
    exact ⟨r0.trans (final5 m c), r1.trans (final6 m c), r2.trans (final7 m c), k⟩
  · refine (θ_run Cert.FfnWPlainIdeal.defs _ _).mono (fun r h c => ?_) (Cert.FfnWPlainIdeal.Value.run (F := Ideal) m' g')
    obtain ⟨r0, r1, r2, k⟩ := h c
    obtain ⟨q0, q1, q2, q3, q4⟩ := hargs c
    refine ⟨r0.trans ((Cert.FfnWPlainIdeal.Read.val_main_v43_eq (F := Ideal) _ _).trans ?_),
      r1.trans ((Cert.FfnWPlainIdeal.Read.val_main_v46_eq (F := Ideal) _ _ _ _ _).trans ?_),
      r2.trans ((Cert.FfnWPlainIdeal.Read.val_main_v48_eq (F := Ideal) _ _ _ _).trans ?_), k⟩
    · rw [q0, q1, q2, q3, q4]
    · rw [q0, q1, q2, q3, q4]
    · rw [q0, q1, q2, q4]

end Cert.FfnWClaim

end
-- ==== Proof.lean ====
module

public import proofs.«01_k».proof.Defs
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemIdeal.Value
public import proofs.«01_k».proof.Proof.Gen.MemPlainIdeal
public import proofs.«01_k».proof.Proof.Gen.MemPlainIdeal.Run
public import proofs.«01_k».proof.Proof.Gen.MemPlainIdeal.Read
public import proofs.«01_k».proof.Proof.Gen.FfnF
public import proofs.«01_k».proof.Proof.Gen.FfnF.Skeleton
public import proofs.«01_k».proof.Proof.Gen.FfnF.Launch
public import proofs.«01_k».proof.Proof.Gen.FfnF.Points
public import proofs.«01_k».proof.Proof.Gen.FfnF.Frame
public import proofs.«01_k».proof.Proof.Gen.FfnFIdeal
public import proofs.«01_k».proof.Proof.Gen.FfnFIdeal.Skeleton
public import proofs.«01_k».proof.Proof.Gen.FfnFIdeal.Launch
public import proofs.«01_k».proof.Proof.Gen.FfnFIdeal.Points
public import proofs.«01_k».proof.Proof.Gen.FfnFIdeal.Frame
public import proofs.«01_k».proof.Proof.Gen.FfnFIdeal.Value
public import proofs.«01_k».proof.Proof.Gen.FfnFPlainIdeal
public import proofs.«01_k».proof.Proof.Gen.FfnFPlainIdeal.Run
public import proofs.«01_k».proof.Proof.Gen.FfnFPlainIdeal.Read
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InPlainIdeal
public import proofs.«01_k».proof.Proof.Gen.InPlainIdeal.Run
public import proofs.«01_k».proof.Proof.Gen.InPlainIdeal.Read
public import proofs.«01_k».proof.Proof.Gen.InH
public import proofs.«01_k».proof.Proof.Gen.InH.Skeleton
public import proofs.«01_k».proof.Proof.Gen.InH.Launch
public import proofs.«01_k».proof.Proof.Gen.InH.Points
public import proofs.«01_k».proof.Proof.Gen.InH.Frame
public import proofs.«01_k».proof.Proof.Gen.InHIdeal
public import proofs.«01_k».proof.Proof.Gen.InHIdeal.Skeleton
public import proofs.«01_k».proof.Proof.Gen.InHIdeal.Launch
public import proofs.«01_k».proof.Proof.Gen.InHIdeal.Points
public import proofs.«01_k».proof.Proof.Gen.InHIdeal.Frame
public import proofs.«01_k».proof.Proof.Gen.InHIdeal.Value
public import proofs.«01_k».proof.Proof.Gen.InHPlainIdeal
public import proofs.«01_k».proof.Proof.Gen.InHPlainIdeal.Run
public import proofs.«01_k».proof.Proof.Gen.InHPlainIdeal.Read
public import proofs.«01_k».proof.Proof.Gen.InW
public import proofs.«01_k».proof.Proof.Gen.InW.Skeleton
public import proofs.«01_k».proof.Proof.Gen.InW.Launch
public import proofs.«01_k».proof.Proof.Gen.InW.Points
public import proofs.«01_k».proof.Proof.Gen.InW.Frame
public import proofs.«01_k».proof.Proof.Gen.InWIdeal
public import proofs.«01_k».proof.Proof.Gen.InWIdeal.Skeleton
public import proofs.«01_k».proof.Proof.Gen.InWIdeal.Launch
public import proofs.«01_k».proof.Proof.Gen.InWIdeal.Points
public import proofs.«01_k».proof.Proof.Gen.InWIdeal.Frame
public import proofs.«01_k».proof.Proof.Gen.InWIdeal.Value
public import proofs.«01_k».proof.Proof.Gen.InWPlainIdeal
public import proofs.«01_k».proof.Proof.Gen.InWPlainIdeal.Run
public import proofs.«01_k».proof.Proof.Gen.InWPlainIdeal.Read
public import proofs.«01_k».proof.Proof.Gen.InN
public import proofs.«01_k».proof.Proof.Gen.InN.Skeleton
public import proofs.«01_k».proof.Proof.Gen.InN.Launch
public import proofs.«01_k».proof.Proof.Gen.InN.Points
public import proofs.«01_k».proof.Proof.Gen.InN.Frame
public import proofs.«01_k».proof.Proof.Gen.InNIdeal
public import proofs.«01_k».proof.Proof.Gen.InNIdeal.Skeleton
public import proofs.«01_k».proof.Proof.Gen.InNIdeal.Launch
public import proofs.«01_k».proof.Proof.Gen.InNIdeal.Points
public import proofs.«01_k».proof.Proof.Gen.InNIdeal.Frame
public import proofs.«01_k».proof.Proof.Gen.InNIdeal.Value
public import proofs.«01_k».proof.Proof.Gen.InNPlainIdeal
public import proofs.«01_k».proof.Proof.Gen.InNPlainIdeal.Run
public import proofs.«01_k».proof.Proof.Gen.InNPlainIdeal.Read
public import proofs.«01_k».proof.Proof.Gen.InNH
public import proofs.«01_k».proof.Proof.Gen.InNH.Skeleton
public import proofs.«01_k».proof.Proof.Gen.InNH.Launch
public import proofs.«01_k».proof.Proof.Gen.InNH.Points
public import proofs.«01_k».proof.Proof.Gen.InNH.Frame
public import proofs.«01_k».proof.Proof.Gen.InNHIdeal
public import proofs.«01_k».proof.Proof.Gen.InNHIdeal.Skeleton
public import proofs.«01_k».proof.Proof.Gen.InNHIdeal.Launch
public import proofs.«01_k».proof.Proof.Gen.InNHIdeal.Points
public import proofs.«01_k».proof.Proof.Gen.InNHIdeal.Frame
public import proofs.«01_k».proof.Proof.Gen.InNHIdeal.Value
public import proofs.«01_k».proof.Proof.Gen.InNHPlainIdeal
public import proofs.«01_k».proof.Proof.Gen.InNHPlainIdeal.Run
public import proofs.«01_k».proof.Proof.Gen.InNHPlainIdeal.Read
public import proofs.«01_k».proof.Proof.Gen.InNW
public import proofs.«01_k».proof.Proof.Gen.InNW.Skeleton
public import proofs.«01_k».proof.Proof.Gen.InNW.Launch
public import proofs.«01_k».proof.Proof.Gen.InNW.Points
public import proofs.«01_k».proof.Proof.Gen.InNW.Frame
public import proofs.«01_k».proof.Proof.Gen.InNWIdeal
public import proofs.«01_k».proof.Proof.Gen.InNWIdeal.Skeleton
public import proofs.«01_k».proof.Proof.Gen.InNWIdeal.Launch
public import proofs.«01_k».proof.Proof.Gen.InNWIdeal.Points
public import proofs.«01_k».proof.Proof.Gen.InNWIdeal.Frame
public import proofs.«01_k».proof.Proof.Gen.InNWIdeal.Value
public import proofs.«01_k».proof.Proof.Gen.InNWPlainIdeal
public import proofs.«01_k».proof.Proof.Gen.InNWPlainIdeal.Run
public import proofs.«01_k».proof.Proof.Gen.InNWPlainIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutPlainIdeal
public import proofs.«01_k».proof.Proof.Gen.OutPlainIdeal.Run
public import proofs.«01_k».proof.Proof.Gen.OutPlainIdeal.Read
public import proofs.«01_k».proof.Proof.Gen.OutH
public import proofs.«01_k».proof.Proof.Gen.OutH.Skeleton
public import proofs.«01_k».proof.Proof.Gen.OutH.Launch
public import proofs.«01_k».proof.Proof.Gen.OutH.Points
public import proofs.«01_k».proof.Proof.Gen.OutH.Frame
public import proofs.«01_k».proof.Proof.Gen.OutHIdeal
public import proofs.«01_k».proof.Proof.Gen.OutHIdeal.Skeleton
public import proofs.«01_k».proof.Proof.Gen.OutHIdeal.Launch
public import proofs.«01_k».proof.Proof.Gen.OutHIdeal.Points
public import proofs.«01_k».proof.Proof.Gen.OutHIdeal.Frame
public import proofs.«01_k».proof.Proof.Gen.OutHIdeal.Value
public import proofs.«01_k».proof.Proof.Gen.OutHPlainIdeal
public import proofs.«01_k».proof.Proof.Gen.OutHPlainIdeal.Run
public import proofs.«01_k».proof.Proof.Gen.OutHPlainIdeal.Read
public import proofs.«01_k».proof.Proof.Gen.OutA
public import proofs.«01_k».proof.Proof.Gen.OutA.Skeleton
public import proofs.«01_k».proof.Proof.Gen.OutA.Launch
public import proofs.«01_k».proof.Proof.Gen.OutA.Points
public import proofs.«01_k».proof.Proof.Gen.OutA.Frame
public import proofs.«01_k».proof.Proof.Gen.OutAIdeal
public import proofs.«01_k».proof.Proof.Gen.OutAIdeal.Skeleton
public import proofs.«01_k».proof.Proof.Gen.OutAIdeal.Launch
public import proofs.«01_k».proof.Proof.Gen.OutAIdeal.Points
public import proofs.«01_k».proof.Proof.Gen.OutAIdeal.Frame
public import proofs.«01_k».proof.Proof.Gen.OutAIdeal.Value
public import proofs.«01_k».proof.Proof.Gen.OutAPlainIdeal
public import proofs.«01_k».proof.Proof.Gen.OutAPlainIdeal.Run
public import proofs.«01_k».proof.Proof.Gen.OutAPlainIdeal.Read
public import proofs.«01_k».proof.Proof.Gen.OutB
public import proofs.«01_k».proof.Proof.Gen.OutB.Skeleton
public import proofs.«01_k».proof.Proof.Gen.OutB.Launch
public import proofs.«01_k».proof.Proof.Gen.OutB.Points
public import proofs.«01_k».proof.Proof.Gen.OutB.Frame
public import proofs.«01_k».proof.Proof.Gen.OutBIdeal
public import proofs.«01_k».proof.Proof.Gen.OutBIdeal.Skeleton
public import proofs.«01_k».proof.Proof.Gen.OutBIdeal.Launch
public import proofs.«01_k».proof.Proof.Gen.OutBIdeal.Points
public import proofs.«01_k».proof.Proof.Gen.OutBIdeal.Frame
public import proofs.«01_k».proof.Proof.Gen.OutBIdeal.Value
public import proofs.«01_k».proof.Proof.Gen.OutBPlainIdeal
public import proofs.«01_k».proof.Proof.Gen.OutBPlainIdeal.Run
public import proofs.«01_k».proof.Proof.Gen.OutBPlainIdeal.Read
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvPlainIdeal
public import proofs.«01_k».proof.Proof.Gen.KvPlainIdeal.Run
public import proofs.«01_k».proof.Proof.Gen.KvPlainIdeal.Read
public import proofs.«01_k».proof.Proof.Gen.KvH
public import proofs.«01_k».proof.Proof.Gen.KvH.Skeleton
public import proofs.«01_k».proof.Proof.Gen.KvH.Launch
public import proofs.«01_k».proof.Proof.Gen.KvH.Points
public import proofs.«01_k».proof.Proof.Gen.KvH.Frame
public import proofs.«01_k».proof.Proof.Gen.KvHIdeal
public import proofs.«01_k».proof.Proof.Gen.KvHIdeal.Skeleton
public import proofs.«01_k».proof.Proof.Gen.KvHIdeal.Launch
public import proofs.«01_k».proof.Proof.Gen.KvHIdeal.Points
public import proofs.«01_k».proof.Proof.Gen.KvHIdeal.Frame
public import proofs.«01_k».proof.Proof.Gen.KvHIdeal.Value
public import proofs.«01_k».proof.Proof.Gen.KvHPlainIdeal
public import proofs.«01_k».proof.Proof.Gen.KvHPlainIdeal.Run
public import proofs.«01_k».proof.Proof.Gen.KvHPlainIdeal.Read
public import proofs.«01_k».proof.Proof.Gen.KvW
public import proofs.«01_k».proof.Proof.Gen.KvW.Skeleton
public import proofs.«01_k».proof.Proof.Gen.KvW.Launch
public import proofs.«01_k».proof.Proof.Gen.KvW.Points
public import proofs.«01_k».proof.Proof.Gen.KvW.Frame
public import proofs.«01_k».proof.Proof.Gen.KvWIdeal
public import proofs.«01_k».proof.Proof.Gen.KvWIdeal.Skeleton
public import proofs.«01_k».proof.Proof.Gen.KvWIdeal.Launch
public import proofs.«01_k».proof.Proof.Gen.KvWIdeal.Points
public import proofs.«01_k».proof.Proof.Gen.KvWIdeal.Frame
public import proofs.«01_k».proof.Proof.Gen.KvWIdeal.Value
public import proofs.«01_k».proof.Proof.Gen.KvWPlainIdeal
public import proofs.«01_k».proof.Proof.Gen.KvWPlainIdeal.Run
public import proofs.«01_k».proof.Proof.Gen.KvWPlainIdeal.Read
public import proofs.«01_k».proof.Proof.Gen.FfnA
public import proofs.«01_k».proof.Proof.Gen.FfnA.Skeleton
public import proofs.«01_k».proof.Proof.Gen.FfnA.Launch
public import proofs.«01_k».proof.Proof.Gen.FfnA.Points
public import proofs.«01_k».proof.Proof.Gen.FfnA.Frame
public import proofs.«01_k».proof.Proof.Gen.FfnAIdeal
public import proofs.«01_k».proof.Proof.Gen.FfnAIdeal.Skeleton
public import proofs.«01_k».proof.Proof.Gen.FfnAIdeal.Launch
public import proofs.«01_k».proof.Proof.Gen.FfnAIdeal.Points
public import proofs.«01_k».proof.Proof.Gen.FfnAIdeal.Frame
public import proofs.«01_k».proof.Proof.Gen.FfnAPlainIdeal
public import proofs.«01_k».proof.Proof.Gen.FfnAPlainIdeal.Run
public import proofs.«01_k».proof.Proof.Gen.FfnAPlainIdeal.Read
public import proofs.«01_k».proof.Proof.Gen.FfnW
public import proofs.«01_k».proof.Proof.Gen.FfnW.Skeleton
public import proofs.«01_k».proof.Proof.Gen.FfnW.Launch
public import proofs.«01_k».proof.Proof.Gen.FfnW.Points
public import proofs.«01_k».proof.Proof.Gen.FfnW.Frame
public import proofs.«01_k».proof.Proof.Gen.FfnWIdeal
public import proofs.«01_k».proof.Proof.Gen.FfnWIdeal.Skeleton
public import proofs.«01_k».proof.Proof.Gen.FfnWIdeal.Launch
public import proofs.«01_k».proof.Proof.Gen.FfnWIdeal.Points
public import proofs.«01_k».proof.Proof.Gen.FfnWIdeal.Frame
public import proofs.«01_k».proof.Proof.Gen.FfnWIdeal.Value
public import proofs.«01_k».proof.Proof.Gen.FfnWPlainIdeal
public import proofs.«01_k».proof.Proof.Gen.FfnWPlainIdeal.Run
public import proofs.«01_k».proof.Proof.Gen.FfnWPlainIdeal.Read
public import proofs.«01_k».proof.Proof.Gen.Pre_mem_finite
public import proofs.«01_k».proof.Proof.Gen.Pre_ffn_finite
public import proofs.«01_k».proof.Proof.MemClaim
public import proofs.«01_k».proof.Proof.FfnFClaim
public import proofs.«01_k».proof.Proof.InClaim
public import proofs.«01_k».proof.Proof.InHClaim
public import proofs.«01_k».proof.Proof.InWClaim
public import proofs.«01_k».proof.Proof.InNClaim
public import proofs.«01_k».proof.Proof.InNHClaim
public import proofs.«01_k».proof.Proof.InNWClaim
public import proofs.«01_k».proof.Proof.OutClaim
public import proofs.«01_k».proof.Proof.OutHClaim
public import proofs.«01_k».proof.Proof.OutAClaim
public import proofs.«01_k».proof.Proof.OutBClaim
public import proofs.«01_k».proof.Proof.KvClaim
public import proofs.«01_k».proof.Proof.KvHClaim
public import proofs.«01_k».proof.Proof.KvWClaim
public import proofs.«01_k».proof.Proof.FfnAClaim
public import proofs.«01_k».proof.Proof.FfnWClaim
public import Idealize.ShloMosaic.Adequacy
public import Idealize.ShloMosaic.Init

@[expose] public section

noncomputable section

namespace Cert.Proof

open Idealize.ShloMosaic Idealize.SL.Sem

theorem claim : Cert.Claim :=
  ⟨Cert.Mem.Gen.facts, Cert.MemIdeal.Gen.facts, Cert.MemPlainIdeal.Gen.facts, Cert.FfnF.Gen.facts, Cert.FfnFIdeal.Gen.facts, Cert.FfnFPlainIdeal.Gen.facts, Cert.In.Gen.facts, Cert.InIdeal.Gen.facts, Cert.InPlainIdeal.Gen.facts, Cert.InH.Gen.facts, Cert.InHIdeal.Gen.facts, Cert.InHPlainIdeal.Gen.facts, Cert.InW.Gen.facts, Cert.InWIdeal.Gen.facts, Cert.InWPlainIdeal.Gen.facts, Cert.InN.Gen.facts, Cert.InNIdeal.Gen.facts, Cert.InNPlainIdeal.Gen.facts, Cert.InNH.Gen.facts, Cert.InNHIdeal.Gen.facts, Cert.InNHPlainIdeal.Gen.facts, Cert.InNW.Gen.facts, Cert.InNWIdeal.Gen.facts, Cert.InNWPlainIdeal.Gen.facts, Cert.Out.Gen.facts, Cert.OutIdeal.Gen.facts, Cert.OutPlainIdeal.Gen.facts, Cert.OutH.Gen.facts, Cert.OutHIdeal.Gen.facts, Cert.OutHPlainIdeal.Gen.facts, Cert.OutA.Gen.facts, Cert.OutAIdeal.Gen.facts, Cert.OutAPlainIdeal.Gen.facts, Cert.OutB.Gen.facts, Cert.OutBIdeal.Gen.facts, Cert.OutBPlainIdeal.Gen.facts, Cert.Kv.Gen.facts, Cert.KvIdeal.Gen.facts, Cert.KvPlainIdeal.Gen.facts, Cert.KvH.Gen.facts, Cert.KvHIdeal.Gen.facts, Cert.KvHPlainIdeal.Gen.facts, Cert.KvW.Gen.facts, Cert.KvWIdeal.Gen.facts, Cert.KvWPlainIdeal.Gen.facts, Cert.FfnA.Gen.facts, Cert.FfnAIdeal.Gen.facts, Cert.FfnAPlainIdeal.Gen.facts, Cert.FfnW.Gen.facts, Cert.FfnWIdeal.Gen.facts, Cert.FfnWPlainIdeal.Gen.facts, Cert.Pre_mem_finite.Gen.facts, Cert.Pre_ffn_finite.Gen.facts,
    (fun m ρ _ => Cert.Mem.Gen.frame m ρ),
    (fun m ρ _ => Cert.MemIdeal.Gen.frame m ρ),
    (fun m ρ _ => Cert.MemIdeal.Gen.frame m ρ),
    (Cert.MemClaim.frame_plain),
    (fun m ρ _ => Cert.MemClaim.frame_plain m ρ trivial),
    (fun m ρ _ => Cert.FfnF.Gen.frame m ρ),
    (fun m ρ _ => Cert.FfnFIdeal.Gen.frame m ρ),
    (Cert.FfnFClaim.frame_plain),
    (fun m ρ _ => Cert.In.Gen.frame m ρ),
    (fun m ρ _ => Cert.InIdeal.Gen.frame m ρ),
    (Cert.InClaim.frame_plain),
    (fun m ρ _ => Cert.InH.Gen.frame m ρ),
    (fun m ρ _ => Cert.InHIdeal.Gen.frame m ρ),
    (Cert.InHClaim.frame_plain),
    (fun m ρ _ => Cert.InW.Gen.frame m ρ),
    (fun m ρ _ => Cert.InWIdeal.Gen.frame m ρ),
    (Cert.InWClaim.frame_plain),
    (fun m ρ _ => Cert.InN.Gen.frame m ρ),
    (fun m ρ _ => Cert.InNIdeal.Gen.frame m ρ),
    (Cert.InNClaim.frame_plain),
    (fun m ρ _ => Cert.InNH.Gen.frame m ρ),
    (fun m ρ _ => Cert.InNHIdeal.Gen.frame m ρ),
    (Cert.InNHClaim.frame_plain),
    (fun m ρ _ => Cert.InNW.Gen.frame m ρ),
    (fun m ρ _ => Cert.InNWIdeal.Gen.frame m ρ),
    (Cert.InNWClaim.frame_plain),
    (fun m ρ _ => Cert.Out.Gen.frame m ρ),
    (fun m ρ _ => Cert.OutIdeal.Gen.frame m ρ),
    (Cert.OutClaim.frame_plain),
    (fun m ρ _ => Cert.OutH.Gen.frame m ρ),
    (fun m ρ _ => Cert.OutHIdeal.Gen.frame m ρ),
    (Cert.OutHClaim.frame_plain),
    (fun m ρ _ => Cert.OutA.Gen.frame m ρ),
    (fun m ρ _ => Cert.OutAIdeal.Gen.frame m ρ),
    (Cert.OutAClaim.frame_plain),
    (fun m ρ _ => Cert.OutB.Gen.frame m ρ),
    (fun m ρ _ => Cert.OutBIdeal.Gen.frame m ρ),
    (Cert.OutBClaim.frame_plain),
    (fun m ρ _ => Cert.Kv.Gen.frame m ρ),
    (fun m ρ _ => Cert.KvIdeal.Gen.frame m ρ),
    (Cert.KvClaim.frame_plain),
    (fun m ρ _ => Cert.KvH.Gen.frame m ρ),
    (fun m ρ _ => Cert.KvHIdeal.Gen.frame m ρ),
    (Cert.KvHClaim.frame_plain),
    (fun m ρ _ => Cert.KvW.Gen.frame m ρ),
    (fun m ρ _ => Cert.KvWIdeal.Gen.frame m ρ),
    (Cert.KvWClaim.frame_plain),
    (Cert.FfnAClaim.frame_bits),
    (Cert.FfnAClaim.frame_ideal),
    (fun m ρ _ => Cert.FfnAClaim.frame_ideal m ρ trivial),
    (Cert.FfnAClaim.frame_plain),
    (fun m ρ _ => Cert.FfnAClaim.frame_plain m ρ trivial),
    (fun m ρ _ => Cert.FfnW.Gen.frame m ρ),
    (fun m ρ _ => Cert.FfnWIdeal.Gen.frame m ρ),
    (Cert.FfnWClaim.frame_plain),
    trivial,
    Cert.MemClaim.algebraic,
    trivial,
    Cert.FfnFClaim.algebraic,
    trivial,
    Cert.InClaim.algebraic,
    trivial,
    Cert.InHClaim.algebraic,
    trivial,
    Cert.InWClaim.algebraic,
    trivial,
    Cert.InNClaim.algebraic,
    trivial,
    Cert.InNHClaim.algebraic,
    trivial,
    Cert.InNWClaim.algebraic,
    trivial,
    Cert.OutClaim.algebraic,
    trivial,
    Cert.OutHClaim.algebraic,
    trivial,
    Cert.OutAClaim.algebraic,
    trivial,
    Cert.OutBClaim.algebraic,
    trivial,
    Cert.KvClaim.algebraic,
    trivial,
    Cert.KvHClaim.algebraic,
    trivial,
    Cert.KvWClaim.algebraic,
    trivial,
    Cert.FfnAClaim.algebraic,
    trivial,
    Cert.FfnWClaim.algebraic⟩

end Cert.Proof

end
